-- ==== Defs.lean ====
def Pre_Kernel [hPre_sizes_sum_to_rows : Cert.Pre_sizes_sum_to_rows.Facts] (m : (ℓ : Loc Cert.Kernel.nD Cert.Kernel.τ Cert.Kernel.sig) → Buf (Elt Bits) ℓ) : Prop :=
  ∀ c : Dev Cert.Kernel.nD,
    (Cert.Pre_sizes_sum_to_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_sum_to_rows : Cert.Pre_sizes_sum_to_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_sum_to_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_and_sizes [hPre_finite_and_sizes : Cert.Pre_finite_and_sizes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_sizes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_sizes [hPre_finite_and_sizes : Cert.Pre_finite_and_sizes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_sizes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_sum_to_rows : Cert.Pre_sizes_sum_to_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_sum_to_rows : Cert.Pre_sizes_sum_to_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_sizes [hKernelIdeal : Cert.KernelIdeal.Facts] [hPre_finite_and_sizes : Cert.Pre_finite_and_sizes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_sizes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_sizes [hReferenceIdeal : Cert.ReferenceIdeal.Facts] [hPre_finite_and_sizes : Cert.Pre_finite_and_sizes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_sizes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_sizes [hKernelIdeal : Cert.KernelIdeal.Facts] [hReferenceIdeal : Cert.ReferenceIdeal.Facts] [hPre_finite_and_sizes : Cert.Pre_finite_and_sizes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_sizes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_sum_to_rows : Cert.Pre_sizes_sum_to_rows.Facts) (hPre_finite_and_sizes : Cert.Pre_finite_and_sizes.Facts),
    quiescent_Kernel (hKernel := hKernel) (hPre_sizes_sum_to_rows := hPre_sizes_sum_to_rows)
    ∧ quiescent_KernelIdeal (hKernelIdeal := hKernelIdeal) (hPre_sizes_sum_to_rows := hPre_sizes_sum_to_rows)
    ∧ quiescent_KernelIdeal_pre_finite_and_sizes (hKernelIdeal := hKernelIdeal) (hPre_finite_and_sizes := hPre_finite_and_sizes)
    ∧ quiescent_ReferenceIdeal (hReferenceIdeal := hReferenceIdeal)
    ∧ quiescent_ReferenceIdeal_pre_finite_and_sizes (hReferenceIdeal := hReferenceIdeal) (hPre_finite_and_sizes := hPre_finite_and_sizes)
    ∧ preserves_Kernel_KernelIdeal
    ∧ algebraic_KernelIdeal_ReferenceIdeal_pre_finite_and_sizes (hKernelIdeal := hKernelIdeal) (hReferenceIdeal := hReferenceIdeal) (hPre_finite_and_sizes := hPre_finite_and_sizes)
-- ==== Pre_finite_and_sizes.lean ====
abbrev S49152x2048 : Shape := ⟨2, ![49152, 2048]⟩
abbrev S16 : Shape := ⟨1, ![16]⟩
abbrev S16x1408x2048 : Shape := ⟨3, ![16, 1408, 2048]⟩
abbrev S16x11x16 : Shape := ⟨3, ![16, 11, 16]⟩
abbrev S_ : Shape := ⟨0, ![]⟩

class Facts : Prop where
  bitsLt_bf16_f32 : FTy.bits .bf16 < FTy.bits .f32
  bcast_S_S49152x2048 : S_.BroadcastsInDim S49152x2048 (![] : Fin 0 → Fin S49152x2048.rank)
  reducesTo_S49152x2048_S_d0_1 : S49152x2048.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S49152x2048 .bf16) (main_arg1 : IVec S16 32) (main_arg2 : FVec F S16x1408x2048 .fp8e4m3) (main_arg3 : FVec F S16x11x16 .f32) : IVec S_ 1 :=
  let main_v0 : FVec F S49152x2048 .f32 := (extf .f32 · bitsLt_bf16_f32) main_arg0
  let main_v1 : FVec F S49152x2048 .f32 := Host.absf main_v0
  let main_cst : FVec F S_ .f32 := constant S_ .f32 0x7F7F0000#32
  let main_v2 : FVec F S49152x2048 .f32 := broadcastInDim S49152x2048 ![] bcast_S_S49152x2048 main_cst
  let main_v3 : IVec S49152x2048 1 := cmpf .ole main_v1 main_v2
  let main_c : IVec S_ 1 := constantI S_ 1 1#1
  let main_v4 : IVec S_ 1 := (fun x v => Host.reduce IntOp.andi x v reducesTo_S49152x2048_S_d0_1 h_S_) main_v3 main_c
  let main_c_0 : IVec S_ 32 := constantI S_ 32 0#32
  let main_v5 : IVec S16 32 := broadcastInDim S16 ![] bcast_S_S16 main_c_0
  let main_v6 : IVec S16 1 := cmpi .sge main_arg1 main_v5
  let main_c_1 : IVec S_ 32 := constantI S_ 32 49152#32
  let main_v7 : IVec S16 32 := broadcastInDim S16 ![] bcast_S_S16 main_c_1
  let main_v8 : IVec S16 1 := cmpi .sle main_arg1 main_v7
  let main_v9 : IVec S16 1 := andi main_v6 main_v8
  let main_c_2 : IVec S_ 1 := constantI S_ 1 1#1
  let main_v10 : IVec S_ 1 := (fun x v => Host.reduce IntOp.andi x v reducesTo_S16_S_d0 h_S_) main_v9 main_c_2
  let main_v11 : IVec S_ 1 := andi main_v4 main_v10
  let main_c_3 : IVec S_ 32 := constantI S_ 32 0#32
  let main_v12 : IVec S_ 32 := (fun x v => Host.reduce IntOp.addi x v reducesTo_S16_S_d0 h_S_) main_arg1 main_c_3
  let main_c_4 : IVec S_ 32 := constantI S_ 32 49152#32
  let main_v13 : IVec S_ 1 := cmpi .eq main_v12 main_c_4
  let main_v14 : IVec S_ 1 := andi main_v11 main_v13
  main_v14
-- ==== Pre_sizes_sum_to_rows.lean ====
abbrev S49152x2048 : Shape := ⟨2, ![49152, 2048]⟩
abbrev S16 : Shape := ⟨1, ![16]⟩
abbrev S16x1408x2048 : Shape := ⟨3, ![16, 1408, 2048]⟩
abbrev S16x11x16 : Shape := ⟨3, ![16, 11, 16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S49152x2048 .bf16) (main_arg1 : IVec S16 32) (main_arg2 : FVec F S16x1408x2048 .fp8e4m3) (main_arg3 : FVec F S16x11x16 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 49152#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S_ 32 := (fun x v => Host.reduce IntOp.addi x v reducesTo_S16_S_d0 h_S_) main_arg1 main_c_2
  let main_c_3 : IVec S_ 32 := constantI S_ 32 49152#32
  let main_v7 : IVec S_ 1 := cmpi .eq main_v6 main_c_3
  let main_v8 : IVec S_ 1 := andi main_v5 main_v7
  main_v8
-- ==== Kernel.lean ====
abbrev S49152x2048 : Shape := ⟨2, ![49152, 2048]⟩
abbrev S16 : Shape := ⟨1, ![16]⟩
abbrev S16x1408x2048 : Shape := ⟨3, ![16, 1408, 2048]⟩
abbrev S16x11x16 : Shape := ⟨3, ![16, 11, 16]⟩
abbrev S_ : Shape := ⟨0, ![]⟩
abbrev S111 : Shape := ⟨1, ![111]⟩
abbrev S1 : Shape := ⟨1, ![1]⟩
abbrev S1x111 : Shape := ⟨2, ![1, 111]⟩
abbrev S16x1 : Shape := ⟨2, ![16, 1]⟩
abbrev S16x111 : Shape := ⟨2, ![16, 111]⟩
abbrev S111x1 : Shape := ⟨2, ![111, 1]⟩
abbrev S110 : Shape := ⟨1, ![110]⟩
abbrev S49152x1408 : Shape := ⟨2, ![49152, 1408]⟩
abbrev S512x2048 : Shape := ⟨2, ![512, 2048]⟩
abbrev S1x1408x2048 : Shape := ⟨3, ![1, 1408, 2048]⟩
abbrev S512x1408 : Shape := ⟨2, ![512, 1408]⟩
abbrev S1408x2048 : Shape := ⟨2, ![1408, 2048]⟩
abbrev S1x1x1 : Shape := ⟨3, ![1, 1, 1]⟩
abbrev S128x128 : Shape := ⟨2, ![128, 128]⟩
abbrev S1x128x128 : Shape := ⟨3, ![1, 128, 128]⟩
abbrev S512x128 : Shape := ⟨2, ![512, 128]⟩
abbrev S512 : Shape := ⟨1, ![512]⟩
abbrev S512x1 : Shape := ⟨2, ![512, 1]⟩

abbrev nBuf : Space → Nat
  | .hbm => 147
  | .vmem => 8
  | .smem => 6
  | _ => 0

abbrev hbmTy0_0 (i : Nat) : BufTy := match i % 128 with
  | 0 => ⟨S49152x2048, .bf16⟩
  | 1 => ⟨S16, .i32⟩
  | 2 => ⟨S16x1408x2048, .fp8e4m3⟩
  | 3 => ⟨S16x11x16, .f32⟩
  | 4 => ⟨S_, .i32⟩
  | 5 => ⟨S_, .i32⟩
  | 6 => ⟨S16, .i32⟩
  | 7 => ⟨S16, .i32⟩
  | 8 => ⟨S_, .i32⟩
  | 9 => ⟨S_, .i32⟩
  | 10 => ⟨S16, .i32⟩
  | 11 => ⟨S16, .i32⟩
  | 12 => ⟨S16, .i32⟩
  | 13 => ⟨S_, .i32⟩
  | 14 => ⟨S16, .i32⟩
  | 15 => ⟨S16, .i1⟩
  | 16 => ⟨S16, .i32⟩
  | 17 => ⟨S16, .i32⟩
  | 18 => ⟨S_, .i32⟩
  | 19 => ⟨S16, .i32⟩
  | 20 => ⟨S16, .i1⟩
  | 21 => ⟨S16, .i1⟩
  | 22 => ⟨S_, .i32⟩
  | 23 => ⟨S16, .i32⟩
  | 24 => ⟨S16, .i32⟩
  | 25 => ⟨S16, .i32⟩
  | 26 => ⟨S_, .i32⟩
  | 27 => ⟨S16, .i32⟩
  | 28 => ⟨S16, .i1⟩
  | 29 => ⟨S_, .i32⟩
  | 30 => ⟨S16, .i32⟩
  | 31 => ⟨S16, .i32⟩
  | 32 => ⟨S_, .i32⟩
  | 33 => ⟨S_, .i32⟩
  | 34 => ⟨S16, .i32⟩
  | 35 => ⟨S16, .i32⟩
  | 36 => ⟨S16, .i32⟩
  | 37 => ⟨S_, .i32⟩
  | 38 => ⟨S16, .i32⟩
  | 39 => ⟨S16, .i1⟩
  | 40 => ⟨S16, .i32⟩
  | 41 => ⟨S16, .i32⟩
  | 42 => ⟨S_, .i32⟩
  | 43 => ⟨S16, .i32⟩
  | 44 => ⟨S16, .i1⟩
  | 45 => ⟨S16, .i1⟩
  | 46 => ⟨S_, .i32⟩
  | 47 => ⟨S16, .i32⟩
  | 48 => ⟨S16, .i32⟩
  | 49 => ⟨S16, .i32⟩
  | 50 => ⟨S16, .i32⟩
  | 51 => ⟨S_, .i32⟩
  | 52 => ⟨S16, .i32⟩
  | 53 => ⟨S16, .i32⟩
  | 54 => ⟨S_, .i32⟩
  | 55 => ⟨S_, .i32⟩
  | 56 => ⟨S16, .i32⟩
  | 57 => ⟨S16, .i32⟩
  | 58 => ⟨S_, .i32⟩
  | 59 => ⟨S_, .i32⟩
  | 60 => ⟨S16, .i32⟩
  | 61 => ⟨S111, .i32⟩
  | 62 => ⟨S1, .i32⟩
  | 63 => ⟨S_, .i32⟩
  | 64 => ⟨S_, .i32⟩
  | 65 => ⟨S_, .i32⟩
  | 66 => ⟨S111, .i32⟩
  | 67 => ⟨S111, .i32⟩
  | 68 => ⟨S1x111, .i32⟩
  | 69 => ⟨S16x1, .i32⟩
  | 70 => ⟨S16x111, .i32⟩
  | 71 => ⟨S16x111, .i32⟩
  | 72 => ⟨S16x111, .i1⟩
  | 73 => ⟨S16x111, .i32⟩
  | 74 => ⟨S_, .i32⟩
  | 75 => ⟨S_, .i32⟩
  | 76 => ⟨S111, .i32⟩
  | 77 => ⟨S111, .i1⟩
  | 78 => ⟨S_, .i32⟩
  | 79 => ⟨S111, .i32⟩
  | 80 => ⟨S111, .i32⟩
  | 81 => ⟨S111, .i32⟩
  | 82 => ⟨S111x1, .i32⟩
  | 83 => ⟨S111, .i32⟩
  | 84 => ⟨S111, .i32⟩
  | 85 => ⟨S16, .i32⟩
  | 86 => ⟨S_, .i32⟩
  | 87 => ⟨S111, .i32⟩
  | 88 => ⟨S111, .i1⟩
  | 89 => ⟨S_, .i32⟩
  | 90 => ⟨S111, .i32⟩
  | 91 => ⟨S111, .i32⟩
  | 92 => ⟨S111, .i32⟩
  | 93 => ⟨S111x1, .i32⟩
  | 94 => ⟨S111, .i32⟩
  | 95 => ⟨S_, .i32⟩
  | 96 => ⟨S1, .i32⟩
  | 97 => ⟨S110, .i32⟩
  | 98 => ⟨S111, .i32⟩
  | 99 => ⟨S111, .i1⟩
  | 100 => ⟨S_, .i32⟩
  | 101 => ⟨S111, .i32⟩
  | 102 => ⟨S111, .i1⟩
  | 103 => ⟨S_, .i32⟩
  | 104 => ⟨S111, .i32⟩
  | 105 => ⟨S111, .i32⟩
  | 106 => ⟨S111, .i32⟩
  | 107 => ⟨S111x1, .i32⟩
  | 108 => ⟨S111, .i32⟩
  | 109 => ⟨S_, .i32⟩
  | 110 => ⟨S111, .i32⟩
  | 111 => ⟨S111, .i32⟩
  | 112 => ⟨S111, .i32⟩
  | 113 => ⟨S_, .i32⟩
  | 114 => ⟨S_, .i32⟩
  | 115 => ⟨S_, .i32⟩
  | 116 => ⟨S111, .i32⟩
  | 117 => ⟨S111, .i32⟩
  | 118 => ⟨S_, .i32⟩
  | 119 => ⟨S111, .i32⟩
  | 120 => ⟨S111, .i32⟩
  | 121 => ⟨S111, .i1⟩
  | 122 => ⟨S_, .i32⟩
  | 123 => ⟨S111, .i32⟩
  | 124 => ⟨S111, .i1⟩
  | 125 => ⟨S_, .i32⟩
  | 126 => ⟨S111, .i32⟩
  | 127 => ⟨S111, .i32⟩
  | _ => ⟨S49152x2048, .bf16⟩

abbrev hbmTy0_1 (i : Nat) : BufTy := match i % 128 with
  | 0 => ⟨S111, .i32⟩
  | 1 => ⟨S111x1, .i32⟩
  | 2 => ⟨S111, .i32⟩
  | 3 => ⟨S_, .i32⟩
  | 4 => ⟨S111, .i32⟩
  | 5 => ⟨S111, .i32⟩
  | 6 => ⟨S111, .i32⟩
  | 7 => ⟨S_, .i32⟩
  | 8 => ⟨S_, .i32⟩
  | 9 => ⟨S_, .i32⟩
  | 10 => ⟨S111, .i32⟩
  | 11 => ⟨S111, .i32⟩
  | 12 => ⟨S_, .i32⟩
  | 13 => ⟨S111, .i32⟩
  | 14 => ⟨S111, .i32⟩
  | 15 => ⟨S_, .i32⟩
  | 16 => ⟨S_, .i32⟩
  | 17 => ⟨S111, .i32⟩
  | 18 => ⟨S49152x1408, .bf16⟩
  | _ => ⟨S49152x2048, .bf16⟩

abbrev hbmTy (i : Nat) : BufTy := match i / 128 with
  | 0 => hbmTy0_0 i
  | 1 => hbmTy0_1 i
  | _ => ⟨S49152x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x1408x2048, .fp8e4m3⟩
  | .local _ .vmem, ⟨3, _⟩ => ⟨S1x1408x2048, .fp8e4m3⟩
  | .local _ .vmem, ⟨4, _⟩ => ⟨S512x1408, .bf16⟩
  | .local _ .vmem, ⟨5, _⟩ => ⟨S512x1408, .bf16⟩
  | .local _ .vmem, ⟨6, _⟩ => ⟨S1408x2048, .bf16⟩
  | .local _ .vmem, ⟨7, _⟩ => ⟨S512x2048, .bf16⟩
  | .local _ .smem, ⟨0, _⟩ => ⟨S111, .i32⟩
  | .local _ .smem, ⟨1, _⟩ => ⟨S111, .i32⟩
  | .local _ .smem, ⟨2, _⟩ => ⟨S111, .i32⟩
  | .local _ .smem, ⟨3, _⟩ => ⟨S111, .i32⟩
  | .local _ .smem, ⟨4, _⟩ => ⟨S111, .i32⟩
  | .local _ .smem, ⟨5, _⟩ => ⟨S16x11x16, .f32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_c_5 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_call5_call0_v0 : Ref sig .tc := ⟨.hbm, 68, rfl⟩
abbrev main_call5_call0_v1 : Ref sig .tc := ⟨.hbm, 69, rfl⟩
abbrev main_call5_call0_v2 : Ref sig .tc := ⟨.hbm, 70, rfl⟩
abbrev main_call5_call0_v3 : Ref sig .tc := ⟨.hbm, 71, rfl⟩
abbrev main_call5_call0_v4 : Ref sig .tc := ⟨.hbm, 72, rfl⟩
abbrev main_call5_call0_v5 : Ref sig .tc := ⟨.hbm, 73, rfl⟩
abbrev main_call5_call0_c : Ref sig .tc := ⟨.hbm, 74, rfl⟩
abbrev main_c_6 : Ref sig .tc := ⟨.hbm, 75, rfl⟩
abbrev main_v20 : Ref sig .tc := ⟨.hbm, 76, rfl⟩
abbrev main_v21 : Ref sig .tc := ⟨.hbm, 77, rfl⟩
abbrev main_c_7 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_c_8 : Ref sig .tc := ⟨.hbm, 86, rfl⟩
abbrev main_v29 : Ref sig .tc := ⟨.hbm, 87, rfl⟩
abbrev main_v30 : Ref sig .tc := ⟨.hbm, 88, rfl⟩
abbrev main_c_9 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_c_10 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_c_11 : Ref sig .tc := ⟨.hbm, 100, rfl⟩
abbrev main_v42 : Ref sig .tc := ⟨.hbm, 101, rfl⟩
abbrev main_v43 : Ref sig .tc := ⟨.hbm, 102, rfl⟩
abbrev main_c_12 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_13 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_c_14 : Ref sig .tc := ⟨.hbm, 113, rfl⟩
abbrev main_c_15 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_v53 : Ref sig .tc := ⟨.hbm, 120, rfl⟩
abbrev main_v54 : Ref sig .tc := ⟨.hbm, 121, rfl⟩
abbrev main_c_16 : Ref sig .tc := ⟨.hbm, 122, rfl⟩
abbrev main_v55 : Ref sig .tc := ⟨.hbm, 123, rfl⟩
abbrev main_v56 : Ref sig .tc := ⟨.hbm, 124, rfl⟩
abbrev main_c_17 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_c_18 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_c_19 : Ref sig .tc := ⟨.hbm, 135, rfl⟩
abbrev main_c_20 : Ref sig .tc := ⟨.hbm, 136, rfl⟩
abbrev main_call7_v0 : Ref sig .tc := ⟨.hbm, 137, rfl⟩
abbrev main_call7_v1 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_v65 : Ref sig .tc := ⟨.hbm, 142, rfl⟩
abbrev main_c_21 : Ref sig .tc := ⟨.hbm, 143, rfl⟩
abbrev main_call8_v0 : Ref sig .tc := ⟨.hbm, 144, rfl⟩
abbrev main_call8_v1 : Ref sig .tc := ⟨.hbm, 145, rfl⟩
abbrev main_v67 : Ref sig .tc := ⟨.hbm, 146, rfl⟩
abbrev main_v36 : Ref sig .tc := ⟨.smem, 0, rfl⟩
abbrev main_v19 : Ref sig .tc := ⟨.smem, 1, rfl⟩
abbrev main_v41 : Ref sig .tc := ⟨.smem, 2, rfl⟩
abbrev main_v52 : Ref sig .tc := ⟨.smem, 3, rfl⟩
abbrev main_v66 : Ref sig .tc := ⟨.smem, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![111], ![false]⟩

abbrev pre0 : Pipeline.Prefetch sig := ⟨5, ![main_v36.idx, main_v19.idx, main_v41.idx, main_v52.idx, main_v66.idx], fun | 0 => main_v36.names | 1 => main_v19.names | 2 => main_v41.names | 3 => main_v52.names | 4 => main_v66.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v14 : Index := Scalar.indexCast v1
  let c0 : Index := 0#32
  let c0_1 : Index := 0#32
  ![v14.toNat, 0, 0]
def k0_cond1 (v3 : BitVec 32) : BitVec 1 :=
  let c1_i32 : BitVec 32 := 1#32
  let v4 : BitVec 1 := Scalar.cmpi .eq v3 c1_i32
  let v5 : BitVec 32 := Scalar.extui v4
  let c0_i32 : BitVec 32 := 0#32
  let v6 : BitVec 1 := Scalar.cmpi .ne v5 c0_i32
  v6

def k0_off3 (v1 : BitVec 32) : Fin 3 → Nat :=
  let v25 : Index := Scalar.indexCast v1
  let c0_7 : Index := 0#32
  let c1 : Index := 1#32
  ![v25.toNat, 0, 1]
def k0_off4 (v1 : BitVec 32) : Fin 3 → Nat :=
  let v36 : Index := Scalar.indexCast v1
  let c0_12 : Index := 0#32
  let c2 : Index := 2#32
  ![v36.toNat, 0, 2]
def k0_off5 (v1 : BitVec 32) : Fin 3 → Nat :=
  let v47 : Index := Scalar.indexCast v1
  let c0_17 : Index := 0#32
  let c3 : Index := 3#32
  ![v47.toNat, 0, 3]
def k0_off6 (v1 : BitVec 32) : Fin 3 → Nat :=
  let v58 : Index := Scalar.indexCast v1
  let c0_22 : Index := 0#32
  let c4 : Index := 4#32
  ![v58.toNat, 0, 4]
def k0_off7 (v1 : BitVec 32) : Fin 3 → Nat :=
  let v69 : Index := Scalar.indexCast v1
  let c0_27 : Index := 0#32
  let c5 : Index := 5#32
  ![v69.toNat, 0, 5]
def k0_off8 (v1 : BitVec 32) : Fin 3 → Nat :=
  let v80 : Index := Scalar.indexCast v1
  let c0_32 : Index := 0#32
  let c6 : Index := 6#32
  ![v80.toNat, 0, 6]
def k0_off9 (v1 : BitVec 32) : Fin 3 → Nat :=
  let v91 : Index := Scalar.indexCast v1
  let c0_37 : Index := 0#32
  let c7 : Index := 7#32
  ![v91.toNat, 0, 7]
def k0_off10 (v1 : BitVec 32) : Fin 3 → Nat :=
  let v102 : Index := Scalar.indexCast v1
  let c0_42 : Index := 0#32
  let c8 : Index := 8#32
  ![v102.toNat, 0, 8]
def k0_off11 (v1 : BitVec 32) : Fin 3 → Nat :=
  let v113 : Index := Scalar.indexCast v1
  let c0_47 : Index := 0#32
  let c9 : Index := 9#32
  ![v113.toNat, 0, 9]
def k0_off12 (v1 : BitVec 32) : Fin 3 → Nat :=
  let v124 : Index := Scalar.indexCast v1
  let c0_52 : Index := 0#32
  let c10 : Index := 10#32
  ![v124.toNat, 0, 10]
def k0_off13 (v1 : BitVec 32) : Fin 3 → Nat :=
  let v135 : Index := Scalar.indexCast v1
  let c0_57 : Index := 0#32
  let c11 : Index := 11#32
  ![v135.toNat, 0, 11]
def k0_off14 (v1 : BitVec 32) : Fin 3 → Nat :=
  let v146 : Index := Scalar.indexCast v1
  let c0_62 : Index := 0#32
  let c12 : Index := 12#32
  ![v146.toNat, 0, 12]
def k0_off15 (v1 : BitVec 32) : Fin 3 → Nat :=
  let v157 : Index := Scalar.indexCast v1
  let c0_67 : Index := 0#32
  let c13 : Index := 13#32
  ![v157.toNat, 0, 13]
def k0_off16 (v1 : BitVec 32) : Fin 3 → Nat :=
  let v168 : Index := Scalar.indexCast v1
  let c0_72 : Index := 0#32
  let c14 : Index := 14#32
  ![v168.toNat, 0, 14]
def k0_off17 (v1 : BitVec 32) : Fin 3 → Nat :=
  let v179 : Index := Scalar.indexCast v1
  let c0_77 : Index := 0#32
  let c15 : Index := 15#32
  ![v179.toNat, 0, 15]
def k0_off18 (v1 : BitVec 32) : Fin 3 → Nat :=
  let v190 : Index := Scalar.indexCast v1
  let c1_82 : Index := 1#32
  let c0_83 : Index := 0#32
  ![v190.toNat, 1, 0]
def k0_off19 (v1 : BitVec 32) : Fin 3 → Nat :=
  let v201 : Index := Scalar.indexCast v1
  let c1_89 : Index := 1#32
  let c1_90 : Index := 1#32
  ![v201.toNat, 1, 1]
def k0_off20 (v1 : BitVec 32) : Fin 3 → Nat :=
  let v212 : Index := Scalar.indexCast v1
  let c1_96 : Index := 1#32
  let c2_97 : Index := 2#32
  ![v212.toNat, 1, 2]
def k0_off21 (v1 : BitVec 32) : Fin 3 → Nat :=
  let v223 : Index := Scalar.indexCast v1
  let c1_103 : Index := 1#32
  let c3_104 : Index := 3#32
  ![v223.toNat, 1, 3]
def k0_off22 (v1 : BitVec 32) : Fin 3 → Nat :=
  let v234 : Index := Scalar.indexCast v1
  let c1_110 : Index := 1#32
  let c4_111 : Index := 4#32
  ![v234.toNat, 1, 4]
def k0_off23 (v1 : BitVec 32) : Fin 3 → Nat :=
  let v245 : Index := Scalar.indexCast v1
  let c1_117 : Index := 1#32
  let c5_118 : Index := 5#32
  ![v245.toNat, 1, 5]
def k0_off24 (v1 : BitVec 32) : Fin 3 → Nat :=
  let v256 : Index := Scalar.indexCast v1
  let c1_124 : Index := 1#32
  let c6_125 : Index := 6#32
  ![v256.toNat, 1, 6]
def k0_off25 (v1 : BitVec 32) : Fin 3 → Nat :=
  let v267 : Index := Scalar.indexCast v1
  let c1_131 : Index := 1#32
  let c7_132 : Index := 7#32
  ![v267.toNat, 1, 7]
def k0_off26 (v1 : BitVec 32) : Fin 3 → Nat :=
  let v278 : Index := Scalar.indexCast v1
  let c1_138 : Index := 1#32
  let c8_139 : Index := 8#32
  ![v278.toNat, 1, 8]
def k0_off27 (v1 : BitVec 32) : Fin 3 → Nat :=
  let v289 : Index := Scalar.indexCast v1
  let c1_145 : Index := 1#32
  let c9_146 : Index := 9#32
  ![v289.toNat, 1, 9]
def k0_off28 (v1 : BitVec 32) : Fin 3 → Nat :=
  let v300 : Index := Scalar.indexCast v1
  let c1_152 : Index := 1#32
  let c10_153 : Index := 10#32
  ![v300.toNat, 1, 10]
def k0_off29 (v1 : BitVec 32) : Fin 3 → Nat :=
  let v311 : Index := Scalar.indexCast v1
  let c1_159 : Index := 1#32
  let c11_160 : Index := 11#32
  ![v311.toNat, 1, 11]
def k0_off30 (v1 : BitVec 32) : Fin 3 → Nat :=
  let v322 : Index := Scalar.indexCast v1
  let c1_166 : Index := 1#32
  let c12_167 : Index := 12#32
  ![v322.toNat, 1, 12]
def k0_off31 (v1 : BitVec 32) : Fin 3 → Nat :=
  let v333 : Index := Scalar.indexCast v1
  let c1_173 : Index := 1#32
  let c13_174 : Index := 13#32
  ![v333.toNat, 1, 13]
def k0_off32 (v1 : BitVec 32) : Fin 3 → Nat :=
  let v344 : Index := Scalar.indexCast v1
  let c1_180 : Index := 1#32
  let c14_181 : Index := 14#32
  ![v344.toNat, 1, 14]
def k0_off33 (v1 : BitVec 32) : Fin 3 → Nat :=
  let v355 : Index := Scalar.indexCast v1
  let c1_187 : Index := 1#32
  let c15_188 : Index := 15#32
  ![v355.toNat, 1, 15]
def k0_off34 (v1 : BitVec 32) : Fin 3 → Nat :=
  let v366 : Index := Scalar.indexCast v1
  let c2_194 : Index := 2#32
  let c0_195 : Index := 0#32
  ![v366.toNat, 2, 0]
def k0_off35 (v1 : BitVec 32) : Fin 3 → Nat :=
  let v377 : Index := Scalar.indexCast v1
  let c2_201 : Index := 2#32
  let c1_202 : Index := 1#32
  ![v377.toNat, 2, 1]
def k0_off36 (v1 : BitVec 32) : Fin 3 → Nat :=
  let v388 : Index := Scalar.indexCast v1
  let c2_208 : Index := 2#32
  let c2_209 : Index := 2#32
  ![v388.toNat, 2, 2]
def k0_off37 (v1 : BitVec 32) : Fin 3 → Nat :=
  let v399 : Index := Scalar.indexCast v1
  let c2_215 : Index := 2#32
  let c3_216 : Index := 3#32
  ![v399.toNat, 2, 3]
def k0_off38 (v1 : BitVec 32) : Fin 3 → Nat :=
  let v410 : Index := Scalar.indexCast v1
  let c2_222 : Index := 2#32
  let c4_223 : Index := 4#32
  ![v410.toNat, 2, 4]
def k0_off39 (v1 : BitVec 32) : Fin 3 → Nat :=
  let v421 : Index := Scalar.indexCast v1
  let c2_229 : Index := 2#32
  let c5_230 : Index := 5#32
  ![v421.toNat, 2, 5]
def k0_off40 (v1 : BitVec 32) : Fin 3 → Nat :=
  let v432 : Index := Scalar.indexCast v1
  let c2_236 : Index := 2#32
  let c6_237 : Index := 6#32
  ![v432.toNat, 2, 6]
def k0_off41 (v1 : BitVec 32) : Fin 3 → Nat :=
  let v443 : Index := Scalar.indexCast v1
  let c2_243 : Index := 2#32
  let c7_244 : Index := 7#32
  ![v443.toNat, 2, 7]
def k0_off42 (v1 : BitVec 32) : Fin 3 → Nat :=
  let v454 : Index := Scalar.indexCast v1
  let c2_250 : Index := 2#32
  let c8_251 : Index := 8#32
  ![v454.toNat, 2, 8]
def k0_off43 (v1 : BitVec 32) : Fin 3 → Nat :=
  let v465 : Index := Scalar.indexCast v1
  let c2_257 : Index := 2#32
  let c9_258 : Index := 9#32
  ![v465.toNat, 2, 9]
def k0_off44 (v1 : BitVec 32) : Fin 3 → Nat :=
  let v476 : Index := Scalar.indexCast v1
  let c2_264 : Index := 2#32
  let c10_265 : Index := 10#32
  ![v476.toNat, 2, 10]
def k0_off45 (v1 : BitVec 32) : Fin 3 → Nat :=
  let v487 : Index := Scalar.indexCast v1
  let c2_271 : Index := 2#32
  let c11_272 : Index := 11#32
  ![v487.toNat, 2, 11]
def k0_off46 (v1 : BitVec 32) : Fin 3 → Nat :=
  let v498 : Index := Scalar.indexCast v1
  let c2_278 : Index := 2#32
  let c12_279 : Index := 12#32
  ![v498.toNat, 2, 12]
def k0_off47 (v1 : BitVec 32) : Fin 3 → Nat :=
  let v509 : Index := Scalar.indexCast v1
  let c2_285 : Index := 2#32
  let c13_286 : Index := 13#32
  ![v509.toNat, 2, 13]
def k0_off48 (v1 : BitVec 32) : Fin 3 → Nat :=
  let v520 : Index := Scalar.indexCast v1
  let c2_292 : Index := 2#32
  let c14_293 : Index := 14#32
  ![v520.toNat, 2, 14]
def k0_off49 (v1 : BitVec 32) : Fin 3 → Nat :=
  let v531 : Index := Scalar.indexCast v1
  let c2_299 : Index := 2#32
  let c15_300 : Index := 15#32
  ![v531.toNat, 2, 15]
def k0_off50 (v1 : BitVec 32) : Fin 3 → Nat :=
  let v542 : Index := Scalar.indexCast v1
  let c3_306 : Index := 3#32
  let c0_307 : Index := 0#32
  ![v542.toNat, 3, 0]
def k0_off51 (v1 : BitVec 32) : Fin 3 → Nat :=
  let v553 : Index := Scalar.indexCast v1
  let c3_313 : Index := 3#32
  let c1_314 : Index := 1#32
  ![v553.toNat, 3, 1]
def k0_off52 (v1 : BitVec 32) : Fin 3 → Nat :=
  let v564 : Index := Scalar.indexCast v1
  let c3_320 : Index := 3#32
  let c2_321 : Index := 2#32
  ![v564.toNat, 3, 2]
def k0_off53 (v1 : BitVec 32) : Fin 3 → Nat :=
  let v575 : Index := Scalar.indexCast v1
  let c3_327 : Index := 3#32
  let c3_328 : Index := 3#32
  ![v575.toNat, 3, 3]
def k0_off54 (v1 : BitVec 32) : Fin 3 → Nat :=
  let v586 : Index := Scalar.indexCast v1
  let c3_334 : Index := 3#32
  let c4_335 : Index := 4#32
  ![v586.toNat, 3, 4]
def k0_off55 (v1 : BitVec 32) : Fin 3 → Nat :=
  let v597 : Index := Scalar.indexCast v1
  let c3_341 : Index := 3#32
  let c5_342 : Index := 5#32
  ![v597.toNat, 3, 5]
def k0_off56 (v1 : BitVec 32) : Fin 3 → Nat :=
  let v608 : Index := Scalar.indexCast v1
  let c3_348 : Index := 3#32
  let c6_349 : Index := 6#32
  ![v608.toNat, 3, 6]
def k0_off57 (v1 : BitVec 32) : Fin 3 → Nat :=
  let v619 : Index := Scalar.indexCast v1
  let c3_355 : Index := 3#32
  let c7_356 : Index := 7#32
  ![v619.toNat, 3, 7]
def k0_off58 (v1 : BitVec 32) : Fin 3 → Nat :=
  let v630 : Index := Scalar.indexCast v1
  let c3_362 : Index := 3#32
  let c8_363 : Index := 8#32
  ![v630.toNat, 3, 8]
def k0_off59 (v1 : BitVec 32) : Fin 3 → Nat :=
  let v641 : Index := Scalar.indexCast v1
  let c3_369 : Index := 3#32
  let c9_370 : Index := 9#32
  ![v641.toNat, 3, 9]
def k0_off60 (v1 : BitVec 32) : Fin 3 → Nat :=
  let v652 : Index := Scalar.indexCast v1
  let c3_376 : Index := 3#32
  let c10_377 : Index := 10#32
  ![v652.toNat, 3, 10]
def k0_off61 (v1 : BitVec 32) : Fin 3 → Nat :=
  let v663 : Index := Scalar.indexCast v1
  let c3_383 : Index := 3#32
  let c11_384 : Index := 11#32
  ![v663.toNat, 3, 11]
def k0_off62 (v1 : BitVec 32) : Fin 3 → Nat :=
  let v674 : Index := Scalar.indexCast v1
  let c3_390 : Index := 3#32
  let c12_391 : Index := 12#32
  ![v674.toNat, 3, 12]
def k0_off63 (v1 : BitVec 32) : Fin 3 → Nat :=
  let v685 : Index := Scalar.indexCast v1
  let c3_397 : Index := 3#32
  let c13_398 : Index := 13#32
  ![v685.toNat, 3, 13]
def k0_off64 (v1 : BitVec 32) : Fin 3 → Nat :=
  let v696 : Index := Scalar.indexCast v1
  let c3_404 : Index := 3#32
  let c14_405 : Index := 14#32
  ![v696.toNat, 3, 14]
def k0_off65 (v1 : BitVec 32) : Fin 3 → Nat :=
  let v707 : Index := Scalar.indexCast v1
  let c3_411 : Index := 3#32
  let c15_412 : Index := 15#32
  ![v707.toNat, 3, 15]
def k0_off66 (v1 : BitVec 32) : Fin 3 → Nat :=
  let v718 : Index := Scalar.indexCast v1
  let c4_418 : Index := 4#32
  let c0_419 : Index := 0#32
  ![v718.toNat, 4, 0]
def k0_off67 (v1 : BitVec 32) : Fin 3 → Nat :=
  let v729 : Index := Scalar.indexCast v1
  let c4_425 : Index := 4#32
  let c1_426 : Index := 1#32
  ![v729.toNat, 4, 1]
def k0_off68 (v1 : BitVec 32) : Fin 3 → Nat :=
  let v740 : Index := Scalar.indexCast v1
  let c4_432 : Index := 4#32
  let c2_433 : Index := 2#32
  ![v740.toNat, 4, 2]
def k0_off69 (v1 : BitVec 32) : Fin 3 → Nat :=
  let v751 : Index := Scalar.indexCast v1
  let c4_439 : Index := 4#32
  let c3_440 : Index := 3#32
  ![v751.toNat, 4, 3]
def k0_off70 (v1 : BitVec 32) : Fin 3 → Nat :=
  let v762 : Index := Scalar.indexCast v1
  let c4_446 : Index := 4#32
  let c4_447 : Index := 4#32
  ![v762.toNat, 4, 4]
def k0_off71 (v1 : BitVec 32) : Fin 3 → Nat :=
  let v773 : Index := Scalar.indexCast v1
  let c4_453 : Index := 4#32
  let c5_454 : Index := 5#32
  ![v773.toNat, 4, 5]
def k0_off72 (v1 : BitVec 32) : Fin 3 → Nat :=
  let v784 : Index := Scalar.indexCast v1
  let c4_460 : Index := 4#32
  let c6_461 : Index := 6#32
  ![v784.toNat, 4, 6]
def k0_off73 (v1 : BitVec 32) : Fin 3 → Nat :=
  let v795 : Index := Scalar.indexCast v1
  let c4_467 : Index := 4#32
  let c7_468 : Index := 7#32
  ![v795.toNat, 4, 7]
def k0_off74 (v1 : BitVec 32) : Fin 3 → Nat :=
  let v806 : Index := Scalar.indexCast v1
  let c4_474 : Index := 4#32
  let c8_475 : Index := 8#32
  ![v806.toNat, 4, 8]
def k0_off75 (v1 : BitVec 32) : Fin 3 → Nat :=
  let v817 : Index := Scalar.indexCast v1
  let c4_481 : Index := 4#32
  let c9_482 : Index := 9#32
  ![v817.toNat, 4, 9]
def k0_off76 (v1 : BitVec 32) : Fin 3 → Nat :=
  let v828 : Index := Scalar.indexCast v1
  let c4_488 : Index := 4#32
  let c10_489 : Index := 10#32
  ![v828.toNat, 4, 10]
def k0_off77 (v1 : BitVec 32) : Fin 3 → Nat :=
  let v839 : Index := Scalar.indexCast v1
  let c4_495 : Index := 4#32
  let c11_496 : Index := 11#32
  ![v839.toNat, 4, 11]
def k0_off78 (v1 : BitVec 32) : Fin 3 → Nat :=
  let v850 : Index := Scalar.indexCast v1
  let c4_502 : Index := 4#32
  let c12_503 : Index := 12#32
  ![v850.toNat, 4, 12]
def k0_off79 (v1 : BitVec 32) : Fin 3 → Nat :=
  let v861 : Index := Scalar.indexCast v1
  let c4_509 : Index := 4#32
  let c13_510 : Index := 13#32
  ![v861.toNat, 4, 13]
def k0_off80 (v1 : BitVec 32) : Fin 3 → Nat :=
  let v872 : Index := Scalar.indexCast v1
  let c4_516 : Index := 4#32
  let c14_517 : Index := 14#32
  ![v872.toNat, 4, 14]
def k0_off81 (v1 : BitVec 32) : Fin 3 → Nat :=
  let v883 : Index := Scalar.indexCast v1
  let c4_523 : Index := 4#32
  let c15_524 : Index := 15#32
  ![v883.toNat, 4, 15]
def k0_off82 (v1 : BitVec 32) : Fin 3 → Nat :=
  let v894 : Index := Scalar.indexCast v1
  let c5_530 : Index := 5#32
  let c0_531 : Index := 0#32
  ![v894.toNat, 5, 0]
def k0_off83 (v1 : BitVec 32) : Fin 3 → Nat :=
  let v905 : Index := Scalar.indexCast v1
  let c5_537 : Index := 5#32
  let c1_538 : Index := 1#32
  ![v905.toNat, 5, 1]
def k0_off84 (v1 : BitVec 32) : Fin 3 → Nat :=
  let v916 : Index := Scalar.indexCast v1
  let c5_544 : Index := 5#32
  let c2_545 : Index := 2#32
  ![v916.toNat, 5, 2]
def k0_off85 (v1 : BitVec 32) : Fin 3 → Nat :=
  let v927 : Index := Scalar.indexCast v1
  let c5_551 : Index := 5#32
  let c3_552 : Index := 3#32
  ![v927.toNat, 5, 3]
def k0_off86 (v1 : BitVec 32) : Fin 3 → Nat :=
  let v938 : Index := Scalar.indexCast v1
  let c5_558 : Index := 5#32
  let c4_559 : Index := 4#32
  ![v938.toNat, 5, 4]
def k0_off87 (v1 : BitVec 32) : Fin 3 → Nat :=
  let v949 : Index := Scalar.indexCast v1
  let c5_565 : Index := 5#32
  let c5_566 : Index := 5#32
  ![v949.toNat, 5, 5]
def k0_off88 (v1 : BitVec 32) : Fin 3 → Nat :=
  let v960 : Index := Scalar.indexCast v1
  let c5_572 : Index := 5#32
  let c6_573 : Index := 6#32
  ![v960.toNat, 5, 6]
def k0_off89 (v1 : BitVec 32) : Fin 3 → Nat :=
  let v971 : Index := Scalar.indexCast v1
  let c5_579 : Index := 5#32
  let c7_580 : Index := 7#32
  ![v971.toNat, 5, 7]
def k0_off90 (v1 : BitVec 32) : Fin 3 → Nat :=
  let v982 : Index := Scalar.indexCast v1
  let c5_586 : Index := 5#32
  let c8_587 : Index := 8#32
  ![v982.toNat, 5, 8]
def k0_off91 (v1 : BitVec 32) : Fin 3 → Nat :=
  let v993 : Index := Scalar.indexCast v1
  let c5_593 : Index := 5#32
  let c9_594 : Index := 9#32
  ![v993.toNat, 5, 9]
def k0_off92 (v1 : BitVec 32) : Fin 3 → Nat :=
  let v1004 : Index := Scalar.indexCast v1
  let c5_600 : Index := 5#32
  let c10_601 : Index := 10#32
  ![v1004.toNat, 5, 10]
def k0_off93 (v1 : BitVec 32) : Fin 3 → Nat :=
  let v1015 : Index := Scalar.indexCast v1
  let c5_607 : Index := 5#32
  let c11_608 : Index := 11#32
  ![v1015.toNat, 5, 11]
def k0_off94 (v1 : BitVec 32) : Fin 3 → Nat :=
  let v1026 : Index := Scalar.indexCast v1
  let c5_614 : Index := 5#32
  let c12_615 : Index := 12#32
  ![v1026.toNat, 5, 12]
def k0_off95 (v1 : BitVec 32) : Fin 3 → Nat :=
  let v1037 : Index := Scalar.indexCast v1
  let c5_621 : Index := 5#32
  let c13_622 : Index := 13#32
  ![v1037.toNat, 5, 13]
def k0_off96 (v1 : BitVec 32) : Fin 3 → Nat :=
  let v1048 : Index := Scalar.indexCast v1
  let c5_628 : Index := 5#32
  let c14_629 : Index := 14#32
  ![v1048.toNat, 5, 14]
def k0_off97 (v1 : BitVec 32) : Fin 3 → Nat :=
  let v1059 : Index := Scalar.indexCast v1
  let c5_635 : Index := 5#32
  let c15_636 : Index := 15#32
  ![v1059.toNat, 5, 15]
def k0_off98 (v1 : BitVec 32) : Fin 3 → Nat :=
  let v1070 : Index := Scalar.indexCast v1
  let c6_642 : Index := 6#32
  let c0_643 : Index := 0#32
  ![v1070.toNat, 6, 0]
def k0_off99 (v1 : BitVec 32) : Fin 3 → Nat :=
  let v1081 : Index := Scalar.indexCast v1
  let c6_649 : Index := 6#32
  let c1_650 : Index := 1#32
  ![v1081.toNat, 6, 1]
def k0_off100 (v1 : BitVec 32) : Fin 3 → Nat :=
  let v1092 : Index := Scalar.indexCast v1
  let c6_656 : Index := 6#32
  let c2_657 : Index := 2#32
  ![v1092.toNat, 6, 2]
def k0_off101 (v1 : BitVec 32) : Fin 3 → Nat :=
  let v1103 : Index := Scalar.indexCast v1
  let c6_663 : Index := 6#32
  let c3_664 : Index := 3#32
  ![v1103.toNat, 6, 3]
def k0_off102 (v1 : BitVec 32) : Fin 3 → Nat :=
  let v1114 : Index := Scalar.indexCast v1
  let c6_670 : Index := 6#32
  let c4_671 : Index := 4#32
  ![v1114.toNat, 6, 4]
def k0_off103 (v1 : BitVec 32) : Fin 3 → Nat :=
  let v1125 : Index := Scalar.indexCast v1
  let c6_677 : Index := 6#32
  let c5_678 : Index := 5#32
  ![v1125.toNat, 6, 5]
def k0_off104 (v1 : BitVec 32) : Fin 3 → Nat :=
  let v1136 : Index := Scalar.indexCast v1
  let c6_684 : Index := 6#32
  let c6_685 : Index := 6#32
  ![v1136.toNat, 6, 6]
def k0_off105 (v1 : BitVec 32) : Fin 3 → Nat :=
  let v1147 : Index := Scalar.indexCast v1
  let c6_691 : Index := 6#32
  let c7_692 : Index := 7#32
  ![v1147.toNat, 6, 7]
def k0_off106 (v1 : BitVec 32) : Fin 3 → Nat :=
  let v1158 : Index := Scalar.indexCast v1
  let c6_698 : Index := 6#32
  let c8_699 : Index := 8#32
  ![v1158.toNat, 6, 8]
def k0_off107 (v1 : BitVec 32) : Fin 3 → Nat :=
  let v1169 : Index := Scalar.indexCast v1
  let c6_705 : Index := 6#32
  let c9_706 : Index := 9#32
  ![v1169.toNat, 6, 9]
def k0_off108 (v1 : BitVec 32) : Fin 3 → Nat :=
  let v1180 : Index := Scalar.indexCast v1
  let c6_712 : Index := 6#32
  let c10_713 : Index := 10#32
  ![v1180.toNat, 6, 10]
def k0_off109 (v1 : BitVec 32) : Fin 3 → Nat :=
  let v1191 : Index := Scalar.indexCast v1
  let c6_719 : Index := 6#32
  let c11_720 : Index := 11#32
  ![v1191.toNat, 6, 11]
def k0_off110 (v1 : BitVec 32) : Fin 3 → Nat :=
  let v1202 : Index := Scalar.indexCast v1
  let c6_726 : Index := 6#32
  let c12_727 : Index := 12#32
  ![v1202.toNat, 6, 12]
def k0_off111 (v1 : BitVec 32) : Fin 3 → Nat :=
  let v1213 : Index := Scalar.indexCast v1
  let c6_733 : Index := 6#32
  let c13_734 : Index := 13#32
  ![v1213.toNat, 6, 13]
def k0_off112 (v1 : BitVec 32) : Fin 3 → Nat :=
  let v1224 : Index := Scalar.indexCast v1
  let c6_740 : Index := 6#32
  let c14_741 : Index := 14#32
  ![v1224.toNat, 6, 14]
def k0_off113 (v1 : BitVec 32) : Fin 3 → Nat :=
  let v1235 : Index := Scalar.indexCast v1
  let c6_747 : Index := 6#32
  let c15_748 : Index := 15#32
  ![v1235.toNat, 6, 15]
def k0_off114 (v1 : BitVec 32) : Fin 3 → Nat :=
  let v1246 : Index := Scalar.indexCast v1
  let c7_754 : Index := 7#32
  let c0_755 : Index := 0#32
  ![v1246.toNat, 7, 0]
def k0_off115 (v1 : BitVec 32) : Fin 3 → Nat :=
  let v1257 : Index := Scalar.indexCast v1
  let c7_761 : Index := 7#32
  let c1_762 : Index := 1#32
  ![v1257.toNat, 7, 1]
def k0_off116 (v1 : BitVec 32) : Fin 3 → Nat :=
  let v1268 : Index := Scalar.indexCast v1
  let c7_768 : Index := 7#32
  let c2_769 : Index := 2#32
  ![v1268.toNat, 7, 2]
def k0_off117 (v1 : BitVec 32) : Fin 3 → Nat :=
  let v1279 : Index := Scalar.indexCast v1
  let c7_775 : Index := 7#32
  let c3_776 : Index := 3#32
  ![v1279.toNat, 7, 3]
def k0_off118 (v1 : BitVec 32) : Fin 3 → Nat :=
  let v1290 : Index := Scalar.indexCast v1
  let c7_782 : Index := 7#32
  let c4_783 : Index := 4#32
  ![v1290.toNat, 7, 4]
def k0_off119 (v1 : BitVec 32) : Fin 3 → Nat :=
  let v1301 : Index := Scalar.indexCast v1
  let c7_789 : Index := 7#32
  let c5_790 : Index := 5#32
  ![v1301.toNat, 7, 5]
def k0_off120 (v1 : BitVec 32) : Fin 3 → Nat :=
  let v1312 : Index := Scalar.indexCast v1
  let c7_796 : Index := 7#32
  let c6_797 : Index := 6#32
  ![v1312.toNat, 7, 6]
def k0_off121 (v1 : BitVec 32) : Fin 3 → Nat :=
  let v1323 : Index := Scalar.indexCast v1
  let c7_803 : Index := 7#32
  let c7_804 : Index := 7#32
  ![v1323.toNat, 7, 7]
def k0_off122 (v1 : BitVec 32) : Fin 3 → Nat :=
  let v1334 : Index := Scalar.indexCast v1
  let c7_810 : Index := 7#32
  let c8_811 : Index := 8#32
  ![v1334.toNat, 7, 8]
def k0_off123 (v1 : BitVec 32) : Fin 3 → Nat :=
  let v1345 : Index := Scalar.indexCast v1
  let c7_817 : Index := 7#32
  let c9_818 : Index := 9#32
  ![v1345.toNat, 7, 9]
def k0_off124 (v1 : BitVec 32) : Fin 3 → Nat :=
  let v1356 : Index := Scalar.indexCast v1
  let c7_824 : Index := 7#32
  let c10_825 : Index := 10#32
  ![v1356.toNat, 7, 10]
def k0_off125 (v1 : BitVec 32) : Fin 3 → Nat :=
  let v1367 : Index := Scalar.indexCast v1
  let c7_831 : Index := 7#32
  let c11_832 : Index := 11#32
  ![v1367.toNat, 7, 11]
def k0_off126 (v1 : BitVec 32) : Fin 3 → Nat :=
  let v1378 : Index := Scalar.indexCast v1
  let c7_838 : Index := 7#32
  let c12_839 : Index := 12#32
  ![v1378.toNat, 7, 12]
def k0_off127 (v1 : BitVec 32) : Fin 3 → Nat :=
  let v1389 : Index := Scalar.indexCast v1
  let c7_845 : Index := 7#32
  let c13_846 : Index := 13#32
  ![v1389.toNat, 7, 13]
def k0_off128 (v1 : BitVec 32) : Fin 3 → Nat :=
  let v1400 : Index := Scalar.indexCast v1
  let c7_852 : Index := 7#32
  let c14_853 : Index := 14#32
  ![v1400.toNat, 7, 14]
def k0_off129 (v1 : BitVec 32) : Fin 3 → Nat :=
  let v1411 : Index := Scalar.indexCast v1
  let c7_859 : Index := 7#32
  let c15_860 : Index := 15#32
  ![v1411.toNat, 7, 15]
def k0_off130 (v1 : BitVec 32) : Fin 3 → Nat :=
  let v1422 : Index := Scalar.indexCast v1
  let c8_866 : Index := 8#32
  let c0_867 : Index := 0#32
  ![v1422.toNat, 8, 0]
def k0_off131 (v1 : BitVec 32) : Fin 3 → Nat :=
  let v1433 : Index := Scalar.indexCast v1
  let c8_873 : Index := 8#32
  let c1_874 : Index := 1#32
  ![v1433.toNat, 8, 1]
def k0_off132 (v1 : BitVec 32) : Fin 3 → Nat :=
  let v1444 : Index := Scalar.indexCast v1
  let c8_880 : Index := 8#32
  let c2_881 : Index := 2#32
  ![v1444.toNat, 8, 2]
def k0_off133 (v1 : BitVec 32) : Fin 3 → Nat :=
  let v1455 : Index := Scalar.indexCast v1
  let c8_887 : Index := 8#32
  let c3_888 : Index := 3#32
  ![v1455.toNat, 8, 3]
def k0_off134 (v1 : BitVec 32) : Fin 3 → Nat :=
  let v1466 : Index := Scalar.indexCast v1
  let c8_894 : Index := 8#32
  let c4_895 : Index := 4#32
  ![v1466.toNat, 8, 4]
def k0_off135 (v1 : BitVec 32) : Fin 3 → Nat :=
  let v1477 : Index := Scalar.indexCast v1
  let c8_901 : Index := 8#32
  let c5_902 : Index := 5#32
  ![v1477.toNat, 8, 5]
def k0_off136 (v1 : BitVec 32) : Fin 3 → Nat :=
  let v1488 : Index := Scalar.indexCast v1
  let c8_908 : Index := 8#32
  let c6_909 : Index := 6#32
  ![v1488.toNat, 8, 6]
def k0_off137 (v1 : BitVec 32) : Fin 3 → Nat :=
  let v1499 : Index := Scalar.indexCast v1
  let c8_915 : Index := 8#32
  let c7_916 : Index := 7#32
  ![v1499.toNat, 8, 7]
def k0_off138 (v1 : BitVec 32) : Fin 3 → Nat :=
  let v1510 : Index := Scalar.indexCast v1
  let c8_922 : Index := 8#32
  let c8_923 : Index := 8#32
  ![v1510.toNat, 8, 8]
def k0_off139 (v1 : BitVec 32) : Fin 3 → Nat :=
  let v1521 : Index := Scalar.indexCast v1
  let c8_929 : Index := 8#32
  let c9_930 : Index := 9#32
  ![v1521.toNat, 8, 9]
def k0_off140 (v1 : BitVec 32) : Fin 3 → Nat :=
  let v1532 : Index := Scalar.indexCast v1
  let c8_936 : Index := 8#32
  let c10_937 : Index := 10#32
  ![v1532.toNat, 8, 10]
def k0_off141 (v1 : BitVec 32) : Fin 3 → Nat :=
  let v1543 : Index := Scalar.indexCast v1
  let c8_943 : Index := 8#32
  let c11_944 : Index := 11#32
  ![v1543.toNat, 8, 11]
def k0_off142 (v1 : BitVec 32) : Fin 3 → Nat :=
  let v1554 : Index := Scalar.indexCast v1
  let c8_950 : Index := 8#32
  let c12_951 : Index := 12#32
  ![v1554.toNat, 8, 12]
def k0_off143 (v1 : BitVec 32) : Fin 3 → Nat :=
  let v1565 : Index := Scalar.indexCast v1
  let c8_957 : Index := 8#32
  let c13_958 : Index := 13#32
  ![v1565.toNat, 8, 13]
def k0_off144 (v1 : BitVec 32) : Fin 3 → Nat :=
  let v1576 : Index := Scalar.indexCast v1
  let c8_964 : Index := 8#32
  let c14_965 : Index := 14#32
  ![v1576.toNat, 8, 14]
def k0_off145 (v1 : BitVec 32) : Fin 3 → Nat :=
  let v1587 : Index := Scalar.indexCast v1
  let c8_971 : Index := 8#32
  let c15_972 : Index := 15#32
  ![v1587.toNat, 8, 15]
def k0_off146 (v1 : BitVec 32) : Fin 3 → Nat :=
  let v1598 : Index := Scalar.indexCast v1
  let c9_978 : Index := 9#32
  let c0_979 : Index := 0#32
  ![v1598.toNat, 9, 0]
def k0_off147 (v1 : BitVec 32) : Fin 3 → Nat :=
  let v1609 : Index := Scalar.indexCast v1
  let c9_985 : Index := 9#32
  let c1_986 : Index := 1#32
  ![v1609.toNat, 9, 1]
def k0_off148 (v1 : BitVec 32) : Fin 3 → Nat :=
  let v1620 : Index := Scalar.indexCast v1
  let c9_992 : Index := 9#32
  let c2_993 : Index := 2#32
  ![v1620.toNat, 9, 2]
def k0_off149 (v1 : BitVec 32) : Fin 3 → Nat :=
  let v1631 : Index := Scalar.indexCast v1
  let c9_999 : Index := 9#32
  let c3_1000 : Index := 3#32
  ![v1631.toNat, 9, 3]
def k0_off150 (v1 : BitVec 32) : Fin 3 → Nat :=
  let v1642 : Index := Scalar.indexCast v1
  let c9_1006 : Index := 9#32
  let c4_1007 : Index := 4#32
  ![v1642.toNat, 9, 4]
def k0_off151 (v1 : BitVec 32) : Fin 3 → Nat :=
  let v1653 : Index := Scalar.indexCast v1
  let c9_1013 : Index := 9#32
  let c5_1014 : Index := 5#32
  ![v1653.toNat, 9, 5]
def k0_off152 (v1 : BitVec 32) : Fin 3 → Nat :=
  let v1664 : Index := Scalar.indexCast v1
  let c9_1020 : Index := 9#32
  let c6_1021 : Index := 6#32
  ![v1664.toNat, 9, 6]
def k0_off153 (v1 : BitVec 32) : Fin 3 → Nat :=
  let v1675 : Index := Scalar.indexCast v1
  let c9_1027 : Index := 9#32
  let c7_1028 : Index := 7#32
  ![v1675.toNat, 9, 7]
def k0_off154 (v1 : BitVec 32) : Fin 3 → Nat :=
  let v1686 : Index := Scalar.indexCast v1
  let c9_1034 : Index := 9#32
  let c8_1035 : Index := 8#32
  ![v1686.toNat, 9, 8]
def k0_off155 (v1 : BitVec 32) : Fin 3 → Nat :=
  let v1697 : Index := Scalar.indexCast v1
  let c9_1041 : Index := 9#32
  let c9_1042 : Index := 9#32
  ![v1697.toNat, 9, 9]
def k0_off156 (v1 : BitVec 32) : Fin 3 → Nat :=
  let v1708 : Index := Scalar.indexCast v1
  let c9_1048 : Index := 9#32
  let c10_1049 : Index := 10#32
  ![v1708.toNat, 9, 10]
def k0_off157 (v1 : BitVec 32) : Fin 3 → Nat :=
  let v1719 : Index := Scalar.indexCast v1
  let c9_1055 : Index := 9#32
  let c11_1056 : Index := 11#32
  ![v1719.toNat, 9, 11]
def k0_off158 (v1 : BitVec 32) : Fin 3 → Nat :=
  let v1730 : Index := Scalar.indexCast v1
  let c9_1062 : Index := 9#32
  let c12_1063 : Index := 12#32
  ![v1730.toNat, 9, 12]
def k0_off159 (v1 : BitVec 32) : Fin 3 → Nat :=
  let v1741 : Index := Scalar.indexCast v1
  let c9_1069 : Index := 9#32
  let c13_1070 : Index := 13#32
  ![v1741.toNat, 9, 13]
def k0_off160 (v1 : BitVec 32) : Fin 3 → Nat :=
  let v1752 : Index := Scalar.indexCast v1
  let c9_1076 : Index := 9#32
  let c14_1077 : Index := 14#32
  ![v1752.toNat, 9, 14]
def k0_off161 (v1 : BitVec 32) : Fin 3 → Nat :=
  let v1763 : Index := Scalar.indexCast v1
  let c9_1083 : Index := 9#32
  let c15_1084 : Index := 15#32
  ![v1763.toNat, 9, 15]
def k0_off162 (v1 : BitVec 32) : Fin 3 → Nat :=
  let v1774 : Index := Scalar.indexCast v1
  let c10_1090 : Index := 10#32
  let c0_1091 : Index := 0#32
  ![v1774.toNat, 10, 0]
def k0_off163 (v1 : BitVec 32) : Fin 3 → Nat :=
  let v1785 : Index := Scalar.indexCast v1
  let c10_1097 : Index := 10#32
  let c1_1098 : Index := 1#32
  ![v1785.toNat, 10, 1]
def k0_off164 (v1 : BitVec 32) : Fin 3 → Nat :=
  let v1796 : Index := Scalar.indexCast v1
  let c10_1104 : Index := 10#32
  let c2_1105 : Index := 2#32
  ![v1796.toNat, 10, 2]
def k0_off165 (v1 : BitVec 32) : Fin 3 → Nat :=
  let v1807 : Index := Scalar.indexCast v1
  let c10_1111 : Index := 10#32
  let c3_1112 : Index := 3#32
  ![v1807.toNat, 10, 3]
def k0_off166 (v1 : BitVec 32) : Fin 3 → Nat :=
  let v1818 : Index := Scalar.indexCast v1
  let c10_1118 : Index := 10#32
  let c4_1119 : Index := 4#32
  ![v1818.toNat, 10, 4]
def k0_off167 (v1 : BitVec 32) : Fin 3 → Nat :=
  let v1829 : Index := Scalar.indexCast v1
  let c10_1125 : Index := 10#32
  let c5_1126 : Index := 5#32
  ![v1829.toNat, 10, 5]
def k0_off168 (v1 : BitVec 32) : Fin 3 → Nat :=
  let v1840 : Index := Scalar.indexCast v1
  let c10_1132 : Index := 10#32
  let c6_1133 : Index := 6#32
  ![v1840.toNat, 10, 6]
def k0_off169 (v1 : BitVec 32) : Fin 3 → Nat :=
  let v1851 : Index := Scalar.indexCast v1
  let c10_1139 : Index := 10#32
  let c7_1140 : Index := 7#32
  ![v1851.toNat, 10, 7]
def k0_off170 (v1 : BitVec 32) : Fin 3 → Nat :=
  let v1862 : Index := Scalar.indexCast v1
  let c10_1146 : Index := 10#32
  let c8_1147 : Index := 8#32
  ![v1862.toNat, 10, 8]
def k0_off171 (v1 : BitVec 32) : Fin 3 → Nat :=
  let v1873 : Index := Scalar.indexCast v1
  let c10_1153 : Index := 10#32
  let c9_1154 : Index := 9#32
  ![v1873.toNat, 10, 9]
def k0_off172 (v1 : BitVec 32) : Fin 3 → Nat :=
  let v1884 : Index := Scalar.indexCast v1
  let c10_1160 : Index := 10#32
  let c10_1161 : Index := 10#32
  ![v1884.toNat, 10, 10]
def k0_off173 (v1 : BitVec 32) : Fin 3 → Nat :=
  let v1895 : Index := Scalar.indexCast v1
  let c10_1167 : Index := 10#32
  let c11_1168 : Index := 11#32
  ![v1895.toNat, 10, 11]
def k0_off174 (v1 : BitVec 32) : Fin 3 → Nat :=
  let v1906 : Index := Scalar.indexCast v1
  let c10_1174 : Index := 10#32
  let c12_1175 : Index := 12#32
  ![v1906.toNat, 10, 12]
def k0_off175 (v1 : BitVec 32) : Fin 3 → Nat :=
  let v1917 : Index := Scalar.indexCast v1
  let c10_1181 : Index := 10#32
  let c13_1182 : Index := 13#32
  ![v1917.toNat, 10, 13]
def k0_off176 (v1 : BitVec 32) : Fin 3 → Nat :=
  let v1928 : Index := Scalar.indexCast v1
  let c10_1188 : Index := 10#32
  let c14_1189 : Index := 14#32
  ![v1928.toNat, 10, 14]
def k0_off177 (v1 : BitVec 32) : Fin 3 → Nat :=
  let v1939 : Index := Scalar.indexCast v1
  let c10_1195 : Index := 10#32
  let c15_1196 : Index := 15#32
  ![v1939.toNat, 10, 15]

def k0_chk1_0 (v1 : BitVec 32) (v3 : BitVec 32) : Prop :=
  (∀ (k0_h1 : k0_cond1 v3 = 1#1), ∀ a, (k0_off2 v1) a + S1x1x1.size a ≤ S16x11x16.size a) ∧
  (∀ (k0_h1 : k0_cond1 v3 = 1#1), ∀ a, (k0_off3 v1) a + S1x1x1.size a ≤ S16x11x16.size a) ∧
  (∀ (k0_h1 : k0_cond1 v3 = 1#1), ∀ a, (k0_off4 v1) a + S1x1x1.size a ≤ S16x11x16.size a) ∧
  (∀ (k0_h1 : k0_cond1 v3 = 1#1), ∀ a, (k0_off5 v1) a + S1x1x1.size a ≤ S16x11x16.size a) ∧
  (∀ (k0_h1 : k0_cond1 v3 = 1#1), ∀ a, (k0_off6 v1) a + S1x1x1.size a ≤ S16x11x16.size a) ∧
  (∀ (k0_h1 : k0_cond1 v3 = 1#1), ∀ a, (k0_off7 v1) a + S1x1x1.size a ≤ S16x11x16.size a) ∧
  (∀ (k0_h1 : k0_cond1 v3 = 1#1), ∀ a, (k0_off8 v1) a + S1x1x1.size a ≤ S16x11x16.size a) ∧
  (∀ (k0_h1 : k0_cond1 v3 = 1#1), ∀ a, (k0_off9 v1) a + S1x1x1.size a ≤ S16x11x16.size a) ∧
  (∀ (k0_h1 : k0_cond1 v3 = 1#1), ∀ a, (k0_off10 v1) a + S1x1x1.size a ≤ S16x11x16.size a) ∧
  (∀ (k0_h1 : k0_cond1 v3 = 1#1), ∀ a, (k0_off11 v1) a + S1x1x1.size a ≤ S16x11x16.size a) ∧
  (∀ (k0_h1 : k0_cond1 v3 = 1#1), ∀ a, (k0_off12 v1) a + S1x1x1.size a ≤ S16x11x16.size a) ∧
  (∀ (k0_h1 : k0_cond1 v3 = 1#1), ∀ a, (k0_off13 v1) a + S1x1x1.size a ≤ S16x11x16.size a) ∧
  (∀ (k0_h1 : k0_cond1 v3 = 1#1), ∀ a, (k0_off14 v1) a + S1x1x1.size a ≤ S16x11x16.size a) ∧
  (∀ (k0_h1 : k0_cond1 v3 = 1#1), ∀ a, (k0_off15 v1) a + S1x1x1.size a ≤ S16x11x16.size a) ∧
  (∀ (k0_h1 : k0_cond1 v3 = 1#1), ∀ a, (k0_off16 v1) a + S1x1x1.size a ≤ S16x11x16.size a) ∧
  (∀ (k0_h1 : k0_cond1 v3 = 1#1), ∀ a, (k0_off17 v1) a + S1x1x1.size a ≤ S16x11x16.size a) ∧
  (∀ (k0_h1 : k0_cond1 v3 = 1#1), ∀ a, (k0_off18 v1) a + S1x1x1.size a ≤ S16x11x16.size a) ∧
  (∀ (k0_h1 : k0_cond1 v3 = 1#1), ∀ a, (k0_off19 v1) a + S1x1x1.size a ≤ S16x11x16.size a) ∧
  (∀ (k0_h1 : k0_cond1 v3 = 1#1), ∀ a, (k0_off20 v1) a + S1x1x1.size a ≤ S16x11x16.size a) ∧
  (∀ (k0_h1 : k0_cond1 v3 = 1#1), ∀ a, (k0_off21 v1) a + S1x1x1.size a ≤ S16x11x16.size a) ∧
  (∀ (k0_h1 : k0_cond1 v3 = 1#1), ∀ a, (k0_off22 v1) a + S1x1x1.size a ≤ S16x11x16.size a) ∧
  (∀ (k0_h1 : k0_cond1 v3 = 1#1), ∀ a, (k0_off23 v1) a + S1x1x1.size a ≤ S16x11x16.size a) ∧
  (∀ (k0_h1 : k0_cond1 v3 = 1#1), ∀ a, (k0_off24 v1) a + S1x1x1.size a ≤ S16x11x16.size a) ∧
  (∀ (k0_h1 : k0_cond1 v3 = 1#1), ∀ a, (k0_off25 v1) a + S1x1x1.size a ≤ S16x11x16.size a) ∧
  (∀ (k0_h1 : k0_cond1 v3 = 1#1), ∀ a, (k0_off26 v1) a + S1x1x1.size a ≤ S16x11x16.size a) ∧
  (∀ (k0_h1 : k0_cond1 v3 = 1#1), ∀ a, (k0_off27 v1) a + S1x1x1.size a ≤ S16x11x16.size a) ∧
  (∀ (k0_h1 : k0_cond1 v3 = 1#1), ∀ a, (k0_off28 v1) a + S1x1x1.size a ≤ S16x11x16.size a) ∧
  (∀ (k0_h1 : k0_cond1 v3 = 1#1), ∀ a, (k0_off29 v1) a + S1x1x1.size a ≤ S16x11x16.size a) ∧
  (∀ (k0_h1 : k0_cond1 v3 = 1#1), ∀ a, (k0_off30 v1) a + S1x1x1.size a ≤ S16x11x16.size a) ∧
  (∀ (k0_h1 : k0_cond1 v3 = 1#1), ∀ a, (k0_off31 v1) a + S1x1x1.size a ≤ S16x11x16.size a) ∧
  (∀ (k0_h1 : k0_cond1 v3 = 1#1), ∀ a, (k0_off32 v1) a + S1x1x1.size a ≤ S16x11x16.size a) ∧
  (∀ (k0_h1 : k0_cond1 v3 = 1#1), ∀ a, (k0_off33 v1) a + S1x1x1.size a ≤ S16x11x16.size a)
def k0_chk1_1 (v1 : BitVec 32) (v3 : BitVec 32) : Prop :=
  (∀ (k0_h1 : k0_cond1 v3 = 1#1), ∀ a, (k0_off34 v1) a + S1x1x1.size a ≤ S16x11x16.size a) ∧
  (∀ (k0_h1 : k0_cond1 v3 = 1#1), ∀ a, (k0_off35 v1) a + S1x1x1.size a ≤ S16x11x16.size a) ∧
  (∀ (k0_h1 : k0_cond1 v3 = 1#1), ∀ a, (k0_off36 v1) a + S1x1x1.size a ≤ S16x11x16.size a) ∧
  (∀ (k0_h1 : k0_cond1 v3 = 1#1), ∀ a, (k0_off37 v1) a + S1x1x1.size a ≤ S16x11x16.size a) ∧
  (∀ (k0_h1 : k0_cond1 v3 = 1#1), ∀ a, (k0_off38 v1) a + S1x1x1.size a ≤ S16x11x16.size a) ∧
  (∀ (k0_h1 : k0_cond1 v3 = 1#1), ∀ a, (k0_off39 v1) a + S1x1x1.size a ≤ S16x11x16.size a) ∧
  (∀ (k0_h1 : k0_cond1 v3 = 1#1), ∀ a, (k0_off40 v1) a + S1x1x1.size a ≤ S16x11x16.size a) ∧
  (∀ (k0_h1 : k0_cond1 v3 = 1#1), ∀ a, (k0_off41 v1) a + S1x1x1.size a ≤ S16x11x16.size a) ∧
  (∀ (k0_h1 : k0_cond1 v3 = 1#1), ∀ a, (k0_off42 v1) a + S1x1x1.size a ≤ S16x11x16.size a) ∧
  (∀ (k0_h1 : k0_cond1 v3 = 1#1), ∀ a, (k0_off43 v1) a + S1x1x1.size a ≤ S16x11x16.size a) ∧
  (∀ (k0_h1 : k0_cond1 v3 = 1#1), ∀ a, (k0_off44 v1) a + S1x1x1.size a ≤ S16x11x16.size a) ∧
  (∀ (k0_h1 : k0_cond1 v3 = 1#1), ∀ a, (k0_off45 v1) a + S1x1x1.size a ≤ S16x11x16.size a) ∧
  (∀ (k0_h1 : k0_cond1 v3 = 1#1), ∀ a, (k0_off46 v1) a + S1x1x1.size a ≤ S16x11x16.size a) ∧
  (∀ (k0_h1 : k0_cond1 v3 = 1#1), ∀ a, (k0_off47 v1) a + S1x1x1.size a ≤ S16x11x16.size a) ∧
  (∀ (k0_h1 : k0_cond1 v3 = 1#1), ∀ a, (k0_off48 v1) a + S1x1x1.size a ≤ S16x11x16.size a) ∧
  (∀ (k0_h1 : k0_cond1 v3 = 1#1), ∀ a, (k0_off49 v1) a + S1x1x1.size a ≤ S16x11x16.size a) ∧
  (∀ (k0_h1 : k0_cond1 v3 = 1#1), ∀ a, (k0_off50 v1) a + S1x1x1.size a ≤ S16x11x16.size a) ∧
  (∀ (k0_h1 : k0_cond1 v3 = 1#1), ∀ a, (k0_off51 v1) a + S1x1x1.size a ≤ S16x11x16.size a) ∧
  (∀ (k0_h1 : k0_cond1 v3 = 1#1), ∀ a, (k0_off52 v1) a + S1x1x1.size a ≤ S16x11x16.size a) ∧
  (∀ (k0_h1 : k0_cond1 v3 = 1#1), ∀ a, (k0_off53 v1) a + S1x1x1.size a ≤ S16x11x16.size a) ∧
  (∀ (k0_h1 : k0_cond1 v3 = 1#1), ∀ a, (k0_off54 v1) a + S1x1x1.size a ≤ S16x11x16.size a) ∧
  (∀ (k0_h1 : k0_cond1 v3 = 1#1), ∀ a, (k0_off55 v1) a + S1x1x1.size a ≤ S16x11x16.size a) ∧
  (∀ (k0_h1 : k0_cond1 v3 = 1#1), ∀ a, (k0_off56 v1) a + S1x1x1.size a ≤ S16x11x16.size a) ∧
  (∀ (k0_h1 : k0_cond1 v3 = 1#1), ∀ a, (k0_off57 v1) a + S1x1x1.size a ≤ S16x11x16.size a) ∧
  (∀ (k0_h1 : k0_cond1 v3 = 1#1), ∀ a, (k0_off58 v1) a + S1x1x1.size a ≤ S16x11x16.size a) ∧
  (∀ (k0_h1 : k0_cond1 v3 = 1#1), ∀ a, (k0_off59 v1) a + S1x1x1.size a ≤ S16x11x16.size a) ∧
  (∀ (k0_h1 : k0_cond1 v3 = 1#1), ∀ a, (k0_off60 v1) a + S1x1x1.size a ≤ S16x11x16.size a) ∧
  (∀ (k0_h1 : k0_cond1 v3 = 1#1), ∀ a, (k0_off61 v1) a + S1x1x1.size a ≤ S16x11x16.size a) ∧
  (∀ (k0_h1 : k0_cond1 v3 = 1#1), ∀ a, (k0_off62 v1) a + S1x1x1.size a ≤ S16x11x16.size a) ∧
  (∀ (k0_h1 : k0_cond1 v3 = 1#1), ∀ a, (k0_off63 v1) a + S1x1x1.size a ≤ S16x11x16.size a) ∧
  (∀ (k0_h1 : k0_cond1 v3 = 1#1), ∀ a, (k0_off64 v1) a + S1x1x1.size a ≤ S16x11x16.size a) ∧
  (∀ (k0_h1 : k0_cond1 v3 = 1#1), ∀ a, (k0_off65 v1) a + S1x1x1.size a ≤ S16x11x16.size a)
def k0_chk1_2 (v1 : BitVec 32) (v3 : BitVec 32) : Prop :=
  (∀ (k0_h1 : k0_cond1 v3 = 1#1), ∀ a, (k0_off66 v1) a + S1x1x1.size a ≤ S16x11x16.size a) ∧
  (∀ (k0_h1 : k0_cond1 v3 = 1#1), ∀ a, (k0_off67 v1) a + S1x1x1.size a ≤ S16x11x16.size a) ∧
  (∀ (k0_h1 : k0_cond1 v3 = 1#1), ∀ a, (k0_off68 v1) a + S1x1x1.size a ≤ S16x11x16.size a) ∧
  (∀ (k0_h1 : k0_cond1 v3 = 1#1), ∀ a, (k0_off69 v1) a + S1x1x1.size a ≤ S16x11x16.size a) ∧
  (∀ (k0_h1 : k0_cond1 v3 = 1#1), ∀ a, (k0_off70 v1) a + S1x1x1.size a ≤ S16x11x16.size a) ∧
  (∀ (k0_h1 : k0_cond1 v3 = 1#1), ∀ a, (k0_off71 v1) a + S1x1x1.size a ≤ S16x11x16.size a) ∧
  (∀ (k0_h1 : k0_cond1 v3 = 1#1), ∀ a, (k0_off72 v1) a + S1x1x1.size a ≤ S16x11x16.size a) ∧
  (∀ (k0_h1 : k0_cond1 v3 = 1#1), ∀ a, (k0_off73 v1) a + S1x1x1.size a ≤ S16x11x16.size a) ∧
  (∀ (k0_h1 : k0_cond1 v3 = 1#1), ∀ a, (k0_off74 v1) a + S1x1x1.size a ≤ S16x11x16.size a) ∧
  (∀ (k0_h1 : k0_cond1 v3 = 1#1), ∀ a, (k0_off75 v1) a + S1x1x1.size a ≤ S16x11x16.size a) ∧
  (∀ (k0_h1 : k0_cond1 v3 = 1#1), ∀ a, (k0_off76 v1) a + S1x1x1.size a ≤ S16x11x16.size a) ∧
  (∀ (k0_h1 : k0_cond1 v3 = 1#1), ∀ a, (k0_off77 v1) a + S1x1x1.size a ≤ S16x11x16.size a) ∧
  (∀ (k0_h1 : k0_cond1 v3 = 1#1), ∀ a, (k0_off78 v1) a + S1x1x1.size a ≤ S16x11x16.size a) ∧
  (∀ (k0_h1 : k0_cond1 v3 = 1#1), ∀ a, (k0_off79 v1) a + S1x1x1.size a ≤ S16x11x16.size a) ∧
  (∀ (k0_h1 : k0_cond1 v3 = 1#1), ∀ a, (k0_off80 v1) a + S1x1x1.size a ≤ S16x11x16.size a) ∧
  (∀ (k0_h1 : k0_cond1 v3 = 1#1), ∀ a, (k0_off81 v1) a + S1x1x1.size a ≤ S16x11x16.size a) ∧
  (∀ (k0_h1 : k0_cond1 v3 = 1#1), ∀ a, (k0_off82 v1) a + S1x1x1.size a ≤ S16x11x16.size a) ∧
  (∀ (k0_h1 : k0_cond1 v3 = 1#1), ∀ a, (k0_off83 v1) a + S1x1x1.size a ≤ S16x11x16.size a) ∧
  (∀ (k0_h1 : k0_cond1 v3 = 1#1), ∀ a, (k0_off84 v1) a + S1x1x1.size a ≤ S16x11x16.size a) ∧
  (∀ (k0_h1 : k0_cond1 v3 = 1#1), ∀ a, (k0_off85 v1) a + S1x1x1.size a ≤ S16x11x16.size a) ∧
  (∀ (k0_h1 : k0_cond1 v3 = 1#1), ∀ a, (k0_off86 v1) a + S1x1x1.size a ≤ S16x11x16.size a) ∧
  (∀ (k0_h1 : k0_cond1 v3 = 1#1), ∀ a, (k0_off87 v1) a + S1x1x1.size a ≤ S16x11x16.size a) ∧
  (∀ (k0_h1 : k0_cond1 v3 = 1#1), ∀ a, (k0_off88 v1) a + S1x1x1.size a ≤ S16x11x16.size a) ∧
  (∀ (k0_h1 : k0_cond1 v3 = 1#1), ∀ a, (k0_off89 v1) a + S1x1x1.size a ≤ S16x11x16.size a) ∧
  (∀ (k0_h1 : k0_cond1 v3 = 1#1), ∀ a, (k0_off90 v1) a + S1x1x1.size a ≤ S16x11x16.size a) ∧
  (∀ (k0_h1 : k0_cond1 v3 = 1#1), ∀ a, (k0_off91 v1) a + S1x1x1.size a ≤ S16x11x16.size a) ∧
  (∀ (k0_h1 : k0_cond1 v3 = 1#1), ∀ a, (k0_off92 v1) a + S1x1x1.size a ≤ S16x11x16.size a) ∧
  (∀ (k0_h1 : k0_cond1 v3 = 1#1), ∀ a, (k0_off93 v1) a + S1x1x1.size a ≤ S16x11x16.size a) ∧
  (∀ (k0_h1 : k0_cond1 v3 = 1#1), ∀ a, (k0_off94 v1) a + S1x1x1.size a ≤ S16x11x16.size a) ∧
  (∀ (k0_h1 : k0_cond1 v3 = 1#1), ∀ a, (k0_off95 v1) a + S1x1x1.size a ≤ S16x11x16.size a) ∧
  (∀ (k0_h1 : k0_cond1 v3 = 1#1), ∀ a, (k0_off96 v1) a + S1x1x1.size a ≤ S16x11x16.size a) ∧
  (∀ (k0_h1 : k0_cond1 v3 = 1#1), ∀ a, (k0_off97 v1) a + S1x1x1.size a ≤ S16x11x16.size a)
def k0_chk1_3 (v1 : BitVec 32) (v3 : BitVec 32) : Prop :=
  (∀ (k0_h1 : k0_cond1 v3 = 1#1), ∀ a, (k0_off98 v1) a + S1x1x1.size a ≤ S16x11x16.size a) ∧
  (∀ (k0_h1 : k0_cond1 v3 = 1#1), ∀ a, (k0_off99 v1) a + S1x1x1.size a ≤ S16x11x16.size a) ∧
  (∀ (k0_h1 : k0_cond1 v3 = 1#1), ∀ a, (k0_off100 v1) a + S1x1x1.size a ≤ S16x11x16.size a) ∧
  (∀ (k0_h1 : k0_cond1 v3 = 1#1), ∀ a, (k0_off101 v1) a + S1x1x1.size a ≤ S16x11x16.size a) ∧
  (∀ (k0_h1 : k0_cond1 v3 = 1#1), ∀ a, (k0_off102 v1) a + S1x1x1.size a ≤ S16x11x16.size a) ∧
  (∀ (k0_h1 : k0_cond1 v3 = 1#1), ∀ a, (k0_off103 v1) a + S1x1x1.size a ≤ S16x11x16.size a) ∧
  (∀ (k0_h1 : k0_cond1 v3 = 1#1), ∀ a, (k0_off104 v1) a + S1x1x1.size a ≤ S16x11x16.size a) ∧
  (∀ (k0_h1 : k0_cond1 v3 = 1#1), ∀ a, (k0_off105 v1) a + S1x1x1.size a ≤ S16x11x16.size a) ∧
  (∀ (k0_h1 : k0_cond1 v3 = 1#1), ∀ a, (k0_off106 v1) a + S1x1x1.size a ≤ S16x11x16.size a) ∧
  (∀ (k0_h1 : k0_cond1 v3 = 1#1), ∀ a, (k0_off107 v1) a + S1x1x1.size a ≤ S16x11x16.size a) ∧
  (∀ (k0_h1 : k0_cond1 v3 = 1#1), ∀ a, (k0_off108 v1) a + S1x1x1.size a ≤ S16x11x16.size a) ∧
  (∀ (k0_h1 : k0_cond1 v3 = 1#1), ∀ a, (k0_off109 v1) a + S1x1x1.size a ≤ S16x11x16.size a) ∧
  (∀ (k0_h1 : k0_cond1 v3 = 1#1), ∀ a, (k0_off110 v1) a + S1x1x1.size a ≤ S16x11x16.size a) ∧
  (∀ (k0_h1 : k0_cond1 v3 = 1#1), ∀ a, (k0_off111 v1) a + S1x1x1.size a ≤ S16x11x16.size a) ∧
  (∀ (k0_h1 : k0_cond1 v3 = 1#1), ∀ a, (k0_off112 v1) a + S1x1x1.size a ≤ S16x11x16.size a) ∧
  (∀ (k0_h1 : k0_cond1 v3 = 1#1), ∀ a, (k0_off113 v1) a + S1x1x1.size a ≤ S16x11x16.size a) ∧
  (∀ (k0_h1 : k0_cond1 v3 = 1#1), ∀ a, (k0_off114 v1) a + S1x1x1.size a ≤ S16x11x16.size a) ∧
  (∀ (k0_h1 : k0_cond1 v3 = 1#1), ∀ a, (k0_off115 v1) a + S1x1x1.size a ≤ S16x11x16.size a) ∧
  (∀ (k0_h1 : k0_cond1 v3 = 1#1), ∀ a, (k0_off116 v1) a + S1x1x1.size a ≤ S16x11x16.size a) ∧
  (∀ (k0_h1 : k0_cond1 v3 = 1#1), ∀ a, (k0_off117 v1) a + S1x1x1.size a ≤ S16x11x16.size a) ∧
  (∀ (k0_h1 : k0_cond1 v3 = 1#1), ∀ a, (k0_off118 v1) a + S1x1x1.size a ≤ S16x11x16.size a) ∧
  (∀ (k0_h1 : k0_cond1 v3 = 1#1), ∀ a, (k0_off119 v1) a + S1x1x1.size a ≤ S16x11x16.size a) ∧
  (∀ (k0_h1 : k0_cond1 v3 = 1#1), ∀ a, (k0_off120 v1) a + S1x1x1.size a ≤ S16x11x16.size a) ∧
  (∀ (k0_h1 : k0_cond1 v3 = 1#1), ∀ a, (k0_off121 v1) a + S1x1x1.size a ≤ S16x11x16.size a) ∧
  (∀ (k0_h1 : k0_cond1 v3 = 1#1), ∀ a, (k0_off122 v1) a + S1x1x1.size a ≤ S16x11x16.size a) ∧
  (∀ (k0_h1 : k0_cond1 v3 = 1#1), ∀ a, (k0_off123 v1) a + S1x1x1.size a ≤ S16x11x16.size a) ∧
  (∀ (k0_h1 : k0_cond1 v3 = 1#1), ∀ a, (k0_off124 v1) a + S1x1x1.size a ≤ S16x11x16.size a) ∧
  (∀ (k0_h1 : k0_cond1 v3 = 1#1), ∀ a, (k0_off125 v1) a + S1x1x1.size a ≤ S16x11x16.size a) ∧
  (∀ (k0_h1 : k0_cond1 v3 = 1#1), ∀ a, (k0_off126 v1) a + S1x1x1.size a ≤ S16x11x16.size a) ∧
  (∀ (k0_h1 : k0_cond1 v3 = 1#1), ∀ a, (k0_off127 v1) a + S1x1x1.size a ≤ S16x11x16.size a) ∧
  (∀ (k0_h1 : k0_cond1 v3 = 1#1), ∀ a, (k0_off128 v1) a + S1x1x1.size a ≤ S16x11x16.size a) ∧
  (∀ (k0_h1 : k0_cond1 v3 = 1#1), ∀ a, (k0_off129 v1) a + S1x1x1.size a ≤ S16x11x16.size a)
def k0_chk1_4 (v1 : BitVec 32) (v3 : BitVec 32) : Prop :=
  (∀ (k0_h1 : k0_cond1 v3 = 1#1), ∀ a, (k0_off130 v1) a + S1x1x1.size a ≤ S16x11x16.size a) ∧
  (∀ (k0_h1 : k0_cond1 v3 = 1#1), ∀ a, (k0_off131 v1) a + S1x1x1.size a ≤ S16x11x16.size a) ∧
  (∀ (k0_h1 : k0_cond1 v3 = 1#1), ∀ a, (k0_off132 v1) a + S1x1x1.size a ≤ S16x11x16.size a) ∧
  (∀ (k0_h1 : k0_cond1 v3 = 1#1), ∀ a, (k0_off133 v1) a + S1x1x1.size a ≤ S16x11x16.size a) ∧
  (∀ (k0_h1 : k0_cond1 v3 = 1#1), ∀ a, (k0_off134 v1) a + S1x1x1.size a ≤ S16x11x16.size a) ∧
  (∀ (k0_h1 : k0_cond1 v3 = 1#1), ∀ a, (k0_off135 v1) a + S1x1x1.size a ≤ S16x11x16.size a) ∧
  (∀ (k0_h1 : k0_cond1 v3 = 1#1), ∀ a, (k0_off136 v1) a + S1x1x1.size a ≤ S16x11x16.size a) ∧
  (∀ (k0_h1 : k0_cond1 v3 = 1#1), ∀ a, (k0_off137 v1) a + S1x1x1.size a ≤ S16x11x16.size a) ∧
  (∀ (k0_h1 : k0_cond1 v3 = 1#1), ∀ a, (k0_off138 v1) a + S1x1x1.size a ≤ S16x11x16.size a) ∧
  (∀ (k0_h1 : k0_cond1 v3 = 1#1), ∀ a, (k0_off139 v1) a + S1x1x1.size a ≤ S16x11x16.size a) ∧
  (∀ (k0_h1 : k0_cond1 v3 = 1#1), ∀ a, (k0_off140 v1) a + S1x1x1.size a ≤ S16x11x16.size a) ∧
  (∀ (k0_h1 : k0_cond1 v3 = 1#1), ∀ a, (k0_off141 v1) a + S1x1x1.size a ≤ S16x11x16.size a) ∧
  (∀ (k0_h1 : k0_cond1 v3 = 1#1), ∀ a, (k0_off142 v1) a + S1x1x1.size a ≤ S16x11x16.size a) ∧
  (∀ (k0_h1 : k0_cond1 v3 = 1#1), ∀ a, (k0_off143 v1) a + S1x1x1.size a ≤ S16x11x16.size a) ∧
  (∀ (k0_h1 : k0_cond1 v3 = 1#1), ∀ a, (k0_off144 v1) a + S1x1x1.size a ≤ S16x11x16.size a) ∧
  (∀ (k0_h1 : k0_cond1 v3 = 1#1), ∀ a, (k0_off145 v1) a + S1x1x1.size a ≤ S16x11x16.size a) ∧
  (∀ (k0_h1 : k0_cond1 v3 = 1#1), ∀ a, (k0_off146 v1) a + S1x1x1.size a ≤ S16x11x16.size a) ∧
  (∀ (k0_h1 : k0_cond1 v3 = 1#1), ∀ a, (k0_off147 v1) a + S1x1x1.size a ≤ S16x11x16.size a) ∧
  (∀ (k0_h1 : k0_cond1 v3 = 1#1), ∀ a, (k0_off148 v1) a + S1x1x1.size a ≤ S16x11x16.size a) ∧
  (∀ (k0_h1 : k0_cond1 v3 = 1#1), ∀ a, (k0_off149 v1) a + S1x1x1.size a ≤ S16x11x16.size a) ∧
  (∀ (k0_h1 : k0_cond1 v3 = 1#1), ∀ a, (k0_off150 v1) a + S1x1x1.size a ≤ S16x11x16.size a) ∧
  (∀ (k0_h1 : k0_cond1 v3 = 1#1), ∀ a, (k0_off151 v1) a + S1x1x1.size a ≤ S16x11x16.size a) ∧
  (∀ (k0_h1 : k0_cond1 v3 = 1#1), ∀ a, (k0_off152 v1) a + S1x1x1.size a ≤ S16x11x16.size a) ∧
  (∀ (k0_h1 : k0_cond1 v3 = 1#1), ∀ a, (k0_off153 v1) a + S1x1x1.size a ≤ S16x11x16.size a) ∧
  (∀ (k0_h1 : k0_cond1 v3 = 1#1), ∀ a, (k0_off154 v1) a + S1x1x1.size a ≤ S16x11x16.size a) ∧
  (∀ (k0_h1 : k0_cond1 v3 = 1#1), ∀ a, (k0_off155 v1) a + S1x1x1.size a ≤ S16x11x16.size a) ∧
  (∀ (k0_h1 : k0_cond1 v3 = 1#1), ∀ a, (k0_off156 v1) a + S1x1x1.size a ≤ S16x11x16.size a) ∧
  (∀ (k0_h1 : k0_cond1 v3 = 1#1), ∀ a, (k0_off157 v1) a + S1x1x1.size a ≤ S16x11x16.size a) ∧
  (∀ (k0_h1 : k0_cond1 v3 = 1#1), ∀ a, (k0_off158 v1) a + S1x1x1.size a ≤ S16x11x16.size a) ∧
  (∀ (k0_h1 : k0_cond1 v3 = 1#1), ∀ a, (k0_off159 v1) a + S1x1x1.size a ≤ S16x11x16.size a) ∧
  (∀ (k0_h1 : k0_cond1 v3 = 1#1), ∀ a, (k0_off160 v1) a + S1x1x1.size a ≤ S16x11x16.size a) ∧
  (∀ (k0_h1 : k0_cond1 v3 = 1#1), ∀ a, (k0_off161 v1) a + S1x1x1.size a ≤ S16x11x16.size a)
def k0_chk1_5 (v1 : BitVec 32) (v3 : BitVec 32) : Prop :=
  (∀ (k0_h1 : k0_cond1 v3 = 1#1), ∀ a, (k0_off162 v1) a + S1x1x1.size a ≤ S16x11x16.size a) ∧
  (∀ (k0_h1 : k0_cond1 v3 = 1#1), ∀ a, (k0_off163 v1) a + S1x1x1.size a ≤ S16x11x16.size a) ∧
  (∀ (k0_h1 : k0_cond1 v3 = 1#1), ∀ a, (k0_off164 v1) a + S1x1x1.size a ≤ S16x11x16.size a) ∧
  (∀ (k0_h1 : k0_cond1 v3 = 1#1), ∀ a, (k0_off165 v1) a + S1x1x1.size a ≤ S16x11x16.size a) ∧
  (∀ (k0_h1 : k0_cond1 v3 = 1#1), ∀ a, (k0_off166 v1) a + S1x1x1.size a ≤ S16x11x16.size a) ∧
  (∀ (k0_h1 : k0_cond1 v3 = 1#1), ∀ a, (k0_off167 v1) a + S1x1x1.size a ≤ S16x11x16.size a) ∧
  (∀ (k0_h1 : k0_cond1 v3 = 1#1), ∀ a, (k0_off168 v1) a + S1x1x1.size a ≤ S16x11x16.size a) ∧
  (∀ (k0_h1 : k0_cond1 v3 = 1#1), ∀ a, (k0_off169 v1) a + S1x1x1.size a ≤ S16x11x16.size a) ∧
  (∀ (k0_h1 : k0_cond1 v3 = 1#1), ∀ a, (k0_off170 v1) a + S1x1x1.size a ≤ S16x11x16.size a) ∧
  (∀ (k0_h1 : k0_cond1 v3 = 1#1), ∀ a, (k0_off171 v1) a + S1x1x1.size a ≤ S16x11x16.size a) ∧
  (∀ (k0_h1 : k0_cond1 v3 = 1#1), ∀ a, (k0_off172 v1) a + S1x1x1.size a ≤ S16x11x16.size a) ∧
  (∀ (k0_h1 : k0_cond1 v3 = 1#1), ∀ a, (k0_off173 v1) a + S1x1x1.size a ≤ S16x11x16.size a) ∧
  (∀ (k0_h1 : k0_cond1 v3 = 1#1), ∀ a, (k0_off174 v1) a + S1x1x1.size a ≤ S16x11x16.size a) ∧
  (∀ (k0_h1 : k0_cond1 v3 = 1#1), ∀ a, (k0_off175 v1) a + S1x1x1.size a ≤ S16x11x16.size a) ∧
  (∀ (k0_h1 : k0_cond1 v3 = 1#1), ∀ a, (k0_off176 v1) a + S1x1x1.size a ≤ S16x11x16.size a) ∧
  (∀ (k0_h1 : k0_cond1 v3 = 1#1), ∀ a, (k0_off177 v1) a + S1x1x1.size a ≤ S16x11x16.size a)
def k0_chk1 (v1 : BitVec 32) (v3 : BitVec 32) : Prop :=
  k0_chk1_0 v1 v3 ∧
  k0_chk1_1 v1 v3 ∧
  k0_chk1_2 v1 v3 ∧
  k0_chk1_3 v1 v3 ∧
  k0_chk1_4 v1 v3 ∧
  k0_chk1_5 v1 v3
theorem k0_off2_inb : ∀ (v1 : BitVec 32) (v3 : BitVec 32) (k0_hw1 : k0_chk1 v1 v3), ∀ (k0_h1 : k0_cond1 v3 = 1#1), ∀ a, (k0_off2 v1) a + S1x1x1.size a ≤ S16x11x16.size a := fun v1 v3 k0_hw1 k0_h1 => k0_hw1.1.1 k0_h1
theorem k0_off3_inb : ∀ (v1 : BitVec 32) (v3 : BitVec 32) (k0_hw1 : k0_chk1 v1 v3), ∀ (k0_h1 : k0_cond1 v3 = 1#1), ∀ a, (k0_off3 v1) a + S1x1x1.size a ≤ S16x11x16.size a := fun v1 v3 k0_hw1 k0_h1 => k0_hw1.1.2.1 k0_h1
theorem k0_off4_inb : ∀ (v1 : BitVec 32) (v3 : BitVec 32) (k0_hw1 : k0_chk1 v1 v3), ∀ (k0_h1 : k0_cond1 v3 = 1#1), ∀ a, (k0_off4 v1) a + S1x1x1.size a ≤ S16x11x16.size a := fun v1 v3 k0_hw1 k0_h1 => k0_hw1.1.2.2.1 k0_h1
theorem k0_off5_inb : ∀ (v1 : BitVec 32) (v3 : BitVec 32) (k0_hw1 : k0_chk1 v1 v3), ∀ (k0_h1 : k0_cond1 v3 = 1#1), ∀ a, (k0_off5 v1) a + S1x1x1.size a ≤ S16x11x16.size a := fun v1 v3 k0_hw1 k0_h1 => k0_hw1.1.2.2.2.1 k0_h1
theorem k0_off6_inb : ∀ (v1 : BitVec 32) (v3 : BitVec 32) (k0_hw1 : k0_chk1 v1 v3), ∀ (k0_h1 : k0_cond1 v3 = 1#1), ∀ a, (k0_off6 v1) a + S1x1x1.size a ≤ S16x11x16.size a := fun v1 v3 k0_hw1 k0_h1 => k0_hw1.1.2.2.2.2.1 k0_h1
theorem k0_off7_inb : ∀ (v1 : BitVec 32) (v3 : BitVec 32) (k0_hw1 : k0_chk1 v1 v3), ∀ (k0_h1 : k0_cond1 v3 = 1#1), ∀ a, (k0_off7 v1) a + S1x1x1.size a ≤ S16x11x16.size a := fun v1 v3 k0_hw1 k0_h1 => k0_hw1.1.2.2.2.2.2.1 k0_h1
theorem k0_off8_inb : ∀ (v1 : BitVec 32) (v3 : BitVec 32) (k0_hw1 : k0_chk1 v1 v3), ∀ (k0_h1 : k0_cond1 v3 = 1#1), ∀ a, (k0_off8 v1) a + S1x1x1.size a ≤ S16x11x16.size a := fun v1 v3 k0_hw1 k0_h1 => k0_hw1.1.2.2.2.2.2.2.1 k0_h1
theorem k0_off9_inb : ∀ (v1 : BitVec 32) (v3 : BitVec 32) (k0_hw1 : k0_chk1 v1 v3), ∀ (k0_h1 : k0_cond1 v3 = 1#1), ∀ a, (k0_off9 v1) a + S1x1x1.size a ≤ S16x11x16.size a := fun v1 v3 k0_hw1 k0_h1 => k0_hw1.1.2.2.2.2.2.2.2.1 k0_h1
theorem k0_off10_inb : ∀ (v1 : BitVec 32) (v3 : BitVec 32) (k0_hw1 : k0_chk1 v1 v3), ∀ (k0_h1 : k0_cond1 v3 = 1#1), ∀ a, (k0_off10 v1) a + S1x1x1.size a ≤ S16x11x16.size a := fun v1 v3 k0_hw1 k0_h1 => k0_hw1.1.2.2.2.2.2.2.2.2.1 k0_h1
theorem k0_off11_inb : ∀ (v1 : BitVec 32) (v3 : BitVec 32) (k0_hw1 : k0_chk1 v1 v3), ∀ (k0_h1 : k0_cond1 v3 = 1#1), ∀ a, (k0_off11 v1) a + S1x1x1.size a ≤ S16x11x16.size a := fun v1 v3 k0_hw1 k0_h1 => k0_hw1.1.2.2.2.2.2.2.2.2.2.1 k0_h1
theorem k0_off12_inb : ∀ (v1 : BitVec 32) (v3 : BitVec 32) (k0_hw1 : k0_chk1 v1 v3), ∀ (k0_h1 : k0_cond1 v3 = 1#1), ∀ a, (k0_off12 v1) a + S1x1x1.size a ≤ S16x11x16.size a := fun v1 v3 k0_hw1 k0_h1 => k0_hw1.1.2.2.2.2.2.2.2.2.2.2.1 k0_h1
theorem k0_off13_inb : ∀ (v1 : BitVec 32) (v3 : BitVec 32) (k0_hw1 : k0_chk1 v1 v3), ∀ (k0_h1 : k0_cond1 v3 = 1#1), ∀ a, (k0_off13 v1) a + S1x1x1.size a ≤ S16x11x16.size a := fun v1 v3 k0_hw1 k0_h1 => k0_hw1.1.2.2.2.2.2.2.2.2.2.2.2.1 k0_h1
theorem k0_off14_inb : ∀ (v1 : BitVec 32) (v3 : BitVec 32) (k0_hw1 : k0_chk1 v1 v3), ∀ (k0_h1 : k0_cond1 v3 = 1#1), ∀ a, (k0_off14 v1) a + S1x1x1.size a ≤ S16x11x16.size a := fun v1 v3 k0_hw1 k0_h1 => k0_hw1.1.2.2.2.2.2.2.2.2.2.2.2.2.1 k0_h1
theorem k0_off15_inb : ∀ (v1 : BitVec 32) (v3 : BitVec 32) (k0_hw1 : k0_chk1 v1 v3), ∀ (k0_h1 : k0_cond1 v3 = 1#1), ∀ a, (k0_off15 v1) a + S1x1x1.size a ≤ S16x11x16.size a := fun v1 v3 k0_hw1 k0_h1 => k0_hw1.1.2.2.2.2.2.2.2.2.2.2.2.2.2.1 k0_h1
theorem k0_off16_inb : ∀ (v1 : BitVec 32) (v3 : BitVec 32) (k0_hw1 : k0_chk1 v1 v3), ∀ (k0_h1 : k0_cond1 v3 = 1#1), ∀ a, (k0_off16 v1) a + S1x1x1.size a ≤ S16x11x16.size a := fun v1 v3 k0_hw1 k0_h1 => k0_hw1.1.2.2.2.2.2.2.2.2.2.2.2.2.2.2.1 k0_h1
theorem k0_off17_inb : ∀ (v1 : BitVec 32) (v3 : BitVec 32) (k0_hw1 : k0_chk1 v1 v3), ∀ (k0_h1 : k0_cond1 v3 = 1#1), ∀ a, (k0_off17 v1) a + S1x1x1.size a ≤ S16x11x16.size a := fun v1 v3 k0_hw1 k0_h1 => k0_hw1.1.2.2.2.2.2.2.2.2.2.2.2.2.2.2.2.1 k0_h1
theorem k0_off18_inb : ∀ (v1 : BitVec 32) (v3 : BitVec 32) (k0_hw1 : k0_chk1 v1 v3), ∀ (k0_h1 : k0_cond1 v3 = 1#1), ∀ a, (k0_off18 v1) a + S1x1x1.size a ≤ S16x11x16.size a := fun v1 v3 k0_hw1 k0_h1 => k0_hw1.1.2.2.2.2.2.2.2.2.2.2.2.2.2.2.2.2.1 k0_h1
theorem k0_off19_inb : ∀ (v1 : BitVec 32) (v3 : BitVec 32) (k0_hw1 : k0_chk1 v1 v3), ∀ (k0_h1 : k0_cond1 v3 = 1#1), ∀ a, (k0_off19 v1) a + S1x1x1.size a ≤ S16x11x16.size a := fun v1 v3 k0_hw1 k0_h1 => k0_hw1.1.2.2.2.2.2.2.2.2.2.2.2.2.2.2.2.2.2.1 k0_h1
theorem k0_off20_inb : ∀ (v1 : BitVec 32) (v3 : BitVec 32) (k0_hw1 : k0_chk1 v1 v3), ∀ (k0_h1 : k0_cond1 v3 = 1#1), ∀ a, (k0_off20 v1) a + S1x1x1.size a ≤ S16x11x16.size a := fun v1 v3 k0_hw1 k0_h1 => k0_hw1.1.2.2.2.2.2.2.2.2.2.2.2.2.2.2.2.2.2.2.1 k0_h1
theorem k0_off21_inb : ∀ (v1 : BitVec 32) (v3 : BitVec 32) (k0_hw1 : k0_chk1 v1 v3), ∀ (k0_h1 : k0_cond1 v3 = 1#1), ∀ a, (k0_off21 v1) a + S1x1x1.size a ≤ S16x11x16.size a := fun v1 v3 k0_hw1 k0_h1 => k0_hw1.1.2.2.2.2.2.2.2.2.2.2.2.2.2.2.2.2.2.2.2.1 k0_h1
theorem k0_off22_inb : ∀ (v1 : BitVec 32) (v3 : BitVec 32) (k0_hw1 : k0_chk1 v1 v3), ∀ (k0_h1 : k0_cond1 v3 = 1#1), ∀ a, (k0_off22 v1) a + S1x1x1.size a ≤ S16x11x16.size a := fun v1 v3 k0_hw1 k0_h1 => k0_hw1.1.2.2.2.2.2.2.2.2.2.2.2.2.2.2.2.2.2.2.2.2.1 k0_h1
theorem k0_off23_inb : ∀ (v1 : BitVec 32) (v3 : BitVec 32) (k0_hw1 : k0_chk1 v1 v3), ∀ (k0_h1 : k0_cond1 v3 = 1#1), ∀ a, (k0_off23 v1) a + S1x1x1.size a ≤ S16x11x16.size a := fun v1 v3 k0_hw1 k0_h1 => k0_hw1.1.2.2.2.2.2.2.2.2.2.2.2.2.2.2.2.2.2.2.2.2.2.1 k0_h1
theorem k0_off24_inb : ∀ (v1 : BitVec 32) (v3 : BitVec 32) (k0_hw1 : k0_chk1 v1 v3), ∀ (k0_h1 : k0_cond1 v3 = 1#1), ∀ a, (k0_off24 v1) a + S1x1x1.size a ≤ S16x11x16.size a := fun v1 v3 k0_hw1 k0_h1 => k0_hw1.1.2.2.2.2.2.2.2.2.2.2.2.2.2.2.2.2.2.2.2.2.2.2.1 k0_h1
theorem k0_off25_inb : ∀ (v1 : BitVec 32) (v3 : BitVec 32) (k0_hw1 : k0_chk1 v1 v3), ∀ (k0_h1 : k0_cond1 v3 = 1#1), ∀ a, (k0_off25 v1) a + S1x1x1.size a ≤ S16x11x16.size a := fun v1 v3 k0_hw1 k0_h1 => k0_hw1.1.2.2.2.2.2.2.2.2.2.2.2.2.2.2.2.2.2.2.2.2.2.2.2.1 k0_h1
theorem k0_off26_inb : ∀ (v1 : BitVec 32) (v3 : BitVec 32) (k0_hw1 : k0_chk1 v1 v3), ∀ (k0_h1 : k0_cond1 v3 = 1#1), ∀ a, (k0_off26 v1) a + S1x1x1.size a ≤ S16x11x16.size a := fun v1 v3 k0_hw1 k0_h1 => k0_hw1.1.2.2.2.2.2.2.2.2.2.2.2.2.2.2.2.2.2.2.2.2.2.2.2.2.1 k0_h1
theorem k0_off27_inb : ∀ (v1 : BitVec 32) (v3 : BitVec 32) (k0_hw1 : k0_chk1 v1 v3), ∀ (k0_h1 : k0_cond1 v3 = 1#1), ∀ a, (k0_off27 v1) a + S1x1x1.size a ≤ S16x11x16.size a := fun v1 v3 k0_hw1 k0_h1 => k0_hw1.1.2.2.2.2.2.2.2.2.2.2.2.2.2.2.2.2.2.2.2.2.2.2.2.2.2.1 k0_h1
theorem k0_off28_inb : ∀ (v1 : BitVec 32) (v3 : BitVec 32) (k0_hw1 : k0_chk1 v1 v3), ∀ (k0_h1 : k0_cond1 v3 = 1#1), ∀ a, (k0_off28 v1) a + S1x1x1.size a ≤ S16x11x16.size a := fun v1 v3 k0_hw1 k0_h1 => k0_hw1.1.2.2.2.2.2.2.2.2.2.2.2.2.2.2.2.2.2.2.2.2.2.2.2.2.2.2.1 k0_h1
theorem k0_off29_inb : ∀ (v1 : BitVec 32) (v3 : BitVec 32) (k0_hw1 : k0_chk1 v1 v3), ∀ (k0_h1 : k0_cond1 v3 = 1#1), ∀ a, (k0_off29 v1) a + S1x1x1.size a ≤ S16x11x16.size a := fun v1 v3 k0_hw1 k0_h1 => k0_hw1.1.2.2.2.2.2.2.2.2.2.2.2.2.2.2.2.2.2.2.2.2.2.2.2.2.2.2.2.1 k0_h1
theorem k0_off30_inb : ∀ (v1 : BitVec 32) (v3 : BitVec 32) (k0_hw1 : k0_chk1 v1 v3), ∀ (k0_h1 : k0_cond1 v3 = 1#1), ∀ a, (k0_off30 v1) a + S1x1x1.size a ≤ S16x11x16.size a := fun v1 v3 k0_hw1 k0_h1 => k0_hw1.1.2.2.2.2.2.2.2.2.2.2.2.2.2.2.2.2.2.2.2.2.2.2.2.2.2.2.2.2.1 k0_h1
theorem k0_off31_inb : ∀ (v1 : BitVec 32) (v3 : BitVec 32) (k0_hw1 : k0_chk1 v1 v3), ∀ (k0_h1 : k0_cond1 v3 = 1#1), ∀ a, (k0_off31 v1) a + S1x1x1.size a ≤ S16x11x16.size a := fun v1 v3 k0_hw1 k0_h1 => k0_hw1.1.2.2.2.2.2.2.2.2.2.2.2.2.2.2.2.2.2.2.2.2.2.2.2.2.2.2.2.2.2.1 k0_h1
theorem k0_off32_inb : ∀ (v1 : BitVec 32) (v3 : BitVec 32) (k0_hw1 : k0_chk1 v1 v3), ∀ (k0_h1 : k0_cond1 v3 = 1#1), ∀ a, (k0_off32 v1) a + S1x1x1.size a ≤ S16x11x16.size a := fun v1 v3 k0_hw1 k0_h1 => k0_hw1.1.2.2.2.2.2.2.2.2.2.2.2.2.2.2.2.2.2.2.2.2.2.2.2.2.2.2.2.2.2.2.1 k0_h1
theorem k0_off33_inb : ∀ (v1 : BitVec 32) (v3 : BitVec 32) (k0_hw1 : k0_chk1 v1 v3), ∀ (k0_h1 : k0_cond1 v3 = 1#1), ∀ a, (k0_off33 v1) a + S1x1x1.size a ≤ S16x11x16.size a := fun v1 v3 k0_hw1 k0_h1 => k0_hw1.1.2.2.2.2.2.2.2.2.2.2.2.2.2.2.2.2.2.2.2.2.2.2.2.2.2.2.2.2.2.2.2 k0_h1
theorem k0_off34_inb : ∀ (v1 : BitVec 32) (v3 : BitVec 32) (k0_hw1 : k0_chk1 v1 v3), ∀ (k0_h1 : k0_cond1 v3 = 1#1), ∀ a, (k0_off34 v1) a + S1x1x1.size a ≤ S16x11x16.size a := fun v1 v3 k0_hw1 k0_h1 => k0_hw1.2.1.1 k0_h1
theorem k0_off35_inb : ∀ (v1 : BitVec 32) (v3 : BitVec 32) (k0_hw1 : k0_chk1 v1 v3), ∀ (k0_h1 : k0_cond1 v3 = 1#1), ∀ a, (k0_off35 v1) a + S1x1x1.size a ≤ S16x11x16.size a := fun v1 v3 k0_hw1 k0_h1 => k0_hw1.2.1.2.1 k0_h1
theorem k0_off36_inb : ∀ (v1 : BitVec 32) (v3 : BitVec 32) (k0_hw1 : k0_chk1 v1 v3), ∀ (k0_h1 : k0_cond1 v3 = 1#1), ∀ a, (k0_off36 v1) a + S1x1x1.size a ≤ S16x11x16.size a := fun v1 v3 k0_hw1 k0_h1 => k0_hw1.2.1.2.2.1 k0_h1
theorem k0_off37_inb : ∀ (v1 : BitVec 32) (v3 : BitVec 32) (k0_hw1 : k0_chk1 v1 v3), ∀ (k0_h1 : k0_cond1 v3 = 1#1), ∀ a, (k0_off37 v1) a + S1x1x1.size a ≤ S16x11x16.size a := fun v1 v3 k0_hw1 k0_h1 => k0_hw1.2.1.2.2.2.1 k0_h1
theorem k0_off38_inb : ∀ (v1 : BitVec 32) (v3 : BitVec 32) (k0_hw1 : k0_chk1 v1 v3), ∀ (k0_h1 : k0_cond1 v3 = 1#1), ∀ a, (k0_off38 v1) a + S1x1x1.size a ≤ S16x11x16.size a := fun v1 v3 k0_hw1 k0_h1 => k0_hw1.2.1.2.2.2.2.1 k0_h1
theorem k0_off39_inb : ∀ (v1 : BitVec 32) (v3 : BitVec 32) (k0_hw1 : k0_chk1 v1 v3), ∀ (k0_h1 : k0_cond1 v3 = 1#1), ∀ a, (k0_off39 v1) a + S1x1x1.size a ≤ S16x11x16.size a := fun v1 v3 k0_hw1 k0_h1 => k0_hw1.2.1.2.2.2.2.2.1 k0_h1
theorem k0_off40_inb : ∀ (v1 : BitVec 32) (v3 : BitVec 32) (k0_hw1 : k0_chk1 v1 v3), ∀ (k0_h1 : k0_cond1 v3 = 1#1), ∀ a, (k0_off40 v1) a + S1x1x1.size a ≤ S16x11x16.size a := fun v1 v3 k0_hw1 k0_h1 => k0_hw1.2.1.2.2.2.2.2.2.1 k0_h1
theorem k0_off41_inb : ∀ (v1 : BitVec 32) (v3 : BitVec 32) (k0_hw1 : k0_chk1 v1 v3), ∀ (k0_h1 : k0_cond1 v3 = 1#1), ∀ a, (k0_off41 v1) a + S1x1x1.size a ≤ S16x11x16.size a := fun v1 v3 k0_hw1 k0_h1 => k0_hw1.2.1.2.2.2.2.2.2.2.1 k0_h1
theorem k0_off42_inb : ∀ (v1 : BitVec 32) (v3 : BitVec 32) (k0_hw1 : k0_chk1 v1 v3), ∀ (k0_h1 : k0_cond1 v3 = 1#1), ∀ a, (k0_off42 v1) a + S1x1x1.size a ≤ S16x11x16.size a := fun v1 v3 k0_hw1 k0_h1 => k0_hw1.2.1.2.2.2.2.2.2.2.2.1 k0_h1
theorem k0_off43_inb : ∀ (v1 : BitVec 32) (v3 : BitVec 32) (k0_hw1 : k0_chk1 v1 v3), ∀ (k0_h1 : k0_cond1 v3 = 1#1), ∀ a, (k0_off43 v1) a + S1x1x1.size a ≤ S16x11x16.size a := fun v1 v3 k0_hw1 k0_h1 => k0_hw1.2.1.2.2.2.2.2.2.2.2.2.1 k0_h1
theorem k0_off44_inb : ∀ (v1 : BitVec 32) (v3 : BitVec 32) (k0_hw1 : k0_chk1 v1 v3), ∀ (k0_h1 : k0_cond1 v3 = 1#1), ∀ a, (k0_off44 v1) a + S1x1x1.size a ≤ S16x11x16.size a := fun v1 v3 k0_hw1 k0_h1 => k0_hw1.2.1.2.2.2.2.2.2.2.2.2.2.1 k0_h1
theorem k0_off45_inb : ∀ (v1 : BitVec 32) (v3 : BitVec 32) (k0_hw1 : k0_chk1 v1 v3), ∀ (k0_h1 : k0_cond1 v3 = 1#1), ∀ a, (k0_off45 v1) a + S1x1x1.size a ≤ S16x11x16.size a := fun v1 v3 k0_hw1 k0_h1 => k0_hw1.2.1.2.2.2.2.2.2.2.2.2.2.2.1 k0_h1
theorem k0_off46_inb : ∀ (v1 : BitVec 32) (v3 : BitVec 32) (k0_hw1 : k0_chk1 v1 v3), ∀ (k0_h1 : k0_cond1 v3 = 1#1), ∀ a, (k0_off46 v1) a + S1x1x1.size a ≤ S16x11x16.size a := fun v1 v3 k0_hw1 k0_h1 => k0_hw1.2.1.2.2.2.2.2.2.2.2.2.2.2.2.1 k0_h1
theorem k0_off47_inb : ∀ (v1 : BitVec 32) (v3 : BitVec 32) (k0_hw1 : k0_chk1 v1 v3), ∀ (k0_h1 : k0_cond1 v3 = 1#1), ∀ a, (k0_off47 v1) a + S1x1x1.size a ≤ S16x11x16.size a := fun v1 v3 k0_hw1 k0_h1 => k0_hw1.2.1.2.2.2.2.2.2.2.2.2.2.2.2.2.1 k0_h1
theorem k0_off48_inb : ∀ (v1 : BitVec 32) (v3 : BitVec 32) (k0_hw1 : k0_chk1 v1 v3), ∀ (k0_h1 : k0_cond1 v3 = 1#1), ∀ a, (k0_off48 v1) a + S1x1x1.size a ≤ S16x11x16.size a := fun v1 v3 k0_hw1 k0_h1 => k0_hw1.2.1.2.2.2.2.2.2.2.2.2.2.2.2.2.2.1 k0_h1
theorem k0_off49_inb : ∀ (v1 : BitVec 32) (v3 : BitVec 32) (k0_hw1 : k0_chk1 v1 v3), ∀ (k0_h1 : k0_cond1 v3 = 1#1), ∀ a, (k0_off49 v1) a + S1x1x1.size a ≤ S16x11x16.size a := fun v1 v3 k0_hw1 k0_h1 => k0_hw1.2.1.2.2.2.2.2.2.2.2.2.2.2.2.2.2.2.1 k0_h1
theorem k0_off50_inb : ∀ (v1 : BitVec 32) (v3 : BitVec 32) (k0_hw1 : k0_chk1 v1 v3), ∀ (k0_h1 : k0_cond1 v3 = 1#1), ∀ a, (k0_off50 v1) a + S1x1x1.size a ≤ S16x11x16.size a := fun v1 v3 k0_hw1 k0_h1 => k0_hw1.2.1.2.2.2.2.2.2.2.2.2.2.2.2.2.2.2.2.1 k0_h1
theorem k0_off51_inb : ∀ (v1 : BitVec 32) (v3 : BitVec 32) (k0_hw1 : k0_chk1 v1 v3), ∀ (k0_h1 : k0_cond1 v3 = 1#1), ∀ a, (k0_off51 v1) a + S1x1x1.size a ≤ S16x11x16.size a := fun v1 v3 k0_hw1 k0_h1 => k0_hw1.2.1.2.2.2.2.2.2.2.2.2.2.2.2.2.2.2.2.2.1 k0_h1
theorem k0_off52_inb : ∀ (v1 : BitVec 32) (v3 : BitVec 32) (k0_hw1 : k0_chk1 v1 v3), ∀ (k0_h1 : k0_cond1 v3 = 1#1), ∀ a, (k0_off52 v1) a + S1x1x1.size a ≤ S16x11x16.size a := fun v1 v3 k0_hw1 k0_h1 => k0_hw1.2.1.2.2.2.2.2.2.2.2.2.2.2.2.2.2.2.2.2.2.1 k0_h1
theorem k0_off53_inb : ∀ (v1 : BitVec 32) (v3 : BitVec 32) (k0_hw1 : k0_chk1 v1 v3), ∀ (k0_h1 : k0_cond1 v3 = 1#1), ∀ a, (k0_off53 v1) a + S1x1x1.size a ≤ S16x11x16.size a := fun v1 v3 k0_hw1 k0_h1 => k0_hw1.2.1.2.2.2.2.2.2.2.2.2.2.2.2.2.2.2.2.2.2.2.1 k0_h1
theorem k0_off54_inb : ∀ (v1 : BitVec 32) (v3 : BitVec 32) (k0_hw1 : k0_chk1 v1 v3), ∀ (k0_h1 : k0_cond1 v3 = 1#1), ∀ a, (k0_off54 v1) a + S1x1x1.size a ≤ S16x11x16.size a := fun v1 v3 k0_hw1 k0_h1 => k0_hw1.2.1.2.2.2.2.2.2.2.2.2.2.2.2.2.2.2.2.2.2.2.2.1 k0_h1
theorem k0_off55_inb : ∀ (v1 : BitVec 32) (v3 : BitVec 32) (k0_hw1 : k0_chk1 v1 v3), ∀ (k0_h1 : k0_cond1 v3 = 1#1), ∀ a, (k0_off55 v1) a + S1x1x1.size a ≤ S16x11x16.size a := fun v1 v3 k0_hw1 k0_h1 => k0_hw1.2.1.2.2.2.2.2.2.2.2.2.2.2.2.2.2.2.2.2.2.2.2.2.1 k0_h1
theorem k0_off56_inb : ∀ (v1 : BitVec 32) (v3 : BitVec 32) (k0_hw1 : k0_chk1 v1 v3), ∀ (k0_h1 : k0_cond1 v3 = 1#1), ∀ a, (k0_off56 v1) a + S1x1x1.size a ≤ S16x11x16.size a := fun v1 v3 k0_hw1 k0_h1 => k0_hw1.2.1.2.2.2.2.2.2.2.2.2.2.2.2.2.2.2.2.2.2.2.2.2.2.1 k0_h1
theorem k0_off57_inb : ∀ (v1 : BitVec 32) (v3 : BitVec 32) (k0_hw1 : k0_chk1 v1 v3), ∀ (k0_h1 : k0_cond1 v3 = 1#1), ∀ a, (k0_off57 v1) a + S1x1x1.size a ≤ S16x11x16.size a := fun v1 v3 k0_hw1 k0_h1 => k0_hw1.2.1.2.2.2.2.2.2.2.2.2.2.2.2.2.2.2.2.2.2.2.2.2.2.2.1 k0_h1
theorem k0_off58_inb : ∀ (v1 : BitVec 32) (v3 : BitVec 32) (k0_hw1 : k0_chk1 v1 v3), ∀ (k0_h1 : k0_cond1 v3 = 1#1), ∀ a, (k0_off58 v1) a + S1x1x1.size a ≤ S16x11x16.size a := fun v1 v3 k0_hw1 k0_h1 => k0_hw1.2.1.2.2.2.2.2.2.2.2.2.2.2.2.2.2.2.2.2.2.2.2.2.2.2.2.1 k0_h1
theorem k0_off59_inb : ∀ (v1 : BitVec 32) (v3 : BitVec 32) (k0_hw1 : k0_chk1 v1 v3), ∀ (k0_h1 : k0_cond1 v3 = 1#1), ∀ a, (k0_off59 v1) a + S1x1x1.size a ≤ S16x11x16.size a := fun v1 v3 k0_hw1 k0_h1 => k0_hw1.2.1.2.2.2.2.2.2.2.2.2.2.2.2.2.2.2.2.2.2.2.2.2.2.2.2.2.1 k0_h1
theorem k0_off60_inb : ∀ (v1 : BitVec 32) (v3 : BitVec 32) (k0_hw1 : k0_chk1 v1 v3), ∀ (k0_h1 : k0_cond1 v3 = 1#1), ∀ a, (k0_off60 v1) a + S1x1x1.size a ≤ S16x11x16.size a := fun v1 v3 k0_hw1 k0_h1 => k0_hw1.2.1.2.2.2.2.2.2.2.2.2.2.2.2.2.2.2.2.2.2.2.2.2.2.2.2.2.2.1 k0_h1
theorem k0_off61_inb : ∀ (v1 : BitVec 32) (v3 : BitVec 32) (k0_hw1 : k0_chk1 v1 v3), ∀ (k0_h1 : k0_cond1 v3 = 1#1), ∀ a, (k0_off61 v1) a + S1x1x1.size a ≤ S16x11x16.size a := fun v1 v3 k0_hw1 k0_h1 => k0_hw1.2.1.2.2.2.2.2.2.2.2.2.2.2.2.2.2.2.2.2.2.2.2.2.2.2.2.2.2.2.1 k0_h1
theorem k0_off62_inb : ∀ (v1 : BitVec 32) (v3 : BitVec 32) (k0_hw1 : k0_chk1 v1 v3), ∀ (k0_h1 : k0_cond1 v3 = 1#1), ∀ a, (k0_off62 v1) a + S1x1x1.size a ≤ S16x11x16.size a := fun v1 v3 k0_hw1 k0_h1 => k0_hw1.2.1.2.2.2.2.2.2.2.2.2.2.2.2.2.2.2.2.2.2.2.2.2.2.2.2.2.2.2.2.1 k0_h1
theorem k0_off63_inb : ∀ (v1 : BitVec 32) (v3 : BitVec 32) (k0_hw1 : k0_chk1 v1 v3), ∀ (k0_h1 : k0_cond1 v3 = 1#1), ∀ a, (k0_off63 v1) a + S1x1x1.size a ≤ S16x11x16.size a := fun v1 v3 k0_hw1 k0_h1 => k0_hw1.2.1.2.2.2.2.2.2.2.2.2.2.2.2.2.2.2.2.2.2.2.2.2.2.2.2.2.2.2.2.2.1 k0_h1
theorem k0_off64_inb : ∀ (v1 : BitVec 32) (v3 : BitVec 32) (k0_hw1 : k0_chk1 v1 v3), ∀ (k0_h1 : k0_cond1 v3 = 1#1), ∀ a, (k0_off64 v1) a + S1x1x1.size a ≤ S16x11x16.size a := fun v1 v3 k0_hw1 k0_h1 => k0_hw1.2.1.2.2.2.2.2.2.2.2.2.2.2.2.2.2.2.2.2.2.2.2.2.2.2.2.2.2.2.2.2.2.1 k0_h1
theorem k0_off65_inb : ∀ (v1 : BitVec 32) (v3 : BitVec 32) (k0_hw1 : k0_chk1 v1 v3), ∀ (k0_h1 : k0_cond1 v3 = 1#1), ∀ a, (k0_off65 v1) a + S1x1x1.size a ≤ S16x11x16.size a := fun v1 v3 k0_hw1 k0_h1 => k0_hw1.2.1.2.2.2.2.2.2.2.2.2.2.2.2.2.2.2.2.2.2.2.2.2.2.2.2.2.2.2.2.2.2.2 k0_h1
theorem k0_off66_inb : ∀ (v1 : BitVec 32) (v3 : BitVec 32) (k0_hw1 : k0_chk1 v1 v3), ∀ (k0_h1 : k0_cond1 v3 = 1#1), ∀ a, (k0_off66 v1) a + S1x1x1.size a ≤ S16x11x16.size a := fun v1 v3 k0_hw1 k0_h1 => k0_hw1.2.2.1.1 k0_h1
theorem k0_off67_inb : ∀ (v1 : BitVec 32) (v3 : BitVec 32) (k0_hw1 : k0_chk1 v1 v3), ∀ (k0_h1 : k0_cond1 v3 = 1#1), ∀ a, (k0_off67 v1) a + S1x1x1.size a ≤ S16x11x16.size a := fun v1 v3 k0_hw1 k0_h1 => k0_hw1.2.2.1.2.1 k0_h1
theorem k0_off68_inb : ∀ (v1 : BitVec 32) (v3 : BitVec 32) (k0_hw1 : k0_chk1 v1 v3), ∀ (k0_h1 : k0_cond1 v3 = 1#1), ∀ a, (k0_off68 v1) a + S1x1x1.size a ≤ S16x11x16.size a := fun v1 v3 k0_hw1 k0_h1 => k0_hw1.2.2.1.2.2.1 k0_h1
theorem k0_off69_inb : ∀ (v1 : BitVec 32) (v3 : BitVec 32) (k0_hw1 : k0_chk1 v1 v3), ∀ (k0_h1 : k0_cond1 v3 = 1#1), ∀ a, (k0_off69 v1) a + S1x1x1.size a ≤ S16x11x16.size a := fun v1 v3 k0_hw1 k0_h1 => k0_hw1.2.2.1.2.2.2.1 k0_h1
theorem k0_off70_inb : ∀ (v1 : BitVec 32) (v3 : BitVec 32) (k0_hw1 : k0_chk1 v1 v3), ∀ (k0_h1 : k0_cond1 v3 = 1#1), ∀ a, (k0_off70 v1) a + S1x1x1.size a ≤ S16x11x16.size a := fun v1 v3 k0_hw1 k0_h1 => k0_hw1.2.2.1.2.2.2.2.1 k0_h1
theorem k0_off71_inb : ∀ (v1 : BitVec 32) (v3 : BitVec 32) (k0_hw1 : k0_chk1 v1 v3), ∀ (k0_h1 : k0_cond1 v3 = 1#1), ∀ a, (k0_off71 v1) a + S1x1x1.size a ≤ S16x11x16.size a := fun v1 v3 k0_hw1 k0_h1 => k0_hw1.2.2.1.2.2.2.2.2.1 k0_h1
theorem k0_off72_inb : ∀ (v1 : BitVec 32) (v3 : BitVec 32) (k0_hw1 : k0_chk1 v1 v3), ∀ (k0_h1 : k0_cond1 v3 = 1#1), ∀ a, (k0_off72 v1) a + S1x1x1.size a ≤ S16x11x16.size a := fun v1 v3 k0_hw1 k0_h1 => k0_hw1.2.2.1.2.2.2.2.2.2.1 k0_h1
theorem k0_off73_inb : ∀ (v1 : BitVec 32) (v3 : BitVec 32) (k0_hw1 : k0_chk1 v1 v3), ∀ (k0_h1 : k0_cond1 v3 = 1#1), ∀ a, (k0_off73 v1) a + S1x1x1.size a ≤ S16x11x16.size a := fun v1 v3 k0_hw1 k0_h1 => k0_hw1.2.2.1.2.2.2.2.2.2.2.1 k0_h1
theorem k0_off74_inb : ∀ (v1 : BitVec 32) (v3 : BitVec 32) (k0_hw1 : k0_chk1 v1 v3), ∀ (k0_h1 : k0_cond1 v3 = 1#1), ∀ a, (k0_off74 v1) a + S1x1x1.size a ≤ S16x11x16.size a := fun v1 v3 k0_hw1 k0_h1 => k0_hw1.2.2.1.2.2.2.2.2.2.2.2.1 k0_h1
theorem k0_off75_inb : ∀ (v1 : BitVec 32) (v3 : BitVec 32) (k0_hw1 : k0_chk1 v1 v3), ∀ (k0_h1 : k0_cond1 v3 = 1#1), ∀ a, (k0_off75 v1) a + S1x1x1.size a ≤ S16x11x16.size a := fun v1 v3 k0_hw1 k0_h1 => k0_hw1.2.2.1.2.2.2.2.2.2.2.2.2.1 k0_h1
theorem k0_off76_inb : ∀ (v1 : BitVec 32) (v3 : BitVec 32) (k0_hw1 : k0_chk1 v1 v3), ∀ (k0_h1 : k0_cond1 v3 = 1#1), ∀ a, (k0_off76 v1) a + S1x1x1.size a ≤ S16x11x16.size a := fun v1 v3 k0_hw1 k0_h1 => k0_hw1.2.2.1.2.2.2.2.2.2.2.2.2.2.1 k0_h1
theorem k0_off77_inb : ∀ (v1 : BitVec 32) (v3 : BitVec 32) (k0_hw1 : k0_chk1 v1 v3), ∀ (k0_h1 : k0_cond1 v3 = 1#1), ∀ a, (k0_off77 v1) a + S1x1x1.size a ≤ S16x11x16.size a := fun v1 v3 k0_hw1 k0_h1 => k0_hw1.2.2.1.2.2.2.2.2.2.2.2.2.2.2.1 k0_h1
theorem k0_off78_inb : ∀ (v1 : BitVec 32) (v3 : BitVec 32) (k0_hw1 : k0_chk1 v1 v3), ∀ (k0_h1 : k0_cond1 v3 = 1#1), ∀ a, (k0_off78 v1) a + S1x1x1.size a ≤ S16x11x16.size a := fun v1 v3 k0_hw1 k0_h1 => k0_hw1.2.2.1.2.2.2.2.2.2.2.2.2.2.2.2.1 k0_h1
theorem k0_off79_inb : ∀ (v1 : BitVec 32) (v3 : BitVec 32) (k0_hw1 : k0_chk1 v1 v3), ∀ (k0_h1 : k0_cond1 v3 = 1#1), ∀ a, (k0_off79 v1) a + S1x1x1.size a ≤ S16x11x16.size a := fun v1 v3 k0_hw1 k0_h1 => k0_hw1.2.2.1.2.2.2.2.2.2.2.2.2.2.2.2.2.1 k0_h1
theorem k0_off80_inb : ∀ (v1 : BitVec 32) (v3 : BitVec 32) (k0_hw1 : k0_chk1 v1 v3), ∀ (k0_h1 : k0_cond1 v3 = 1#1), ∀ a, (k0_off80 v1) a + S1x1x1.size a ≤ S16x11x16.size a := fun v1 v3 k0_hw1 k0_h1 => k0_hw1.2.2.1.2.2.2.2.2.2.2.2.2.2.2.2.2.2.1 k0_h1
theorem k0_off81_inb : ∀ (v1 : BitVec 32) (v3 : BitVec 32) (k0_hw1 : k0_chk1 v1 v3), ∀ (k0_h1 : k0_cond1 v3 = 1#1), ∀ a, (k0_off81 v1) a + S1x1x1.size a ≤ S16x11x16.size a := fun v1 v3 k0_hw1 k0_h1 => k0_hw1.2.2.1.2.2.2.2.2.2.2.2.2.2.2.2.2.2.2.1 k0_h1
theorem k0_off82_inb : ∀ (v1 : BitVec 32) (v3 : BitVec 32) (k0_hw1 : k0_chk1 v1 v3), ∀ (k0_h1 : k0_cond1 v3 = 1#1), ∀ a, (k0_off82 v1) a + S1x1x1.size a ≤ S16x11x16.size a := fun v1 v3 k0_hw1 k0_h1 => k0_hw1.2.2.1.2.2.2.2.2.2.2.2.2.2.2.2.2.2.2.2.1 k0_h1
theorem k0_off83_inb : ∀ (v1 : BitVec 32) (v3 : BitVec 32) (k0_hw1 : k0_chk1 v1 v3), ∀ (k0_h1 : k0_cond1 v3 = 1#1), ∀ a, (k0_off83 v1) a + S1x1x1.size a ≤ S16x11x16.size a := fun v1 v3 k0_hw1 k0_h1 => k0_hw1.2.2.1.2.2.2.2.2.2.2.2.2.2.2.2.2.2.2.2.2.1 k0_h1
theorem k0_off84_inb : ∀ (v1 : BitVec 32) (v3 : BitVec 32) (k0_hw1 : k0_chk1 v1 v3), ∀ (k0_h1 : k0_cond1 v3 = 1#1), ∀ a, (k0_off84 v1) a + S1x1x1.size a ≤ S16x11x16.size a := fun v1 v3 k0_hw1 k0_h1 => k0_hw1.2.2.1.2.2.2.2.2.2.2.2.2.2.2.2.2.2.2.2.2.2.1 k0_h1
theorem k0_off85_inb : ∀ (v1 : BitVec 32) (v3 : BitVec 32) (k0_hw1 : k0_chk1 v1 v3), ∀ (k0_h1 : k0_cond1 v3 = 1#1), ∀ a, (k0_off85 v1) a + S1x1x1.size a ≤ S16x11x16.size a := fun v1 v3 k0_hw1 k0_h1 => k0_hw1.2.2.1.2.2.2.2.2.2.2.2.2.2.2.2.2.2.2.2.2.2.2.1 k0_h1
theorem k0_off86_inb : ∀ (v1 : BitVec 32) (v3 : BitVec 32) (k0_hw1 : k0_chk1 v1 v3), ∀ (k0_h1 : k0_cond1 v3 = 1#1), ∀ a, (k0_off86 v1) a + S1x1x1.size a ≤ S16x11x16.size a := fun v1 v3 k0_hw1 k0_h1 => k0_hw1.2.2.1.2.2.2.2.2.2.2.2.2.2.2.2.2.2.2.2.2.2.2.2.1 k0_h1
theorem k0_off87_inb : ∀ (v1 : BitVec 32) (v3 : BitVec 32) (k0_hw1 : k0_chk1 v1 v3), ∀ (k0_h1 : k0_cond1 v3 = 1#1), ∀ a, (k0_off87 v1) a + S1x1x1.size a ≤ S16x11x16.size a := fun v1 v3 k0_hw1 k0_h1 => k0_hw1.2.2.1.2.2.2.2.2.2.2.2.2.2.2.2.2.2.2.2.2.2.2.2.2.1 k0_h1
theorem k0_off88_inb : ∀ (v1 : BitVec 32) (v3 : BitVec 32) (k0_hw1 : k0_chk1 v1 v3), ∀ (k0_h1 : k0_cond1 v3 = 1#1), ∀ a, (k0_off88 v1) a + S1x1x1.size a ≤ S16x11x16.size a := fun v1 v3 k0_hw1 k0_h1 => k0_hw1.2.2.1.2.2.2.2.2.2.2.2.2.2.2.2.2.2.2.2.2.2.2.2.2.2.1 k0_h1
theorem k0_off89_inb : ∀ (v1 : BitVec 32) (v3 : BitVec 32) (k0_hw1 : k0_chk1 v1 v3), ∀ (k0_h1 : k0_cond1 v3 = 1#1), ∀ a, (k0_off89 v1) a + S1x1x1.size a ≤ S16x11x16.size a := fun v1 v3 k0_hw1 k0_h1 => k0_hw1.2.2.1.2.2.2.2.2.2.2.2.2.2.2.2.2.2.2.2.2.2.2.2.2.2.2.1 k0_h1
theorem k0_off90_inb : ∀ (v1 : BitVec 32) (v3 : BitVec 32) (k0_hw1 : k0_chk1 v1 v3), ∀ (k0_h1 : k0_cond1 v3 = 1#1), ∀ a, (k0_off90 v1) a + S1x1x1.size a ≤ S16x11x16.size a := fun v1 v3 k0_hw1 k0_h1 => k0_hw1.2.2.1.2.2.2.2.2.2.2.2.2.2.2.2.2.2.2.2.2.2.2.2.2.2.2.2.1 k0_h1
theorem k0_off91_inb : ∀ (v1 : BitVec 32) (v3 : BitVec 32) (k0_hw1 : k0_chk1 v1 v3), ∀ (k0_h1 : k0_cond1 v3 = 1#1), ∀ a, (k0_off91 v1) a + S1x1x1.size a ≤ S16x11x16.size a := fun v1 v3 k0_hw1 k0_h1 => k0_hw1.2.2.1.2.2.2.2.2.2.2.2.2.2.2.2.2.2.2.2.2.2.2.2.2.2.2.2.2.1 k0_h1
theorem k0_off92_inb : ∀ (v1 : BitVec 32) (v3 : BitVec 32) (k0_hw1 : k0_chk1 v1 v3), ∀ (k0_h1 : k0_cond1 v3 = 1#1), ∀ a, (k0_off92 v1) a + S1x1x1.size a ≤ S16x11x16.size a := fun v1 v3 k0_hw1 k0_h1 => k0_hw1.2.2.1.2.2.2.2.2.2.2.2.2.2.2.2.2.2.2.2.2.2.2.2.2.2.2.2.2.2.1 k0_h1
theorem k0_off93_inb : ∀ (v1 : BitVec 32) (v3 : BitVec 32) (k0_hw1 : k0_chk1 v1 v3), ∀ (k0_h1 : k0_cond1 v3 = 1#1), ∀ a, (k0_off93 v1) a + S1x1x1.size a ≤ S16x11x16.size a := fun v1 v3 k0_hw1 k0_h1 => k0_hw1.2.2.1.2.2.2.2.2.2.2.2.2.2.2.2.2.2.2.2.2.2.2.2.2.2.2.2.2.2.2.1 k0_h1
theorem k0_off94_inb : ∀ (v1 : BitVec 32) (v3 : BitVec 32) (k0_hw1 : k0_chk1 v1 v3), ∀ (k0_h1 : k0_cond1 v3 = 1#1), ∀ a, (k0_off94 v1) a + S1x1x1.size a ≤ S16x11x16.size a := fun v1 v3 k0_hw1 k0_h1 => k0_hw1.2.2.1.2.2.2.2.2.2.2.2.2.2.2.2.2.2.2.2.2.2.2.2.2.2.2.2.2.2.2.2.1 k0_h1
theorem k0_off95_inb : ∀ (v1 : BitVec 32) (v3 : BitVec 32) (k0_hw1 : k0_chk1 v1 v3), ∀ (k0_h1 : k0_cond1 v3 = 1#1), ∀ a, (k0_off95 v1) a + S1x1x1.size a ≤ S16x11x16.size a := fun v1 v3 k0_hw1 k0_h1 => k0_hw1.2.2.1.2.2.2.2.2.2.2.2.2.2.2.2.2.2.2.2.2.2.2.2.2.2.2.2.2.2.2.2.2.1 k0_h1
theorem k0_off96_inb : ∀ (v1 : BitVec 32) (v3 : BitVec 32) (k0_hw1 : k0_chk1 v1 v3), ∀ (k0_h1 : k0_cond1 v3 = 1#1), ∀ a, (k0_off96 v1) a + S1x1x1.size a ≤ S16x11x16.size a := fun v1 v3 k0_hw1 k0_h1 => k0_hw1.2.2.1.2.2.2.2.2.2.2.2.2.2.2.2.2.2.2.2.2.2.2.2.2.2.2.2.2.2.2.2.2.2.1 k0_h1
theorem k0_off97_inb : ∀ (v1 : BitVec 32) (v3 : BitVec 32) (k0_hw1 : k0_chk1 v1 v3), ∀ (k0_h1 : k0_cond1 v3 = 1#1), ∀ a, (k0_off97 v1) a + S1x1x1.size a ≤ S16x11x16.size a := fun v1 v3 k0_hw1 k0_h1 => k0_hw1.2.2.1.2.2.2.2.2.2.2.2.2.2.2.2.2.2.2.2.2.2.2.2.2.2.2.2.2.2.2.2.2.2.2 k0_h1
theorem k0_off98_inb : ∀ (v1 : BitVec 32) (v3 : BitVec 32) (k0_hw1 : k0_chk1 v1 v3), ∀ (k0_h1 : k0_cond1 v3 = 1#1), ∀ a, (k0_off98 v1) a + S1x1x1.size a ≤ S16x11x16.size a := fun v1 v3 k0_hw1 k0_h1 => k0_hw1.2.2.2.1.1 k0_h1
theorem k0_off99_inb : ∀ (v1 : BitVec 32) (v3 : BitVec 32) (k0_hw1 : k0_chk1 v1 v3), ∀ (k0_h1 : k0_cond1 v3 = 1#1), ∀ a, (k0_off99 v1) a + S1x1x1.size a ≤ S16x11x16.size a := fun v1 v3 k0_hw1 k0_h1 => k0_hw1.2.2.2.1.2.1 k0_h1
theorem k0_off100_inb : ∀ (v1 : BitVec 32) (v3 : BitVec 32) (k0_hw1 : k0_chk1 v1 v3), ∀ (k0_h1 : k0_cond1 v3 = 1#1), ∀ a, (k0_off100 v1) a + S1x1x1.size a ≤ S16x11x16.size a := fun v1 v3 k0_hw1 k0_h1 => k0_hw1.2.2.2.1.2.2.1 k0_h1
theorem k0_off101_inb : ∀ (v1 : BitVec 32) (v3 : BitVec 32) (k0_hw1 : k0_chk1 v1 v3), ∀ (k0_h1 : k0_cond1 v3 = 1#1), ∀ a, (k0_off101 v1) a + S1x1x1.size a ≤ S16x11x16.size a := fun v1 v3 k0_hw1 k0_h1 => k0_hw1.2.2.2.1.2.2.2.1 k0_h1
theorem k0_off102_inb : ∀ (v1 : BitVec 32) (v3 : BitVec 32) (k0_hw1 : k0_chk1 v1 v3), ∀ (k0_h1 : k0_cond1 v3 = 1#1), ∀ a, (k0_off102 v1) a + S1x1x1.size a ≤ S16x11x16.size a := fun v1 v3 k0_hw1 k0_h1 => k0_hw1.2.2.2.1.2.2.2.2.1 k0_h1
theorem k0_off103_inb : ∀ (v1 : BitVec 32) (v3 : BitVec 32) (k0_hw1 : k0_chk1 v1 v3), ∀ (k0_h1 : k0_cond1 v3 = 1#1), ∀ a, (k0_off103 v1) a + S1x1x1.size a ≤ S16x11x16.size a := fun v1 v3 k0_hw1 k0_h1 => k0_hw1.2.2.2.1.2.2.2.2.2.1 k0_h1
theorem k0_off104_inb : ∀ (v1 : BitVec 32) (v3 : BitVec 32) (k0_hw1 : k0_chk1 v1 v3), ∀ (k0_h1 : k0_cond1 v3 = 1#1), ∀ a, (k0_off104 v1) a + S1x1x1.size a ≤ S16x11x16.size a := fun v1 v3 k0_hw1 k0_h1 => k0_hw1.2.2.2.1.2.2.2.2.2.2.1 k0_h1
theorem k0_off105_inb : ∀ (v1 : BitVec 32) (v3 : BitVec 32) (k0_hw1 : k0_chk1 v1 v3), ∀ (k0_h1 : k0_cond1 v3 = 1#1), ∀ a, (k0_off105 v1) a + S1x1x1.size a ≤ S16x11x16.size a := fun v1 v3 k0_hw1 k0_h1 => k0_hw1.2.2.2.1.2.2.2.2.2.2.2.1 k0_h1
theorem k0_off106_inb : ∀ (v1 : BitVec 32) (v3 : BitVec 32) (k0_hw1 : k0_chk1 v1 v3), ∀ (k0_h1 : k0_cond1 v3 = 1#1), ∀ a, (k0_off106 v1) a + S1x1x1.size a ≤ S16x11x16.size a := fun v1 v3 k0_hw1 k0_h1 => k0_hw1.2.2.2.1.2.2.2.2.2.2.2.2.1 k0_h1
theorem k0_off107_inb : ∀ (v1 : BitVec 32) (v3 : BitVec 32) (k0_hw1 : k0_chk1 v1 v3), ∀ (k0_h1 : k0_cond1 v3 = 1#1), ∀ a, (k0_off107 v1) a + S1x1x1.size a ≤ S16x11x16.size a := fun v1 v3 k0_hw1 k0_h1 => k0_hw1.2.2.2.1.2.2.2.2.2.2.2.2.2.1 k0_h1
theorem k0_off108_inb : ∀ (v1 : BitVec 32) (v3 : BitVec 32) (k0_hw1 : k0_chk1 v1 v3), ∀ (k0_h1 : k0_cond1 v3 = 1#1), ∀ a, (k0_off108 v1) a + S1x1x1.size a ≤ S16x11x16.size a := fun v1 v3 k0_hw1 k0_h1 => k0_hw1.2.2.2.1.2.2.2.2.2.2.2.2.2.2.1 k0_h1
theorem k0_off109_inb : ∀ (v1 : BitVec 32) (v3 : BitVec 32) (k0_hw1 : k0_chk1 v1 v3), ∀ (k0_h1 : k0_cond1 v3 = 1#1), ∀ a, (k0_off109 v1) a + S1x1x1.size a ≤ S16x11x16.size a := fun v1 v3 k0_hw1 k0_h1 => k0_hw1.2.2.2.1.2.2.2.2.2.2.2.2.2.2.2.1 k0_h1
theorem k0_off110_inb : ∀ (v1 : BitVec 32) (v3 : BitVec 32) (k0_hw1 : k0_chk1 v1 v3), ∀ (k0_h1 : k0_cond1 v3 = 1#1), ∀ a, (k0_off110 v1) a + S1x1x1.size a ≤ S16x11x16.size a := fun v1 v3 k0_hw1 k0_h1 => k0_hw1.2.2.2.1.2.2.2.2.2.2.2.2.2.2.2.2.1 k0_h1
theorem k0_off111_inb : ∀ (v1 : BitVec 32) (v3 : BitVec 32) (k0_hw1 : k0_chk1 v1 v3), ∀ (k0_h1 : k0_cond1 v3 = 1#1), ∀ a, (k0_off111 v1) a + S1x1x1.size a ≤ S16x11x16.size a := fun v1 v3 k0_hw1 k0_h1 => k0_hw1.2.2.2.1.2.2.2.2.2.2.2.2.2.2.2.2.2.1 k0_h1
theorem k0_off112_inb : ∀ (v1 : BitVec 32) (v3 : BitVec 32) (k0_hw1 : k0_chk1 v1 v3), ∀ (k0_h1 : k0_cond1 v3 = 1#1), ∀ a, (k0_off112 v1) a + S1x1x1.size a ≤ S16x11x16.size a := fun v1 v3 k0_hw1 k0_h1 => k0_hw1.2.2.2.1.2.2.2.2.2.2.2.2.2.2.2.2.2.2.1 k0_h1
theorem k0_off113_inb : ∀ (v1 : BitVec 32) (v3 : BitVec 32) (k0_hw1 : k0_chk1 v1 v3), ∀ (k0_h1 : k0_cond1 v3 = 1#1), ∀ a, (k0_off113 v1) a + S1x1x1.size a ≤ S16x11x16.size a := fun v1 v3 k0_hw1 k0_h1 => k0_hw1.2.2.2.1.2.2.2.2.2.2.2.2.2.2.2.2.2.2.2.1 k0_h1
theorem k0_off114_inb : ∀ (v1 : BitVec 32) (v3 : BitVec 32) (k0_hw1 : k0_chk1 v1 v3), ∀ (k0_h1 : k0_cond1 v3 = 1#1), ∀ a, (k0_off114 v1) a + S1x1x1.size a ≤ S16x11x16.size a := fun v1 v3 k0_hw1 k0_h1 => k0_hw1.2.2.2.1.2.2.2.2.2.2.2.2.2.2.2.2.2.2.2.2.1 k0_h1
theorem k0_off115_inb : ∀ (v1 : BitVec 32) (v3 : BitVec 32) (k0_hw1 : k0_chk1 v1 v3), ∀ (k0_h1 : k0_cond1 v3 = 1#1), ∀ a, (k0_off115 v1) a + S1x1x1.size a ≤ S16x11x16.size a := fun v1 v3 k0_hw1 k0_h1 => k0_hw1.2.2.2.1.2.2.2.2.2.2.2.2.2.2.2.2.2.2.2.2.2.1 k0_h1
theorem k0_off116_inb : ∀ (v1 : BitVec 32) (v3 : BitVec 32) (k0_hw1 : k0_chk1 v1 v3), ∀ (k0_h1 : k0_cond1 v3 = 1#1), ∀ a, (k0_off116 v1) a + S1x1x1.size a ≤ S16x11x16.size a := fun v1 v3 k0_hw1 k0_h1 => k0_hw1.2.2.2.1.2.2.2.2.2.2.2.2.2.2.2.2.2.2.2.2.2.2.1 k0_h1
theorem k0_off117_inb : ∀ (v1 : BitVec 32) (v3 : BitVec 32) (k0_hw1 : k0_chk1 v1 v3), ∀ (k0_h1 : k0_cond1 v3 = 1#1), ∀ a, (k0_off117 v1) a + S1x1x1.size a ≤ S16x11x16.size a := fun v1 v3 k0_hw1 k0_h1 => k0_hw1.2.2.2.1.2.2.2.2.2.2.2.2.2.2.2.2.2.2.2.2.2.2.2.1 k0_h1
theorem k0_off118_inb : ∀ (v1 : BitVec 32) (v3 : BitVec 32) (k0_hw1 : k0_chk1 v1 v3), ∀ (k0_h1 : k0_cond1 v3 = 1#1), ∀ a, (k0_off118 v1) a + S1x1x1.size a ≤ S16x11x16.size a := fun v1 v3 k0_hw1 k0_h1 => k0_hw1.2.2.2.1.2.2.2.2.2.2.2.2.2.2.2.2.2.2.2.2.2.2.2.2.1 k0_h1
theorem k0_off119_inb : ∀ (v1 : BitVec 32) (v3 : BitVec 32) (k0_hw1 : k0_chk1 v1 v3), ∀ (k0_h1 : k0_cond1 v3 = 1#1), ∀ a, (k0_off119 v1) a + S1x1x1.size a ≤ S16x11x16.size a := fun v1 v3 k0_hw1 k0_h1 => k0_hw1.2.2.2.1.2.2.2.2.2.2.2.2.2.2.2.2.2.2.2.2.2.2.2.2.2.1 k0_h1
theorem k0_off120_inb : ∀ (v1 : BitVec 32) (v3 : BitVec 32) (k0_hw1 : k0_chk1 v1 v3), ∀ (k0_h1 : k0_cond1 v3 = 1#1), ∀ a, (k0_off120 v1) a + S1x1x1.size a ≤ S16x11x16.size a := fun v1 v3 k0_hw1 k0_h1 => k0_hw1.2.2.2.1.2.2.2.2.2.2.2.2.2.2.2.2.2.2.2.2.2.2.2.2.2.2.1 k0_h1
theorem k0_off121_inb : ∀ (v1 : BitVec 32) (v3 : BitVec 32) (k0_hw1 : k0_chk1 v1 v3), ∀ (k0_h1 : k0_cond1 v3 = 1#1), ∀ a, (k0_off121 v1) a + S1x1x1.size a ≤ S16x11x16.size a := fun v1 v3 k0_hw1 k0_h1 => k0_hw1.2.2.2.1.2.2.2.2.2.2.2.2.2.2.2.2.2.2.2.2.2.2.2.2.2.2.2.1 k0_h1
theorem k0_off122_inb : ∀ (v1 : BitVec 32) (v3 : BitVec 32) (k0_hw1 : k0_chk1 v1 v3), ∀ (k0_h1 : k0_cond1 v3 = 1#1), ∀ a, (k0_off122 v1) a + S1x1x1.size a ≤ S16x11x16.size a := fun v1 v3 k0_hw1 k0_h1 => k0_hw1.2.2.2.1.2.2.2.2.2.2.2.2.2.2.2.2.2.2.2.2.2.2.2.2.2.2.2.2.1 k0_h1
theorem k0_off123_inb : ∀ (v1 : BitVec 32) (v3 : BitVec 32) (k0_hw1 : k0_chk1 v1 v3), ∀ (k0_h1 : k0_cond1 v3 = 1#1), ∀ a, (k0_off123 v1) a + S1x1x1.size a ≤ S16x11x16.size a := fun v1 v3 k0_hw1 k0_h1 => k0_hw1.2.2.2.1.2.2.2.2.2.2.2.2.2.2.2.2.2.2.2.2.2.2.2.2.2.2.2.2.2.1 k0_h1
theorem k0_off124_inb : ∀ (v1 : BitVec 32) (v3 : BitVec 32) (k0_hw1 : k0_chk1 v1 v3), ∀ (k0_h1 : k0_cond1 v3 = 1#1), ∀ a, (k0_off124 v1) a + S1x1x1.size a ≤ S16x11x16.size a := fun v1 v3 k0_hw1 k0_h1 => k0_hw1.2.2.2.1.2.2.2.2.2.2.2.2.2.2.2.2.2.2.2.2.2.2.2.2.2.2.2.2.2.2.1 k0_h1
theorem k0_off125_inb : ∀ (v1 : BitVec 32) (v3 : BitVec 32) (k0_hw1 : k0_chk1 v1 v3), ∀ (k0_h1 : k0_cond1 v3 = 1#1), ∀ a, (k0_off125 v1) a + S1x1x1.size a ≤ S16x11x16.size a := fun v1 v3 k0_hw1 k0_h1 => k0_hw1.2.2.2.1.2.2.2.2.2.2.2.2.2.2.2.2.2.2.2.2.2.2.2.2.2.2.2.2.2.2.2.1 k0_h1
theorem k0_off126_inb : ∀ (v1 : BitVec 32) (v3 : BitVec 32) (k0_hw1 : k0_chk1 v1 v3), ∀ (k0_h1 : k0_cond1 v3 = 1#1), ∀ a, (k0_off126 v1) a + S1x1x1.size a ≤ S16x11x16.size a := fun v1 v3 k0_hw1 k0_h1 => k0_hw1.2.2.2.1.2.2.2.2.2.2.2.2.2.2.2.2.2.2.2.2.2.2.2.2.2.2.2.2.2.2.2.2.1 k0_h1
theorem k0_off127_inb : ∀ (v1 : BitVec 32) (v3 : BitVec 32) (k0_hw1 : k0_chk1 v1 v3), ∀ (k0_h1 : k0_cond1 v3 = 1#1), ∀ a, (k0_off127 v1) a + S1x1x1.size a ≤ S16x11x16.size a := fun v1 v3 k0_hw1 k0_h1 => k0_hw1.2.2.2.1.2.2.2.2.2.2.2.2.2.2.2.2.2.2.2.2.2.2.2.2.2.2.2.2.2.2.2.2.2.1 k0_h1
theorem k0_off128_inb : ∀ (v1 : BitVec 32) (v3 : BitVec 32) (k0_hw1 : k0_chk1 v1 v3), ∀ (k0_h1 : k0_cond1 v3 = 1#1), ∀ a, (k0_off128 v1) a + S1x1x1.size a ≤ S16x11x16.size a := fun v1 v3 k0_hw1 k0_h1 => k0_hw1.2.2.2.1.2.2.2.2.2.2.2.2.2.2.2.2.2.2.2.2.2.2.2.2.2.2.2.2.2.2.2.2.2.2.1 k0_h1
theorem k0_off129_inb : ∀ (v1 : BitVec 32) (v3 : BitVec 32) (k0_hw1 : k0_chk1 v1 v3), ∀ (k0_h1 : k0_cond1 v3 = 1#1), ∀ a, (k0_off129 v1) a + S1x1x1.size a ≤ S16x11x16.size a := fun v1 v3 k0_hw1 k0_h1 => k0_hw1.2.2.2.1.2.2.2.2.2.2.2.2.2.2.2.2.2.2.2.2.2.2.2.2.2.2.2.2.2.2.2.2.2.2.2 k0_h1
theorem k0_off130_inb : ∀ (v1 : BitVec 32) (v3 : BitVec 32) (k0_hw1 : k0_chk1 v1 v3), ∀ (k0_h1 : k0_cond1 v3 = 1#1), ∀ a, (k0_off130 v1) a + S1x1x1.size a ≤ S16x11x16.size a := fun v1 v3 k0_hw1 k0_h1 => k0_hw1.2.2.2.2.1.1 k0_h1
theorem k0_off131_inb : ∀ (v1 : BitVec 32) (v3 : BitVec 32) (k0_hw1 : k0_chk1 v1 v3), ∀ (k0_h1 : k0_cond1 v3 = 1#1), ∀ a, (k0_off131 v1) a + S1x1x1.size a ≤ S16x11x16.size a := fun v1 v3 k0_hw1 k0_h1 => k0_hw1.2.2.2.2.1.2.1 k0_h1
theorem k0_off132_inb : ∀ (v1 : BitVec 32) (v3 : BitVec 32) (k0_hw1 : k0_chk1 v1 v3), ∀ (k0_h1 : k0_cond1 v3 = 1#1), ∀ a, (k0_off132 v1) a + S1x1x1.size a ≤ S16x11x16.size a := fun v1 v3 k0_hw1 k0_h1 => k0_hw1.2.2.2.2.1.2.2.1 k0_h1
theorem k0_off133_inb : ∀ (v1 : BitVec 32) (v3 : BitVec 32) (k0_hw1 : k0_chk1 v1 v3), ∀ (k0_h1 : k0_cond1 v3 = 1#1), ∀ a, (k0_off133 v1) a + S1x1x1.size a ≤ S16x11x16.size a := fun v1 v3 k0_hw1 k0_h1 => k0_hw1.2.2.2.2.1.2.2.2.1 k0_h1
theorem k0_off134_inb : ∀ (v1 : BitVec 32) (v3 : BitVec 32) (k0_hw1 : k0_chk1 v1 v3), ∀ (k0_h1 : k0_cond1 v3 = 1#1), ∀ a, (k0_off134 v1) a + S1x1x1.size a ≤ S16x11x16.size a := fun v1 v3 k0_hw1 k0_h1 => k0_hw1.2.2.2.2.1.2.2.2.2.1 k0_h1
theorem k0_off135_inb : ∀ (v1 : BitVec 32) (v3 : BitVec 32) (k0_hw1 : k0_chk1 v1 v3), ∀ (k0_h1 : k0_cond1 v3 = 1#1), ∀ a, (k0_off135 v1) a + S1x1x1.size a ≤ S16x11x16.size a := fun v1 v3 k0_hw1 k0_h1 => k0_hw1.2.2.2.2.1.2.2.2.2.2.1 k0_h1
theorem k0_off136_inb : ∀ (v1 : BitVec 32) (v3 : BitVec 32) (k0_hw1 : k0_chk1 v1 v3), ∀ (k0_h1 : k0_cond1 v3 = 1#1), ∀ a, (k0_off136 v1) a + S1x1x1.size a ≤ S16x11x16.size a := fun v1 v3 k0_hw1 k0_h1 => k0_hw1.2.2.2.2.1.2.2.2.2.2.2.1 k0_h1
theorem k0_off137_inb : ∀ (v1 : BitVec 32) (v3 : BitVec 32) (k0_hw1 : k0_chk1 v1 v3), ∀ (k0_h1 : k0_cond1 v3 = 1#1), ∀ a, (k0_off137 v1) a + S1x1x1.size a ≤ S16x11x16.size a := fun v1 v3 k0_hw1 k0_h1 => k0_hw1.2.2.2.2.1.2.2.2.2.2.2.2.1 k0_h1
theorem k0_off138_inb : ∀ (v1 : BitVec 32) (v3 : BitVec 32) (k0_hw1 : k0_chk1 v1 v3), ∀ (k0_h1 : k0_cond1 v3 = 1#1), ∀ a, (k0_off138 v1) a + S1x1x1.size a ≤ S16x11x16.size a := fun v1 v3 k0_hw1 k0_h1 => k0_hw1.2.2.2.2.1.2.2.2.2.2.2.2.2.1 k0_h1
theorem k0_off139_inb : ∀ (v1 : BitVec 32) (v3 : BitVec 32) (k0_hw1 : k0_chk1 v1 v3), ∀ (k0_h1 : k0_cond1 v3 = 1#1), ∀ a, (k0_off139 v1) a + S1x1x1.size a ≤ S16x11x16.size a := fun v1 v3 k0_hw1 k0_h1 => k0_hw1.2.2.2.2.1.2.2.2.2.2.2.2.2.2.1 k0_h1
theorem k0_off140_inb : ∀ (v1 : BitVec 32) (v3 : BitVec 32) (k0_hw1 : k0_chk1 v1 v3), ∀ (k0_h1 : k0_cond1 v3 = 1#1), ∀ a, (k0_off140 v1) a + S1x1x1.size a ≤ S16x11x16.size a := fun v1 v3 k0_hw1 k0_h1 => k0_hw1.2.2.2.2.1.2.2.2.2.2.2.2.2.2.2.1 k0_h1
theorem k0_off141_inb : ∀ (v1 : BitVec 32) (v3 : BitVec 32) (k0_hw1 : k0_chk1 v1 v3), ∀ (k0_h1 : k0_cond1 v3 = 1#1), ∀ a, (k0_off141 v1) a + S1x1x1.size a ≤ S16x11x16.size a := fun v1 v3 k0_hw1 k0_h1 => k0_hw1.2.2.2.2.1.2.2.2.2.2.2.2.2.2.2.2.1 k0_h1
theorem k0_off142_inb : ∀ (v1 : BitVec 32) (v3 : BitVec 32) (k0_hw1 : k0_chk1 v1 v3), ∀ (k0_h1 : k0_cond1 v3 = 1#1), ∀ a, (k0_off142 v1) a + S1x1x1.size a ≤ S16x11x16.size a := fun v1 v3 k0_hw1 k0_h1 => k0_hw1.2.2.2.2.1.2.2.2.2.2.2.2.2.2.2.2.2.1 k0_h1
theorem k0_off143_inb : ∀ (v1 : BitVec 32) (v3 : BitVec 32) (k0_hw1 : k0_chk1 v1 v3), ∀ (k0_h1 : k0_cond1 v3 = 1#1), ∀ a, (k0_off143 v1) a + S1x1x1.size a ≤ S16x11x16.size a := fun v1 v3 k0_hw1 k0_h1 => k0_hw1.2.2.2.2.1.2.2.2.2.2.2.2.2.2.2.2.2.2.1 k0_h1
theorem k0_off144_inb : ∀ (v1 : BitVec 32) (v3 : BitVec 32) (k0_hw1 : k0_chk1 v1 v3), ∀ (k0_h1 : k0_cond1 v3 = 1#1), ∀ a, (k0_off144 v1) a + S1x1x1.size a ≤ S16x11x16.size a := fun v1 v3 k0_hw1 k0_h1 => k0_hw1.2.2.2.2.1.2.2.2.2.2.2.2.2.2.2.2.2.2.2.1 k0_h1
theorem k0_off145_inb : ∀ (v1 : BitVec 32) (v3 : BitVec 32) (k0_hw1 : k0_chk1 v1 v3), ∀ (k0_h1 : k0_cond1 v3 = 1#1), ∀ a, (k0_off145 v1) a + S1x1x1.size a ≤ S16x11x16.size a := fun v1 v3 k0_hw1 k0_h1 => k0_hw1.2.2.2.2.1.2.2.2.2.2.2.2.2.2.2.2.2.2.2.2.1 k0_h1
theorem k0_off146_inb : ∀ (v1 : BitVec 32) (v3 : BitVec 32) (k0_hw1 : k0_chk1 v1 v3), ∀ (k0_h1 : k0_cond1 v3 = 1#1), ∀ a, (k0_off146 v1) a + S1x1x1.size a ≤ S16x11x16.size a := fun v1 v3 k0_hw1 k0_h1 => k0_hw1.2.2.2.2.1.2.2.2.2.2.2.2.2.2.2.2.2.2.2.2.2.1 k0_h1
theorem k0_off147_inb : ∀ (v1 : BitVec 32) (v3 : BitVec 32) (k0_hw1 : k0_chk1 v1 v3), ∀ (k0_h1 : k0_cond1 v3 = 1#1), ∀ a, (k0_off147 v1) a + S1x1x1.size a ≤ S16x11x16.size a := fun v1 v3 k0_hw1 k0_h1 => k0_hw1.2.2.2.2.1.2.2.2.2.2.2.2.2.2.2.2.2.2.2.2.2.2.1 k0_h1
theorem k0_off148_inb : ∀ (v1 : BitVec 32) (v3 : BitVec 32) (k0_hw1 : k0_chk1 v1 v3), ∀ (k0_h1 : k0_cond1 v3 = 1#1), ∀ a, (k0_off148 v1) a + S1x1x1.size a ≤ S16x11x16.size a := fun v1 v3 k0_hw1 k0_h1 => k0_hw1.2.2.2.2.1.2.2.2.2.2.2.2.2.2.2.2.2.2.2.2.2.2.2.1 k0_h1
theorem k0_off149_inb : ∀ (v1 : BitVec 32) (v3 : BitVec 32) (k0_hw1 : k0_chk1 v1 v3), ∀ (k0_h1 : k0_cond1 v3 = 1#1), ∀ a, (k0_off149 v1) a + S1x1x1.size a ≤ S16x11x16.size a := fun v1 v3 k0_hw1 k0_h1 => k0_hw1.2.2.2.2.1.2.2.2.2.2.2.2.2.2.2.2.2.2.2.2.2.2.2.2.1 k0_h1
theorem k0_off150_inb : ∀ (v1 : BitVec 32) (v3 : BitVec 32) (k0_hw1 : k0_chk1 v1 v3), ∀ (k0_h1 : k0_cond1 v3 = 1#1), ∀ a, (k0_off150 v1) a + S1x1x1.size a ≤ S16x11x16.size a := fun v1 v3 k0_hw1 k0_h1 => k0_hw1.2.2.2.2.1.2.2.2.2.2.2.2.2.2.2.2.2.2.2.2.2.2.2.2.2.1 k0_h1
theorem k0_off151_inb : ∀ (v1 : BitVec 32) (v3 : BitVec 32) (k0_hw1 : k0_chk1 v1 v3), ∀ (k0_h1 : k0_cond1 v3 = 1#1), ∀ a, (k0_off151 v1) a + S1x1x1.size a ≤ S16x11x16.size a := fun v1 v3 k0_hw1 k0_h1 => k0_hw1.2.2.2.2.1.2.2.2.2.2.2.2.2.2.2.2.2.2.2.2.2.2.2.2.2.2.1 k0_h1
theorem k0_off152_inb : ∀ (v1 : BitVec 32) (v3 : BitVec 32) (k0_hw1 : k0_chk1 v1 v3), ∀ (k0_h1 : k0_cond1 v3 = 1#1), ∀ a, (k0_off152 v1) a + S1x1x1.size a ≤ S16x11x16.size a := fun v1 v3 k0_hw1 k0_h1 => k0_hw1.2.2.2.2.1.2.2.2.2.2.2.2.2.2.2.2.2.2.2.2.2.2.2.2.2.2.2.1 k0_h1
theorem k0_off153_inb : ∀ (v1 : BitVec 32) (v3 : BitVec 32) (k0_hw1 : k0_chk1 v1 v3), ∀ (k0_h1 : k0_cond1 v3 = 1#1), ∀ a, (k0_off153 v1) a + S1x1x1.size a ≤ S16x11x16.size a := fun v1 v3 k0_hw1 k0_h1 => k0_hw1.2.2.2.2.1.2.2.2.2.2.2.2.2.2.2.2.2.2.2.2.2.2.2.2.2.2.2.2.1 k0_h1
theorem k0_off154_inb : ∀ (v1 : BitVec 32) (v3 : BitVec 32) (k0_hw1 : k0_chk1 v1 v3), ∀ (k0_h1 : k0_cond1 v3 = 1#1), ∀ a, (k0_off154 v1) a + S1x1x1.size a ≤ S16x11x16.size a := fun v1 v3 k0_hw1 k0_h1 => k0_hw1.2.2.2.2.1.2.2.2.2.2.2.2.2.2.2.2.2.2.2.2.2.2.2.2.2.2.2.2.2.1 k0_h1
theorem k0_off155_inb : ∀ (v1 : BitVec 32) (v3 : BitVec 32) (k0_hw1 : k0_chk1 v1 v3), ∀ (k0_h1 : k0_cond1 v3 = 1#1), ∀ a, (k0_off155 v1) a + S1x1x1.size a ≤ S16x11x16.size a := fun v1 v3 k0_hw1 k0_h1 => k0_hw1.2.2.2.2.1.2.2.2.2.2.2.2.2.2.2.2.2.2.2.2.2.2.2.2.2.2.2.2.2.2.1 k0_h1
theorem k0_off156_inb : ∀ (v1 : BitVec 32) (v3 : BitVec 32) (k0_hw1 : k0_chk1 v1 v3), ∀ (k0_h1 : k0_cond1 v3 = 1#1), ∀ a, (k0_off156 v1) a + S1x1x1.size a ≤ S16x11x16.size a := fun v1 v3 k0_hw1 k0_h1 => k0_hw1.2.2.2.2.1.2.2.2.2.2.2.2.2.2.2.2.2.2.2.2.2.2.2.2.2.2.2.2.2.2.2.1 k0_h1
theorem k0_off157_inb : ∀ (v1 : BitVec 32) (v3 : BitVec 32) (k0_hw1 : k0_chk1 v1 v3), ∀ (k0_h1 : k0_cond1 v3 = 1#1), ∀ a, (k0_off157 v1) a + S1x1x1.size a ≤ S16x11x16.size a := fun v1 v3 k0_hw1 k0_h1 => k0_hw1.2.2.2.2.1.2.2.2.2.2.2.2.2.2.2.2.2.2.2.2.2.2.2.2.2.2.2.2.2.2.2.2.1 k0_h1
theorem k0_off158_inb : ∀ (v1 : BitVec 32) (v3 : BitVec 32) (k0_hw1 : k0_chk1 v1 v3), ∀ (k0_h1 : k0_cond1 v3 = 1#1), ∀ a, (k0_off158 v1) a + S1x1x1.size a ≤ S16x11x16.size a := fun v1 v3 k0_hw1 k0_h1 => k0_hw1.2.2.2.2.1.2.2.2.2.2.2.2.2.2.2.2.2.2.2.2.2.2.2.2.2.2.2.2.2.2.2.2.2.1 k0_h1
theorem k0_off159_inb : ∀ (v1 : BitVec 32) (v3 : BitVec 32) (k0_hw1 : k0_chk1 v1 v3), ∀ (k0_h1 : k0_cond1 v3 = 1#1), ∀ a, (k0_off159 v1) a + S1x1x1.size a ≤ S16x11x16.size a := fun v1 v3 k0_hw1 k0_h1 => k0_hw1.2.2.2.2.1.2.2.2.2.2.2.2.2.2.2.2.2.2.2.2.2.2.2.2.2.2.2.2.2.2.2.2.2.2.1 k0_h1
theorem k0_off160_inb : ∀ (v1 : BitVec 32) (v3 : BitVec 32) (k0_hw1 : k0_chk1 v1 v3), ∀ (k0_h1 : k0_cond1 v3 = 1#1), ∀ a, (k0_off160 v1) a + S1x1x1.size a ≤ S16x11x16.size a := fun v1 v3 k0_hw1 k0_h1 => k0_hw1.2.2.2.2.1.2.2.2.2.2.2.2.2.2.2.2.2.2.2.2.2.2.2.2.2.2.2.2.2.2.2.2.2.2.2.1 k0_h1
theorem k0_off161_inb : ∀ (v1 : BitVec 32) (v3 : BitVec 32) (k0_hw1 : k0_chk1 v1 v3), ∀ (k0_h1 : k0_cond1 v3 = 1#1), ∀ a, (k0_off161 v1) a + S1x1x1.size a ≤ S16x11x16.size a := fun v1 v3 k0_hw1 k0_h1 => k0_hw1.2.2.2.2.1.2.2.2.2.2.2.2.2.2.2.2.2.2.2.2.2.2.2.2.2.2.2.2.2.2.2.2.2.2.2.2 k0_h1
theorem k0_off162_inb : ∀ (v1 : BitVec 32) (v3 : BitVec 32) (k0_hw1 : k0_chk1 v1 v3), ∀ (k0_h1 : k0_cond1 v3 = 1#1), ∀ a, (k0_off162 v1) a + S1x1x1.size a ≤ S16x11x16.size a := fun v1 v3 k0_hw1 k0_h1 => k0_hw1.2.2.2.2.2.1 k0_h1
theorem k0_off163_inb : ∀ (v1 : BitVec 32) (v3 : BitVec 32) (k0_hw1 : k0_chk1 v1 v3), ∀ (k0_h1 : k0_cond1 v3 = 1#1), ∀ a, (k0_off163 v1) a + S1x1x1.size a ≤ S16x11x16.size a := fun v1 v3 k0_hw1 k0_h1 => k0_hw1.2.2.2.2.2.2.1 k0_h1
theorem k0_off164_inb : ∀ (v1 : BitVec 32) (v3 : BitVec 32) (k0_hw1 : k0_chk1 v1 v3), ∀ (k0_h1 : k0_cond1 v3 = 1#1), ∀ a, (k0_off164 v1) a + S1x1x1.size a ≤ S16x11x16.size a := fun v1 v3 k0_hw1 k0_h1 => k0_hw1.2.2.2.2.2.2.2.1 k0_h1
theorem k0_off165_inb : ∀ (v1 : BitVec 32) (v3 : BitVec 32) (k0_hw1 : k0_chk1 v1 v3), ∀ (k0_h1 : k0_cond1 v3 = 1#1), ∀ a, (k0_off165 v1) a + S1x1x1.size a ≤ S16x11x16.size a := fun v1 v3 k0_hw1 k0_h1 => k0_hw1.2.2.2.2.2.2.2.2.1 k0_h1
theorem k0_off166_inb : ∀ (v1 : BitVec 32) (v3 : BitVec 32) (k0_hw1 : k0_chk1 v1 v3), ∀ (k0_h1 : k0_cond1 v3 = 1#1), ∀ a, (k0_off166 v1) a + S1x1x1.size a ≤ S16x11x16.size a := fun v1 v3 k0_hw1 k0_h1 => k0_hw1.2.2.2.2.2.2.2.2.2.1 k0_h1
theorem k0_off167_inb : ∀ (v1 : BitVec 32) (v3 : BitVec 32) (k0_hw1 : k0_chk1 v1 v3), ∀ (k0_h1 : k0_cond1 v3 = 1#1), ∀ a, (k0_off167 v1) a + S1x1x1.size a ≤ S16x11x16.size a := fun v1 v3 k0_hw1 k0_h1 => k0_hw1.2.2.2.2.2.2.2.2.2.2.1 k0_h1
theorem k0_off168_inb : ∀ (v1 : BitVec 32) (v3 : BitVec 32) (k0_hw1 : k0_chk1 v1 v3), ∀ (k0_h1 : k0_cond1 v3 = 1#1), ∀ a, (k0_off168 v1) a + S1x1x1.size a ≤ S16x11x16.size a := fun v1 v3 k0_hw1 k0_h1 => k0_hw1.2.2.2.2.2.2.2.2.2.2.2.1 k0_h1
theorem k0_off169_inb : ∀ (v1 : BitVec 32) (v3 : BitVec 32) (k0_hw1 : k0_chk1 v1 v3), ∀ (k0_h1 : k0_cond1 v3 = 1#1), ∀ a, (k0_off169 v1) a + S1x1x1.size a ≤ S16x11x16.size a := fun v1 v3 k0_hw1 k0_h1 => k0_hw1.2.2.2.2.2.2.2.2.2.2.2.2.1 k0_h1
theorem k0_off170_inb : ∀ (v1 : BitVec 32) (v3 : BitVec 32) (k0_hw1 : k0_chk1 v1 v3), ∀ (k0_h1 : k0_cond1 v3 = 1#1), ∀ a, (k0_off170 v1) a + S1x1x1.size a ≤ S16x11x16.size a := fun v1 v3 k0_hw1 k0_h1 => k0_hw1.2.2.2.2.2.2.2.2.2.2.2.2.2.1 k0_h1
theorem k0_off171_inb : ∀ (v1 : BitVec 32) (v3 : BitVec 32) (k0_hw1 : k0_chk1 v1 v3), ∀ (k0_h1 : k0_cond1 v3 = 1#1), ∀ a, (k0_off171 v1) a + S1x1x1.size a ≤ S16x11x16.size a := fun v1 v3 k0_hw1 k0_h1 => k0_hw1.2.2.2.2.2.2.2.2.2.2.2.2.2.2.1 k0_h1
theorem k0_off172_inb : ∀ (v1 : BitVec 32) (v3 : BitVec 32) (k0_hw1 : k0_chk1 v1 v3), ∀ (k0_h1 : k0_cond1 v3 = 1#1), ∀ a, (k0_off172 v1) a + S1x1x1.size a ≤ S16x11x16.size a := fun v1 v3 k0_hw1 k0_h1 => k0_hw1.2.2.2.2.2.2.2.2.2.2.2.2.2.2.2.1 k0_h1
theorem k0_off173_inb : ∀ (v1 : BitVec 32) (v3 : BitVec 32) (k0_hw1 : k0_chk1 v1 v3), ∀ (k0_h1 : k0_cond1 v3 = 1#1), ∀ a, (k0_off173 v1) a + S1x1x1.size a ≤ S16x11x16.size a := fun v1 v3 k0_hw1 k0_h1 => k0_hw1.2.2.2.2.2.2.2.2.2.2.2.2.2.2.2.2.1 k0_h1
theorem k0_off174_inb : ∀ (v1 : BitVec 32) (v3 : BitVec 32) (k0_hw1 : k0_chk1 v1 v3), ∀ (k0_h1 : k0_cond1 v3 = 1#1), ∀ a, (k0_off174 v1) a + S1x1x1.size a ≤ S16x11x16.size a := fun v1 v3 k0_hw1 k0_h1 => k0_hw1.2.2.2.2.2.2.2.2.2.2.2.2.2.2.2.2.2.1 k0_h1
theorem k0_off175_inb : ∀ (v1 : BitVec 32) (v3 : BitVec 32) (k0_hw1 : k0_chk1 v1 v3), ∀ (k0_h1 : k0_cond1 v3 = 1#1), ∀ a, (k0_off175 v1) a + S1x1x1.size a ≤ S16x11x16.size a := fun v1 v3 k0_hw1 k0_h1 => k0_hw1.2.2.2.2.2.2.2.2.2.2.2.2.2.2.2.2.2.2.1 k0_h1
theorem k0_off176_inb : ∀ (v1 : BitVec 32) (v3 : BitVec 32) (k0_hw1 : k0_chk1 v1 v3), ∀ (k0_h1 : k0_cond1 v3 = 1#1), ∀ a, (k0_off176 v1) a + S1x1x1.size a ≤ S16x11x16.size a := fun v1 v3 k0_hw1 k0_h1 => k0_hw1.2.2.2.2.2.2.2.2.2.2.2.2.2.2.2.2.2.2.2.1 k0_h1
theorem k0_off177_inb : ∀ (v1 : BitVec 32) (v3 : BitVec 32) (k0_hw1 : k0_chk1 v1 v3), ∀ (k0_h1 : k0_cond1 v3 = 1#1), ∀ a, (k0_off177 v1) a + S1x1x1.size a ≤ S16x11x16.size a := fun v1 v3 k0_hw1 k0_h1 => k0_hw1.2.2.2.2.2.2.2.2.2.2.2.2.2.2.2.2.2.2.2.2 k0_h1

def k0_off178 (i : grid0.Coords) : Fin 1 → Nat :=
  let arg0 : BitVec 32 := BitVec.ofNat 32 (i 0).val
  let v7 : Index := Scalar.indexCast arg0
  ![v7.toNat]
def k0_off179 (i : grid0.Coords) : Fin 1 → Nat :=
  let arg0 : BitVec 32 := BitVec.ofNat 32 (i 0).val
  let v2067 : Index := Scalar.indexCast arg0
  ![v2067.toNat]
def k0_cond2 (v8 : BitVec 32) (v10 : BitVec 32) : BitVec 1 :=
  let v11 : BitVec 1 := Scalar.cmpi .slt v8 v10
  let v12 : BitVec 32 := Scalar.extui v11
  let c0_i32_0 : BitVec 32 := 0#32
  let v13 : BitVec 1 := Scalar.cmpi .ne v12 c0_i32_0
  v13

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (k0_off1_inb : ∀ i : grid0.Coords, ∀ a, (k0_off1 i) a + S1.size a ≤ S111.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S111.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S111) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S111.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S111) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .smem S16x11x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S49152x2048 : Shape := ⟨2, ![49152, 2048]⟩
abbrev S16 : Shape := ⟨1, ![16]⟩
abbrev S16x1408x2048 : Shape := ⟨3, ![16, 1408, 2048]⟩
abbrev S16x11x16 : Shape := ⟨3, ![16, 11, 16]⟩
abbrev S49152x1408 : Shape := ⟨2, ![49152, 1408]⟩
abbrev S49152x16x128 : Shape := ⟨3, ![49152, 16, 128]⟩
abbrev S49152x16 : Shape := ⟨2, ![49152, 16]⟩
abbrev S49152x16x1 : Shape := ⟨3, ![49152, 16, 1]⟩
abbrev S1 : Shape := ⟨1, ![1]⟩
abbrev S1x1408x2048 : Shape := ⟨3, ![1, 1408, 2048]⟩
abbrev S1408x2048 : Shape := ⟨2, ![1408, 2048]⟩
abbrev S11x128x16x128 : Shape := ⟨4, ![11, 128, 16, 128]⟩
abbrev S1x11x16 : Shape := ⟨3, ![1, 11, 16]⟩
abbrev S11x16 : Shape := ⟨2, ![11, 16]⟩
abbrev S11x1x16x1 : Shape := ⟨4, ![11, 1, 16, 1]⟩

abbrev nBuf : Space → Nat
  | .hbm => 5
  | .vmem => 4
  | .smem => 1
  | _ => 0

abbrev bufTy : (tb : Table) → Fin (tcTables nBuf tb) → BufTy
  | .hbm, ⟨0, _⟩ => ⟨S49152x2048, .bf16⟩
  | .hbm, ⟨1, _⟩ => ⟨S16, .i32⟩
  | .hbm, ⟨2, _⟩ => ⟨S16x1408x2048, .fp8e4m3⟩
  | .hbm, ⟨3, _⟩ => ⟨S16x11x16, .f32⟩
  | .hbm, ⟨4, _⟩ => ⟨S49152x1408, .bf16⟩
  | .local _ .vmem, ⟨0, _⟩ => ⟨S49152x2048, .bf16⟩
  | .local _ .vmem, ⟨1, _⟩ => ⟨S16x1408x2048, .fp8e4m3⟩
  | .local _ .vmem, ⟨2, _⟩ => ⟨S16x11x16, .f32⟩
  | .local _ .vmem, ⟨3, _⟩ => ⟨S49152x1408, .bf16⟩
  | .local _ .smem, ⟨0, _⟩ => ⟨S16, .i32⟩
  | _, _ => ⟨S49152x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S49152x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1408x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x11x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S49152x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.LoopK.lean ====
/-
  The kernel body with its two unrolled runs written as loops: one step dequantises one 128 × 128 block of the current
  expert's weights into the first scratch buffer (176 of them, run where the expert is new), one step quantises one
  512 × 128 block of the row tile into the second (16 of them).  The printed body is this one by unfolding.
-/
module

public import proofs.«01_k».proof.Proof.Gen.Kernel.Skeleton

@[expose] public section

noncomputable section

namespace Cert.Kernel.Hand

open Cert.Kernel Cert.Kernel.Gen
open Idealize.ShloMosaic Idealize.SL.Sem

variable {F : FTy → Type} [FloatOps F]

theorem sc_inb {e : Nat} (he : e < 16) (b : Fin 176) : ∀ a, (![e, b.val / 16, b.val % 16] : Fin 3 → Nat) a + S1x1x1.size a ≤ S16x11x16.size a := by
  have h1 : b.val / 16 < 11 := by have := b.isLt; omega
  have h2 : b.val % 16 < 16 := Nat.mod_lt _ (by decide)
  intro a
  match a with
  | 0 => exact he
  | 1 => exact h1
  | 2 => exact h2

theorem w_inb (b : Fin 176) : ∀ a, (![0, b.val / 16 * 128, b.val % 16 * 128] : Fin 3 → Nat) a + S1x128x128.size a ≤ S1x1408x2048.size a := by
  have h1 : b.val / 16 < 11 := by have := b.isLt; omega
  have h2 : b.val % 16 < 16 := Nat.mod_lt _ (by decide)
  intro a
  match a with
  | 0 => exact (by decide : 0 + 1 ≤ 1)
  | 1 => exact (by omega : b.val / 16 * 128 + 128 ≤ 1408)
  | 2 => exact (by omega : b.val % 16 * 128 + 128 ≤ 2048)

theorem wb_inb (b : Fin 176) : ∀ a, (![b.val / 16 * 128, b.val % 16 * 128] : Fin 2 → Nat) a + S128x128.size a ≤ S1408x2048.size a := by
  have h1 : b.val / 16 < 11 := by have := b.isLt; omega
  have h2 : b.val % 16 < 16 := Nat.mod_lt _ (by decide)
  intro a
  match a with
  | 0 => exact (by omega : b.val / 16 * 128 + 128 ≤ 1408)
  | 1 => exact (by omega : b.val % 16 * 128 + 128 ≤ 2048)

theorem x_inb (b : Fin 16) : ∀ a, (![0, b.val * 128] : Fin 2 → Nat) a + S512x128.size a ≤ S512x2048.size a := by
  have h2 := b.isLt
  intro a
  match a with
  | 0 => exact (by decide : 0 + 512 ≤ 512)
  | 1 => exact (by omega : b.val * 128 + 128 ≤ 2048)

theorem wb_packed (b : Fin 176) : (Rect.unit (s := S1408x2048) ![b.val / 16 * 128, b.val % 16 * 128] S128x128.size (wb_inb b)).PackedRows (EltTy.packing .bf16) :=
  by
  refine Or.inr ⟨by decide, rfl, Or.inl ⟨?_, ?_⟩⟩
  · exact (Dvd.dvd.mul_left (by decide : (2 : Nat) ∣ 128) (b.val / 16) : 2 ∣ b.val / 16 * 128)
  · exact (by decide : (2 : Nat) ∣ 128)

theorem x_packed (b : Fin 16) : (Rect.unit (s := S512x2048) ![0, b.val * 128] S512x128.size (x_inb b)).PackedRows (EltTy.packing .bf16) :=
  by
  refine Or.inr ⟨by decide, rfl, Or.inl ⟨?_, ?_⟩⟩
  · exact (by decide : (2 : Nat) ∣ 0)
  · exact (by decide : (2 : Nat) ∣ 512)

/-- One block of weights, dequantised. -/
def wPay (s : Elt F .f32) (w : Vec F S1x128x128 .fp8e4m3) : FVec F S128x128 .bf16 := k0_pay1 s w

/-- The step of block `b = 16 i + j`. -/
def wStep (arg6 : Memref sig .tc .smem S16x11x16 .f32) (arg8 : Memref sig .tc .vmem S1x1408x2048 .fp8e4m3) (arg10 : Memref sig .tc .vmem S1408x2048 .bf16) (harg10 : arg10.IsWhole)
    (v1 : Elt F .i32) (he : (Scalar.indexCast v1 : BitVec 32).toNat < 16) (b : Fin 176) : Prog (TpuEff nD τ sig (Elt F) Λ₀ .tc) PUnit := do
  let s : Elt F .f32 ← smemLoad arg6 (Rect.unit (s := S16x11x16) ![(Scalar.indexCast v1 : BitVec 32).toNat, b.val / 16, b.val % 16] S1x1x1.size (sc_inb he b)) numel1_S1x1x1 rfl
  let w : Vec F S1x128x128 .fp8e4m3 ← Prog.lift (.load arg8 (Rect.unit (s := S1x1408x2048) ![0, b.val / 16 * 128, b.val % 16 * 128] S1x128x128.size (w_inb b)).toLoadRect (View.loadsAt_vmem h_S1x128x128))
  let _ : Vec F S128x128 .bf16 ← Prog.lift (.load arg10 (Rect.unit (s := S1408x2048) ![b.val / 16 * 128, b.val % 16 * 128] S128x128.size (wb_inb b)).toLoadRect (View.loadsAt_vmem h_S128x128))
  Prog.lift (.store arg10 (Rect.unit (s := S1408x2048) ![b.val / 16 * 128, b.val % 16 * 128] S128x128.size (wb_inb b)) (wPay s w) Finset.univ (View.stores_vmem h_S128x128 (harg10.storeExact_slice rfl _ (wb_packed b)) (fun _ => rfl)) (.inl rfl))

/-- The steps of the blocks listed, one after the other, then `K`. -/
def wRun (K : Prog (TpuEff nD τ sig (Elt F) Λ₀ .tc) PUnit) (arg6 : Memref sig .tc .smem S16x11x16 .f32) (arg8 : Memref sig .tc .vmem S1x1408x2048 .fp8e4m3) (arg10 : Memref sig .tc .vmem S1408x2048 .bf16) (harg10 : arg10.IsWhole)
    (v1 : Elt F .i32) (he : (Scalar.indexCast v1 : BitVec 32).toNat < 16) : List (Fin 176) → Prog (TpuEff nD τ sig (Elt F) Λ₀ .tc) PUnit
  | [] => K
  | b :: l => do
    wStep arg6 arg8 arg10 harg10 v1 he b
    wRun K arg6 arg8 arg10 harg10 v1 he l

/-- The blocks of the weights, in order. -/
abbrev wAll : List (Fin 176) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175]

/-- One block of rows, quantised and widened again. -/
def qPay (v : Vec F S512x128 .bf16) : FVec F S512x128 .bf16 := k0_pay227 (k0_pay223 v) (k0_pay224 v) (k0_pay226 (k0_pay224 v) (k0_pay225 v))

/-- The step of column block `b`. -/
def qStep (arg7 : Memref sig .tc .vmem S512x2048 .bf16) (arg11 : Memref sig .tc .vmem S512x2048 .bf16) (harg11 : arg11.IsWhole) (b : Fin 16) : Prog (TpuEff nD τ sig (Elt F) Λ₀ .tc) PUnit := do
  let x : Vec F S512x128 .bf16 ← Prog.lift (.load arg7 (Rect.unit (s := S512x2048) ![0, b.val * 128] S512x128.size (x_inb b)).toLoadRect (View.loadsAt_vmem h_S512x128))
  let _ : Vec F S512x128 .bf16 ← Prog.lift (.load arg11 (Rect.unit (s := S512x2048) ![0, b.val * 128] S512x128.size (x_inb b)).toLoadRect (View.loadsAt_vmem h_S512x128))
  Prog.lift (.store arg11 (Rect.unit (s := S512x2048) ![0, b.val * 128] S512x128.size (x_inb b)) (qPay x) Finset.univ (View.stores_vmem h_S512x128 (harg11.storeExact_slice rfl _ (x_packed b)) (fun _ => rfl)) (.inl rfl))

/-- The steps of the column blocks listed, one after the other, then `K`. -/
def qRun (K : Prog (TpuEff nD τ sig (Elt F) Λ₀ .tc) PUnit) (arg7 : Memref sig .tc .vmem S512x2048 .bf16) (arg11 : Memref sig .tc .vmem S512x2048 .bf16) (harg11 : arg11.IsWhole) : List (Fin 16) → Prog (TpuEff nD τ sig (Elt F) Λ₀ .tc) PUnit
  | [] => K
  | b :: l => do
    qStep arg7 arg11 harg11 b
    qRun K arg7 arg11 harg11 l

/-- The column blocks of a row tile, in order. -/
abbrev qAll : List (Fin 16) := [0, 1, 2, 3, 4, 5, 6, 7, 8, 9, 10, 11, 12, 13, 14, 15]

theorem lt_of_chk {v1 v3 : BitVec 32} (h : k0_chk1 v1 v3) (h1 : k0_cond1 v3 = 1#1) : (Scalar.indexCast v1 : BitVec 32).toNat < 16 := by
  have := k0_off2_inb v1 v3 h h1 0
  exact this

/-- The last part of the body, run where the item has rows: the product, masked to the item's rows. -/
def bodyDot (i : grid0.Coords) (arg2 : Memref sig .tc .smem S111 .i32) (arg3 : Memref sig .tc .smem S111 .i32) (arg4 : Memref sig .tc .smem S111 .i32) (arg5 : Memref sig .tc .smem S111 .i32) (arg6 : Memref sig .tc .smem S16x11x16 .f32) (arg7 : Memref sig .tc .vmem S512x2048 .bf16) (arg8 : Memref sig .tc .vmem S1x1408x2048 .fp8e4m3) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) :
    Prog (TpuEff nD τ sig (Elt F) Λ₀ .tc) PUnit := do
  let v2062 : Vec F S512x2048 .bf16 ← Prog.lift (.load arg11 (Rect.unit (s := S512x2048) ![0, 0] S512x2048.size inb_S512x2048_S512x2048_0_0).toLoadRect (View.loadsAt_vmem h_S512x2048))
  let v2063 : Vec F S1408x2048 .bf16 ← Prog.lift (.load arg10 (Rect.unit (s := S1408x2048) ![0, 0] S1408x2048.size inb_S1408x2048_S1408x2048_0_0).toLoadRect (View.loadsAt_vmem h_S1408x2048))
  let v2068 : Elt F .i32 ← smemLoad arg4 (Rect.unit (s := S111) (k0_off179 i) S1.size (k0_off179_inb i)) numel1_S1 rfl
  let v2072 : Elt F .i32 ← smemLoad arg5 (Rect.unit (s := S111) (k0_off179 i) S1.size (k0_off179_inb i)) numel1_S1 rfl
  let v2077 : Vec F S512x1408 .bf16 ← Prog.lift (.load arg9 (Rect.unit (s := S512x1408) ![0, 0] S512x1408.size inb_S512x1408_S512x1408_0_0).toLoadRect (View.loadsAt_vmem h_S512x1408))
  let v2082 : Vec F S512x1408 .bf16 ← Prog.lift (.load arg9 (Rect.unit (s := S512x1408) ![0, 0] S512x1408.size inb_S512x1408_S512x1408_0_0).toLoadRect (View.loadsAt_vmem h_S512x1408))
  Prog.lift (.store arg9 (Rect.unit (s := S512x1408) ![0, 0] S512x1408.size inb_S512x1408_S512x1408_0_0) (k0_pay4 v2062 v2063 v2068 v2072 v2077) Finset.univ (View.stores_vmem h_S512x1408 (harg9.storeExact_slice rfl _ packedbf16_S512x1408_S512x1408_0_0) (fun _ => rfl)) (.inl rfl))
  pure ⟨⟩

/-- The body from the first row bound on. -/
def bodyRest (i : grid0.Coords) (arg2 : Memref sig .tc .smem S111 .i32) (arg3 : Memref sig .tc .smem S111 .i32) (arg4 : Memref sig .tc .smem S111 .i32) (arg5 : Memref sig .tc .smem S111 .i32) (arg6 : Memref sig .tc .smem S16x11x16 .f32) (arg7 : Memref sig .tc .vmem S512x2048 .bf16) (arg8 : Memref sig .tc .vmem S1x1408x2048 .fp8e4m3) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) :
    Prog (TpuEff nD τ sig (Elt F) Λ₀ .tc) PUnit := do
  let v8 : Elt F .i32 ← smemLoad arg4 (Rect.unit (s := S111) (k0_off178 i) S1.size (k0_off178_inb i)) numel1_S1 rfl
  let v10 : Elt F .i32 ← smemLoad arg5 (Rect.unit (s := S111) (k0_off178 i) S1.size (k0_off178_inb i)) numel1_S1 rfl
  if k0_h2 : k0_cond2 v8 v10 = 1#1 then
    qRun (bodyDot i arg2 arg3 arg4 arg5 arg6 arg7 arg8 arg9 harg9 arg10 harg10 arg11 harg11) arg7 arg11 harg11 qAll
  else
    pure ⟨⟩

/-- The body with its two runs as loops. -/
def body (i : grid0.Coords) (arg2 : Memref sig .tc .smem S111 .i32) (arg3 : Memref sig .tc .smem S111 .i32) (arg4 : Memref sig .tc .smem S111 .i32) (arg5 : Memref sig .tc .smem S111 .i32) (arg6 : Memref sig .tc .smem S16x11x16 .f32) (arg7 : Memref sig .tc .vmem S512x2048 .bf16) (arg8 : Memref sig .tc .vmem S1x1408x2048 .fp8e4m3) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) :
    Prog (TpuEff nD τ sig (Elt F) Λ₀ .tc) PUnit := do
  let v1 : Elt F .i32 ← smemLoad arg2 (Rect.unit (s := S111) (k0_off1 i) S1.size (k0_off1_inb i)) numel1_S1 rfl
  let v3 : Elt F .i32 ← smemLoad arg3 (Rect.unit (s := S111) (k0_off1 i) S1.size (k0_off1_inb i)) numel1_S1 rfl
  let h : PLift (k0_chk1 v1 v3) ← Prog.lift (TpuEff.assume (k0_chk1 v1 v3) (k0_chk1.dec v1 v3))
  if k0_h1 : k0_cond1 v3 = 1#1 then
    wRun (bodyRest i arg2 arg3 arg4 arg5 arg6 arg7 arg8 arg9 harg9 arg10 harg10 arg11 harg11) arg6 arg8 arg10 harg10 v1 (lt_of_chk h.down k0_h1) wAll
  else
    bodyRest i arg2 arg3 arg4 arg5 arg6 arg7 arg8 arg9 harg9 arg10 harg10 arg11 harg11

set_option maxRecDepth 65536 in
set_option maxHeartbeats 40000000 in
/-- The printed run of weight blocks is the loop, by unfolding. -/
theorem w_eq (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S111 .i32) (harg5 : arg5.IsWhole) (arg6 : Memref sig .tc .smem S16x11x16 .f32) (harg6 : arg6.IsWhole) (arg7 : Memref sig .tc .vmem S512x2048 .bf16) (harg7 : arg7.IsWhole) (arg8 : Memref sig .tc .vmem S1x1408x2048 .fp8e4m3) (harg8 : arg8.IsWhole) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) (v1 v3 : Elt F .i32) (k0_hw1 : k0_chk1 v1 v3) (k0_h1 : k0_cond1 v3 = 1#1) (K : Prog (TpuEff nD τ sig (Elt F) Λ₀ .tc) PUnit) :
    (do
    let v1927 : FVec F S128x128 .bf16 ← k0_part56 i arg1 harg1 arg2 harg2 arg3 harg3 arg4 harg4 arg5 harg5 arg6 harg6 arg7 harg7 arg8 harg8 arg9 harg9 arg10 harg10 arg11 harg11 v1 v3 k0_hw1 k0_h1
    Prog.lift (.store arg10 (Rect.unit (s := S1408x2048) ![1280, 1664] S128x128.size inb_S1408x2048_S128x128_1280_1664) v1927 Finset.univ (View.stores_vmem h_S128x128 (harg10.storeExact_slice rfl _ packedbf16_S1408x2048_S128x128_1280_1664) (fun _ => rfl)) (.inl rfl))
    let v1929 : Elt F .f32 ← smemLoad arg6 (Rect.unit (s := S16x11x16) (k0_off176 v1) S1x1x1.size (k0_off176_inb v1 v3 k0_hw1 k0_h1)) numel1_S1x1x1 rfl
    let v1932 : Vec F S1x128x128 .fp8e4m3 ← Prog.lift (.load arg8 (Rect.unit (s := S1x1408x2048) ![0, 1280, 1792] S1x128x128.size inb_S1x1408x2048_S1x128x128_0_1280_1792).toLoadRect (View.loadsAt_vmem h_S1x128x128))
    let v1936 : Vec F S128x128 .bf16 ← Prog.lift (.load arg10 (Rect.unit (s := S1408x2048) ![1280, 1792] S128x128.size inb_S1408x2048_S128x128_1280_1792).toLoadRect (View.loadsAt_vmem h_S128x128))
    Prog.lift (.store arg10 (Rect.unit (s := S1408x2048) ![1280, 1792] S128x128.size inb_S1408x2048_S128x128_1280_1792) (k0_pay1 v1929 v1932) Finset.univ (View.stores_vmem h_S128x128 (harg10.storeExact_slice rfl _ packedbf16_S1408x2048_S128x128_1280_1792) (fun _ => rfl)) (.inl rfl))
    let v1940 : Elt F .f32 ← smemLoad arg6 (Rect.unit (s := S16x11x16) (k0_off177 v1) S1x1x1.size (k0_off177_inb v1 v3 k0_hw1 k0_h1)) numel1_S1x1x1 rfl
    let v1943 : Vec F S1x128x128 .fp8e4m3 ← Prog.lift (.load arg8 (Rect.unit (s := S1x1408x2048) ![0, 1280, 1920] S1x128x128.size inb_S1x1408x2048_S1x128x128_0_1280_1920).toLoadRect (View.loadsAt_vmem h_S1x128x128))
    let v1947 : Vec F S128x128 .bf16 ← Prog.lift (.load arg10 (Rect.unit (s := S1408x2048) ![1280, 1920] S128x128.size inb_S1408x2048_S128x128_1280_1920).toLoadRect (View.loadsAt_vmem h_S128x128))
    Prog.lift (.store arg10 (Rect.unit (s := S1408x2048) ![1280, 1920] S128x128.size inb_S1408x2048_S128x128_1280_1920) (k0_pay2 v1940 v1943) Finset.univ (View.stores_vmem h_S128x128 (harg10.storeExact_slice rfl _ packedbf16_S1408x2048_S128x128_1280_1920) (fun _ => rfl)) (.inl rfl))
    K)
     = wRun K arg6 arg8 arg10 harg10 v1 (lt_of_chk k0_hw1 k0_h1) wAll := rfl

set_option maxRecDepth 65536 in
set_option maxHeartbeats 40000000 in
/-- The printed run of column blocks is the loop, by unfolding. -/
theorem q_eq (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S111 .i32) (harg5 : arg5.IsWhole) (arg6 : Memref sig .tc .smem S16x11x16 .f32) (harg6 : arg6.IsWhole) (arg7 : Memref sig .tc .vmem S512x2048 .bf16) (harg7 : arg7.IsWhole) (arg8 : Memref sig .tc .vmem S1x1408x2048 .fp8e4m3) (harg8 : arg8.IsWhole) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) (K : Prog (TpuEff nD τ sig (Elt F) Λ₀ .tc) PUnit) :
    (do
    let ⟨v2037, v2051⟩ : Σ' (v2037 : IVec S512x128 32), FVec F S512x128 .bf16 ← k0_part104 i arg1 harg1 arg2 harg2 arg3 harg3 arg4 harg4 arg5 harg5 arg6 harg6 arg7 harg7 arg8 harg8 arg9 harg9 arg10 harg10 arg11 harg11
    let v2059 : Vec F S512x128 .bf16 ← Prog.lift (.load arg11 (Rect.unit (s := S512x2048) ![0, 1920] S512x128.size inb_S512x2048_S512x128_0_1920).toLoadRect (View.loadsAt_vmem h_S512x128))
    Prog.lift (.store arg11 (Rect.unit (s := S512x2048) ![0, 1920] S512x128.size inb_S512x2048_S512x128_0_1920) (k0_pay3 v2037 v2051) Finset.univ (View.stores_vmem h_S512x128 (harg11.storeExact_slice rfl _ packedbf16_S512x2048_S512x128_0_1920) (fun _ => rfl)) (.inl rfl))
    K)
     = qRun K arg7 arg11 harg11 qAll := rfl

set_option maxRecDepth 65536 in
set_option maxHeartbeats 40000000 in
/-- The printed body is the looped one. -/
theorem body_eq (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S111 .i32) (harg5 : arg5.IsWhole) (arg6 : Memref sig .tc .smem S16x11x16 .f32) (harg6 : arg6.IsWhole) (arg7 : Memref sig .tc .vmem S512x2048 .bf16) (harg7 : arg7.IsWhole) (arg8 : Memref sig .tc .vmem S1x1408x2048 .fp8e4m3) (harg8 : arg8.IsWhole) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) :
    cc0_grouped_fp8_matmul (F := F) i arg1 harg1 arg2 harg2 arg3 harg3 arg4 harg4 arg5 harg5 arg6 harg6 arg7 harg7 arg8 harg8 arg9 harg9 arg10 harg10 arg11 harg11
     = body i arg2 arg3 arg4 arg5 arg6 arg7 arg8 arg9 harg9 arg10 harg10 arg11 harg11 := by
  rw [cc0_grouped_fp8_matmul_eq_skeleton]
  unfold cc0_grouped_fp8_matmul_skel body
  refine bind_congr fun v1 => bind_congr fun v3 => bind_congr fun h => ?_
  by_cases k0_h1 : k0_cond1 v3 = 1#1
  · simp only [dif_pos k0_h1]
    refine (w_eq i arg1 harg1 arg2 harg2 arg3 harg3 arg4 harg4 arg5 harg5 arg6 harg6 arg7 harg7 arg8 harg8 arg9 harg9 arg10 harg10 arg11 harg11 v1 v3 h.down k0_h1 _).trans ?_
    refine congrArg (fun K => wRun K arg6 arg8 arg10 harg10 v1 _ wAll) ?_
    unfold bodyRest
    refine bind_congr fun v8 => bind_congr fun v10 => ?_
    by_cases k0_h2 : k0_cond2 v8 v10 = 1#1
    · simp only [dif_pos k0_h2]
      exact q_eq i arg1 harg1 arg2 harg2 arg3 harg3 arg4 harg4 arg5 harg5 arg6 harg6 arg7 harg7 arg8 harg8 arg9 harg9 arg10 harg10 arg11 harg11 _
    · simp only [dif_neg k0_h2]
  · simp only [dif_neg k0_h1]
    unfold bodyRest
    refine bind_congr fun v8 => bind_congr fun v10 => ?_
    by_cases k0_h2 : k0_cond2 v8 v10 = 1#1
    · simp only [dif_pos k0_h2]
      exact q_eq i arg1 harg1 arg2 harg2 arg3 harg3 arg4 harg4 arg5 harg5 arg6 harg6 arg7 harg7 arg8 harg8 arg9 harg9 arg10 harg10 arg11 harg11 _
    · simp only [dif_neg k0_h2]

end Cert.Kernel.Hand
-- ==== Proof.Owned.lean ====
/-
  Loads and stores through a rectangle of a memref held whole, stated on what the memref reads: a load answers the
  rectangle's part of it, a store replaces that part.
-/
module

public import Idealize.ShloMosaic.Lib.Memref

@[expose] public section

noncomputable section

namespace Cert.Hand

open Idealize.ShloMosaic Idealize.SL
open Idealize.SL.BI (sProp)
open scoped Idealize.SL.BI
open Idealize.SL.BI.BIBase Idealize.SL.BI.Laws Idealize.SL.ProofMode Idealize.SL.Sem
open Idealize.SL.RA

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

theorem read_store {κ : Kind} {cs : Space} (m : Memref sig κ cs s e) (r : Rect s) (f : m.view.ty.Contents Val) (w : r.shape.Idx → Val e) :
    m.view.read Val ((m.access r).write Val f w Finset.univ) = r.overlay (m.view.read Val f) w := by
  funext j
  by_cases hj : j ∈ r.set
  · obtain ⟨i, rfl⟩ := r.exists_idx_of_mem hj
    refine (View.read_slice_write_emb (v := m.view) r f w (Finset.mem_univ i)).trans ?_
    exact (Rect.overlay_emb r _ w i).symm
  · rw [Rect.overlay_of_not_mem _ _ _ hj]
    refine View.read_slice_write_of_not_mem (v := m.view) r f w _ ?_
    simpa [Rect.map_emb_univ] using hj

theorem wp_load_owns {cs : CoreSpace} {m : Memref sig c.2.kind cs s e} {r : Rect s} {hl : m.view.LoadsAt r.toLoadRect} {k : (r.shape.Idx → Val e) → Prog (TpuEff nD τ sig Val Λ c.2) α}
    {q : PosShare TreeShare} {X : s.Idx → Val e} :
    owns (Ix := Ix) (Name := Name) (U := U) (Lvl := Lvl) c m q X
      ⊢ iprop((owns c m q X -∗ wp frame (wpE defs 𝒱 c bd) E (k (fun i => X (r.emb i))) Q)
        -∗ wp frame (wpE defs 𝒱 c bd) E (.op (.load m r.toLoadRect hl) k) Q) := by
  iintro H Hk
  ihave H' := (show owns c m q X ⊢ iprop(∃ g, ⌜m.view.read Val g = X⌝ ∗ m.view.loc c ↦[m.view.set]{q} g) from .rfl) $$ H
  icases H' with ⟨%g, %hg, H⟩
  subst hg
  iapply (wp_load 𝒱 c bd E (hl := hl) (View.setOn_subset_set _ _)) $$ H
  iintro H
  ihave H := (owns_intro c m q) $$ H
  iapply Hk
  iexact H

theorem wp_store_owns {cs : CoreSpace} {m : Memref sig c.2.kind cs s e} {r : Rect s} {w : r.shape.Idx → Val e} {hx : (m.access r).Stores Finset.univ} {hm : Finset.univ = Finset.univ ∨ ∀ a, r.stride a = 1}
    {k : PUnit → Prog (TpuEff nD τ sig Val Λ c.2) α} {X : s.Idx → Val e} :
    owns (Ix := Ix) (Name := Name) (U := U) (Lvl := Lvl) c m fullShare X
      ⊢ iprop((owns c m fullShare (r.overlay X w) -∗ wp frame (wpE defs 𝒱 c bd) E (k ⟨⟩) Q)
        -∗ wp frame (wpE defs 𝒱 c bd) E (.op (.store m r w Finset.univ hx hm) k) Q) := by
  iintro H Hk
  ihave H' := (show owns c m fullShare X ⊢ iprop(∃ g, ⌜m.view.read Val g = X⌝ ∗ m.view.loc c ↦[m.view.set]{fullShare} g) from .rfl) $$ H
  icases H' with ⟨%g, %hg, H⟩
  subst hg
  iapply (wp_store 𝒱 c bd E (hx := hx) (hm := hm) (S := m.view.set) (View.set_slice_subset _ _)) $$ H
  iintro H
  rw [← read_store m r g w]
  ihave H := (owns_intro c m fullShare) $$ H
  iapply Hk
  iexact H

theorem wp_smem_owns {m : Memref sig c.2.kind .smem s e} {r : Rect s} {hw : (m.access r).Loads} {x : r.shape.Idx}
    {k : Val e → Prog (TpuEff nD τ sig Val Λ c.2) α}
    {q : PosShare TreeShare} {X : s.Idx → Val e} :
    owns (Ix := Ix) (Name := Name) (U := U) (Lvl := Lvl) c m q X
      ⊢ iprop((owns c m q X -∗ wp frame (wpE defs 𝒱 c bd) E (k (X (r.emb x))) Q)
        -∗ wp frame (wpE defs 𝒱 c bd) E (smemLoadElt m r hw x k) Q) := by
  iintro H Hk
  ihave H' := (show owns c m q X ⊢ iprop(∃ g, ⌜m.view.read Val g = X⌝ ∗ m.view.loc c ↦[m.view.set]{q} g) from .rfl) $$ H
  icases H' with ⟨%g, %hg, H⟩
  subst hg
  iapply (wp_smemLoadElt 𝒱 c bd E (m := m) (r := r) (hw := hw) (x := x) (k := k) (S := m.view.set) (View.set_slice_subset _ _)) $$ H
  iintro H
  ihave H := (owns_intro c m q) $$ H
  iapply Hk
  iexact H

/-! ### The same rules for a load or store followed by the rest of a program -/

theorem wp_load_bind {cs : CoreSpace} (m : Memref sig c.2.kind cs s e) (r : Rect s) {hl : m.view.LoadsAt r.toLoadRect}
    (k : (r.shape.Idx → Val e) → Prog (TpuEff nD τ sig Val Λ c.2) α) (q : PosShare TreeShare) (X : s.Idx → Val e) :
    owns (Ix := Ix) (Name := Name) (U := U) (Lvl := Lvl) c m q X
      ⊢ iprop((owns c m q X -∗ wp frame (wpE defs 𝒱 c bd) E (k (fun i => X (r.emb i))) Q)
        -∗ wp frame (wpE defs 𝒱 c bd) E (Prog.lift (.load m r.toLoadRect hl) >>= k) Q) :=
  wp_load_owns 𝒱 c bd E (m := m) (r := r) (hl := hl) (k := k)

theorem wp_store_bind {cs : CoreSpace} (m : Memref sig c.2.kind cs s e) (r : Rect s) (w : r.shape.Idx → Val e) {hx : (m.access r).Stores Finset.univ} {hm : Finset.univ = Finset.univ ∨ ∀ a, r.stride a = 1}
    (k : PUnit → Prog (TpuEff nD τ sig Val Λ c.2) α) (X : s.Idx → Val e) :
    owns (Ix := Ix) (Name := Name) (U := U) (Lvl := Lvl) c m fullShare X
      ⊢ iprop((owns c m fullShare (r.overlay X w) -∗ wp frame (wpE defs 𝒱 c bd) E (k ⟨⟩) Q)
        -∗ wp frame (wpE defs 𝒱 c bd) E (Prog.lift (.store m r w Finset.univ hx hm) >>= k) Q) :=
  wp_store_owns 𝒱 c bd E (m := m) (r := r) (w := w) (hx := hx) (hm := hm) (k := k)

theorem wp_smem_bind (m : Memref sig c.2.kind .smem s e) (r : Rect s) (h1 : r.shape.numel = 1) (hp : e.packing = 1)
    (k : Val e → Prog (TpuEff nD τ sig Val Λ c.2) α) (q : PosShare TreeShare) (X : s.Idx → Val e) :
    owns (Ix := Ix) (Name := Name) (U := U) (Lvl := Lvl) c m q X
      ⊢ iprop((owns c m q X -∗ wp frame (wpE defs 𝒱 c bd) E (k (X (r.emb (Shape.Idx.first (h1.symm ▸ Nat.one_pos))))) Q)
        -∗ wp frame (wpE defs 𝒱 c bd) E (smemLoad m r h1 hp >>= k) Q) :=
  wp_smem_owns 𝒱 c bd E (m := m) (r := r) (hw := View.loads_smem_one hp h1) (x := Shape.Idx.first (h1.symm ▸ Nat.one_pos)) (k := k)

theorem wp_assume_bind (P : Prop) (dec : Decidable P) (h : P) (k : PLift P → Prog (TpuEff nD τ sig Val Λ c.2) α) :
    wp frame (wpE (Ix := Ix) (Name := Name) (U := U) (Lvl := Lvl) defs 𝒱 c bd) E (k ⟨h⟩) Q
      ⊢ wp frame (wpE defs 𝒱 c bd) E (Prog.lift (TpuEff.assume P dec) >>= k) Q :=
  wp_assume 𝒱 c bd E (h := h)

theorem wp_done (x : α) :
    Q x ⊢ wp frame (wpE (Ix := Ix) (Name := Name) (U := U) (Lvl := Lvl) defs 𝒱 c bd) E (pure x) Q := by
  iintro H
  rw [wp_pure]
  imodintro
  iexact H

end Cert.Hand
-- ==== Proof.BodyK.lean ====
/-
  What the kernel body does to the buffers it is handed: the first scratch buffer is overwritten by the dequantised
  weights where the expert is new, and the output tile takes the masked product where the item has rows.
-/
module

public import proofs.«01_k».proof.Proof.LoopK
public import proofs.«01_k».proof.Proof.Owned
public import proofs.«01_k».proof.Proof.Gen.Kernel.Launch
public import Idealize.ShloMosaic.Lib.Pipeline.Frame

@[expose] public section

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra that the proof runs in. -/
abbrev KM (F : FTy → Type) : Type := MT nD τ sig Unit (Elt F) ℕ (UR sig nD τ) ℕ

/-! ### The two scratch buffers as functions -/

abbrev wbRect (b : Fin 176) : Rect S1408x2048 := Rect.unit (s := S1408x2048) ![b.val / 16 * 128, b.val % 16 * 128] S128x128.size (wb_inb b)
abbrev wRect (b : Fin 176) : Rect S1x1408x2048 := Rect.unit (s := S1x1408x2048) ![0, b.val / 16 * 128, b.val % 16 * 128] S1x128x128.size (w_inb b)
abbrev scRect {e : Nat} (he : e < 16) (b : Fin 176) : Rect S16x11x16 := Rect.unit (s := S16x11x16) ![e, b.val / 16, b.val % 16] S1x1x1.size (sc_inb he b)
abbrev xRect (b : Fin 16) : Rect S512x2048 := Rect.unit (s := S512x2048) ![0, b.val * 128] S512x128.size (x_inb b)

/-- The scale of block `b` of expert `e`. -/
def scAt (S : Vec F S16x11x16 .f32) {e : Nat} (he : e < 16) (b : Fin 176) : Elt F .f32 := S ((scRect he b).emb (Shape.Idx.first (s := S1x1x1) (numel1_S1x1x1.symm ▸ Nat.one_pos)))

/-- Block `b` of expert `e`'s weights, dequantised. -/
def wBlk (S : Vec F S16x11x16 .f32) {e : Nat} (he : e < 16) (W : Vec F S1x1408x2048 .fp8e4m3) (b : Fin 176) : FVec F S128x128 .bf16 :=
  wPay (scAt S he b) (fun i => W ((wRect b).emb i))

/-- The block an element of the weights lies in, and where in it. -/
def wOf (y : S1408x2048.Idx) : Fin 176 := ⟨(y 0).val / 128 * 16 + (y 1).val / 128, by
  have h0 : (y 0).val < 1408 := (y 0).isLt
  have h1 : (y 1).val < 2048 := (y 1).isLt
  omega⟩
def wIn (y : S1408x2048.Idx) : S128x128.Idx
  | 0 => ⟨(y 0).val % 128, Nat.mod_lt _ (by decide)⟩
  | 1 => ⟨(y 1).val % 128, Nat.mod_lt _ (by decide)⟩

theorem wOf_emb (y : S1408x2048.Idx) : (wbRect (wOf y)).emb (wIn y) = y := by
  have h0 : (y 0).val < 1408 := (y 0).isLt
  have h1 : (y 1).val < 2048 := (y 1).isLt
  funext a; apply Fin.ext; rw [Rect.emb_apply]
  match a with
  | 0 => show ((y 0).val / 128 * 16 + (y 1).val / 128) / 16 * 128 + 1 * ((y 0).val % 128) = (y 0).val; omega
  | 1 => show ((y 0).val / 128 * 16 + (y 1).val / 128) % 16 * 128 + 1 * ((y 1).val % 128) = (y 1).val; omega

theorem wOf_of_mem {b : Fin 176} {y : S1408x2048.Idx} (h : y ∈ (wbRect b).set) : b = wOf y := by
  obtain ⟨x, rfl⟩ := (wbRect b).exists_idx_of_mem h
  have hb := b.isLt
  have h0 : (x 0).val < 128 := (x 0).isLt
  have h1 : (x 1).val < 128 := (x 1).isLt
  apply Fin.ext
  show b.val = (((wbRect b).emb x 0).val) / 128 * 16 + (((wbRect b).emb x 1).val) / 128
  rw [Rect.emb_apply, Rect.emb_apply]
  show b.val = (b.val / 16 * 128 + 1 * (x 0).val) / 128 * 16 + (b.val % 16 * 128 + 1 * (x 1).val) / 128
  omega

/-- Expert `e`'s weights, dequantised. -/
def deq (S : Vec F S16x11x16 .f32) {e : Nat} (he : e < 16) (W : Vec F S1x1408x2048 .fp8e4m3) : Vec F S1408x2048 .bf16 :=
  fun y => wBlk S he W (wOf y) (wIn y)

theorem wFold (S : Vec F S16x11x16 .f32) {e : Nat} (he : e < 16) (W : Vec F S1x1408x2048 .fp8e4m3) (l : List (Fin 176)) (B : Vec F S1408x2048 .bf16)
    (y : S1408x2048.Idx) (h : wOf y ∈ l ∨ B y = deq S he W y) :
    l.foldl (fun B b => (wbRect b).overlay B (wBlk S he W b)) B y = deq S he W y := by
  induction l generalizing B with
  | nil => exact h.resolve_left (List.not_mem_nil)
  | cons b l ih =>
    refine ih _ ?_
    by_cases hb : b = wOf y
    · right
      subst hb
      have := Rect.overlay_emb (wbRect (wOf y)) B (wBlk S he W (wOf y)) (wIn y)
      rw [wOf_emb] at this
      exact this
    · show wOf y ∈ l ∨ (wbRect b).overlay B (wBlk S he W b) y = _
      rw [Rect.overlay_of_not_mem _ _ _ (fun hy => hb (wOf_of_mem hy))]
      rcases h with h | h
      · left
        exact (List.mem_cons.1 h).resolve_left (fun e => hb e.symm)
      · exact .inr h

set_option maxRecDepth 20000 in
theorem wAll_eq : wAll = List.finRange 176 := by decide

theorem wFold_all (S : Vec F S16x11x16 .f32) {e : Nat} (he : e < 16) (W : Vec F S1x1408x2048 .fp8e4m3) (B : Vec F S1408x2048 .bf16) :
    wAll.foldl (fun B b => (wbRect b).overlay B (wBlk S he W b)) B = deq S he W :=
  funext fun y => wFold S he W _ B y (.inl (wAll_eq ▸ List.mem_finRange _))

/-- The column block an element of the row tile lies in, and where in it. -/
def xOf (y : S512x2048.Idx) : Fin 16 := ⟨(y 1).val / 128, by
  have h1 : (y 1).val < 2048 := (y 1).isLt
  omega⟩
def xIn (y : S512x2048.Idx) : S512x128.Idx
  | 0 => ⟨(y 0).val, (y 0).isLt⟩
  | 1 => ⟨(y 1).val % 128, Nat.mod_lt _ (by decide)⟩

theorem xOf_emb (y : S512x2048.Idx) : (xRect (xOf y)).emb (xIn y) = y := by
  have h1 : (y 1).val < 2048 := (y 1).isLt
  funext a; apply Fin.ext; rw [Rect.emb_apply]
  match a with
  | 0 => show 0 + 1 * (y 0).val = (y 0).val; omega
  | 1 => show (y 1).val / 128 * 128 + 1 * ((y 1).val % 128) = (y 1).val; omega

theorem xOf_of_mem {b : Fin 16} {y : S512x2048.Idx} (h : y ∈ (xRect b).set) : b = xOf y := by
  obtain ⟨x, rfl⟩ := (xRect b).exists_idx_of_mem h
  have h1 : (x 1).val < 128 := (x 1).isLt
  apply Fin.ext
  show b.val = (((xRect b).emb x 1).val) / 128
  rw [Rect.emb_apply]
  show b.val = (b.val * 128 + 1 * (x 1).val) / 128
  omega

/-- The row tile, quantised and widened again, column block by column block. -/
def qnt (X : Vec F S512x2048 .bf16) : Vec F S512x2048 .bf16 :=
  fun y => qPay (fun i => X ((xRect (xOf y)).emb i)) (xIn y)

theorem qFold (X : Vec F S512x2048 .bf16) (l : List (Fin 16)) (B : Vec F S512x2048 .bf16)
    (y : S512x2048.Idx) (h : xOf y ∈ l ∨ B y = qnt X y) :
    l.foldl (fun B b => (xRect b).overlay B (qPay (fun i => X ((xRect b).emb i)))) B y = qnt X y := by
  induction l generalizing B with
  | nil => exact h.resolve_left (List.not_mem_nil)
  | cons b l ih =>
    refine ih _ ?_
    by_cases hb : b = xOf y
    · right
      subst hb
      have := Rect.overlay_emb (xRect (xOf y)) B (qPay (fun i => X ((xRect (xOf y)).emb i))) (xIn y)
      rw [xOf_emb] at this
      exact this
    · show xOf y ∈ l ∨ (xRect b).overlay B (qPay (fun i => X ((xRect b).emb i))) y = _
      rw [Rect.overlay_of_not_mem _ _ _ (fun hy => hb (xOf_of_mem hy))]
      rcases h with h | h
      · left
        exact (List.mem_cons.1 h).resolve_left (fun e => hb e.symm)
      · exact .inr h

theorem qFold_all (X B : Vec F S512x2048 .bf16) :
    qAll.foldl (fun B b => (xRect b).overlay B (qPay (fun i => X ((xRect b).emb i)))) B = qnt X :=
  funext fun y => qFold X _ B y (.inl (by have h : qAll = List.finRange 16 := by decide
                                          exact h ▸ List.mem_finRange _))

/-! ### The runs -/

variable (c : Dev nD) (E : Set ℕ) {Q : PUnit → sProp (KM F)}

theorem wp_wRun (K : Prog (TpuEff nD τ sig (Elt F) Λ₀ .tc) PUnit) (arg6 : Memref sig .tc .smem S16x11x16 .f32) (arg8 : Memref sig .tc .vmem S1x1408x2048 .fp8e4m3)
    (arg10 : Memref sig .tc .vmem S1408x2048 .bf16) (harg10 : arg10.IsWhole) (v1 : Elt F .i32) (he : (Scalar.indexCast v1 : BitVec 32).toNat < 16)
    (S : Vec F S16x11x16 .f32) (W : Vec F S1x1408x2048 .fp8e4m3) (l : List (Fin 176)) (B : Vec F S1408x2048 .bf16) :
    iprop(owns (c : Thread nD τ) arg6 fullShare S ∗ owns (c : Thread nD τ) arg8 fullShare W ∗ owns (c : Thread nD τ) arg10 fullShare B)
      ⊢ iprop(((owns (c : Thread nD τ) arg6 fullShare S ∗ owns (c : Thread nD τ) arg8 fullShare W
            ∗ owns (c : Thread nD τ) arg10 fullShare (l.foldl (fun B b => (wbRect b).overlay B (wBlk S he W b)) B))
          -∗ wp frame (wpE (defs₀ (F := F)) Variants.none (c : Thread nD τ) none) E K Q)
        -∗ wp frame (wpE (defs₀ (F := F)) Variants.none (c : Thread nD τ) none) E (wRun K arg6 arg8 arg10 harg10 v1 he l) Q) := by
  induction l generalizing B with
  | nil =>
    iintro H Hk
    iapply Hk
    iexact H
  | cons b l ih =>
    iintro ⟨HS, HW, HB⟩ Hk
    unfold wRun wStep
    simp only [bind_assoc]
    iapply (wp_smem_bind Variants.none (c : Thread nD τ) none E arg6 (scRect he b) _ _ _ _ _) $$ HS
    iintro HS
    iapply (wp_load_bind Variants.none (c : Thread nD τ) none E arg8 (wRect b) _ _ _) $$ HW
    iintro HW
    iapply (wp_load_bind Variants.none (c : Thread nD τ) none E arg10 (wbRect b) _ _ _) $$ HB
    iintro HB
    iapply (wp_store_bind Variants.none (c : Thread nD τ) none E arg10 (wbRect b) _ _ _) $$ HB
    iintro HB
    iapply (ih ((wbRect b).overlay B (wBlk S he W b))) $$ [HS HW HB]
    · isplitl [HS]; · iexact HS
      isplitl [HW]; · iexact HW
      iexact HB
    iexact Hk

theorem wp_qRun (K : Prog (TpuEff nD τ sig (Elt F) Λ₀ .tc) PUnit) (arg7 : Memref sig .tc .vmem S512x2048 .bf16) (arg11 : Memref sig .tc .vmem S512x2048 .bf16) (harg11 : arg11.IsWhole)
    (X : Vec F S512x2048 .bf16) (l : List (Fin 16)) (B : Vec F S512x2048 .bf16) :
    iprop(owns (c : Thread nD τ) arg7 fullShare X ∗ owns (c : Thread nD τ) arg11 fullShare B)
      ⊢ iprop(((owns (c : Thread nD τ) arg7 fullShare X
            ∗ owns (c : Thread nD τ) arg11 fullShare (l.foldl (fun B b => (xRect b).overlay B (qPay (fun i => X ((xRect b).emb i)))) B))
          -∗ wp frame (wpE (defs₀ (F := F)) Variants.none (c : Thread nD τ) none) E K Q)
        -∗ wp frame (wpE (defs₀ (F := F)) Variants.none (c : Thread nD τ) none) E (qRun K arg7 arg11 harg11 l) Q) := by
  induction l generalizing B with
  | nil =>
    iintro H Hk
    iapply Hk
    iexact H
  | cons b l ih =>
    iintro ⟨HX, HB⟩ Hk
    unfold qRun qStep
    simp only [bind_assoc]
    iapply (wp_load_bind Variants.none (c : Thread nD τ) none E arg7 (xRect b) _ _ _) $$ HX
    iintro HX
    iapply (wp_load_bind Variants.none (c : Thread nD τ) none E arg11 (xRect b) _ _ _) $$ HB
    iintro HB
    iapply (wp_store_bind Variants.none (c : Thread nD τ) none E arg11 (xRect b) _ _ _) $$ HB
    iintro HB
    iapply (ih ((xRect b).overlay B (qPay (fun i => X ((xRect b).emb i))))) $$ [HX HB]
    · isplitl [HX]; · iexact HX
      iexact HB
    iexact Hk

/-! ### The body -/

/-- The word of a table at item `i`. -/
def tabAt (i : grid0.Coords) (T : Vec F S111 .i32) : BitVec 32 :=
  T ((Rect.unit (s := S111) (k0_off1 i) S1.size (k0_off1_inb i)).emb (Shape.Idx.first (s := S1) (numel1_S1.symm ▸ Nat.one_pos)))

/-- What the item leaves in the output tile. -/
def outOf (lo hi : BitVec 32) (X : Vec F S512x2048 .bf16) (B : Vec F S1408x2048 .bf16) (Y : Vec F S512x1408 .bf16) : Vec F S512x1408 .bf16 :=
  if k0_cond2 lo hi = 1#1 then k0_pay4 (qnt X) B lo hi Y else Y

/-- What the item leaves in the first scratch buffer. -/
def scrOf (S : Vec F S16x11x16 .f32) (e : BitVec 32) (he : (Scalar.indexCast e : BitVec 32).toNat < 16) (nw : BitVec 32) (W : Vec F S1x1408x2048 .fp8e4m3) (B : Vec F S1408x2048 .bf16) : Vec F S1408x2048 .bf16 :=
  if k0_cond1 nw = 1#1 then deq S he W else B

theorem emb_full {s : Shape} {off : Fin s.rank → Nat} (hoff : off = fun _ => 0) {h : ∀ a, off a + s.size a ≤ s.size a} (y : s.Idx) :
    (Rect.unit (s := s) off s.size h).emb y = y := by
  subst hoff
  funext a; apply Fin.ext; rw [Rect.emb_apply]; show 0 + 1 * (y a).val = (y a).val; omega

theorem overlay_full {s : Shape} {e : EltTy} {off : Fin s.rank → Nat} (hoff : off = fun _ => 0) {h : ∀ a, off a + s.size a ≤ s.size a} (X : s.Idx → Elt F e) (w : s.Idx → Elt F e) :
    (Rect.unit (s := s) off s.size h).overlay X w = w := by
  funext y
  have := Rect.overlay_emb (Rect.unit (s := s) off s.size h) X w y
  rw [emb_full hoff y] at this
  exact this

theorem zeros2 : (![0, 0] : Fin 2 → Nat) = fun _ => 0 := by funext a; fin_cases a <;> rfl

theorem pay4_congr {A A' : Vec F S512x2048 .bf16} {B B' : Vec F S1408x2048 .bf16} {Y Y' : Vec F S512x1408 .bf16} (lo hi : Elt F .i32) (hA : A = A') (hB : B = B') (hY : Y = Y') :
    k0_pay4 A B lo hi Y = k0_pay4 A' B' lo hi Y' := by subst hA hB hY; rfl

theorem pay4_overlay (A : Vec F S512x2048 .bf16) (B : Vec F S1408x2048 .bf16) (lo hi : Elt F .i32) (Y : Vec F S512x1408 .bf16) :
    (Rect.unit (s := S512x1408) ![0, 0] S512x1408.size inb_S512x1408_S512x1408_0_0).overlay Y
      (k0_pay4 (fun i => A ((Rect.unit (s := S512x2048) ![0, 0] S512x2048.size inb_S512x2048_S512x2048_0_0).emb i))
        (fun i => B ((Rect.unit (s := S1408x2048) ![0, 0] S1408x2048.size inb_S1408x2048_S1408x2048_0_0).emb i)) lo hi
        (fun i => Y ((Rect.unit (s := S512x1408) ![0, 0] S512x1408.size inb_S512x1408_S512x1408_0_0).emb i))) = k0_pay4 A B lo hi Y :=
  (overlay_full (F := F) zeros2 Y _).trans
    (pay4_congr lo hi (funext fun j => congrArg A (emb_full zeros2 j)) (funext fun j => congrArg B (emb_full zeros2 j)) (funext fun j => congrArg Y (emb_full zeros2 j)))

theorem wp_bodyRows (i : grid0.Coords) (arg2 arg3 arg4 arg5 : Memref sig .tc .smem S111 .i32) (arg6 : Memref sig .tc .smem S16x11x16 .f32) (arg7 : Memref sig .tc .vmem S512x2048 .bf16) (arg8 : Memref sig .tc .vmem S1x1408x2048 .fp8e4m3)
    (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole)
    (q4 q5 : PosShare TreeShare) (T4 T5 : Vec F S111 .i32) (X : Vec F S512x2048 .bf16) (Y : Vec F S512x1408 .bf16) (B : Vec F S1408x2048 .bf16) (Z : Vec F S512x2048 .bf16) :
    iprop(owns (c : Thread nD τ) arg4 q4 T4 ∗ owns (c : Thread nD τ) arg5 q5 T5 ∗ owns (c : Thread nD τ) arg7 fullShare X
        ∗ owns (c : Thread nD τ) arg9 fullShare Y ∗ owns (c : Thread nD τ) arg10 fullShare B ∗ owns (c : Thread nD τ) arg11 fullShare Z)
      ⊢ iprop(((owns (c : Thread nD τ) arg4 q4 T4 ∗ owns (c : Thread nD τ) arg5 q5 T5 ∗ owns (c : Thread nD τ) arg7 fullShare X
        ∗ owns (c : Thread nD τ) arg9 fullShare (outOf (tabAt i T4) (tabAt i T5) X B Y) ∗ owns (c : Thread nD τ) arg10 fullShare B ∗ (∃ Z, owns (c : Thread nD τ) arg11 fullShare Z)) -∗ Q ⟨⟩)
        -∗ wp frame (wpE (defs₀ (F := F)) Variants.none (c : Thread nD τ) none) E (if k0_h2 : k0_cond2 (tabAt i T4) (tabAt i T5) = 1#1 then
            qRun (bodyDot i arg2 arg3 arg4 arg5 arg6 arg7 arg8 arg9 harg9 arg10 harg10 arg11 harg11) arg7 arg11 harg11 qAll
          else
            pure ⟨⟩) Q) := by
  iintro ⟨H4, H5, H7, H9, H10, H11⟩ Hk
  by_cases h2 : k0_cond2 (tabAt i T4) (tabAt i T5) = 1#1
  · rw [dif_pos (show k0_cond2 _ _ = 1#1 from h2)]
    iapply (wp_qRun c E _ arg7 arg11 harg11 X qAll Z) $$ [H7 H11]
    · isplitl [H7]; · iexact H7
      iexact H11
    iintro ⟨H7, H11⟩
    rw [qFold_all]
    unfold bodyDot
    iapply (wp_load_bind Variants.none (c : Thread nD τ) none E arg11 _ _ _ _) $$ H11
    iintro H11
    iapply (wp_load_bind Variants.none (c : Thread nD τ) none E arg10 _ _ _ _) $$ H10
    iintro H10
    iapply (wp_smem_bind Variants.none (c : Thread nD τ) none E arg4 _ _ _ _ _ _) $$ H4
    iintro H4
    iapply (wp_smem_bind Variants.none (c : Thread nD τ) none E arg5 _ _ _ _ _ _) $$ H5
    iintro H5
    iapply (wp_load_bind Variants.none (c : Thread nD τ) none E arg9 _ _ _ _) $$ H9
    iintro H9
    iapply (wp_load_bind Variants.none (c : Thread nD τ) none E arg9 _ _ _ _) $$ H9
    iintro H9
    iapply (wp_store_bind Variants.none (c : Thread nD τ) none E arg9 _ _ _ _) $$ H9
    iintro H9
    iapply (wp_done Variants.none (c : Thread nD τ) none E _) $$ [-]
    iapply Hk
    isplitl [H4]; · iexact H4
    isplitl [H5]; · iexact H5
    isplitl [H7]; · iexact H7
    isplitl [H9]
    · have e : outOf (tabAt i T4) (tabAt i T5) X B Y = k0_pay4 (qnt X) B (tabAt i T4) (tabAt i T5) Y := if_pos h2
      rw [e, ← pay4_overlay (qnt X) B (tabAt i T4) (tabAt i T5) Y]
      iexact H9
    isplitl [H10]; · iexact H10
    iexists _; iexact H11
  · rw [dif_neg (show ¬ k0_cond2 _ _ = 1#1 from h2)]
    iapply (wp_done Variants.none (c : Thread nD τ) none E _) $$ [-]
    iapply Hk
    have e : outOf (tabAt i T4) (tabAt i T5) X B Y = Y := if_neg h2
    rw [e]
    isplitl [H4]; · iexact H4
    isplitl [H5]; · iexact H5
    isplitl [H7]; · iexact H7
    isplitl [H9]; · iexact H9
    isplitl [H10]; · iexact H10
    iexists _; iexact H11

theorem wp_bodyRest (i : grid0.Coords) (arg2 arg3 arg4 arg5 : Memref sig .tc .smem S111 .i32) (arg6 : Memref sig .tc .smem S16x11x16 .f32) (arg7 : Memref sig .tc .vmem S512x2048 .bf16) (arg8 : Memref sig .tc .vmem S1x1408x2048 .fp8e4m3)
    (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole)
    (q4 q5 : PosShare TreeShare) (T4 T5 : Vec F S111 .i32) (X : Vec F S512x2048 .bf16) (Y : Vec F S512x1408 .bf16) (B : Vec F S1408x2048 .bf16) (Z : Vec F S512x2048 .bf16) :
    iprop(owns (c : Thread nD τ) arg4 q4 T4 ∗ owns (c : Thread nD τ) arg5 q5 T5 ∗ owns (c : Thread nD τ) arg7 fullShare X
        ∗ owns (c : Thread nD τ) arg9 fullShare Y ∗ owns (c : Thread nD τ) arg10 fullShare B ∗ owns (c : Thread nD τ) arg11 fullShare Z)
      ⊢ iprop(((owns (c : Thread nD τ) arg4 q4 T4 ∗ owns (c : Thread nD τ) arg5 q5 T5 ∗ owns (c : Thread nD τ) arg7 fullShare X
        ∗ owns (c : Thread nD τ) arg9 fullShare (outOf (tabAt i T4) (tabAt i T5) X B Y) ∗ owns (c : Thread nD τ) arg10 fullShare B ∗ (∃ Z, owns (c : Thread nD τ) arg11 fullShare Z)) -∗ Q ⟨⟩)
        -∗ wp frame (wpE (defs₀ (F := F)) Variants.none (c : Thread nD τ) none) E (bodyRest i arg2 arg3 arg4 arg5 arg6 arg7 arg8 arg9 harg9 arg10 harg10 arg11 harg11) Q) := by
  iintro ⟨H4, H5, H7, H9, H10, H11⟩ Hk
  unfold bodyRest
  iapply (wp_smem_bind Variants.none (c : Thread nD τ) none E arg4 _ _ _ _ _ _) $$ H4
  iintro H4
  iapply (wp_smem_bind Variants.none (c : Thread nD τ) none E arg5 _ _ _ _ _ _) $$ H5
  iintro H5
  iapply (wp_bodyRows c E i arg2 arg3 arg4 arg5 arg6 arg7 arg8 arg9 harg9 arg10 harg10 arg11 harg11 q4 q5 T4 T5 X Y B Z) $$ [H4 H5 H7 H9 H10 H11]
  · isplitl [H4]; · iexact H4
    isplitl [H5]; · iexact H5
    isplitl [H7]; · iexact H7
    isplitl [H9]; · iexact H9
    isplitl [H10]; · iexact H10
    iexact H11
  iexact Hk

theorem wp_bodyChk (v1 v3 : BitVec 32) (i : grid0.Coords) (arg2 arg3 arg4 arg5 : Memref sig .tc .smem S111 .i32) (arg6 : Memref sig .tc .smem S16x11x16 .f32) (arg7 : Memref sig .tc .vmem S512x2048 .bf16) (arg8 : Memref sig .tc .vmem S1x1408x2048 .fp8e4m3)
    (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole)
    (q2 q3 q4 q5 : PosShare TreeShare) (T2 T3 T4 T5 : Vec F S111 .i32) (S : Vec F S16x11x16 .f32) (X : Vec F S512x2048 .bf16) (W : Vec F S1x1408x2048 .fp8e4m3) (Y : Vec F S512x1408 .bf16) (B : Vec F S1408x2048 .bf16) (Z : Vec F S512x2048 .bf16)
    (hchk : k0_chk1 v1 v3) (he : (Scalar.indexCast v1 : BitVec 32).toNat < 16) :
    iprop(owns (c : Thread nD τ) arg2 q2 T2 ∗ owns (c : Thread nD τ) arg3 q3 T3 ∗ owns (c : Thread nD τ) arg4 q4 T4 ∗ owns (c : Thread nD τ) arg5 q5 T5
        ∗ owns (c : Thread nD τ) arg6 fullShare S ∗ owns (c : Thread nD τ) arg7 fullShare X ∗ owns (c : Thread nD τ) arg8 fullShare W
        ∗ owns (c : Thread nD τ) arg9 fullShare Y ∗ owns (c : Thread nD τ) arg10 fullShare B ∗ owns (c : Thread nD τ) arg11 fullShare Z)
      ⊢ iprop(((owns (c : Thread nD τ) arg2 q2 T2 ∗ owns (c : Thread nD τ) arg3 q3 T3 ∗ owns (c : Thread nD τ) arg4 q4 T4 ∗ owns (c : Thread nD τ) arg5 q5 T5
        ∗ owns (c : Thread nD τ) arg6 fullShare S ∗ owns (c : Thread nD τ) arg7 fullShare X ∗ owns (c : Thread nD τ) arg8 fullShare W
        ∗ owns (c : Thread nD τ) arg9 fullShare (outOf (tabAt i T4) (tabAt i T5) X (scrOf S v1 he v3 W B) Y)
        ∗ owns (c : Thread nD τ) arg10 fullShare (scrOf S v1 he v3 W B) ∗ (∃ Z, owns (c : Thread nD τ) arg11 fullShare Z)) -∗ Q ⟨⟩)
        -∗ wp frame (wpE (defs₀ (F := F)) Variants.none (c : Thread nD τ) none) E (Prog.lift (TpuEff.assume (k0_chk1 v1 v3) (k0_chk1.dec v1 v3)) >>= fun h =>
          if k0_h1 : k0_cond1 v3 = 1#1 then
            wRun (bodyRest i arg2 arg3 arg4 arg5 arg6 arg7 arg8 arg9 harg9 arg10 harg10 arg11 harg11) arg6 arg8 arg10 harg10 v1 (lt_of_chk h.down k0_h1) wAll
          else
            bodyRest i arg2 arg3 arg4 arg5 arg6 arg7 arg8 arg9 harg9 arg10 harg10 arg11 harg11) Q) := by
  iintro ⟨H2, H3, H4, H5, H6, H7, H8, H9, H10, H11⟩ Hk
  iapply (wp_assume_bind Variants.none (c : Thread nD τ) none E _ _ hchk _) $$ [-]
  by_cases h1 : k0_cond1 v3 = 1#1
  · rw [dif_pos (show k0_cond1 _ = 1#1 from h1)]
    iapply (wp_wRun c E _ arg6 arg8 arg10 harg10 v1 he S W wAll B) $$ [H6 H8 H10]
    · isplitl [H6]; · iexact H6
      isplitl [H8]; · iexact H8
      iexact H10
    iintro ⟨H6, H8, H10⟩
    rw [wFold_all]
    have e : scrOf S v1 he v3 W B = deq S he W := if_pos h1
    rw [e]
    iapply (wp_bodyRest c E i arg2 arg3 arg4 arg5 arg6 arg7 arg8 arg9 harg9 arg10 harg10 arg11 harg11 q4 q5 T4 T5 X Y (deq S he W) Z) $$ [H4 H5 H7 H9 H10 H11]
    · isplitl [H4]; · iexact H4
      isplitl [H5]; · iexact H5
      isplitl [H7]; · iexact H7
      isplitl [H9]; · iexact H9
      isplitl [H10]; · iexact H10
      iexact H11
    iintro ⟨H4, H5, H7, H9, H10, H11⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [dif_neg (show ¬ k0_cond1 _ = 1#1 from h1)]
    have e : scrOf S v1 he v3 W B = B := if_neg h1
    rw [e]
    iapply (wp_bodyRest c E i arg2 arg3 arg4 arg5 arg6 arg7 arg8 arg9 harg9 arg10 harg10 arg11 harg11 q4 q5 T4 T5 X Y B Z) $$ [H4 H5 H7 H9 H10 H11]
    · isplitl [H4]; · iexact H4
      isplitl [H5]; · iexact H5
      isplitl [H7]; · iexact H7
      isplitl [H9]; · iexact H9
      isplitl [H10]; · iexact H10
      iexact H11
    iintro ⟨H4, H5, H7, H9, H10, H11⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem wp_body (i : grid0.Coords) (arg2 arg3 arg4 arg5 : Memref sig .tc .smem S111 .i32) (arg6 : Memref sig .tc .smem S16x11x16 .f32) (arg7 : Memref sig .tc .vmem S512x2048 .bf16) (arg8 : Memref sig .tc .vmem S1x1408x2048 .fp8e4m3)
    (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole)
    (q2 q3 q4 q5 : PosShare TreeShare) (T2 T3 T4 T5 : Vec F S111 .i32) (S : Vec F S16x11x16 .f32) (X : Vec F S512x2048 .bf16) (W : Vec F S1x1408x2048 .fp8e4m3) (Y : Vec F S512x1408 .bf16) (B : Vec F S1408x2048 .bf16) (Z : Vec F S512x2048 .bf16)
    (hchk : k0_chk1 (tabAt i T2) (tabAt i T3)) (he : (Scalar.indexCast (tabAt i T2) : BitVec 32).toNat < 16) :
    iprop(owns (c : Thread nD τ) arg2 q2 T2 ∗ owns (c : Thread nD τ) arg3 q3 T3 ∗ owns (c : Thread nD τ) arg4 q4 T4 ∗ owns (c : Thread nD τ) arg5 q5 T5
        ∗ owns (c : Thread nD τ) arg6 fullShare S ∗ owns (c : Thread nD τ) arg7 fullShare X ∗ owns (c : Thread nD τ) arg8 fullShare W
        ∗ owns (c : Thread nD τ) arg9 fullShare Y ∗ owns (c : Thread nD τ) arg10 fullShare B ∗ owns (c : Thread nD τ) arg11 fullShare Z)
      ⊢ iprop(((owns (c : Thread nD τ) arg2 q2 T2 ∗ owns (c : Thread nD τ) arg3 q3 T3 ∗ owns (c : Thread nD τ) arg4 q4 T4 ∗ owns (c : Thread nD τ) arg5 q5 T5
        ∗ owns (c : Thread nD τ) arg6 fullShare S ∗ owns (c : Thread nD τ) arg7 fullShare X ∗ owns (c : Thread nD τ) arg8 fullShare W
        ∗ owns (c : Thread nD τ) arg9 fullShare (outOf (tabAt i T4) (tabAt i T5) X (scrOf S (tabAt i T2) he (tabAt i T3) W B) Y)
        ∗ owns (c : Thread nD τ) arg10 fullShare (scrOf S (tabAt i T2) he (tabAt i T3) W B) ∗ (∃ Z, owns (c : Thread nD τ) arg11 fullShare Z)) -∗ Q ⟨⟩)
        -∗ wp frame (wpE (defs₀ (F := F)) Variants.none (c : Thread nD τ) none) E (body i arg2 arg3 arg4 arg5 arg6 arg7 arg8 arg9 harg9 arg10 harg10 arg11 harg11) Q) := by
  iintro ⟨H2, H3, H4, H5, H6, H7, H8, H9, H10, H11⟩ Hk
  unfold body
  iapply (wp_smem_bind Variants.none (c : Thread nD τ) none E arg2 _ _ _ _ _ _) $$ H2
  iintro H2
  iapply (wp_smem_bind Variants.none (c : Thread nD τ) none E arg3 _ _ _ _ _ _) $$ H3
  iintro H3
  iapply (wp_bodyChk c E (tabAt i T2) (tabAt i T3) i arg2 arg3 arg4 arg5 arg6 arg7 arg8 arg9 harg9 arg10 harg10 arg11 harg11 q2 q3 q4 q5 T2 T3 T4 T5 S X W Y B Z hchk he) $$ [H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hk

end Cert.Kernel.Hand
-- ==== Proof.RunK.lean ====
/-
  The kernel's run at any admissible tables whose experts are real ones and whose flags mark the changes of expert:
  every tile is written back as the items of the tile leave it.
-/
module

public import proofs.«01_k».proof.Proof.BodyK
public import Idealize.ShloMosaic.Lib.Pipeline.Frame

@[expose] public section

noncomputable section

namespace Cert.Kernel.Hand

open Cert.Kernel Cert.Kernel.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

section Data

variable (a : (p : Fin 1) → (pcfgs (F := F) p).Adm)
variable (V : (c : Dev nD) → (b : Ref sig .tc) → Buf (Elt F) ((c.tc : Thread nD τ).loc b))

/-- The pipeline at the tables. -/
abbrev kcfg : Pipeline.Cfg sig Λ₀ := Pipeline.pin (pcfgs (F := F)) a 0

/-- The word of table `k` at item `t`. -/
def word (k : Fin 5) (t : Fin 111) : BitVec 32 :=
  match k with
  | 0 => tabAt (F := F) (grid0.coords t) ((a 0).1 0)
  | 1 => tabAt (F := F) (grid0.coords t) ((a 0).1 1)
  | 2 => tabAt (F := F) (grid0.coords t) ((a 0).1 2)
  | 3 => tabAt (F := F) (grid0.coords t) ((a 0).1 3)
  | 4 => tabAt (F := F) (grid0.coords t) ((a 0).1 4)

/-- The row tile, the expert's weights and the scales as the windows stage them at item `t`. -/
def xAt (c : Dev nD) (t : Fin 111) : Vec F S512x2048 .bf16 := ((kcfg a).win 1 |>.blk t).view.read (Elt F) (V c main_arg0)
def wAt (c : Dev nD) (t : Fin 111) : Vec F S1x1408x2048 .fp8e4m3 := ((kcfg a).win 2 |>.blk t).view.read (Elt F) (V c main_arg2)
def sAt (c : Dev nD) : Vec F S16x11x16 .f32 := V c main_arg3

/-- What the tables must satisfy for the body to run and for its scratch to hold the current expert's weights. -/
structure Sched : Prop where
  expert : ∀ t : Fin 111, (Scalar.indexCast (word a 1 t) : BitVec 32).toNat < 16
  first : k0_cond1 (word a 2 0) = 1#1
  same : ∀ (t : Nat) (h : t + 1 < 111), k0_cond1 (word a 2 ⟨t + 1, h⟩) ≠ 1#1 → word a 1 ⟨t + 1, h⟩ = word a 1 ⟨t, by omega⟩

variable {a}

/-- The dequantised weights of item `t`'s expert. -/
def wbAt (hs : Sched a) (c : Dev nD) (t : Fin 111) : Vec F S1408x2048 .bf16 := deq (sAt V c) (hs.expert t) (wAt a V c t)

/-- The body's invariant: the first scratch buffer holds the dequantised weights of the last item's expert. -/
def ΦK (hs : Sched a) (c : Dev nD) (t : Nat) : sProp (KM F) :=
  iprop((∃ B : Vec F S1408x2048 .bf16, ⌜∀ h : 0 < t ∧ t - 1 < 111, B = wbAt V hs c ⟨t - 1, h.2⟩⌝ ∗ owns (c : Thread nD τ) (Memref.whole cc0_scratch0) fullShare B)
    ∗ (∃ Z : Vec F S512x2048 .bf16, owns (c : Thread nD τ) (Memref.whole cc0_scratch1) fullShare Z) ∗ (∃ r, prngReg c r) ∗ Pipeline.ΦT pre0 (a 0).1 c)

/-- The run's data. -/
def rdat (hs : Sched a) (c : Dev nD) : RDat τ (Elt F) Unit ℕ (UR sig nD τ) ℕ (kcfg a) c where
  A w := V c (Pipeline.arrRef spec0 w)
  after := fun
    | 0 => fun _ Y X => X = Y
    | 1 => fun _ Y X => X = Y
    | 2 => fun _ Y X => X = Y
    | 3 => fun t Y X => X = outOf (word a 3 t) (word a 4 t) (xAt a V c t) (wbAt V hs c t) Y
    | ⟨_ + 4, h⟩ => absurd h (Nat.not_lt.2 (Nat.le_add_left _ _))
  Φ t := ΦK V hs c t.val
  q _ := fullShare
  owed _ := 0

/-- A window left as found holds its block at every item. -/
theorem finds_in (hs : Sched a) (c : Dev nD) (w : Fin 4) (hin : ((kcfg a).win w).isOut = false)
    (hafter : ∀ t Y X, (rdat V hs c).after w t Y X → X = Y)
    (hfull : ∀ t d, (rdat V hs c).fetched w t d = (rdat V hs c).fetched w t (fun _ => Classical.arbitrary _)) :
    ∀ (n : Nat) (t : Fin (kcfg a).N), t.val = n → ∀ Y, (rdat V hs c).Finds w t Y → Y = (rdat V hs c).fetched w t (fun _ => Classical.arbitrary _) := by
  intro n
  induction n with
  | zero =>
    intro t ht Y hY
    have hf : ((kcfg a).win w).fetch t = true := by
      unfold Pipeline.Window.fetch; rw [hin]; simp [ht]
    rw [(rdat V hs c).finds_of_fetch hf] at hY
    obtain ⟨d, rfl⟩ := hY
    exact hfull t d
  | succ n ih =>
    intro t ht Y hY
    cases hf : ((kcfg a).win w).fetch t with
    | true =>
      rw [(rdat V hs c).finds_of_fetch hf] at hY
      obtain ⟨d, rfl⟩ := hY
      exact hfull t d
    | false =>
      rw [(rdat V hs c).finds_of_pos hf (by omega)] at hY
      have hnf : ∀ u, ((kcfg a).win w).flush u = false := fun u => by unfold Pipeline.Window.flush; rw [hin]; rfl
      rcases hY with hY | ⟨Y', hY', hYX⟩
      · rw [hnf] at hY; exact absurd hY Bool.false_ne_true
      · rw [hafter _ _ _ hYX, ih ⟨t.val - 1, _⟩ (by show t.val - 1 = n; omega) Y' hY']
        refine ((rdat V hs c).fetched_congr w ?_ ?_ _)
        · have := hf
          unfold Pipeline.Window.fetch at this
          rw [hin] at this
          simp only [Bool.not_false, Bool.true_and, Bool.or_eq_false_iff, decide_eq_false_iff_not] at this
          by_contra hne
          exact this.2 ⟨by omega, fun h => hne h.symm⟩
        · match w with
          | 0 => rfl
          | 1 => rfl
          | 2 => rfl
          | 3 => rfl

/-- An element that the fetch at `t` moves is the block's. -/
theorem fetched_moved (hs : Sched a) (c : Dev nD) (w : Fin 4) (t : Fin (kcfg a).N) (d) (j : ((kcfg a).win w).block.Idx)
    (hm : ((kcfg a).win w).moved ((kcfg a).grid.coords t) j = true) :
    (rdat V hs c).fetched w t d j = (rdat V hs c).blockOf w t fun b => ⟨(j b).val, (((kcfg a).win w).moved_iff _ j).mp hm b⟩ := by
  unfold RDat.fetched Pipeline.Window.fill
  rw [dif_pos hm]

theorem finds0 (hs : Sched a) (c : Dev nD) (t : Fin 111) (Y) (hY : (rdat V hs c).Finds 0 t Y) : Y = sAt V c := by
  have := finds_in V hs c 0 rfl (fun _ _ _ h => h) (fun _ _ => rfl) _ t rfl Y hY
  refine this.trans (funext fun j => ?_)
  refine (fetched_moved V hs c 0 t _ j ((((kcfg a).win 0).moved_iff _ j).mpr fun b => (j b).isLt)).trans ?_
  refine congrArg (V c main_arg3) (funext fun b => Fin.ext ?_)
  match b with
  | 0 => show 0 * 16 + 1 * (j 0).val = (j 0).val; omega
  | 1 => show 0 * 11 + 1 * (j 1).val = (j 1).val; omega
  | 2 => show 0 * 16 + 1 * (j 2).val = (j 2).val; omega
theorem finds1 (hs : Sched a) (c : Dev nD) (t : Fin 111) (Y) (hY : (rdat V hs c).Finds 1 t Y) : Y = xAt a V c t := by
  have := finds_in V hs c 1 rfl (fun _ _ _ h => h) (fun _ _ => rfl) _ t rfl Y hY
  refine this.trans (funext fun j => ?_)
  exact (fetched_moved V hs c 1 t _ j ((((kcfg a).win 1).moved_iff _ j).mpr fun b => (j b).isLt)).trans rfl
theorem finds2 (hs : Sched a) (c : Dev nD) (t : Fin 111) (Y) (hY : (rdat V hs c).Finds 2 t Y) : Y = wAt a V c t := by
  have := finds_in V hs c 2 rfl (fun _ _ _ h => h) (fun _ _ => rfl) _ t rfl Y hY
  refine this.trans (funext fun j => ?_)
  exact (fetched_moved V hs c 2 t _ j ((((kcfg a).win 2).moved_iff _ j).mpr fun b => (j b).isLt)).trans rfl

/-- An entry of the scales within the array. -/
theorem off_ok {e j k : Nat} (he : e < 16) (hj : j < 11) (hk : k < 16) : ∀ b, (![e, j, k] : Fin 3 → Nat) b + S1x1x1.size b ≤ S16x11x16.size b := fun b => by
  match b with
  | 0 => exact he
  | 1 => exact hj
  | 2 => exact hk

/-- Every scale that the body reads lies in the array when the expert is a real one. -/
theorem chk_of_lt {v1 : BitVec 32} (v3 : BitVec 32) (h : (Scalar.indexCast v1 : BitVec 32).toNat < 16) : k0_chk1 v1 v3 := by
  refine ⟨?_, ?_, ?_, ?_, ?_, ?_⟩ <;>
    (first | unfold k0_chk1_0 | unfold k0_chk1_1 | unfold k0_chk1_2 | unfold k0_chk1_3 | unfold k0_chk1_4 | unfold k0_chk1_5) <;>
    (repeat' refine And.intro ?_ ?_) <;> exact fun _ => off_ok h (by decide) (by decide)

/-- The tables, each as a table held whole. -/
theorem ΦT_eq (v : pre0.Contents (Elt F)) (c : Dev nD) :
    (Pipeline.ΦT pre0 v c : sProp (KM F)) = iprop(owns (c : Thread nD τ) (Memref.whole main_v36) fullShare.right (v 0) ∗ owns (c : Thread nD τ) (Memref.whole main_v19) fullShare.right (v 1)
      ∗ owns (c : Thread nD τ) (Memref.whole main_v41) fullShare.right (v 2) ∗ owns (c : Thread nD τ) (Memref.whole main_v52) fullShare.right (v 3)
      ∗ owns (c : Thread nD τ) (Memref.whole main_v66) fullShare.right (v 4)) := by
  refine (bigSep_univ_eq_bigSepL [(0 : Fin 5), (1 : Fin 5), (2 : Fin 5), (3 : Fin 5), (4 : Fin 5)] (by decide) (by decide) _).trans ?_
  exact congrArg₂ _ (owns_whole (c : Thread nD τ) main_v36 fullShare.right (v 0)).symm (congrArg₂ _ (owns_whole (c : Thread nD τ) main_v19 fullShare.right (v 1)).symm
    (congrArg₂ _ (owns_whole (c : Thread nD τ) main_v41 fullShare.right (v 2)).symm (congrArg₂ _ (owns_whole (c : Thread nD τ) main_v52 fullShare.right (v 3)).symm
      (owns_whole (c : Thread nD τ) main_v66 fullShare.right (v 4)).symm)))

/-- The body at item `t`, spelled out. -/
theorem defs₀_row (t : Fin 111) (s : (w : Fin 4) → Fin (spec0 w).nbuf) :
    defs₀ (F := F) .tc ((kcfg a).body) ((kcfg a).bodyArgs t s) = body (grid0.coords t) (Memref.whole main_v19) (Memref.whole main_v41) (Memref.whole main_v52) (Memref.whole main_v66)
      (spec0_0.stage (s 0)) (spec0_1.stage (s 1)) (spec0_2.stage (s 2)) (spec0_3.stage (s 3)) (hstage0_3 ((s 3).cast nbuf0_3))
      (Memref.whole cc0_scratch0) (Memref.isWhole_whole _) (Memref.whole cc0_scratch1) (Memref.isWhole_whole _) := by
  refine Eq.trans (b := cc0_grouped_fp8_matmul (grid0.coords t) (Memref.whole main_v36) (Memref.isWhole_whole _) (Memref.whole main_v19) (Memref.isWhole_whole _) (Memref.whole main_v41) (Memref.isWhole_whole _) (Memref.whole main_v52) (Memref.isWhole_whole _) (Memref.whole main_v66) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.isWhole_whole _) (Memref.whole cc0_scratch1) (Memref.isWhole_whole _)) ?_ (body_eq ..)
  unfold defs₀; rw [Defs.onTc_tc]

theorem deq_congr (S : Vec F S16x11x16 .f32) {e e' : Nat} (h : e = e') (he : e < 16) (he' : e' < 16) (W : Vec F S1x1408x2048 .fp8e4m3) :
    deq S he W = deq S he' W := by
  subst h; rfl

/-- Two items of one expert have the same weights. -/
theorem wAt_congr (hs : Sched a) (c : Dev nD) (t u : Fin 111) (h : word a 1 t = word a 1 u) : wAt a V c t = wAt a V c u := by
  have hi : ((kcfg a).win 2).index t = ((kcfg a).win 2).index u := by
    show (![(word a 1 t).toNat, 0, 0] : Fin 3 → Nat) = ![(word a 1 u).toNat, 0, 0]
    rw [h]
  have hf : ∀ t : Fin 111, (rdat V hs c).fetched 2 t (fun _ => Classical.arbitrary _) = wAt a V c t := fun t => funext fun j =>
    (fetched_moved V hs c 2 t _ j ((((kcfg a).win 2).moved_iff _ j).mpr fun b => (j b).isLt)).trans rfl
  rw [← hf t, ← hf u]
  exact (rdat V hs c).fetched_congr 2 hi rfl _

theorem wbAt_same (hs : Sched a) (c : Dev nD) (t : Nat) (ht : t + 1 < 111) (h : k0_cond1 (word a 2 ⟨t + 1, ht⟩) ≠ 1#1) :
    wbAt V hs c ⟨t + 1, ht⟩ = wbAt V hs c ⟨t, by omega⟩ := by
  have e := hs.same t ht h
  unfold wbAt
  rw [wAt_congr V hs c _ _ e]
  exact deq_congr _ (by rw [e]) _ _ _

/-- The scratch after item `t`. -/
theorem scr_eq (hs : Sched a) (c : Dev nD) (t : Fin 111) (B : Vec F S1408x2048 .bf16)
    (hB : ∀ h : 0 < t.val ∧ t.val - 1 < 111, B = wbAt V hs c ⟨t.val - 1, h.2⟩) :
    scrOf (sAt V c) (word a 1 t) (hs.expert t) (word a 2 t) (wAt a V c t) B = wbAt V hs c t := by
  by_cases h1 : k0_cond1 (word a 2 t) = 1#1
  · exact if_pos h1
  · refine (if_neg h1).trans ?_
    obtain ⟨t, ht⟩ := t
    cases t with
    | zero => exact absurd hs.first h1
    | succ t => exact (hB ⟨Nat.succ_pos _, by show t < 111; omega⟩).trans (wbAt_same V hs c t ht h1).symm

/-- The body obligation: from any contents the windows may be found with, the body leaves what the relation says. -/
theorem body_obligation (hs : Sched a) (c : Dev nD) :
    (rdat V hs c).BodyObligation (defs₀ (F := F)) Variants.none () Set.univ := by
  intro t Y hY
  have h0 := finds0 V hs c t _ (hY 0)
  have h1 := finds1 V hs c t _ (hY 1)
  have h2 := finds2 V hs c t _ (hY 2)
  rw [bigSep_W0, bigSep_W0, h0, h1, h2]
  refine Idealize.SL.BI.Entails.trans ?_ (Entails.of_eq (congrArg (fun p => wp frame (wpE (defs₀ (F := F)) Variants.none (c : Thread nD τ) none) Set.univ p _) (defs₀_row (a := a) t ((kcfg a).slots t)).symm))
  show iprop(ΦK V hs c t.val ∗ _ ∗ _) ⊢ wp _ _ _ _ fun _ => iprop(ΦK V hs c (t.val + 1) ∗ _ ∗ _)
  unfold Pipeline.RDat.owesAt Pipeline.owesWithin
  unfold ΦK
  rw [ΦT_eq]
  iintro ⟨⟨⟨%B, %hB, HB⟩, ⟨%Z, HZ⟩, Hp, HT0, HT1, HT2, HT3, HT4⟩, HO, H0, H1, H2, H3⟩
  iapply (wp_body (F := F) c Set.univ (grid0.coords t) (Memref.whole main_v19) (Memref.whole main_v41) (Memref.whole main_v52) (Memref.whole main_v66) _ _ _ _ _ _ _ _ _
    fullShare.right fullShare.right fullShare.right fullShare.right ((a 0).1 1) ((a 0).1 2) ((a 0).1 3) ((a 0).1 4) (sAt V c) (xAt a V c t) (wAt a V c t) (Y 3) B Z (chk_of_lt _ (hs.expert t)) (hs.expert t)) $$ [HT1 HT2 HT3 HT4 H0 H1 H2 H3 HB HZ]
  · isplitl [HT1]; · iexact HT1
    isplitl [HT2]; · iexact HT2
    isplitl [HT3]; · iexact HT3
    isplitl [HT4]; · iexact HT4
    isplitl [H0]; · iexact H0
    isplitl [H1]; · iexact H1
    isplitl [H2]; · iexact H2
    isplitl [H3]; · iexact H3
    isplitl [HB]; · iexact HB
    iexact HZ
  rw [show scrOf (sAt V c) (tabAt (grid0.coords t) ((a 0).1 1)) (hs.expert t) (tabAt (grid0.coords t) ((a 0).1 2)) (wAt a V c t) B = wbAt V hs c t from scr_eq V hs c t B hB]
  iintro ⟨HT1, HT2, HT3, HT4, H0, H1, H2, H3, HB, HZ⟩
  isplitl [HB HZ Hp HT0 HT1 HT2 HT3 HT4]
  · isplitl [HB]
    · iexists (wbAt V hs c t)
      isplitr [HB]
      · ipureintro; intro h; rfl
      · iexact HB
    iframe
  isplitl [HO]
  · iexact HO
  isplitl [H0]
  · iexists (sAt V c); isplitr [H0]; · ipureintro; rfl
    iexact H0
  isplitl [H1]
  · iexists (xAt a V c t); isplitr [H1]; · ipureintro; rfl
    iexact H1
  isplitl [H2]
  · iexists (wAt a V c t); isplitr [H2]; · ipureintro; rfl
    iexact H2
  iexists (outOf (word a 3 t) (word a 4 t) (xAt a V c t) (wbAt V hs c t) (Y 3)); isplitr [H3]; · ipureintro; rfl
  iexact H3

end Data

/-! ### The launch -/

/-- The host operations before the kernel, in order. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- What the buffers hold when the kernel is launched. -/
def Vof (m : (ℓ : Loc nD τ sig) → Buf (Elt F) ℓ) (c : Dev nD) (b : Ref sig .tc) : Buf (Elt F) ((c.tc : Thread nD τ).loc b) :=
  StableHlo.after opss.flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩

theorem opss_fresh : (opss (F := F)).Forall fun ops => ops.Forall fun op => op.fresh = ∅ := by
  simp only [List.Forall]
  repeat' refine And.intro ?_ ?_
  all_goals rfl

theorem hmain (m : (ℓ : Loc nD τ sig) → Buf (Elt F) ℓ) :
    Pipeline.HMainP (Ix := Unit) (Name := ℕ) (U := UR sig nD τ) (Lvl := ℕ) (pcfgs (F := F)) 0 defs₀ Variants.none m main (Vof m) :=
  Pipeline.hmainP_prefixes pcfgs 0 defs₀ Variants.none m main opss opss_sub opss_fresh fun c => (main_chain c).trans rfl

set_option backward.isDefEq.respectTransparency.types false in
/-- The kernel's run: it ends, its semaphores at rest, with the arrays at what the write-backs leave. -/
theorem run (m : (ℓ : Loc nD τ sig) → Buf (Elt F) ℓ) (ρ : Dev nD → PrngReg) (a : (p : Fin 1) → (pcfgs (F := F) p).Adm) (hs : Sched a)
    (hpf : ∀ c k, Vof m c (pre0.ref k) = (a 0).1 k) :
    θ_run defs (onTc main) ⟨m, fun _ => 0, ρ⟩ fun r => RDat.FramePost (kcfg a) (rdat (Vof m) hs) (Vof m) r ∧ r.2.sem = fun _ => 0 := by
  refine Pipeline.RDat.θ_run_frameP_track (pcfgs (F := F)) a 0 launch0 defs₀ Variants.none (rdat (Vof m) hs) m ρ main
    (fun c => body_obligation (Vof m) hs c) (fun c w => ?_) (fun _ _ => rfl) (Vof m) (hmain m) (fun _ _ => rfl) hpf (fun c => ?_) (fun c => ?_) _ (fun r h => h)
  · unfold RDat.share; split <;> rfl
  · show _ ⊢ ΦK (Vof m) hs c 0
    unfold ΦK Pipeline.ΦA
    rw [scopedRest0_eq]
    iintro ⟨⟨⟨⟨%f, Hf⟩, ⟨%g, Hg⟩⟩, Hp⟩, HT⟩
    isplitl [Hf]
    · iexists f
      isplitr [Hf]
      · ipureintro; intro h; exact absurd h.1 (by decide)
      · rw [owns_whole]; iexact Hf
    isplitl [Hg]
    · iexists g
      rw [owns_whole]; iexact Hg
    isplitl [Hp]; · iexact Hp
    iexact HT
  · show ΦK (Vof m) hs c 111 ⊢ _
    unfold ΦK Pipeline.ΦA
    rw [scopedRest0_eq]
    iintro ⟨⟨%B, %hB, HB⟩, ⟨%Z, HZ⟩, Hp, HT⟩
    ihave HB := (Entails.of_eq (owns_whole (c : Thread nD τ) cc0_scratch0 fullShare B)) $$ HB
    ihave HZ := (Entails.of_eq (owns_whole (c : Thread nD τ) cc0_scratch1 fullShare Z)) $$ HZ
    isplitl [HB HZ]
    · isplitl [HB]
      · iexists B; iexact HB
      · iexists Z; iexact HZ
    iexact Hp

end Cert.Kernel.Hand
-- ==== Proof.TablesK.lean ====
/-
  The five tables that the kernel prefetches, as functions of the group sizes: what the host operations before the
  kernel leave in their buffers.
-/
module

public import proofs.«01_k».proof.Proof.RunK
public import Idealize.ShloMosaic.Lib.StableHlo.RunRead

@[expose] public section

noncomputable section

namespace Cert.Kernel.Hand

open Cert.Kernel Cert.Kernel.Gen Cert.Hand
open Idealize.ShloMosaic Idealize.ShloMosaic.TcCoe
open Idealize.ShloMosaic.StableHlo

variable {F : FTy → Type} [FloatOps F]

/-- A number in every entry. -/
abbrev all16 (x : BitVec 32) : Vec F S16 .i32 := broadcastInDim S16 ![] bcast_S_S16 (constantI S_ 32 x : Vec F S_ .i32)
abbrev all111 (x : BitVec 32) : Vec F S111 .i32 := broadcastInDim S111 ![] bcast_S_S111 (constantI S_ 32 x : Vec F S_ .i32)

/-- The running sums. -/
def runSum (g : Vec F S16 .i32) : Vec F S16 .i32 :=
  Host.reduceWindow IntOp.addi ![16] ![1] ![15] ![0] g (broadcastInDim S_ ![] bcast_S_S_ (constantI S_ 32 0#32 : Vec F S_ .i32)) reduceWindows_S16_S16_w16s1p15_0 h_S_

/-- The quotient by a constant, rounded down. -/
def floorDiv (x : Vec F S16 .i32) : Vec F S16 .i32 :=
  select (andi (cmpi .ne (signi x) (broadcastInDim S16 ![] bcast_S_S16 (signi (constantI S_ 32 512#32 : Vec F S_ .i32))))
      (cmpi .ne (Host.remsi x (all16 (F := F) 512#32)) (all16 (F := F) 0#32)))
    (subi (Host.divsi x (all16 (F := F) 512#32)) (all16 (F := F) 1#32)) (Host.divsi x (all16 (F := F) 512#32))

/-- First row, first tile, number of tiles, and where the items of each expert end. -/
def startsT (g : Vec F S16 .i32) : Vec F S16 .i32 := subi (runSum (F := F) g) g
def firstT (g : Vec F S16 .i32) : Vec F S16 .i32 := floorDiv (F := F) (startsT (F := F) g)
def countT (g : Vec F S16 .i32) : Vec F S16 .i32 :=
  select (cmpi .sgt g (all16 (F := F) 0#32)) (addi (subi (floorDiv (F := F) (subi (runSum (F := F) g) (all16 (F := F) 1#32))) (firstT (F := F) g)) (all16 (F := F) 1#32)) (all16 (F := F) 0#32)
def endT (g : Vec F S16 .i32) : Vec F S16 .i32 := runSum (F := F) (countT (F := F) g)
/-- The number of items, from where they end; and each grid step's item, the last one standing for the steps left over. -/
def totOf (e : Vec F S16 .i32) : Vec F S_ .i32 := shapeCast S_ (extractStridedSlice S1 ![15] e slices_S16_S1_15) shapeCasts_S1_S_
def clampOf (e : Vec F S16 .i32) : Vec F S111 .i32 :=
  minsi (iotaInDim S111 32 0) (broadcastInDim S111 ![] bcast_S_S111 (subi (totOf (F := F) e) (constantI S_ 32 1#32 : Vec F S_ .i32)))
def clampT (g : Vec F S16 .i32) : Vec F S111 .i32 := clampOf (F := F) (endT (F := F) g)

/-- The expert of each item: how many experts' items have ended. -/
def expertOf (e : Vec F S16 .i32) (j : Vec F S111 .i32) : Vec F S111 .i32 :=
  Host.reduce IntOp.addi (extui 32 (cmpi .sle (broadcastInDim S16x111 ![0, 1] bcast_S16x1_S16x111_0_1 (broadcastInDim S16x1 ![0] bcast_S16_S16x1_0 e))
    (broadcastInDim S16x111 ![0, 1] bcast_S1x111_S16x111_0_1 (broadcastInDim S1x111 ![1] bcast_S111_S1x111_1 j))) natLt_1_32)
    (constantI S_ 32 0#32 : Vec F S_ .i32) reducesTo_S16x111_S111_d0 h_S_
def expertT (g : Vec F S16 .i32) : Vec F S111 .i32 := expertOf (F := F) (endT (F := F) g) (clampT (F := F) g)

/-- The entry of `x` at each item's expert. -/
def pick (x : Vec F S16 .i32) (e : Vec F S111 .i32) : Vec F S111 .i32 :=
  Host.gather gather_S16_S111x1_S111_n_0_n_n_0_1_1 x (broadcastInDim S111x1 ![0] bcast_S111_S111x1_0 (select (cmpi .slt e (all111 (F := F) 0#32)) (addi e (all111 (F := F) 16#32)) e))

def tileT (g : Vec F S16 .i32) : Vec F S111 .i32 :=
  subi (addi (pick (F := F) (firstT (F := F) g) (expertT (F := F) g)) (clampT (F := F) g)) (pick (F := F) (subi (endT (F := F) g) (countT (F := F) g)) (expertT (F := F) g))
def newOf (e : Vec F S111 .i32) : Vec F S111 .i32 :=
  extui 32 (cmpi .ne (concatenate S111 0 [⟨S1, (broadcastInDim S1 ![] bcast_S_S1 (constantI S_ 32 4294967295#32 : Vec F S_ .i32))⟩, ⟨S110, extractStridedSlice S110 ![0] e slices_S111_S110_0⟩] concatenates_S1_S110_S111_d0) e) natLt_1_32
def newT (g : Vec F S16 .i32) : Vec F S111 .i32 := newOf (F := F) (expertT (F := F) g)
/-- A row number within the tile. -/
def clipT (x : Vec F S111 .i32) : Vec F S111 .i32 := minsi (all111 (F := F) 512#32) (maxsi (all111 (F := F) 0#32) x)
def loT (g : Vec F S16 .i32) : Vec F S111 .i32 := clipT (F := F) (subi (pick (F := F) (startsT (F := F) g) (expertT (F := F) g)) (muli (tileT (F := F) g) (all111 (F := F) 512#32)))
def hiT (g : Vec F S16 .i32) : Vec F S111 .i32 :=
  select (cmpi .slt (iotaInDim S111 32 0) (broadcastInDim S111 ![] bcast_S_S111 (totOf (F := F) (endT (F := F) g)))) (clipT (F := F) (subi (pick (F := F) (runSum (F := F) g) (expertT (F := F) g)) (muli (tileT (F := F) g) (all111 (F := F) 512#32)))) (all111 (F := F) 0#32)

/-! ### What each stretch of host operations leaves -/

variable (V : Valuation τ sig (Elt F))

theorem pass0 (V : Valuation τ sig (Elt F)) (r : Ref sig .tc) (h : r ∉ ([main_call0_call0_c, main_call0_call0_v0, main_v0] : List (Ref sig .tc))) :
    after hostOps0 V (Proc.devRef .tc r) = V (Proc.devRef .tc r) := after_unwritten _ rfl h V

theorem pass1 (V : Valuation τ sig (Elt F)) (r : Ref sig .tc) (h : r ∉ ([main_v1, main_c] : List (Ref sig .tc))) :
    after hostOps0_1 V (Proc.devRef .tc r) = V (Proc.devRef .tc r) := after_unwritten _ rfl h V

theorem pass2 (V : Valuation τ sig (Elt F)) (r : Ref sig .tc) (h : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2] : List (Ref sig .tc))) :
    after hostOps0_2 V (Proc.devRef .tc r) = V (Proc.devRef .tc r) := after_unwritten _ rfl h V

theorem pass3 (V : Valuation τ sig (Elt F)) (r : Ref sig .tc) (h : r ∉ ([main_c_0, main_v3, main_v4, main_c_1, main_v5, main_v6, main_c_2] : List (Ref sig .tc))) :
    after hostOps0_3 V (Proc.devRef .tc r) = V (Proc.devRef .tc r) := after_unwritten _ rfl h V

theorem pass4 (V : Valuation τ sig (Elt F)) (r : Ref sig .tc) (h : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7] : List (Ref sig .tc))) :
    after hostOps0_4 V (Proc.devRef .tc r) = V (Proc.devRef .tc r) := after_unwritten _ rfl h V

theorem pass5 (V : Valuation τ sig (Elt F)) (r : Ref sig .tc) (h : r ∉ ([main_v8, main_c_3, main_v9, main_v10, main_c_4] : List (Ref sig .tc))) :
    after hostOps0_5 V (Proc.devRef .tc r) = V (Proc.devRef .tc r) := after_unwritten _ rfl h V

theorem pass6 (V : Valuation τ sig (Elt F)) (r : Ref sig .tc) (h : r ∉ ([main_call3_v0, main_call3_v1, main_v11] : List (Ref sig .tc))) :
    after hostOps0_6 V (Proc.devRef .tc r) = V (Proc.devRef .tc r) := after_unwritten _ rfl h V

theorem pass7 (V : Valuation τ sig (Elt F)) (r : Ref sig .tc) (h : r ∉ ([main_call4_call0_c, main_call4_call0_v0, main_v12] : List (Ref sig .tc))) :
    after hostOps0_7 V (Proc.devRef .tc r) = V (Proc.devRef .tc r) := after_unwritten _ rfl h V

theorem pass8 (V : Valuation τ sig (Elt F)) (r : Ref sig .tc) (h : r ∉ ([main_v13, main_v14, main_v15, main_c_5, main_v16, main_v17, main_v18] : List (Ref sig .tc))) :
    after hostOps0_8 V (Proc.devRef .tc r) = V (Proc.devRef .tc r) := after_unwritten _ rfl h V

theorem pass9 (V : Valuation τ sig (Elt F)) (r : Ref sig .tc) (h : r ∉ ([main_call5_call0_v0, main_call5_call0_v1, main_call5_call0_v2, main_call5_call0_v3, main_call5_call0_v4, main_call5_call0_v5, main_call5_call0_c, main_v19] : List (Ref sig .tc))) :
    after hostOps0_9 V (Proc.devRef .tc r) = V (Proc.devRef .tc r) := after_unwritten _ rfl h V

theorem pass10 (V : Valuation τ sig (Elt F)) (r : Ref sig .tc) (h : r ∉ ([main_c_6, main_v20, main_v21, main_c_7, main_v22, main_v23, main_v24, main_v25, main_v26, main_v27, main_v28, main_c_8, main_v29, main_v30, main_c_9, main_v31, main_v32, main_v33, main_v34, main_v35, main_v36, main_c_10, main_v37, main_v38, main_v39, main_v40, main_v41, main_c_11, main_v42, main_v43, main_c_12, main_v44, main_v45, main_v46, main_v47, main_v48, main_c_13, main_v49, main_v50, main_v51, main_c_14, main_c_15] : List (Ref sig .tc))) :
    after hostOps0_10 V (Proc.devRef .tc r) = V (Proc.devRef .tc r) := after_unwritten _ rfl h V

theorem pass11 (V : Valuation τ sig (Elt F)) (r : Ref sig .tc) (h : r ∉ ([main_call6_v0, main_call6_v1, main_call6_v2, main_call6_v3, main_call6_v4, main_v52] : List (Ref sig .tc))) :
    after hostOps0_11 V (Proc.devRef .tc r) = V (Proc.devRef .tc r) := after_unwritten _ rfl h V

theorem pass12 (V : Valuation τ sig (Elt F)) (r : Ref sig .tc) (h : r ∉ ([main_v53, main_v54, main_c_16, main_v55, main_v56, main_c_17, main_v57, main_v58, main_v59, main_v60, main_v61, main_c_18, main_v62, main_v63, main_v64, main_c_19, main_c_20] : List (Ref sig .tc))) :
    after hostOps0_12 V (Proc.devRef .tc r) = V (Proc.devRef .tc r) := after_unwritten _ rfl h V

theorem pass13 (V : Valuation τ sig (Elt F)) (r : Ref sig .tc) (h : r ∉ ([main_call7_v0, main_call7_v1, main_call7_v2, main_call7_v3, main_call7_v4, main_v65] : List (Ref sig .tc))) :
    after hostOps0_13 V (Proc.devRef .tc r) = V (Proc.devRef .tc r) := after_unwritten _ rfl h V

theorem pass14 (V : Valuation τ sig (Elt F)) (r : Ref sig .tc) (h : r ∉ ([main_c_21] : List (Ref sig .tc))) :
    after hostOps0_14 V (Proc.devRef .tc r) = V (Proc.devRef .tc r) := after_unwritten _ rfl h V

theorem pass15 (V : Valuation τ sig (Elt F)) (r : Ref sig .tc) (h : r ∉ ([main_call8_v0, main_call8_v1, main_v66] : List (Ref sig .tc))) :
    after hostOps0_15 V (Proc.devRef .tc r) = V (Proc.devRef .tc r) := after_unwritten _ rfl h V

theorem c0 : after hostOps0 V (Proc.devRef .tc main_v0) = runSum (F := F) (V (Proc.devRef .tc main_arg1)) := by
  after_reads_simp; simp only [TRef.ofBuf, TRef.toBuf, cast_cast, cast_eq]; unfold runSum; with_reducible rfl
theorem c1 : after hostOps0_1 V (Proc.devRef .tc main_v1) = subi (V (Proc.devRef .tc main_v0) : Vec F S16 .i32) (V (Proc.devRef .tc main_arg1)) := by after_reads_simp
theorem c1c : after hostOps0_1 V (Proc.devRef .tc main_c) = (constantI S_ 32 512#32 : Vec F S_ .i32) := by after_reads_simp
theorem c2 (h : V (Proc.devRef .tc main_c) = (constantI S_ 32 512#32 : Vec F S_ .i32)) : after hostOps0_2 V (Proc.devRef .tc main_v2) = floorDiv (F := F) (V (Proc.devRef .tc main_v1)) := by after_reads_simp; rw [h]; rfl
theorem c3a : after hostOps0_3 V (Proc.devRef .tc main_v4) = cmpi .sgt (V (Proc.devRef .tc main_arg1) : Vec F S16 .i32) (all16 (F := F) 0#32) := by after_reads_simp
theorem c3b : after hostOps0_3 V (Proc.devRef .tc main_v6) = subi (V (Proc.devRef .tc main_v0) : Vec F S16 .i32) (all16 (F := F) 1#32) := by after_reads_simp
theorem c3c : after hostOps0_3 V (Proc.devRef .tc main_c_2) = (constantI S_ 32 512#32 : Vec F S_ .i32) := by after_reads_simp
theorem c4 (h : V (Proc.devRef .tc main_c_2) = (constantI S_ 32 512#32 : Vec F S_ .i32)) : after hostOps0_4 V (Proc.devRef .tc main_v7) = floorDiv (F := F) (V (Proc.devRef .tc main_v6)) := by after_reads_simp; rw [h]; rfl
theorem c5 : after hostOps0_5 V (Proc.devRef .tc main_v10) = addi (subi (V (Proc.devRef .tc main_v7) : Vec F S16 .i32) (V (Proc.devRef .tc main_v2))) (all16 (F := F) 1#32) := by after_reads_simp
theorem c5c : after hostOps0_5 V (Proc.devRef .tc main_c_4) = (constantI S_ 32 0#32 : Vec F S_ .i32) := by after_reads_simp
theorem c6 (h : V (Proc.devRef .tc main_c_4) = (constantI S_ 32 0#32 : Vec F S_ .i32)) : after hostOps0_6 V (Proc.devRef .tc main_v11) = select (V (Proc.devRef .tc main_v4)) (V (Proc.devRef .tc main_v10) : Vec F S16 .i32) (all16 (F := F) 0#32) := by after_reads_simp; rw [h]; rfl
theorem c7 : after hostOps0_7 V (Proc.devRef .tc main_v12) = runSum (F := F) (V (Proc.devRef .tc main_v11)) := by
  after_reads_simp; simp only [TRef.ofBuf, TRef.toBuf, cast_cast, cast_eq]; unfold runSum; with_reducible rfl
theorem c8a : after hostOps0_8 V (Proc.devRef .tc main_v13) = (iotaInDim S111 32 0 : Vec F S111 .i32) := by after_reads_simp
theorem c8b : after hostOps0_8 V (Proc.devRef .tc main_v15) = totOf (F := F) (V (Proc.devRef .tc main_v12)) := by after_reads_simp; rfl
theorem c8c : after hostOps0_8 V (Proc.devRef .tc main_v18) = clampOf (F := F) (V (Proc.devRef .tc main_v12)) := by after_reads_simp; rfl
theorem c9 : after hostOps0_9 V (Proc.devRef .tc main_v19) = expertOf (F := F) (V (Proc.devRef .tc main_v12)) (V (Proc.devRef .tc main_v18)) := by after_reads_simp; rfl
theorem c10a : after hostOps0_10 V (Proc.devRef .tc main_v36) =
    subi (addi (pick (F := F) (V (Proc.devRef .tc main_v2)) (V (Proc.devRef .tc main_v19))) (V (Proc.devRef .tc main_v18)))
      (pick (F := F) (subi (V (Proc.devRef .tc main_v12)) (V (Proc.devRef .tc main_v11))) (V (Proc.devRef .tc main_v19))) := by after_reads_simp; rfl
theorem c10b : after hostOps0_10 V (Proc.devRef .tc main_v41) = newOf (F := F) (V (Proc.devRef .tc main_v19)) := by after_reads_simp; rfl
theorem c10c : after hostOps0_10 V (Proc.devRef .tc main_v51) = subi (pick (F := F) (V (Proc.devRef .tc main_v1)) (V (Proc.devRef .tc main_v19)))
    (muli (after hostOps0_10 V (Proc.devRef .tc main_v36)) (all111 (F := F) 512#32)) := by after_reads_simp; rfl
theorem c10d : after hostOps0_10 V (Proc.devRef .tc main_c_14) = (constantI S_ 32 0#32 : Vec F S_ .i32) := by after_reads_simp
theorem c10e : after hostOps0_10 V (Proc.devRef .tc main_c_15) = (constantI S_ 32 512#32 : Vec F S_ .i32) := by after_reads_simp
theorem c11 (h : V (Proc.devRef .tc main_c_14) = (constantI S_ 32 0#32 : Vec F S_ .i32)) (h' : V (Proc.devRef .tc main_c_15) = (constantI S_ 32 512#32 : Vec F S_ .i32)) :
    after hostOps0_11 V (Proc.devRef .tc main_v52) = clipT (F := F) (V (Proc.devRef .tc main_v51)) := by after_reads_simp; rw [h, h']; rfl
theorem c12a : after hostOps0_12 V (Proc.devRef .tc main_v54) = cmpi .slt (V (Proc.devRef .tc main_v13)) (broadcastInDim S111 ![] bcast_S_S111 (V (Proc.devRef .tc main_v15) : Vec F S_ .i32)) := by after_reads_simp
theorem c12b : after hostOps0_12 V (Proc.devRef .tc main_v64) = subi (pick (F := F) (V (Proc.devRef .tc main_v0)) (V (Proc.devRef .tc main_v19)))
    (muli (V (Proc.devRef .tc main_v36)) (all111 (F := F) 512#32)) := by after_reads_simp; rfl
theorem c12d : after hostOps0_12 V (Proc.devRef .tc main_c_19) = (constantI S_ 32 0#32 : Vec F S_ .i32) := by after_reads_simp
theorem c12e : after hostOps0_12 V (Proc.devRef .tc main_c_20) = (constantI S_ 32 512#32 : Vec F S_ .i32) := by after_reads_simp
theorem c13 (h : V (Proc.devRef .tc main_c_19) = (constantI S_ 32 0#32 : Vec F S_ .i32)) (h' : V (Proc.devRef .tc main_c_20) = (constantI S_ 32 512#32 : Vec F S_ .i32)) :
    after hostOps0_13 V (Proc.devRef .tc main_v65) = clipT (F := F) (V (Proc.devRef .tc main_v64)) := by after_reads_simp; rw [h, h']; rfl
theorem c14 : after hostOps0_14 V (Proc.devRef .tc main_c_21) = (constantI S_ 32 0#32 : Vec F S_ .i32) := by after_reads_simp
theorem c15 (h : V (Proc.devRef .tc main_c_21) = (constantI S_ 32 0#32 : Vec F S_ .i32)) :
    after hostOps0_15 V (Proc.devRef .tc main_v66) = select (V (Proc.devRef .tc main_v54)) (V (Proc.devRef .tc main_v65)) (all111 (F := F) 0#32 : Vec F S111 .i32) := by after_reads_simp; rw [h]; rfl

/-! ### The tables -/

variable (m : (ℓ : Loc nD τ sig) → Buf (Elt F) ℓ) (c : Dev nD)

/-- The contents after each stretch. -/
def st0 : Valuation τ sig (Elt F) := after hostOps0 (fun b => m (c, b))
def st1 : Valuation τ sig (Elt F) := after hostOps0_1 (st0 m c)
def st2 : Valuation τ sig (Elt F) := after hostOps0_2 (st1 m c)
def st3 : Valuation τ sig (Elt F) := after hostOps0_3 (st2 m c)
def st4 : Valuation τ sig (Elt F) := after hostOps0_4 (st3 m c)
def st5 : Valuation τ sig (Elt F) := after hostOps0_5 (st4 m c)
def st6 : Valuation τ sig (Elt F) := after hostOps0_6 (st5 m c)
def st7 : Valuation τ sig (Elt F) := after hostOps0_7 (st6 m c)
def st8 : Valuation τ sig (Elt F) := after hostOps0_8 (st7 m c)
def st9 : Valuation τ sig (Elt F) := after hostOps0_9 (st8 m c)
def st10 : Valuation τ sig (Elt F) := after hostOps0_10 (st9 m c)
def st11 : Valuation τ sig (Elt F) := after hostOps0_11 (st10 m c)
def st12 : Valuation τ sig (Elt F) := after hostOps0_12 (st11 m c)
def st13 : Valuation τ sig (Elt F) := after hostOps0_13 (st12 m c)
def st14 : Valuation τ sig (Elt F) := after hostOps0_14 (st13 m c)
def st15 : Valuation τ sig (Elt F) := after hostOps0_15 (st14 m c)

theorem Vof_eq (r : Ref sig .tc) : Vof m c r = st15 m c (Proc.devRef .tc r) := by
  unfold Vof st15 st14 st13 st12 st11 st10 st9 st8 st7 st6 st5 st4 st3 st2 st1 st0
  simp only [opss, List.flatten_cons, List.flatten_nil, List.append_nil, StableHlo.after_append]

theorem keep0 (r : Ref sig .tc) (h : r ∉ ([main_call0_call0_c, main_call0_call0_v0, main_v0] : List (Ref sig .tc))) : st0 m c (Proc.devRef .tc r) = m (c, Proc.devRef .tc r) := pass0 _ r h
theorem keep1 (r : Ref sig .tc) (h : r ∉ ([main_v1, main_c] : List (Ref sig .tc))) : st1 m c (Proc.devRef .tc r) = st0 m c (Proc.devRef .tc r) := pass1 _ r h
theorem keep2 (r : Ref sig .tc) (h : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2] : List (Ref sig .tc))) : st2 m c (Proc.devRef .tc r) = st1 m c (Proc.devRef .tc r) := pass2 _ r h
theorem keep3 (r : Ref sig .tc) (h : r ∉ ([main_c_0, main_v3, main_v4, main_c_1, main_v5, main_v6, main_c_2] : List (Ref sig .tc))) : st3 m c (Proc.devRef .tc r) = st2 m c (Proc.devRef .tc r) := pass3 _ r h
theorem keep4 (r : Ref sig .tc) (h : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7] : List (Ref sig .tc))) : st4 m c (Proc.devRef .tc r) = st3 m c (Proc.devRef .tc r) := pass4 _ r h
theorem keep5 (r : Ref sig .tc) (h : r ∉ ([main_v8, main_c_3, main_v9, main_v10, main_c_4] : List (Ref sig .tc))) : st5 m c (Proc.devRef .tc r) = st4 m c (Proc.devRef .tc r) := pass5 _ r h
theorem keep6 (r : Ref sig .tc) (h : r ∉ ([main_call3_v0, main_call3_v1, main_v11] : List (Ref sig .tc))) : st6 m c (Proc.devRef .tc r) = st5 m c (Proc.devRef .tc r) := pass6 _ r h
theorem keep7 (r : Ref sig .tc) (h : r ∉ ([main_call4_call0_c, main_call4_call0_v0, main_v12] : List (Ref sig .tc))) : st7 m c (Proc.devRef .tc r) = st6 m c (Proc.devRef .tc r) := pass7 _ r h
theorem keep8 (r : Ref sig .tc) (h : r ∉ ([main_v13, main_v14, main_v15, main_c_5, main_v16, main_v17, main_v18] : List (Ref sig .tc))) : st8 m c (Proc.devRef .tc r) = st7 m c (Proc.devRef .tc r) := pass8 _ r h
theorem keep9 (r : Ref sig .tc) (h : r ∉ ([main_call5_call0_v0, main_call5_call0_v1, main_call5_call0_v2, main_call5_call0_v3, main_call5_call0_v4, main_call5_call0_v5, main_call5_call0_c, main_v19] : List (Ref sig .tc))) : st9 m c (Proc.devRef .tc r) = st8 m c (Proc.devRef .tc r) := pass9 _ r h
theorem keep10 (r : Ref sig .tc) (h : r ∉ ([main_c_6, main_v20, main_v21, main_c_7, main_v22, main_v23, main_v24, main_v25, main_v26, main_v27, main_v28, main_c_8, main_v29, main_v30, main_c_9, main_v31, main_v32, main_v33, main_v34, main_v35, main_v36, main_c_10, main_v37, main_v38, main_v39, main_v40, main_v41, main_c_11, main_v42, main_v43, main_c_12, main_v44, main_v45, main_v46, main_v47, main_v48, main_c_13, main_v49, main_v50, main_v51, main_c_14, main_c_15] : List (Ref sig .tc))) : st10 m c (Proc.devRef .tc r) = st9 m c (Proc.devRef .tc r) := pass10 _ r h
theorem keep11 (r : Ref sig .tc) (h : r ∉ ([main_call6_v0, main_call6_v1, main_call6_v2, main_call6_v3, main_call6_v4, main_v52] : List (Ref sig .tc))) : st11 m c (Proc.devRef .tc r) = st10 m c (Proc.devRef .tc r) := pass11 _ r h
theorem keep12 (r : Ref sig .tc) (h : r ∉ ([main_v53, main_v54, main_c_16, main_v55, main_v56, main_c_17, main_v57, main_v58, main_v59, main_v60, main_v61, main_c_18, main_v62, main_v63, main_v64, main_c_19, main_c_20] : List (Ref sig .tc))) : st12 m c (Proc.devRef .tc r) = st11 m c (Proc.devRef .tc r) := pass12 _ r h
theorem keep13 (r : Ref sig .tc) (h : r ∉ ([main_call7_v0, main_call7_v1, main_call7_v2, main_call7_v3, main_call7_v4, main_v65] : List (Ref sig .tc))) : st13 m c (Proc.devRef .tc r) = st12 m c (Proc.devRef .tc r) := pass13 _ r h
theorem keep14 (r : Ref sig .tc) (h : r ∉ ([main_c_21] : List (Ref sig .tc))) : st14 m c (Proc.devRef .tc r) = st13 m c (Proc.devRef .tc r) := pass14 _ r h
theorem keep15 (r : Ref sig .tc) (h : r ∉ ([main_call8_v0, main_call8_v1, main_v66] : List (Ref sig .tc))) : st15 m c (Proc.devRef .tc r) = st14 m c (Proc.devRef .tc r) := pass15 _ r h
theorem s0 : st0 m c (Proc.devRef .tc main_v0) = runSum (F := F) (m (c, Proc.devRef .tc main_arg1)) := c0 _
theorem s1 : st1 m c (Proc.devRef .tc main_v1) = subi (st0 m c (Proc.devRef .tc main_v0) : Vec F S16 .i32) (st0 m c (Proc.devRef .tc main_arg1)) := c1 _
theorem s2 : st2 m c (Proc.devRef .tc main_v2) = floorDiv (F := F) (st1 m c (Proc.devRef .tc main_v1)) := c2 _ (c1c _)
theorem s3a : st3 m c (Proc.devRef .tc main_v4) = cmpi .sgt (st2 m c (Proc.devRef .tc main_arg1) : Vec F S16 .i32) (all16 (F := F) 0#32) := c3a _
theorem s3b : st3 m c (Proc.devRef .tc main_v6) = subi (st2 m c (Proc.devRef .tc main_v0) : Vec F S16 .i32) (all16 (F := F) 1#32) := c3b _
theorem s4 : st4 m c (Proc.devRef .tc main_v7) = floorDiv (F := F) (st3 m c (Proc.devRef .tc main_v6)) := c4 _ (c3c _)
theorem s5 : st5 m c (Proc.devRef .tc main_v10) = addi (subi (st4 m c (Proc.devRef .tc main_v7) : Vec F S16 .i32) (st4 m c (Proc.devRef .tc main_v2))) (all16 (F := F) 1#32) := c5 _
theorem s6 : st6 m c (Proc.devRef .tc main_v11) = select (st5 m c (Proc.devRef .tc main_v4)) (st5 m c (Proc.devRef .tc main_v10) : Vec F S16 .i32) (all16 (F := F) 0#32) := c6 _ (c5c _)
theorem s7 : st7 m c (Proc.devRef .tc main_v12) = runSum (F := F) (st6 m c (Proc.devRef .tc main_v11)) := c7 _
theorem s8a : st8 m c (Proc.devRef .tc main_v13) = (iotaInDim S111 32 0 : Vec F S111 .i32) := c8a _
theorem s8b : st8 m c (Proc.devRef .tc main_v15) = totOf (F := F) (st7 m c (Proc.devRef .tc main_v12)) := c8b _
theorem s8c : st8 m c (Proc.devRef .tc main_v18) = clampOf (F := F) (st7 m c (Proc.devRef .tc main_v12)) := c8c _
theorem s9 : st9 m c (Proc.devRef .tc main_v19) = expertOf (F := F) (st8 m c (Proc.devRef .tc main_v12)) (st8 m c (Proc.devRef .tc main_v18)) := c9 _
theorem s10a : st10 m c (Proc.devRef .tc main_v36) =
    subi (addi (pick (F := F) (st9 m c (Proc.devRef .tc main_v2)) (st9 m c (Proc.devRef .tc main_v19))) (st9 m c (Proc.devRef .tc main_v18)))
      (pick (F := F) (subi (st9 m c (Proc.devRef .tc main_v12)) (st9 m c (Proc.devRef .tc main_v11))) (st9 m c (Proc.devRef .tc main_v19))) := c10a _
theorem s10b : st10 m c (Proc.devRef .tc main_v41) = newOf (F := F) (st9 m c (Proc.devRef .tc main_v19)) := c10b _
theorem s10c : st10 m c (Proc.devRef .tc main_v51) = subi (pick (F := F) (st9 m c (Proc.devRef .tc main_v1)) (st9 m c (Proc.devRef .tc main_v19)))
    (muli (st10 m c (Proc.devRef .tc main_v36)) (all111 (F := F) 512#32)) := c10c _
theorem s11 : st11 m c (Proc.devRef .tc main_v52) = clipT (F := F) (st10 m c (Proc.devRef .tc main_v51)) := c11 _ (c10d _) (c10e _)
theorem s12a : st12 m c (Proc.devRef .tc main_v54) = cmpi .slt (st11 m c (Proc.devRef .tc main_v13)) (broadcastInDim S111 ![] bcast_S_S111 (st11 m c (Proc.devRef .tc main_v15) : Vec F S_ .i32)) := c12a _
theorem s12b : st12 m c (Proc.devRef .tc main_v64) = subi (pick (F := F) (st11 m c (Proc.devRef .tc main_v0)) (st11 m c (Proc.devRef .tc main_v19)))
    (muli (st11 m c (Proc.devRef .tc main_v36)) (all111 (F := F) 512#32)) := c12b _
theorem s13 : st13 m c (Proc.devRef .tc main_v65) = clipT (F := F) (st12 m c (Proc.devRef .tc main_v64)) := c13 _ (c12d _) (c12e _)
theorem s15 : st15 m c (Proc.devRef .tc main_v66) = select (st14 m c (Proc.devRef .tc main_v54)) (st14 m c (Proc.devRef .tc main_v65)) (all111 (F := F) 0#32) := c15 _ (c14 _)

/-- The group sizes. -/
abbrev gOf : Vec F S16 .i32 := m (c, Proc.devRef .tc main_arg1)

theorem T_v0 : st0 m c (Proc.devRef .tc main_v0) = runSum (F := F) (gOf m c) := by
  rw [s0]
  try rfl
theorem T_v1 : st1 m c (Proc.devRef .tc main_v1) = startsT (F := F) (gOf m c) := by
  have h_v0 : st0 m c (Proc.devRef .tc main_v0) = runSum (F := F) (gOf m c) := T_v0 m c
  have h_arg1 : st0 m c (Proc.devRef .tc main_arg1) = m (c, Proc.devRef .tc main_arg1) := (keep0 m c main_arg1 (by decide))
  rw [s1, h_v0, h_arg1]
  try rfl
theorem T_v2 : st2 m c (Proc.devRef .tc main_v2) = firstT (F := F) (gOf m c) := by
  have h_v1 : st1 m c (Proc.devRef .tc main_v1) = startsT (F := F) (gOf m c) := T_v1 m c
  rw [s2, h_v1]
  try rfl
theorem T_v4 : st3 m c (Proc.devRef .tc main_v4) = cmpi .sgt (gOf m c) (all16 (F := F) 0#32) := by
  have h_arg1 : st2 m c (Proc.devRef .tc main_arg1) = m (c, Proc.devRef .tc main_arg1) := (keep2 m c main_arg1 (by decide)).trans ((keep1 m c main_arg1 (by decide)).trans ((keep0 m c main_arg1 (by decide))))
  rw [s3a, h_arg1]
  try rfl
theorem T_v6 : st3 m c (Proc.devRef .tc main_v6) = subi (runSum (F := F) (gOf m c)) (all16 (F := F) 1#32) := by
  have h_v0 : st2 m c (Proc.devRef .tc main_v0) = runSum (F := F) (gOf m c) := (keep2 m c main_v0 (by decide)).trans ((keep1 m c main_v0 (by decide)).trans (T_v0 m c))
  rw [s3b, h_v0]
  try rfl
theorem T_v7 : st4 m c (Proc.devRef .tc main_v7) = floorDiv (F := F) (subi (runSum (F := F) (gOf m c)) (all16 (F := F) 1#32)) := by
  have h_v6 : st3 m c (Proc.devRef .tc main_v6) = subi (runSum (F := F) (gOf m c)) (all16 (F := F) 1#32) := T_v6 m c
  rw [s4, h_v6]
  try rfl
theorem T_v10 : st5 m c (Proc.devRef .tc main_v10) = addi (subi (floorDiv (F := F) (subi (runSum (F := F) (gOf m c)) (all16 (F := F) 1#32))) (firstT (F := F) (gOf m c))) (all16 (F := F) 1#32) := by
  have h_v7 : st4 m c (Proc.devRef .tc main_v7) = floorDiv (F := F) (subi (runSum (F := F) (gOf m c)) (all16 (F := F) 1#32)) := T_v7 m c
  have h_v2 : st4 m c (Proc.devRef .tc main_v2) = firstT (F := F) (gOf m c) := (keep4 m c main_v2 (by decide)).trans ((keep3 m c main_v2 (by decide)).trans (T_v2 m c))
  rw [s5, h_v7, h_v2]
  try rfl
theorem T_v11 : st6 m c (Proc.devRef .tc main_v11) = countT (F := F) (gOf m c) := by
  have h_v4 : st5 m c (Proc.devRef .tc main_v4) = cmpi .sgt (gOf m c) (all16 (F := F) 0#32) := (keep5 m c main_v4 (by decide)).trans ((keep4 m c main_v4 (by decide)).trans (T_v4 m c))
  have h_v10 : st5 m c (Proc.devRef .tc main_v10) = addi (subi (floorDiv (F := F) (subi (runSum (F := F) (gOf m c)) (all16 (F := F) 1#32))) (firstT (F := F) (gOf m c))) (all16 (F := F) 1#32) := T_v10 m c
  rw [s6, h_v4, h_v10]
  try rfl
theorem T_v12 : st7 m c (Proc.devRef .tc main_v12) = endT (F := F) (gOf m c) := by
  have h_v11 : st6 m c (Proc.devRef .tc main_v11) = countT (F := F) (gOf m c) := T_v11 m c
  rw [s7, h_v11]
  try rfl
theorem T_v13 : st8 m c (Proc.devRef .tc main_v13) = (iotaInDim S111 32 0 : Vec F S111 .i32) := by
  rw [s8a]
  try rfl
theorem T_v15 : st8 m c (Proc.devRef .tc main_v15) = totOf (F := F) (endT (F := F) (gOf m c)) := by
  have h_v12 : st7 m c (Proc.devRef .tc main_v12) = endT (F := F) (gOf m c) := T_v12 m c
  rw [s8b, h_v12]
  try rfl
theorem T_v18 : st8 m c (Proc.devRef .tc main_v18) = clampT (F := F) (gOf m c) := by
  have h_v12 : st7 m c (Proc.devRef .tc main_v12) = endT (F := F) (gOf m c) := T_v12 m c
  rw [s8c, h_v12]
  try rfl
theorem T_v19 : st9 m c (Proc.devRef .tc main_v19) = expertT (F := F) (gOf m c) := by
  have h_v12 : st8 m c (Proc.devRef .tc main_v12) = endT (F := F) (gOf m c) := (keep8 m c main_v12 (by decide)).trans (T_v12 m c)
  have h_v18 : st8 m c (Proc.devRef .tc main_v18) = clampT (F := F) (gOf m c) := T_v18 m c
  rw [s9, h_v12, h_v18]
  try rfl
theorem T_v36 : st10 m c (Proc.devRef .tc main_v36) = tileT (F := F) (gOf m c) := by
  have h_v2 : st9 m c (Proc.devRef .tc main_v2) = firstT (F := F) (gOf m c) := (keep9 m c main_v2 (by decide)).trans ((keep8 m c main_v2 (by decide)).trans ((keep7 m c main_v2 (by decide)).trans ((keep6 m c main_v2 (by decide)).trans ((keep5 m c main_v2 (by decide)).trans ((keep4 m c main_v2 (by decide)).trans ((keep3 m c main_v2 (by decide)).trans (T_v2 m c)))))))
  have h_v19 : st9 m c (Proc.devRef .tc main_v19) = expertT (F := F) (gOf m c) := T_v19 m c
  have h_v18 : st9 m c (Proc.devRef .tc main_v18) = clampT (F := F) (gOf m c) := (keep9 m c main_v18 (by decide)).trans (T_v18 m c)
  have h_v12 : st9 m c (Proc.devRef .tc main_v12) = endT (F := F) (gOf m c) := (keep9 m c main_v12 (by decide)).trans ((keep8 m c main_v12 (by decide)).trans (T_v12 m c))
  have h_v11 : st9 m c (Proc.devRef .tc main_v11) = countT (F := F) (gOf m c) := (keep9 m c main_v11 (by decide)).trans ((keep8 m c main_v11 (by decide)).trans ((keep7 m c main_v11 (by decide)).trans (T_v11 m c)))
  rw [s10a, h_v2, h_v19, h_v18, h_v12, h_v11]
  try rfl
theorem T_v41 : st10 m c (Proc.devRef .tc main_v41) = newT (F := F) (gOf m c) := by
  have h_v19 : st9 m c (Proc.devRef .tc main_v19) = expertT (F := F) (gOf m c) := T_v19 m c
  rw [s10b, h_v19]
  try rfl
theorem T_v51 : st10 m c (Proc.devRef .tc main_v51) = subi (pick (F := F) (startsT (F := F) (gOf m c)) (expertT (F := F) (gOf m c))) (muli (tileT (F := F) (gOf m c)) (all111 (F := F) 512#32)) := by
  have h_v1 : st9 m c (Proc.devRef .tc main_v1) = startsT (F := F) (gOf m c) := (keep9 m c main_v1 (by decide)).trans ((keep8 m c main_v1 (by decide)).trans ((keep7 m c main_v1 (by decide)).trans ((keep6 m c main_v1 (by decide)).trans ((keep5 m c main_v1 (by decide)).trans ((keep4 m c main_v1 (by decide)).trans ((keep3 m c main_v1 (by decide)).trans ((keep2 m c main_v1 (by decide)).trans (T_v1 m c))))))))
  have h_v19 : st9 m c (Proc.devRef .tc main_v19) = expertT (F := F) (gOf m c) := T_v19 m c
  have h_v36 : st10 m c (Proc.devRef .tc main_v36) = tileT (F := F) (gOf m c) := T_v36 m c
  rw [s10c, h_v1, h_v19, h_v36]
  try rfl
theorem T_v52 : st11 m c (Proc.devRef .tc main_v52) = loT (F := F) (gOf m c) := by
  have h_v51 : st10 m c (Proc.devRef .tc main_v51) = subi (pick (F := F) (startsT (F := F) (gOf m c)) (expertT (F := F) (gOf m c))) (muli (tileT (F := F) (gOf m c)) (all111 (F := F) 512#32)) := T_v51 m c
  rw [s11, h_v51]
  try rfl
theorem T_v54 : st12 m c (Proc.devRef .tc main_v54) = cmpi .slt (iotaInDim S111 32 0 : Vec F S111 .i32) (broadcastInDim S111 ![] bcast_S_S111 (totOf (F := F) (endT (F := F) (gOf m c)))) := by
  have h_v13 : st11 m c (Proc.devRef .tc main_v13) = (iotaInDim S111 32 0 : Vec F S111 .i32) := (keep11 m c main_v13 (by decide)).trans ((keep10 m c main_v13 (by decide)).trans ((keep9 m c main_v13 (by decide)).trans (T_v13 m c)))
  have h_v15 : st11 m c (Proc.devRef .tc main_v15) = totOf (F := F) (endT (F := F) (gOf m c)) := (keep11 m c main_v15 (by decide)).trans ((keep10 m c main_v15 (by decide)).trans ((keep9 m c main_v15 (by decide)).trans (T_v15 m c)))
  rw [s12a, h_v13, h_v15]
  try rfl
theorem T_v64 : st12 m c (Proc.devRef .tc main_v64) = subi (pick (F := F) (runSum (F := F) (gOf m c)) (expertT (F := F) (gOf m c))) (muli (tileT (F := F) (gOf m c)) (all111 (F := F) 512#32)) := by
  have h_v0 : st11 m c (Proc.devRef .tc main_v0) = runSum (F := F) (gOf m c) := (keep11 m c main_v0 (by decide)).trans ((keep10 m c main_v0 (by decide)).trans ((keep9 m c main_v0 (by decide)).trans ((keep8 m c main_v0 (by decide)).trans ((keep7 m c main_v0 (by decide)).trans ((keep6 m c main_v0 (by decide)).trans ((keep5 m c main_v0 (by decide)).trans ((keep4 m c main_v0 (by decide)).trans ((keep3 m c main_v0 (by decide)).trans ((keep2 m c main_v0 (by decide)).trans ((keep1 m c main_v0 (by decide)).trans (T_v0 m c)))))))))))
  have h_v19 : st11 m c (Proc.devRef .tc main_v19) = expertT (F := F) (gOf m c) := (keep11 m c main_v19 (by decide)).trans ((keep10 m c main_v19 (by decide)).trans (T_v19 m c))
  have h_v36 : st11 m c (Proc.devRef .tc main_v36) = tileT (F := F) (gOf m c) := (keep11 m c main_v36 (by decide)).trans (T_v36 m c)
  rw [s12b, h_v0, h_v19, h_v36]
  try rfl
theorem T_v65 : st13 m c (Proc.devRef .tc main_v65) = clipT (F := F) (subi (pick (F := F) (runSum (F := F) (gOf m c)) (expertT (F := F) (gOf m c))) (muli (tileT (F := F) (gOf m c)) (all111 (F := F) 512#32))) := by
  have h_v64 : st12 m c (Proc.devRef .tc main_v64) = subi (pick (F := F) (runSum (F := F) (gOf m c)) (expertT (F := F) (gOf m c))) (muli (tileT (F := F) (gOf m c)) (all111 (F := F) 512#32)) := T_v64 m c
  rw [s13, h_v64]
  try rfl
theorem T_v66 : st15 m c (Proc.devRef .tc main_v66) = hiT (F := F) (gOf m c) := by
  have h_v54 : st14 m c (Proc.devRef .tc main_v54) = cmpi .slt (iotaInDim S111 32 0 : Vec F S111 .i32) (broadcastInDim S111 ![] bcast_S_S111 (totOf (F := F) (endT (F := F) (gOf m c)))) := (keep14 m c main_v54 (by decide)).trans ((keep13 m c main_v54 (by decide)).trans (T_v54 m c))
  have h_v65 : st14 m c (Proc.devRef .tc main_v65) = clipT (F := F) (subi (pick (F := F) (runSum (F := F) (gOf m c)) (expertT (F := F) (gOf m c))) (muli (tileT (F := F) (gOf m c)) (all111 (F := F) 512#32))) := (keep14 m c main_v65 (by decide)).trans (T_v65 m c)
  rw [s15, h_v54, h_v65]
  try rfl

theorem V_expert : Vof m c main_v19 = expertT (F := F) (gOf m c) :=
  (Vof_eq m c _).trans ((keep15 m c main_v19 (by decide)).trans ((keep14 m c main_v19 (by decide)).trans ((keep13 m c main_v19 (by decide)).trans ((keep12 m c main_v19 (by decide)).trans ((keep11 m c main_v19 (by decide)).trans ((keep10 m c main_v19 (by decide)).trans (T_v19 m c)))))))
theorem V_tile : Vof m c main_v36 = tileT (F := F) (gOf m c) :=
  (Vof_eq m c _).trans ((keep15 m c main_v36 (by decide)).trans ((keep14 m c main_v36 (by decide)).trans ((keep13 m c main_v36 (by decide)).trans ((keep12 m c main_v36 (by decide)).trans ((keep11 m c main_v36 (by decide)).trans (T_v36 m c))))))
theorem V_new : Vof m c main_v41 = newT (F := F) (gOf m c) :=
  (Vof_eq m c _).trans ((keep15 m c main_v41 (by decide)).trans ((keep14 m c main_v41 (by decide)).trans ((keep13 m c main_v41 (by decide)).trans ((keep12 m c main_v41 (by decide)).trans ((keep11 m c main_v41 (by decide)).trans (T_v41 m c))))))
theorem V_lo : Vof m c main_v52 = loT (F := F) (gOf m c) :=
  (Vof_eq m c _).trans ((keep15 m c main_v52 (by decide)).trans ((keep14 m c main_v52 (by decide)).trans ((keep13 m c main_v52 (by decide)).trans ((keep12 m c main_v52 (by decide)).trans (T_v52 m c)))))
theorem V_hi : Vof m c main_v66 = hiT (F := F) (gOf m c) :=
  (Vof_eq m c _).trans (T_v66 m c)
theorem V_arg0 : Vof m c main_arg0 = m (c, Proc.devRef .tc main_arg0) :=
  (Vof_eq m c _).trans ((keep15 m c main_arg0 (by decide)).trans ((keep14 m c main_arg0 (by decide)).trans ((keep13 m c main_arg0 (by decide)).trans ((keep12 m c main_arg0 (by decide)).trans ((keep11 m c main_arg0 (by decide)).trans ((keep10 m c main_arg0 (by decide)).trans ((keep9 m c main_arg0 (by decide)).trans ((keep8 m c main_arg0 (by decide)).trans ((keep7 m c main_arg0 (by decide)).trans ((keep6 m c main_arg0 (by decide)).trans ((keep5 m c main_arg0 (by decide)).trans ((keep4 m c main_arg0 (by decide)).trans ((keep3 m c main_arg0 (by decide)).trans ((keep2 m c main_arg0 (by decide)).trans ((keep1 m c main_arg0 (by decide)).trans ((keep0 m c main_arg0 (by decide))))))))))))))))))
theorem V_arg1 : Vof m c main_arg1 = m (c, Proc.devRef .tc main_arg1) :=
  (Vof_eq m c _).trans ((keep15 m c main_arg1 (by decide)).trans ((keep14 m c main_arg1 (by decide)).trans ((keep13 m c main_arg1 (by decide)).trans ((keep12 m c main_arg1 (by decide)).trans ((keep11 m c main_arg1 (by decide)).trans ((keep10 m c main_arg1 (by decide)).trans ((keep9 m c main_arg1 (by decide)).trans ((keep8 m c main_arg1 (by decide)).trans ((keep7 m c main_arg1 (by decide)).trans ((keep6 m c main_arg1 (by decide)).trans ((keep5 m c main_arg1 (by decide)).trans ((keep4 m c main_arg1 (by decide)).trans ((keep3 m c main_arg1 (by decide)).trans ((keep2 m c main_arg1 (by decide)).trans ((keep1 m c main_arg1 (by decide)).trans ((keep0 m c main_arg1 (by decide))))))))))))))))))
theorem V_arg2 : Vof m c main_arg2 = m (c, Proc.devRef .tc main_arg2) :=
  (Vof_eq m c _).trans ((keep15 m c main_arg2 (by decide)).trans ((keep14 m c main_arg2 (by decide)).trans ((keep13 m c main_arg2 (by decide)).trans ((keep12 m c main_arg2 (by decide)).trans ((keep11 m c main_arg2 (by decide)).trans ((keep10 m c main_arg2 (by decide)).trans ((keep9 m c main_arg2 (by decide)).trans ((keep8 m c main_arg2 (by decide)).trans ((keep7 m c main_arg2 (by decide)).trans ((keep6 m c main_arg2 (by decide)).trans ((keep5 m c main_arg2 (by decide)).trans ((keep4 m c main_arg2 (by decide)).trans ((keep3 m c main_arg2 (by decide)).trans ((keep2 m c main_arg2 (by decide)).trans ((keep1 m c main_arg2 (by decide)).trans ((keep0 m c main_arg2 (by decide))))))))))))))))))
theorem V_arg3 : Vof m c main_arg3 = m (c, Proc.devRef .tc main_arg3) :=
  (Vof_eq m c _).trans ((keep15 m c main_arg3 (by decide)).trans ((keep14 m c main_arg3 (by decide)).trans ((keep13 m c main_arg3 (by decide)).trans ((keep12 m c main_arg3 (by decide)).trans ((keep11 m c main_arg3 (by decide)).trans ((keep10 m c main_arg3 (by decide)).trans ((keep9 m c main_arg3 (by decide)).trans ((keep8 m c main_arg3 (by decide)).trans ((keep7 m c main_arg3 (by decide)).trans ((keep6 m c main_arg3 (by decide)).trans ((keep5 m c main_arg3 (by decide)).trans ((keep4 m c main_arg3 (by decide)).trans ((keep3 m c main_arg3 (by decide)).trans ((keep2 m c main_arg3 (by decide)).trans ((keep1 m c main_arg3 (by decide)).trans ((keep0 m c main_arg3 (by decide))))))))))))))))))

end Cert.Kernel.Hand
-- ==== Proof.Plan.lean ====
/-
  The schedule of the grouped product in plain numbers. Rows are sorted by expert; expert `e` owns the rows from
  `S e` up to `S (e + 1)`. An item is a pair of an expert and a tile of 512 rows that meet; items are numbered expert by
  expert, tile by tile.
-/
module

public import Idealize.ShloMosaic.Lib.Routing.Count

@[expose] public section

namespace Cert.Plan

open Idealize.ShloMosaic.Routing

variable (G : ℕ → ℕ)

/-- The sum of the first `n` values. -/
def pre (f : ℕ → ℕ) (n : ℕ) : ℕ := ((List.range n).map f).sum

theorem pre_zero (f : ℕ → ℕ) : pre f 0 = 0 := rfl
theorem pre_succ (f : ℕ → ℕ) (n : ℕ) : pre f (n + 1) = pre f n + f n := by
  unfold pre; rw [List.range_succ, List.map_append, List.sum_append]; simp
theorem pre_mono (f : ℕ → ℕ) {a b : ℕ} (h : a ≤ b) : pre f a ≤ pre f b := by
  induction h with
  | refl => exact le_rfl
  | step _ ih => rw [pre_succ]; omega

/-- The row where expert `e` starts, its number of tiles, and the item where it starts. -/
abbrev S (e : ℕ) : ℕ := pre G e
def cnt (e : ℕ) : ℕ := if 0 < G e then (S G (e + 1) - 1) / 512 - S G e / 512 + 1 else 0
abbrev E (e : ℕ) : ℕ := pre (cnt G) e

/-- The item that a grid step works on, its expert, its tile, and the rows of the tile that it computes. -/
def item (j : ℕ) : ℕ := min j (E G 16 - 1)
def ex (j : ℕ) : ℕ := Nat.count (fun i => E G (i + 1) ≤ item G j) 16
def tile (j : ℕ) : ℕ := S G (ex G j) / 512 + (item G j - E G (ex G j))
def lo (j : ℕ) : ℕ := S G (ex G j) - 512 * tile G j
def hi (j : ℕ) : ℕ := if j < E G 16 then min 512 (S G (ex G j + 1) - 512 * tile G j) else 0

variable {G}

theorem E_le (k : ℕ) : E G (k + 1) ≤ (S G (k + 1) + 511) / 512 + k := by
  induction k with
  | zero => rw [E, pre_succ, S, pre_succ, pre_zero]; unfold cnt; rw [S, pre_succ, S, pre_zero]; split <;> omega
  | succ k ih =>
    have e1 : E G (k + 1 + 1) = E G (k + 1) + cnt G (k + 1) := pre_succ _ _
    have e2 : S G (k + 1 + 1) = S G (k + 1) + G (k + 1) := pre_succ _ _
    have h : cnt G (k + 1) ≤ (S G (k + 1 + 1) + 511) / 512 - S G (k + 1) / 512 := by
      unfold cnt; split <;> omega
    have h2 : S G (k + 1) / 512 ≤ (S G (k + 1 + 1) + 511) / 512 := Nat.div_le_div_right (by omega)
    omega

theorem cnt_pos_iff (e : ℕ) : 0 < cnt G e ↔ 0 < G e := by unfold cnt; split <;> omega

section Total

variable (hS : S G 16 = 49152)
include hS

theorem total_le : E G 16 ≤ 111 := by have := E_le (G := G) 15; rw [hS] at this; omega

theorem S_le (e : ℕ) (h : e ≤ 16) : S G e ≤ 49152 := hS ▸ pre_mono G h

/-- The expert that owns a row. -/
theorem owner (R : ℕ) (hR : R < 49152) : ∃ e, e < 16 ∧ S G e ≤ R ∧ R < S G (e + 1) := by
  have : ∀ n, R < S G n → ∃ e, e < n ∧ S G e ≤ R ∧ R < S G (e + 1) := by
    intro n
    induction n with
    | zero => intro h; rw [S, pre_zero] at h; omega
    | succ n ih =>
      intro h
      by_cases h' : R < S G n
      · obtain ⟨e, he, h1⟩ := ih h'; exact ⟨e, by omega, h1⟩
      · exact ⟨n, by omega, by omega, h⟩
  exact this 16 (by omega)

theorem total_pos : 0 < E G 16 := by
  obtain ⟨e, he, h1, h2⟩ := owner hS 0 (by omega)
  have h2' : S G (e + 1) = S G e + G e := pre_succ _ _
  have h3 : 0 < cnt G e := (cnt_pos_iff e).2 (by omega)
  have h4 := pre_mono (cnt G) (show e + 1 ≤ 16 by omega)
  rw [pre_succ] at h4
  show 0 < pre (cnt G) 16
  omega

theorem item_lt (j : ℕ) : item G j < E G 16 := by have := total_pos hS; unfold item; omega

theorem ex_spec (j : ℕ) : ex G j < 16 ∧ E G (ex G j) ≤ item G j ∧ item G j < E G (ex G j + 1) := by
  have hq : ∀ a b, a ≤ b → b < 16 → E G (b + 1) ≤ item G j → E G (a + 1) ≤ item G j :=
    fun a b hab _ h => (pre_mono (cnt G) (show a + 1 ≤ b + 1 by omega)).trans h
  have hc : ∀ r, r < 16 → (r < ex G j ↔ E G (r + 1) ≤ item G j) := fun r hr => (lt_count_iff hq hr).symm
  have hlt : ex G j < 16 := by
    by_contra h
    have : E G 16 ≤ item G j := (hc 15 (by omega)).1 (by omega)
    have := item_lt hS j
    omega
  refine ⟨hlt, ?_, ?_⟩
  · rcases Nat.eq_zero_or_pos (ex G j) with h | h
    · rw [h, E, pre_zero]; omega
    · have := (hc (ex G j - 1) (by omega)).1 (by omega)
      rwa [show ex G j - 1 + 1 = ex G j by omega] at this
  · by_contra h
    exact absurd ((hc (ex G j) hlt).2 (by omega)) (by omega)

/-- Which item's expert it is: the only one whose items hold the item. -/
theorem ex_unique (j e : ℕ) (he : e < 16) (h1 : E G e ≤ item G j) (h2 : item G j < E G (e + 1)) : ex G j = e := by
  obtain ⟨h3, h4, h5⟩ := ex_spec hS j
  rcases lt_trichotomy (ex G j) e with h | h | h
  · have := pre_mono (cnt G) (show ex G j + 1 ≤ e by omega)
    have h1' : pre (cnt G) e ≤ item G j := h1
    have h5' : item G j < pre (cnt G) (ex G j + 1) := h5
    omega
  · exact h
  · have := pre_mono (cnt G) (show e + 1 ≤ ex G j by omega)
    have h2' : item G j < pre (cnt G) (e + 1) := h2
    have h4' : pre (cnt G) (ex G j) ≤ item G j := h4
    omega

theorem G_pos (j : ℕ) : 0 < G (ex G j) := by
  obtain ⟨h3, h4, h5⟩ := ex_spec hS j
  rw [E, pre_succ] at h5
  exact (cnt_pos_iff _).1 (by change pre (cnt G) _ ≤ _ at h4; omega)

theorem item_off (j : ℕ) : S G (ex G j) / 512 ≤ tile G j ∧ tile G j ≤ (S G (ex G j + 1) - 1) / 512 ∧ S G (ex G j) < S G (ex G j + 1) := by
  obtain ⟨h3, h4, h5⟩ := ex_spec hS j
  have hg := G_pos hS j
  have h6 : S G (ex G j + 1) = S G (ex G j) + G (ex G j) := pre_succ _ _
  have h7 : E G (ex G j + 1) = E G (ex G j) + cnt G (ex G j) := pre_succ _ _
  have h8 : cnt G (ex G j) = (S G (ex G j + 1) - 1) / 512 - S G (ex G j) / 512 + 1 := by unfold cnt; rw [if_pos hg]
  have h9 : S G (ex G j) / 512 ≤ (S G (ex G j + 1) - 1) / 512 := Nat.div_le_div_right (by omega)
  unfold tile
  omega

theorem tile_lt (j : ℕ) : tile G j < 96 := by
  have h := item_off hS j
  have := S_le hS (ex G j + 1) (by have := (ex_spec hS j).1; omega)
  omega

theorem row_owner (j y : ℕ) (h1 : lo G j ≤ y) (h2 : y < hi G j) :
    S G (ex G j) ≤ 512 * tile G j + y ∧ 512 * tile G j + y < S G (ex G j + 1) := by
  unfold lo at h1; unfold hi at h2
  split at h2 <;> omega

theorem tile_mono_succ (j : ℕ) : tile G j ≤ tile G (j + 1) := by
  obtain ⟨h3, h4, h5⟩ := ex_spec hS j
  obtain ⟨h3', h4', h5'⟩ := ex_spec hS (j + 1)
  have hi : item G j ≤ item G (j + 1) := by unfold item; omega
  by_cases h : ex G (j + 1) = ex G j
  · unfold tile; rw [h]; omega
  · have hlt : ex G j < ex G (j + 1) := by
      by_contra hn
      have := pre_mono (cnt G) (show ex G (j + 1) + 1 ≤ ex G j by omega)
      change pre (cnt G) _ ≤ _ at h4
      change _ < pre (cnt G) _ at h5'
      omega
    have a := item_off hS j
    have b := item_off hS (j + 1)
    have c : S G (ex G j + 1) ≤ S G (ex G (j + 1)) := pre_mono G (show ex G j + 1 ≤ ex G (j + 1) by omega)
    have d : (S G (ex G j + 1) - 1) / 512 ≤ S G (ex G (j + 1)) / 512 := Nat.div_le_div_right (by omega)
    omega

theorem tile_mono {a b : ℕ} (h : a ≤ b) : tile G a ≤ tile G b := by
  induction h with
  | refl => exact le_rfl
  | step _ ih => exact ih.trans (tile_mono_succ hS _)

/-- Every row is computed by some item. -/
theorem cover (R : ℕ) (hR : R < 49152) : ∃ j, j < 111 ∧ tile G j = R / 512 ∧ lo G j ≤ R % 512 ∧ R % 512 < hi G j := by
  obtain ⟨e, he, h1, h2⟩ := owner hS R hR
  have h6 : S G (e + 1) = S G e + G e := pre_succ _ _
  have h7 : E G (e + 1) = E G e + cnt G e := pre_succ _ _
  have h8 : cnt G e = (S G (e + 1) - 1) / 512 - S G e / 512 + 1 := by unfold cnt; rw [if_pos (by omega)]
  have h9 : S G e / 512 ≤ R / 512 := Nat.div_le_div_right h1
  have h10 : R / 512 ≤ (S G (e + 1) - 1) / 512 := Nat.div_le_div_right (by omega)
  have h11 : E G (e + 1) ≤ E G 16 := pre_mono _ (by omega)
  have ht := total_le hS
  have hj : item G (E G e + (R / 512 - S G e / 512)) = E G e + (R / 512 - S G e / 512) := by unfold item; omega
  have hex : ex G (E G e + (R / 512 - S G e / 512)) = e := ex_unique hS _ e he (by omega) (by omega)
  have htile : tile G (E G e + (R / 512 - S G e / 512)) = R / 512 := by unfold tile; rw [hex, hj]; omega
  refine ⟨E G e + (R / 512 - S G e / 512), by omega, htile, ?_, ?_⟩
  · unfold lo; rw [hex, htile]; omega
  · unfold hi; rw [hex, htile, if_pos (by omega)]; omega

end Total

end Cert.Plan
-- ==== Proof.WordsK.lean ====
/-
  The entries of the five prefetched tables, as the numbers of the schedule in Plan.lean.
-/
module

public import proofs.«01_k».proof.Proof.TablesK
public import proofs.«01_k».proof.Proof.Plan
public import Idealize.ShloMosaic.Lib.Routing.Words
public import Idealize.ShloMosaic.Lib.Pipeline.Value
public import Idealize.ShloMosaic.Lib.Routing.OpsSearch
public import Idealize.ShloMosaic.Lib.Routing.OpsSet
public import Idealize.ShloMosaic.Lib.Routing.OpsPair

@[expose] public section

noncomputable section

namespace Cert.Kernel.Hand

open Cert.Kernel Cert.Kernel.Gen Cert.Hand Cert.Plan
open Idealize.ShloMosaic Idealize.ShloMosaic.TcCoe
open Idealize.ShloMosaic.Routing Idealize.ShloMosaic.ValueIdx Idealize.ShloMosaic.WordCmp

variable {F : FTy → Type} [FloatOps F]

abbrev nat32 (n : ℕ) : BitVec 32 := BitVec.ofNat 32 n

theorem minsi_nat {a b : ℕ} (ha : a < 2 ^ 31) (hb : b < 2 ^ 31) : IntOp.minsi (nat32 a) (nat32 b) = nat32 (min a b) := by
  unfold IntOp.minsi
  rw [slt_ofNat32 ha hb]
  by_cases h : a < b
  · rw [if_pos (decide_eq_true h), Nat.min_eq_left (Nat.le_of_lt h)]
  · rw [if_neg (fun e => h (of_decide_eq_true e)), Nat.min_eq_right (by omega)]

/-- Clipping a difference to a row number of a tile. -/
theorem clip_sub {a b : ℕ} (ha : a < 2 ^ 30) (hb : b < 2 ^ 30) :
    IntOp.minsi (512#32) (IntOp.maxsi (0#32) (nat32 a - nat32 b)) = nat32 (min 512 (a - b)) := by
  have hm : IntOp.maxsi (0#32) (nat32 a - nat32 b) = nat32 (a - b) := by
    rcases Nat.le_total b a with h | h
    · rw [ofNat32_sub h]
      exact maxsi_zero_left (by omega)
    · rw [show a - b = 0 by omega]
      unfold IntOp.maxsi
      split
      · rfl
      · next hn =>
        rcases Nat.lt_or_ge a b with h' | h'
        · refine absurd ?_ hn
          have ea : (nat32 a).toInt = (a : ℤ) := toInt_ofNat_of_lt (w := 32) (by omega)
          have eb : (nat32 b).toInt = (b : ℤ) := toInt_ofNat_of_lt (w := 32) (by omega)
          rw [BitVec.slt, decide_eq_true_iff, BitVec.toInt_sub, ea, eb, Int.bmod_eq_of_le (by omega) (by omega)]
          show _ < (0 : ℤ)
          omega
        · rw [show a = b by omega, BitVec.sub_self]
  rw [hm]
  exact minsi_nat (a := 512) (by decide) (by omega)

theorem all16_at (x : BitVec 32) (i : S16.Idx) : all16 (F := F) x i = x := bc0 _ _ _
theorem all111_at (x : BitVec 32) (i : S111.Idx) : all111 (F := F) x i = x := bc0 _ _ _

theorem runSum_at (x : Vec F S16 .i32) (f : ℕ → ℕ) (hx : ∀ i : Fin 16, x (ix1 i) = nat32 (f i)) (j : Fin 16) :
    runSum (F := F) x (ix1 j) = nat32 (pre f (j + 1)) :=
  cumsum1 (N := 16) (Nm1 := 15) rfl x f hx _ (bc0 _ _ _) _ _ j

theorem floorDiv_at (x : Vec F S16 .i32) (i : S16.Idx) {a : ℕ} (hx : x i = nat32 a) (ha : a < 2 ^ 31) : floorDiv (F := F) x i = nat32 (a / 512) :=
  pyDiv_ap bcast_S_S16 x (constantI S_ 32 512#32) i hx rfl ha (by decide) (by decide)

theorem pick_at (x : Vec F S16 .i32) (e : Vec F S111 .i32) (p : Fin 111) (k : Fin 16) (he : e (ix1 p) = nat32 k) :
    pick (F := F) x e (ix1 p) = x (ix1 k) := by
  have hk := k.isLt
  unfold pick
  refine gather_take1 (N := 16) (n := 111) _ rfl rfl rfl rfl x _ p k ?_ (by decide)
  refine (bcCol (n := 111) _ _ p).trans ?_
  show Scalar.select (IntOp.cmpi .slt (e (ix1 p)) (all111 (F := F) 0#32 (ix1 p))) _ (e (ix1 p)) = _
  rw [all111_at, wrap_of_lt _ _ (by rw [he, toNat_ofNat_of_lt (w := 32) (by omega)]; show (k : ℕ) < 2 ^ 31; omega), he]

theorem totOf_at (e : Vec F S16 .i32) : totOf (F := F) e ValueIdx.ix0 = e (ix1 (15 : Fin 16)) := by
  unfold totOf
  refine (shapeCast_apply _ _ ValueIdx.ix0 (ix1 (0 : Fin 1)) (by decide)).trans ?_
  exact slice1 15 e _ (0 : Fin 1) (by decide)

theorem expertOf_at (e : Vec F S16 .i32) (u : Vec F S111 .i32) (f : ℕ → ℕ) (n : ℕ) (j : Fin 111) (he : ∀ i : Fin 16, e (ix1 i) = nat32 (f i))
    (hf : ∀ i, i < 16 → f i < 2 ^ 31) (hu : u (ix1 j) = nat32 n) (hn : n < 2 ^ 31) :
    expertOf (F := F) e u (ix1 j) = nat32 (Nat.count (fun i => f i ≤ n) 16) := by
  apply BitVec.eq_of_toNat_eq
  unfold expertOf
  rw [StableHlo.Predicate.toNat_reduce_count_rows (n := 16) (m := 111) (by decide), BitVec.toNat_ofNat,
    Nat.mod_eq_of_lt (Nat.lt_of_le_of_lt (Nat.count_le _) (by decide)), ← card_filter_fin 16]
  refine congrArg Finset.card (Finset.filter_congr fun q _ => ?_)
  show cmpi .sle _ _ (StableHlo.Predicate.ij q j) = 1#1 ↔ _
  rw [ij_eq_ix2]
  show IntOp.cmpi .sle _ _ = 1#1 ↔ _
  rw [bcRows (n := 16) (m := 111), bcCols (n := 16) (m := 111), he, hu]
  exact StableHlo.Predicate.sle_ofNat_iff _ _ (hf _ q.isLt) hn

section Sizes

variable (g : Vec F S16 .i32) (G : ℕ → ℕ) (hg : ∀ i : Fin 16, g (ix1 i) = nat32 (G i)) (hS : S G 16 = 49152)
include hg hS

theorem runSum_g (j : Fin 16) : runSum (F := F) g (ix1 j) = nat32 (S G (j + 1)) := runSum_at g G hg j

theorem startsT_g (j : Fin 16) : startsT (F := F) g (ix1 j) = nat32 (S G j) := by
  show runSum (F := F) g (ix1 j) - g (ix1 j) = _
  rw [runSum_g g G hg hS, hg, S, pre_succ, ofNat32_sub (by omega), Nat.add_sub_cancel]

theorem firstT_g (j : Fin 16) : firstT (F := F) g (ix1 j) = nat32 (S G j / 512) :=
  floorDiv_at _ _ (startsT_g g G hg hS j) (by have := S_le hS j (by omega); omega)

theorem countT_g (j : Fin 16) : countT (F := F) g (ix1 j) = nat32 (cnt G j) := by
  have h1 := S_le hS j (by omega)
  have h2 := S_le hS (j + 1) (by omega)
  have h6 : S G (j + 1) = S G j + G j := pre_succ _ _
  show Scalar.select (BitVec.ofBool ((all16 (F := F) 0#32 (ix1 j)).slt (g (ix1 j))))
    (floorDiv (F := F) (subi (runSum (F := F) g) (all16 (F := F) 1#32)) (ix1 j) - firstT (F := F) g (ix1 j) + all16 (F := F) 1#32 (ix1 j)) (all16 (F := F) 0#32 (ix1 j)) = _
  rw [all16_at, all16_at, hg, show (0#32 : BitVec 32) = nat32 0 from rfl, slt_ofNat32 (by decide) (by omega), select_decide, firstT_g g G hg hS]
  unfold cnt
  by_cases h : 0 < G j
  · rw [if_pos h, if_pos h, floorDiv_at (F := F) _ _ (a := S G (j + 1) - 1) ?_ (by omega), ofNat32_sub (Nat.div_le_div_right (by omega))]
    · exact BitVec.ofNat_add_ofNat ..
    · show runSum (F := F) g (ix1 j) - all16 (F := F) 1#32 (ix1 j) = _
      rw [all16_at, runSum_g g G hg hS]
      exact ofNat32_sub (by omega)
  · rw [if_neg h, if_neg h]

theorem endT_g (j : Fin 16) : endT (F := F) g (ix1 j) = nat32 (E G (j + 1)) := runSum_at _ (cnt G) (countT_g g G hg hS) j

theorem total_g : totOf (F := F) (endT (F := F) g) ValueIdx.ix0 = nat32 (E G 16) := (totOf_at _).trans (endT_g g G hg hS 15)

theorem clampT_g (j : Fin 111) : clampT (F := F) g (ix1 j) = nat32 (item G j) := by
  have h1 := total_le hS
  have h2 := total_pos hS
  show IntOp.minsi (nat32 j) (broadcastInDim S111 ![] bcast_S_S111 (subi (totOf (F := F) (endT (F := F) g)) (constantI S_ 32 1#32 : Vec F S_ .i32)) (ix1 j)) = _
  rw [bc0]
  show IntOp.minsi (nat32 j) (totOf (F := F) (endT (F := F) g) ValueIdx.ix0 - nat32 1) = _
  rw [total_g g G hg hS, ofNat32_sub (by omega), minsi_nat (by omega) (by omega)]
  rfl

theorem expertT_g (j : Fin 111) : expertT (F := F) g (ix1 j) = nat32 (ex G j) := by
  have h1 := total_le hS
  refine expertOf_at _ _ (fun i => E G (i + 1)) _ j (endT_g g G hg hS) (fun i hi => ?_) (clampT_g g G hg hS j) ?_
  · have := pre_mono (cnt G) (show i + 1 ≤ 16 by omega)
    show pre _ _ < _; change pre (cnt G) 16 ≤ _ at h1; omega
  · have := item_lt hS j; omega

abbrev exF (j : Fin 111) : Fin 16 := ⟨ex G j, (ex_spec hS j).1⟩

theorem pick_g (x : Vec F S16 .i32) (j : Fin 111) : pick (F := F) x (expertT (F := F) g) (ix1 j) = x (ix1 (exF G hS j)) :=
  pick_at _ _ _ _ (expertT_g g G hg hS j)

theorem tileT_g (j : Fin 111) : tileT (F := F) g (ix1 j) = nat32 (tile G j) := by
  obtain ⟨h3, h4, h5⟩ := ex_spec hS j
  have h7 : E G (ex G j + 1) = E G (ex G j) + cnt G (ex G j) := pre_succ _ _
  show pick (F := F) (firstT (F := F) g) (expertT (F := F) g) (ix1 j) + clampT (F := F) g (ix1 j)
    - pick (F := F) (subi (endT (F := F) g) (countT (F := F) g)) (expertT (F := F) g) (ix1 j) = _
  rw [pick_g g G hg hS, pick_g g G hg hS, clampT_g g G hg hS, firstT_g g G hg hS]
  show _ - (endT (F := F) g (ix1 (exF G hS j)) - countT (F := F) g (ix1 (exF G hS j))) = _
  rw [endT_g g G hg hS, countT_g g G hg hS]
  show nat32 (S G (ex G j) / 512) + nat32 (item G j) - (nat32 (E G (ex G j + 1)) - nat32 (cnt G (ex G j))) = _
  rw [h7, ofNat32_sub (by omega), Nat.add_sub_cancel, BitVec.ofNat_add_ofNat, ofNat32_sub (by omega), tile, Nat.add_sub_assoc h4]

theorem off_g (x : Vec F S16 .i32) (n : ℕ) (j : Fin 111) (hx : x (ix1 (exF G hS j)) = nat32 n) (hn : n ≤ 49152) :
    clipT (F := F) (subi (pick (F := F) x (expertT (F := F) g)) (muli (tileT (F := F) g) (all111 (F := F) 512#32))) (ix1 j) = nat32 (min 512 (n - 512 * tile G j)) := by
  have ht := tile_lt hS j
  show IntOp.minsi (all111 (F := F) 512#32 (ix1 j)) (IntOp.maxsi (all111 (F := F) 0#32 (ix1 j))
    (pick (F := F) x (expertT (F := F) g) (ix1 j) - tileT (F := F) g (ix1 j) * all111 (F := F) 512#32 (ix1 j))) = _
  rw [all111_at, all111_at, pick_g g G hg hS, hx, tileT_g g G hg hS, show (512#32 : BitVec 32) = nat32 512 from rfl, ← BitVec.ofNat_mul, Nat.mul_comm]
  exact clip_sub (by omega) (by omega)

theorem loT_g (j : Fin 111) : loT (F := F) g (ix1 j) = nat32 (lo G j) := by
  have h := item_off hS j
  refine (off_g g G hg hS _ _ j (startsT_g g G hg hS _) (S_le hS _ (by have := (ex_spec hS j).1; show ex G j ≤ 16; omega))).trans ?_
  unfold lo
  refine congrArg nat32 (Nat.min_eq_right ?_)
  show S G (ex G j) - 512 * tile G j ≤ 512
  omega

theorem hiT_g (j : Fin 111) : hiT (F := F) g (ix1 j) = nat32 (hi G j) := by
  have ht := total_le hS
  show Scalar.select (BitVec.ofBool ((nat32 j).slt (broadcastInDim S111 ![] bcast_S_S111 (totOf (F := F) (endT (F := F) g)) (ix1 j))))
    (clipT (F := F) (subi (pick (F := F) (runSum (F := F) g) (expertT (F := F) g)) (muli (tileT (F := F) g) (all111 (F := F) 512#32))) (ix1 j)) (all111 (F := F) 0#32 (ix1 j)) = _
  rw [bc0, all111_at, off_g g G hg hS _ _ j (runSum_g g G hg hS _) (S_le hS _ (by have := (ex_spec hS j).1; show ex G j + 1 ≤ 16; omega)),
    total_g g G hg hS, slt_ofNat32 (by omega) (by omega), select_decide]
  unfold hi
  split <;> rfl

theorem newT_zero : newT (F := F) g (ix1 (0 : Fin 111)) = 1#32 := by
  have h := (ex_spec hS 0).1
  show (BitVec.ofBool (_ != expertT (F := F) g (ix1 (0 : Fin 111)))).setWidth 32 = _
  rw [expertT_g g G hg hS, concatenate_pair_apply_left (s₁ := S1) (s₂ := S110) (t := S111) 0 _ _ _ (ix1 (0 : Fin 111)) rfl (ix1 (0 : Fin 1)) (by intro b; fin_cases b; rfl)]
  rw [bc0]
  show (BitVec.ofBool ((4294967295#32 : BitVec 32) != nat32 (ex G 0))).setWidth 32 = _
  rw [show ((4294967295#32 : BitVec 32) != nat32 (ex G 0)) = true from bne_iff_ne.2 fun e => by
    have := congrArg BitVec.toNat e; rw [toNat_ofNat_of_lt (w := 32) (by omega)] at this; simp at this; omega]
  rfl

theorem newT_succ (j : ℕ) (hj : j + 1 < 111) : newT (F := F) g (ix1 (⟨j + 1, hj⟩ : Fin 111)) = if ex G j = ex G (j + 1) then 0#32 else 1#32 := by
  have h := (ex_spec hS j).1
  have h' := (ex_spec hS (j + 1)).1
  show (BitVec.ofBool (_ != expertT (F := F) g (ix1 (⟨j + 1, hj⟩ : Fin 111)))).setWidth 32 = _
  rw [expertT_g g G hg hS, concatenate_pair_apply_right (s₁ := S1) (s₂ := S110) (t := S111) 0 _ _ _ (ix1 (⟨j + 1, hj⟩ : Fin 111)) rfl rfl (ix1 (⟨j, by omega⟩ : Fin 110)) (by intro b hb; exact absurd (Subsingleton.elim _ _) hb) rfl]
  rw [slice1 (m := 111) (n := 110) 0 (expertT (F := F) g) _ (⟨j, by omega⟩ : Fin 110) (by show 0 + j < 111; omega)]
  rw [show (⟨0 + (⟨j, by omega⟩ : Fin 110).val, by show 0 + j < 111; omega⟩ : Fin 111) = ⟨j, by omega⟩ from Fin.ext (Nat.zero_add j), expertT_g g G hg hS]
  show (BitVec.ofBool (nat32 (ex G j) != nat32 (ex G (j + 1)))).setWidth 32 = _
  by_cases e : ex G j = ex G (j + 1)
  · rw [if_pos e, e, bne_self_eq_false]; rfl
  · rw [if_neg e, show (nat32 (ex G j) != nat32 (ex G (j + 1))) = true from bne_iff_ne.2 fun e' => e (by
      have := congrArg BitVec.toNat e'; rwa [toNat_ofNat_of_lt (w := 32) (by omega), toNat_ofNat_of_lt (w := 32) (by omega)] at this)]
    rfl

end Sizes

end Cert.Kernel.Hand
-- ==== Proof.Sizes.lean ====
/-
  What the precondition on the group sizes says, in numbers: sixteen naturals that sum to the number of rows.
-/
module

public import proofs.«01_k».proof.Defs
public import proofs.«01_k».proof.Proof.Gen.Pre_sizes_sum_to_rows
public import proofs.«01_k».proof.Proof.Plan
public import Idealize.ShloMosaic.Lib.ReduceAll
public import Idealize.ShloMosaic.Lib.Routing.Words
public import Idealize.ShloMosaic.Lib.Routing.Ops

@[expose] public section

noncomputable section

namespace Cert.Hand

open Idealize.ShloMosaic Cert.Plan
open Idealize.ShloMosaic.Routing Idealize.ShloMosaic.ValueIdx Idealize.ShloMosaic.WordCmp

abbrev V16 : Shape := ⟨1, ![16]⟩
abbrev V0 : Shape := ⟨0, ![]⟩

instance : Subsingleton V0.Idx := ⟨fun a b => funext fun i => i.elim0⟩

/-- The sizes as naturals, zero past the last. -/
def sizes (g : IVec V16 32) (i : ℕ) : ℕ := if h : i < 16 then (g (ix1 ⟨i, h⟩)).toNat else 0

theorem sizes_at (g : IVec V16 32) (i : Fin 16) : g (ix1 i) = BitVec.ofNat 32 (sizes g i) := by
  unfold sizes
  rw [dif_pos i.isLt]
  exact (BitVec.eq_of_toNat_eq (by rw [BitVec.toNat_ofNat, Nat.mod_eq_of_lt (BitVec.isLt _)])).symm

theorem andi_one {x y : BitVec 1} (h : IntOp.andi x y = 1#1) : x = 1#1 ∧ y = 1#1 := by
  revert x y; decide

theorem ofBool_one {b : Bool} (h : BitVec.ofBool b = 1#1) : b = true := by
  cases b
  · exact absurd h (by decide)
  · rfl

theorem sum_range_eq_pre (f : ℕ → ℕ) : ∀ n, ((List.range n).map f).sum = pre f n
  | 0 => rfl
  | n + 1 => by rw [List.range_succ, List.map_append, List.sum_append, sum_range_eq_pre f n, pre_succ]; simp

theorem pre_le_mul (f : ℕ → ℕ) (B : ℕ) : ∀ n, (∀ i, i < n → f i ≤ B) → pre f n ≤ n * B
  | 0, _ => by rw [pre_zero]; omega
  | n + 1, h => by
    have := pre_le_mul f B n fun i hi => h i (by omega)
    have := h n (by omega)
    rw [pre_succ, Nat.succ_mul]; omega

/-- The sizes lie between zero and the number of rows, and sum to it. -/
theorem sizes_sum (g : IVec V16 32)
    (hr : ∀ i : V16.Idx, IntOp.andi (IntOp.cmpi .sge (g i) (0#32)) (IntOp.cmpi .sle (g i) (49152#32)) = 1#1)
    (h : V16.ReducesTo [0] V0) (hu : 0 < V0.numel)
    (hs : IntOp.cmpi .eq (Host.reduce IntOp.addi g (constantI V0 32 0#32) h hu ix0) (49152#32) = 1#1) :
    S (sizes g) 16 = 49152 := by
  have hb : ∀ i, i < 16 → sizes g i ≤ 49152 := by
    intro i hi
    unfold sizes
    rw [dif_pos hi]
    obtain ⟨h1, h2⟩ := andi_one (hr (ix1 ⟨i, hi⟩))
    have e1 := of_decide_eq_true (ofBool_one h1 : BitVec.sle (0#32) (g (ix1 ⟨i, hi⟩)) = true)
    have e2 := of_decide_eq_true (ofBool_one h2 : BitVec.sle (g (ix1 ⟨i, hi⟩)) (49152#32) = true)
    have e3 : (0 : ℤ) ≤ (g (ix1 ⟨i, hi⟩)).toInt := e1
    have e4 : (g (ix1 ⟨i, hi⟩)).toInt ≤ 49152 := e2
    rw [BitVec.toInt_eq_toNat_cond] at e3 e4
    have := (g (ix1 ⟨i, hi⟩)).isLt
    split at e3 <;> split at e4 <;> omega
  have hle := pre_le_mul (sizes g) 49152 16 hb
  rw [reduce_sum (N := 16) g (sizes g) (fun i => sizes_at g i) h hu, sum_range_eq_pre] at hs
  have e := ofBool_one hs
  have e' : BitVec.ofNat 32 (pre (sizes g) 16) = 49152#32 := of_decide_eq_true (by simpa using e)
  have e2 := congrArg BitVec.toNat e'
  rw [BitVec.toNat_ofNat, Nat.mod_eq_of_lt (by omega)] at e2
  exact e2

/-- From the precondition of the frame claims. -/
theorem sizes_of_pre {F : FTy → Type} [FloatOps F] (x g w s)
    (h : @Cert.Pre_sizes_sum_to_rows.fn Cert.Pre_sizes_sum_to_rows.Gen.facts F _ x g w s = fun _ => 1#1) : S (sizes g) 16 = 49152 := by
  obtain ⟨h1, h2⟩ := andi_one (congrFun h ix0)
  exact sizes_sum g (Host.reduce_andi_all _ _ _ _ ix0 h1) _ _ h2

end Cert.Hand
-- ==== Proof.FrameK.lean ====
/-
  The tables the host line computes meet what the launch needs, so the program runs to its end and leaves its
  arguments as they were.
-/
module

public import proofs.«01_k».proof.Proof.RunK
public import proofs.«01_k».proof.Proof.WordsK
public import proofs.«01_k».proof.Proof.Sizes
public import Idealize.ShloMosaic.Lib.PairWhole

@[expose] public section

noncomputable section

namespace Cert.Kernel.Hand

open Cert.Kernel Cert.Kernel.Gen Cert.Hand Cert.Plan
open Idealize.ShloMosaic Idealize.ShloMosaic.TcCoe Idealize.SL.Sem
open Idealize.ShloMosaic.Routing Idealize.ShloMosaic.ValueIdx Idealize.ShloMosaic.WordCmp

variable {F : FTy → Type} [FloatOps F]

theorem coord_val (t : Fin 111) : (grid0.coords t 0).val = t.val := by
  revert t; decide

theorem tabAt_row (i : grid0.Coords) (T : Vec F S111 .i32) : tabAt i T = T (ix1 (⟨(i 0).val, (i 0).isLt⟩ : Fin 111)) := by
  unfold tabAt
  refine congrArg T (funext fun b => ?_)
  fin_cases b
  refine Fin.ext ?_
  show (BitVec.ofNat 32 (i 0).val).toNat + 1 * 0 = (i 0).val
  have h : (i 0).val < 111 := (i 0).isLt
  rw [BitVec.toNat_ofNat, Nat.mod_eq_of_lt (by omega)]; omega

theorem tabAt_coords (t : Fin 111) (T : Vec F S111 .i32) : tabAt (grid0.coords t) T = T (ix1 t) := by
  rw [tabAt_row]
  exact congrArg T (congrArg ix1 (Fin.ext (coord_val t)))

variable (m : (ℓ : Loc nD τ sig) → Buf (Elt F) ℓ)

/-- The five tables as the host line leaves them. -/
def tabs : pre0.Contents (Elt F) := fun k => Vof m 0 (pre0.ref k)

variable (hS : S (sizes (gOf m 0)) 16 = 49152)

/-- The sizes of the groups. -/
abbrev szs : ℕ → ℕ := sizes (gOf m 0)

include hS in
theorem tab_tile (i : Fin 111) : (tabs m 0 : Vec F S111 .i32) (ix1 i) = nat32 (tile (szs m) i) := by
  have h : (tabs m 0 : Vec F S111 .i32) = tileT (F := F) (gOf m 0) := V_tile m 0
  rw [h]; exact tileT_g _ _ (sizes_at _) hS i
include hS in
theorem tab_expert (i : Fin 111) : (tabs m 1 : Vec F S111 .i32) (ix1 i) = nat32 (ex (szs m) i) := by
  have h : (tabs m 1 : Vec F S111 .i32) = expertT (F := F) (gOf m 0) := V_expert m 0
  rw [h]; exact expertT_g _ _ (sizes_at _) hS i
include hS in
theorem tab_new0 : (tabs m 2 : Vec F S111 .i32) (ix1 (0 : Fin 111)) = 1#32 := by
  have h : (tabs m 2 : Vec F S111 .i32) = newT (F := F) (gOf m 0) := V_new m 0
  rw [h]; exact newT_zero _ _ (sizes_at _) hS
include hS in
theorem tab_new (j : ℕ) (hj : j + 1 < 111) : (tabs m 2 : Vec F S111 .i32) (ix1 (⟨j + 1, hj⟩ : Fin 111)) = if ex (szs m) j = ex (szs m) (j + 1) then 0#32 else 1#32 := by
  have h : (tabs m 2 : Vec F S111 .i32) = newT (F := F) (gOf m 0) := V_new m 0
  rw [h]; exact newT_succ _ _ (sizes_at _) hS j hj
include hS in
theorem tab_lo (i : Fin 111) : (tabs m 3 : Vec F S111 .i32) (ix1 i) = nat32 (lo (szs m) i) := by
  have h : (tabs m 3 : Vec F S111 .i32) = loT (F := F) (gOf m 0) := V_lo m 0
  rw [h]; exact loT_g _ _ (sizes_at _) hS i
include hS in
theorem tab_hi (i : Fin 111) : (tabs m 4 : Vec F S111 .i32) (ix1 i) = nat32 (hi (szs m) i) := by
  have h : (tabs m 4 : Vec F S111 .i32) = hiT (F := F) (gOf m 0) := V_hi m 0
  rw [h]; exact hiT_g _ _ (sizes_at _) hS i

theorem nat32_toNat {n : ℕ} (h : n < 2 ^ 32) : (nat32 n).toNat = n := by
  rw [BitVec.toNat_ofNat, Nat.mod_eq_of_lt h]

include hS in
/-- The block numbers of the three windows that read a table. -/
theorem block1 (i : grid0.Coords) : cc0_transform_1 (F := F) k0_off1_inb numel1_S1 (tabs m) i = ![tile (szs m) (i 0).val, 0] := by
  have h : (tabAt i (tabs m 0) : BitVec 32).toNat = tile (szs m) (i 0).val := by
    refine (congrArg BitVec.toNat ((tabAt_row i _).trans (tab_tile m hS _))).trans ?_
    exact nat32_toNat (Nat.lt_trans (tile_lt hS (i 0).val) (by decide))
  exact congrArg (fun n : ℕ => (![n, 0] : Fin 2 → ℕ)) h

include hS in
theorem block2 (i : grid0.Coords) : cc0_transform_2 (F := F) k0_off1_inb numel1_S1 (tabs m) i = ![ex (szs m) (i 0).val, 0, 0] := by
  have h : (tabAt i (tabs m 1) : BitVec 32).toNat = ex (szs m) (i 0).val := by
    refine (congrArg BitVec.toNat ((tabAt_row i _).trans (tab_expert m hS _))).trans ?_
    exact nat32_toNat (Nat.lt_trans (ex_spec hS (i 0).val).1 (by decide))
  exact congrArg (fun n : ℕ => (![n, 0, 0] : Fin 3 → ℕ)) h

include hS in
theorem block3 (i : grid0.Coords) : cc0_transform_3 (F := F) k0_off1_inb numel1_S1 (tabs m) i = ![tile (szs m) (i 0).val, 0] := by
  have h : (tabAt i (tabs m 0) : BitVec 32).toNat = tile (szs m) (i 0).val := by
    refine (congrArg BitVec.toNat ((tabAt_row i _).trans (tab_tile m hS _))).trans ?_
    exact nat32_toNat (Nat.lt_trans (tile_lt hS (i 0).val) (by decide))
  exact congrArg (fun n : ℕ => (![n, 0] : Fin 2 → ℕ)) h

include hS in
theorem tabs_ok : ok0 (tabs m) := by
  refine ⟨fun i => ?_, fun i => ?_, fun i => ?_⟩
  · have e := block1 m hS i
    have ht : tile (szs m) (i 0).val < 96 := tile_lt hS (i 0).val
    refine ⟨fun a => ?_, .inr ?_⟩
    · rw [e]; fin_cases a
      · show (tile (szs m) (i 0).val + 1) * 512 ≤ 49152; omega
      · show (0 + 1) * 2048 ≤ 2048; omega
    · refine .inl (Rect.packedRows_of_rowAxis _ _ (by decide) ?_ ?_ rfl)
      · show 2 ∣ cc0_transform_1 (F := F) k0_off1_inb numel1_S1 (tabs m) i 0 * 512
        exact Dvd.dvd.mul_left (by decide) _
      · show 2 ∣ 512
        decide
  · have e := block2 m hS i
    have ht : ex (szs m) (i 0).val < 16 := (ex_spec hS (i 0).val).1
    refine ⟨fun a => ?_, .inr ?_⟩
    · rw [e]; fin_cases a
      · show (ex (szs m) (i 0).val + 1) * 1 ≤ 16; omega
      · show (0 + 1) * 1408 ≤ 1408; omega
      · show (0 + 1) * 2048 ≤ 2048; omega
    · refine .inr ⟨by decide, rfl, ?_, rfl⟩
      show cc0_transform_2 (F := F) k0_off1_inb numel1_S1 (tabs m) i 1 * 1408 = 0
      rw [e]; rfl
  · have e := block3 m hS i
    have ht : tile (szs m) (i 0).val < 96 := tile_lt hS (i 0).val
    refine ⟨fun a => ?_, .inr ?_⟩
    · rw [e]; fin_cases a
      · show (tile (szs m) (i 0).val + 1) * 512 ≤ 49152; omega
      · show (0 + 1) * 1408 ≤ 1408; omega
    · refine .inl (Rect.packedRows_of_rowAxis _ _ (by decide) ?_ ?_ rfl)
      · show 2 ∣ cc0_transform_3 (F := F) k0_off1_inb numel1_S1 (tabs m) i 0 * 512
        exact Dvd.dvd.mul_left (by decide) _
      · show 2 ∣ 512
        decide

/-- The tables as contents the launch admits. -/
def adm : (p : Fin 1) → (pcfgs (F := F) p).Adm := fun | 0 => ⟨tabs m, tabs_ok m hS⟩

theorem word_at0 (a : (p : Fin 1) → (pcfgs (F := F) p).Adm) (t : Fin 111) : word a 0 t = ((a 0).1 0 : Vec F S111 .i32) (ix1 t) := tabAt_coords t _
theorem word_at1 (a : (p : Fin 1) → (pcfgs (F := F) p).Adm) (t : Fin 111) : word a 1 t = ((a 0).1 1 : Vec F S111 .i32) (ix1 t) := tabAt_coords t _
theorem word_at2 (a : (p : Fin 1) → (pcfgs (F := F) p).Adm) (t : Fin 111) : word a 2 t = ((a 0).1 2 : Vec F S111 .i32) (ix1 t) := tabAt_coords t _
theorem word_at3 (a : (p : Fin 1) → (pcfgs (F := F) p).Adm) (t : Fin 111) : word a 3 t = ((a 0).1 3 : Vec F S111 .i32) (ix1 t) := tabAt_coords t _
theorem word_at4 (a : (p : Fin 1) → (pcfgs (F := F) p).Adm) (t : Fin 111) : word a 4 t = ((a 0).1 4 : Vec F S111 .i32) (ix1 t) := tabAt_coords t _

theorem adm_val : (adm m hS 0).1 = tabs m := rfl

theorem word_tile (t : Fin 111) : word (adm m hS) 0 t = nat32 (tile (szs m) t) :=
  (word_at0 (adm m hS) t).trans ((congrFun (congrFun (adm_val m hS) 0) (ix1 t)).trans (tab_tile m hS t))
theorem word_expert (t : Fin 111) : word (adm m hS) 1 t = nat32 (ex (szs m) t) :=
  (word_at1 (adm m hS) t).trans ((congrFun (congrFun (adm_val m hS) 1) (ix1 t)).trans (tab_expert m hS t))
theorem word_new0 : word (adm m hS) 2 0 = 1#32 :=
  (word_at2 (adm m hS) 0).trans ((congrFun (congrFun (adm_val m hS) 2) (ix1 0)).trans (tab_new0 m hS))
theorem word_new (j : ℕ) (hj : j + 1 < 111) : word (adm m hS) 2 ⟨j + 1, hj⟩ = if ex (szs m) j = ex (szs m) (j + 1) then 0#32 else 1#32 :=
  (word_at2 (adm m hS) ⟨j + 1, hj⟩).trans ((congrFun (congrFun (adm_val m hS) 2) (ix1 ⟨j + 1, hj⟩)).trans (tab_new m hS j hj))
theorem word_lo (t : Fin 111) : word (adm m hS) 3 t = nat32 (lo (szs m) t) :=
  (word_at3 (adm m hS) t).trans ((congrFun (congrFun (adm_val m hS) 3) (ix1 t)).trans (tab_lo m hS t))
theorem word_hi (t : Fin 111) : word (adm m hS) 4 t = nat32 (hi (szs m) t) :=
  (word_at4 (adm m hS) t).trans ((congrFun (congrFun (adm_val m hS) 4) (ix1 t)).trans (tab_hi m hS t))

theorem sched : Sched (adm m hS) where
  expert t := by
    rw [word_expert]
    have : ex (szs m) t < 16 := (ex_spec hS t).1
    show (nat32 (ex (szs m) t)).toNat < 16
    rw [nat32_toNat (by omega)]; exact this
  first := by rw [word_new0]; decide
  same j hj h := by
    rw [word_new] at h
    rw [word_expert, word_expert]
    by_cases e : ex (szs m) j = ex (szs m) (j + 1)
    · exact congrArg nat32 e.symm
    · rw [if_neg e] at h
      exact absurd (by decide) h

theorem tabs_at (c : Dev nD) (k : Fin 5) : Vof m c (pre0.ref k) = (adm m hS 0).1 k := by
  have hc : c = 0 := Subsingleton.elim _ _
  subst hc; rfl

/-- The program's run: what every array holds at the end. -/
theorem run_sizes (ρ : Dev nD → PrngReg) :
    θ_run defs (onTc main) ⟨m, fun _ => 0, ρ⟩ fun r => Pipeline.RDat.FramePost (kcfg (adm m hS)) (rdat (Vof m) (sched m hS)) (Vof m) r ∧ r.2.sem = fun _ => 0 :=
  run m ρ (adm m hS) (sched m hS) fun c k => tabs_at m hS c k

theorem mem_rest : main_arg1 ∈ Pipeline.restRefs sig spec0 := Pipeline.mem_restRefs_of main_arg1 (by decide) (by decide)

/-- The arguments end as they were. -/
theorem args_of_post (r : PUnit × MemSt nD τ sig (Elt F)) (h : Pipeline.RDat.FramePost (kcfg (adm m hS)) (rdat (Vof m) (sched m hS)) (Vof m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  obtain ⟨ha, hr⟩ := h c
  refine ⟨?_, ?_, ?_, ?_⟩
  · have e := ha 1
    rw [Pipeline.RDat.ArrAt_in _ 1 rfl] at e
    exact (show _ = Vof m c main_arg0 from e).trans (V_arg0 m c)
  · exact (hr main_arg1 mem_rest).trans (V_arg1 m c)
  · have e := ha 2
    rw [Pipeline.RDat.ArrAt_in _ 2 rfl] at e
    exact (show _ = Vof m c main_arg2 from e).trans (V_arg2 m c)
  · have e := ha 0
    rw [Pipeline.RDat.ArrAt_in _ 0 rfl] at e
    exact (show _ = Vof m c main_arg3 from e).trans (V_arg3 m c)

include hS in
/-- The program runs to its end, leaves its arguments as they were and every counter at zero. -/
theorem frame (ρ : Dev nD → PrngReg) :
    θ_run defs (onTc main) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => args_of_post m hS r h.1 c, h.2⟩) (run_sizes m hS ρ)

end Cert.Kernel.Hand
-- ==== Proof.Loop.lean ====
/-
  The kernel body with its two unrolled runs written as loops: one step dequantises one 128 × 128 block of the current
  expert's weights into the first scratch buffer (176 of them, run where the expert is new), one step quantises one
  512 × 128 block of the row tile into the second (16 of them).  The printed body is this one by unfolding.
-/
module

public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F]

theorem sc_inb {e : Nat} (he : e < 16) (b : Fin 176) : ∀ a, (![e, b.val / 16, b.val % 16] : Fin 3 → Nat) a + S1x1x1.size a ≤ S16x11x16.size a := by
  have h1 : b.val / 16 < 11 := by have := b.isLt; omega
  have h2 : b.val % 16 < 16 := Nat.mod_lt _ (by decide)
  intro a
  match a with
  | 0 => exact he
  | 1 => exact h1
  | 2 => exact h2

theorem w_inb (b : Fin 176) : ∀ a, (![0, b.val / 16 * 128, b.val % 16 * 128] : Fin 3 → Nat) a + S1x128x128.size a ≤ S1x1408x2048.size a := by
  have h1 : b.val / 16 < 11 := by have := b.isLt; omega
  have h2 : b.val % 16 < 16 := Nat.mod_lt _ (by decide)
  intro a
  match a with
  | 0 => exact (by decide : 0 + 1 ≤ 1)
  | 1 => exact (by omega : b.val / 16 * 128 + 128 ≤ 1408)
  | 2 => exact (by omega : b.val % 16 * 128 + 128 ≤ 2048)

theorem wb_inb (b : Fin 176) : ∀ a, (![b.val / 16 * 128, b.val % 16 * 128] : Fin 2 → Nat) a + S128x128.size a ≤ S1408x2048.size a := by
  have h1 : b.val / 16 < 11 := by have := b.isLt; omega
  have h2 : b.val % 16 < 16 := Nat.mod_lt _ (by decide)
  intro a
  match a with
  | 0 => exact (by omega : b.val / 16 * 128 + 128 ≤ 1408)
  | 1 => exact (by omega : b.val % 16 * 128 + 128 ≤ 2048)

theorem x_inb (b : Fin 16) : ∀ a, (![0, b.val * 128] : Fin 2 → Nat) a + S512x128.size a ≤ S512x2048.size a := by
  have h2 := b.isLt
  intro a
  match a with
  | 0 => exact (by decide : 0 + 512 ≤ 512)
  | 1 => exact (by omega : b.val * 128 + 128 ≤ 2048)

theorem wb_packed (b : Fin 176) : (Rect.unit (s := S1408x2048) ![b.val / 16 * 128, b.val % 16 * 128] S128x128.size (wb_inb b)).PackedRows (EltTy.packing .bf16) :=
  by
  refine Or.inr ⟨by decide, rfl, Or.inl ⟨?_, ?_⟩⟩
  · exact (Dvd.dvd.mul_left (by decide : (2 : Nat) ∣ 128) (b.val / 16) : 2 ∣ b.val / 16 * 128)
  · exact (by decide : (2 : Nat) ∣ 128)

theorem x_packed (b : Fin 16) : (Rect.unit (s := S512x2048) ![0, b.val * 128] S512x128.size (x_inb b)).PackedRows (EltTy.packing .bf16) :=
  by
  refine Or.inr ⟨by decide, rfl, Or.inl ⟨?_, ?_⟩⟩
  · exact (by decide : (2 : Nat) ∣ 0)
  · exact (by decide : (2 : Nat) ∣ 512)

/-- One block of weights, dequantised. -/
def wPay (s : Elt F .f32) (w : Vec F S1x128x128 .fp8e4m3) : FVec F S128x128 .bf16 := k0_pay1 s w

/-- The step of block `b = 16 i + j`. -/
def wStep (arg6 : Memref sig .tc .smem S16x11x16 .f32) (arg8 : Memref sig .tc .vmem S1x1408x2048 .fp8e4m3) (arg10 : Memref sig .tc .vmem S1408x2048 .bf16) (harg10 : arg10.IsWhole)
    (v1 : Elt F .i32) (he : (Scalar.indexCast v1 : BitVec 32).toNat < 16) (b : Fin 176) : Prog (TpuEff nD τ sig (Elt F) Λ₀ .tc) PUnit := do
  let s : Elt F .f32 ← smemLoad arg6 (Rect.unit (s := S16x11x16) ![(Scalar.indexCast v1 : BitVec 32).toNat, b.val / 16, b.val % 16] S1x1x1.size (sc_inb he b)) numel1_S1x1x1 rfl
  let w : Vec F S1x128x128 .fp8e4m3 ← Prog.lift (.load arg8 (Rect.unit (s := S1x1408x2048) ![0, b.val / 16 * 128, b.val % 16 * 128] S1x128x128.size (w_inb b)).toLoadRect (View.loadsAt_vmem h_S1x128x128))
  let _ : Vec F S128x128 .bf16 ← Prog.lift (.load arg10 (Rect.unit (s := S1408x2048) ![b.val / 16 * 128, b.val % 16 * 128] S128x128.size (wb_inb b)).toLoadRect (View.loadsAt_vmem h_S128x128))
  Prog.lift (.store arg10 (Rect.unit (s := S1408x2048) ![b.val / 16 * 128, b.val % 16 * 128] S128x128.size (wb_inb b)) (wPay s w) Finset.univ (View.stores_vmem h_S128x128 (harg10.storeExact_slice rfl _ (wb_packed b)) (fun _ => rfl)) (.inl rfl))

/-- The steps of the blocks listed, one after the other, then `K`. -/
def wRun (K : Prog (TpuEff nD τ sig (Elt F) Λ₀ .tc) PUnit) (arg6 : Memref sig .tc .smem S16x11x16 .f32) (arg8 : Memref sig .tc .vmem S1x1408x2048 .fp8e4m3) (arg10 : Memref sig .tc .vmem S1408x2048 .bf16) (harg10 : arg10.IsWhole)
    (v1 : Elt F .i32) (he : (Scalar.indexCast v1 : BitVec 32).toNat < 16) : List (Fin 176) → Prog (TpuEff nD τ sig (Elt F) Λ₀ .tc) PUnit
  | [] => K
  | b :: l => do
    wStep arg6 arg8 arg10 harg10 v1 he b
    wRun K arg6 arg8 arg10 harg10 v1 he l

/-- The blocks of the weights, in order. -/
abbrev wAll : List (Fin 176) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175]

/-- One block of rows, quantised and widened again. -/
def qPay (v : Vec F S512x128 .bf16) : FVec F S512x128 .bf16 := k0_pay227 (k0_pay223 v) (k0_pay224 v) (k0_pay226 (k0_pay224 v) (k0_pay225 v))

/-- The step of column block `b`. -/
def qStep (arg7 : Memref sig .tc .vmem S512x2048 .bf16) (arg11 : Memref sig .tc .vmem S512x2048 .bf16) (harg11 : arg11.IsWhole) (b : Fin 16) : Prog (TpuEff nD τ sig (Elt F) Λ₀ .tc) PUnit := do
  let x : Vec F S512x128 .bf16 ← Prog.lift (.load arg7 (Rect.unit (s := S512x2048) ![0, b.val * 128] S512x128.size (x_inb b)).toLoadRect (View.loadsAt_vmem h_S512x128))
  let _ : Vec F S512x128 .bf16 ← Prog.lift (.load arg11 (Rect.unit (s := S512x2048) ![0, b.val * 128] S512x128.size (x_inb b)).toLoadRect (View.loadsAt_vmem h_S512x128))
  Prog.lift (.store arg11 (Rect.unit (s := S512x2048) ![0, b.val * 128] S512x128.size (x_inb b)) (qPay x) Finset.univ (View.stores_vmem h_S512x128 (harg11.storeExact_slice rfl _ (x_packed b)) (fun _ => rfl)) (.inl rfl))

/-- The steps of the column blocks listed, one after the other, then `K`. -/
def qRun (K : Prog (TpuEff nD τ sig (Elt F) Λ₀ .tc) PUnit) (arg7 : Memref sig .tc .vmem S512x2048 .bf16) (arg11 : Memref sig .tc .vmem S512x2048 .bf16) (harg11 : arg11.IsWhole) : List (Fin 16) → Prog (TpuEff nD τ sig (Elt F) Λ₀ .tc) PUnit
  | [] => K
  | b :: l => do
    qStep arg7 arg11 harg11 b
    qRun K arg7 arg11 harg11 l

/-- The column blocks of a row tile, in order. -/
abbrev qAll : List (Fin 16) := [0, 1, 2, 3, 4, 5, 6, 7, 8, 9, 10, 11, 12, 13, 14, 15]

theorem lt_of_chk {v1 v3 : BitVec 32} (h : k0_chk1 v1 v3) (h1 : k0_cond1 v3 = 1#1) : (Scalar.indexCast v1 : BitVec 32).toNat < 16 := by
  have := k0_off2_inb v1 v3 h h1 0
  exact this

/-- The last part of the body, run where the item has rows: the product, masked to the item's rows. -/
def bodyDot (i : grid0.Coords) (arg2 : Memref sig .tc .smem S111 .i32) (arg3 : Memref sig .tc .smem S111 .i32) (arg4 : Memref sig .tc .smem S111 .i32) (arg5 : Memref sig .tc .smem S111 .i32) (arg6 : Memref sig .tc .smem S16x11x16 .f32) (arg7 : Memref sig .tc .vmem S512x2048 .bf16) (arg8 : Memref sig .tc .vmem S1x1408x2048 .fp8e4m3) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) :
    Prog (TpuEff nD τ sig (Elt F) Λ₀ .tc) PUnit := do
  let v2062 : Vec F S512x2048 .bf16 ← Prog.lift (.load arg11 (Rect.unit (s := S512x2048) ![0, 0] S512x2048.size inb_S512x2048_S512x2048_0_0).toLoadRect (View.loadsAt_vmem h_S512x2048))
  let v2063 : Vec F S1408x2048 .bf16 ← Prog.lift (.load arg10 (Rect.unit (s := S1408x2048) ![0, 0] S1408x2048.size inb_S1408x2048_S1408x2048_0_0).toLoadRect (View.loadsAt_vmem h_S1408x2048))
  let v2068 : Elt F .i32 ← smemLoad arg4 (Rect.unit (s := S111) (k0_off179 i) S1.size (k0_off179_inb i)) numel1_S1 rfl
  let v2072 : Elt F .i32 ← smemLoad arg5 (Rect.unit (s := S111) (k0_off179 i) S1.size (k0_off179_inb i)) numel1_S1 rfl
  let v2077 : Vec F S512x1408 .bf16 ← Prog.lift (.load arg9 (Rect.unit (s := S512x1408) ![0, 0] S512x1408.size inb_S512x1408_S512x1408_0_0).toLoadRect (View.loadsAt_vmem h_S512x1408))
  let v2082 : Vec F S512x1408 .bf16 ← Prog.lift (.load arg9 (Rect.unit (s := S512x1408) ![0, 0] S512x1408.size inb_S512x1408_S512x1408_0_0).toLoadRect (View.loadsAt_vmem h_S512x1408))
  Prog.lift (.store arg9 (Rect.unit (s := S512x1408) ![0, 0] S512x1408.size inb_S512x1408_S512x1408_0_0) (k0_pay4 v2062 v2063 v2068 v2072 v2077) Finset.univ (View.stores_vmem h_S512x1408 (harg9.storeExact_slice rfl _ packedbf16_S512x1408_S512x1408_0_0) (fun _ => rfl)) (.inl rfl))
  pure ⟨⟩

/-- The body from the first row bound on. -/
def bodyRest (i : grid0.Coords) (arg2 : Memref sig .tc .smem S111 .i32) (arg3 : Memref sig .tc .smem S111 .i32) (arg4 : Memref sig .tc .smem S111 .i32) (arg5 : Memref sig .tc .smem S111 .i32) (arg6 : Memref sig .tc .smem S16x11x16 .f32) (arg7 : Memref sig .tc .vmem S512x2048 .bf16) (arg8 : Memref sig .tc .vmem S1x1408x2048 .fp8e4m3) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) :
    Prog (TpuEff nD τ sig (Elt F) Λ₀ .tc) PUnit := do
  let v8 : Elt F .i32 ← smemLoad arg4 (Rect.unit (s := S111) (k0_off178 i) S1.size (k0_off178_inb i)) numel1_S1 rfl
  let v10 : Elt F .i32 ← smemLoad arg5 (Rect.unit (s := S111) (k0_off178 i) S1.size (k0_off178_inb i)) numel1_S1 rfl
  if k0_h2 : k0_cond2 v8 v10 = 1#1 then
    qRun (bodyDot i arg2 arg3 arg4 arg5 arg6 arg7 arg8 arg9 harg9 arg10 harg10 arg11 harg11) arg7 arg11 harg11 qAll
  else
    pure ⟨⟩

/-- The body with its two runs as loops. -/
def body (i : grid0.Coords) (arg2 : Memref sig .tc .smem S111 .i32) (arg3 : Memref sig .tc .smem S111 .i32) (arg4 : Memref sig .tc .smem S111 .i32) (arg5 : Memref sig .tc .smem S111 .i32) (arg6 : Memref sig .tc .smem S16x11x16 .f32) (arg7 : Memref sig .tc .vmem S512x2048 .bf16) (arg8 : Memref sig .tc .vmem S1x1408x2048 .fp8e4m3) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) :
    Prog (TpuEff nD τ sig (Elt F) Λ₀ .tc) PUnit := do
  let v1 : Elt F .i32 ← smemLoad arg2 (Rect.unit (s := S111) (k0_off1 i) S1.size (k0_off1_inb i)) numel1_S1 rfl
  let v3 : Elt F .i32 ← smemLoad arg3 (Rect.unit (s := S111) (k0_off1 i) S1.size (k0_off1_inb i)) numel1_S1 rfl
  let h : PLift (k0_chk1 v1 v3) ← Prog.lift (TpuEff.assume (k0_chk1 v1 v3) (k0_chk1.dec v1 v3))
  if k0_h1 : k0_cond1 v3 = 1#1 then
    wRun (bodyRest i arg2 arg3 arg4 arg5 arg6 arg7 arg8 arg9 harg9 arg10 harg10 arg11 harg11) arg6 arg8 arg10 harg10 v1 (lt_of_chk h.down k0_h1) wAll
  else
    bodyRest i arg2 arg3 arg4 arg5 arg6 arg7 arg8 arg9 harg9 arg10 harg10 arg11 harg11

set_option maxRecDepth 65536 in
set_option maxHeartbeats 40000000 in
/-- The printed run of weight blocks is the loop, by unfolding. -/
theorem w_eq (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S111 .i32) (harg5 : arg5.IsWhole) (arg6 : Memref sig .tc .smem S16x11x16 .f32) (harg6 : arg6.IsWhole) (arg7 : Memref sig .tc .vmem S512x2048 .bf16) (harg7 : arg7.IsWhole) (arg8 : Memref sig .tc .vmem S1x1408x2048 .fp8e4m3) (harg8 : arg8.IsWhole) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) (v1 v3 : Elt F .i32) (k0_hw1 : k0_chk1 v1 v3) (k0_h1 : k0_cond1 v3 = 1#1) (K : Prog (TpuEff nD τ sig (Elt F) Λ₀ .tc) PUnit) :
    (do
    let v1927 : FVec F S128x128 .bf16 ← k0_part56 i arg1 harg1 arg2 harg2 arg3 harg3 arg4 harg4 arg5 harg5 arg6 harg6 arg7 harg7 arg8 harg8 arg9 harg9 arg10 harg10 arg11 harg11 v1 v3 k0_hw1 k0_h1
    Prog.lift (.store arg10 (Rect.unit (s := S1408x2048) ![1280, 1664] S128x128.size inb_S1408x2048_S128x128_1280_1664) v1927 Finset.univ (View.stores_vmem h_S128x128 (harg10.storeExact_slice rfl _ packedbf16_S1408x2048_S128x128_1280_1664) (fun _ => rfl)) (.inl rfl))
    let v1929 : Elt F .f32 ← smemLoad arg6 (Rect.unit (s := S16x11x16) (k0_off176 v1) S1x1x1.size (k0_off176_inb v1 v3 k0_hw1 k0_h1)) numel1_S1x1x1 rfl
    let v1932 : Vec F S1x128x128 .fp8e4m3 ← Prog.lift (.load arg8 (Rect.unit (s := S1x1408x2048) ![0, 1280, 1792] S1x128x128.size inb_S1x1408x2048_S1x128x128_0_1280_1792).toLoadRect (View.loadsAt_vmem h_S1x128x128))
    let v1936 : Vec F S128x128 .bf16 ← Prog.lift (.load arg10 (Rect.unit (s := S1408x2048) ![1280, 1792] S128x128.size inb_S1408x2048_S128x128_1280_1792).toLoadRect (View.loadsAt_vmem h_S128x128))
    Prog.lift (.store arg10 (Rect.unit (s := S1408x2048) ![1280, 1792] S128x128.size inb_S1408x2048_S128x128_1280_1792) (k0_pay1 v1929 v1932) Finset.univ (View.stores_vmem h_S128x128 (harg10.storeExact_slice rfl _ packedbf16_S1408x2048_S128x128_1280_1792) (fun _ => rfl)) (.inl rfl))
    let v1940 : Elt F .f32 ← smemLoad arg6 (Rect.unit (s := S16x11x16) (k0_off177 v1) S1x1x1.size (k0_off177_inb v1 v3 k0_hw1 k0_h1)) numel1_S1x1x1 rfl
    let v1943 : Vec F S1x128x128 .fp8e4m3 ← Prog.lift (.load arg8 (Rect.unit (s := S1x1408x2048) ![0, 1280, 1920] S1x128x128.size inb_S1x1408x2048_S1x128x128_0_1280_1920).toLoadRect (View.loadsAt_vmem h_S1x128x128))
    let v1947 : Vec F S128x128 .bf16 ← Prog.lift (.load arg10 (Rect.unit (s := S1408x2048) ![1280, 1920] S128x128.size inb_S1408x2048_S128x128_1280_1920).toLoadRect (View.loadsAt_vmem h_S128x128))
    Prog.lift (.store arg10 (Rect.unit (s := S1408x2048) ![1280, 1920] S128x128.size inb_S1408x2048_S128x128_1280_1920) (k0_pay2 v1940 v1943) Finset.univ (View.stores_vmem h_S128x128 (harg10.storeExact_slice rfl _ packedbf16_S1408x2048_S128x128_1280_1920) (fun _ => rfl)) (.inl rfl))
    K)
     = wRun K arg6 arg8 arg10 harg10 v1 (lt_of_chk k0_hw1 k0_h1) wAll := rfl

set_option maxRecDepth 65536 in
set_option maxHeartbeats 40000000 in
/-- The printed run of column blocks is the loop, by unfolding. -/
theorem q_eq (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S111 .i32) (harg5 : arg5.IsWhole) (arg6 : Memref sig .tc .smem S16x11x16 .f32) (harg6 : arg6.IsWhole) (arg7 : Memref sig .tc .vmem S512x2048 .bf16) (harg7 : arg7.IsWhole) (arg8 : Memref sig .tc .vmem S1x1408x2048 .fp8e4m3) (harg8 : arg8.IsWhole) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) (K : Prog (TpuEff nD τ sig (Elt F) Λ₀ .tc) PUnit) :
    (do
    let ⟨v2037, v2051⟩ : Σ' (v2037 : IVec S512x128 32), FVec F S512x128 .bf16 ← k0_part104 i arg1 harg1 arg2 harg2 arg3 harg3 arg4 harg4 arg5 harg5 arg6 harg6 arg7 harg7 arg8 harg8 arg9 harg9 arg10 harg10 arg11 harg11
    let v2059 : Vec F S512x128 .bf16 ← Prog.lift (.load arg11 (Rect.unit (s := S512x2048) ![0, 1920] S512x128.size inb_S512x2048_S512x128_0_1920).toLoadRect (View.loadsAt_vmem h_S512x128))
    Prog.lift (.store arg11 (Rect.unit (s := S512x2048) ![0, 1920] S512x128.size inb_S512x2048_S512x128_0_1920) (k0_pay3 v2037 v2051) Finset.univ (View.stores_vmem h_S512x128 (harg11.storeExact_slice rfl _ packedbf16_S512x2048_S512x128_0_1920) (fun _ => rfl)) (.inl rfl))
    K)
     = qRun K arg7 arg11 harg11 qAll := rfl

set_option maxRecDepth 65536 in
set_option maxHeartbeats 40000000 in
/-- The printed body is the looped one. -/
theorem body_eq (i : grid0.Coords) (arg1 : Memref sig .tc .smem S111 .i32) (harg1 : arg1.IsWhole) (arg2 : Memref sig .tc .smem S111 .i32) (harg2 : arg2.IsWhole) (arg3 : Memref sig .tc .smem S111 .i32) (harg3 : arg3.IsWhole) (arg4 : Memref sig .tc .smem S111 .i32) (harg4 : arg4.IsWhole) (arg5 : Memref sig .tc .smem S111 .i32) (harg5 : arg5.IsWhole) (arg6 : Memref sig .tc .smem S16x11x16 .f32) (harg6 : arg6.IsWhole) (arg7 : Memref sig .tc .vmem S512x2048 .bf16) (harg7 : arg7.IsWhole) (arg8 : Memref sig .tc .vmem S1x1408x2048 .fp8e4m3) (harg8 : arg8.IsWhole) (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole) :
    cc0_grouped_fp8_matmul (F := F) i arg1 harg1 arg2 harg2 arg3 harg3 arg4 harg4 arg5 harg5 arg6 harg6 arg7 harg7 arg8 harg8 arg9 harg9 arg10 harg10 arg11 harg11
     = body i arg2 arg3 arg4 arg5 arg6 arg7 arg8 arg9 harg9 arg10 harg10 arg11 harg11 := by
  rw [cc0_grouped_fp8_matmul_eq_skeleton]
  unfold cc0_grouped_fp8_matmul_skel body
  refine bind_congr fun v1 => bind_congr fun v3 => bind_congr fun h => ?_
  by_cases k0_h1 : k0_cond1 v3 = 1#1
  · simp only [dif_pos k0_h1]
    refine (w_eq i arg1 harg1 arg2 harg2 arg3 harg3 arg4 harg4 arg5 harg5 arg6 harg6 arg7 harg7 arg8 harg8 arg9 harg9 arg10 harg10 arg11 harg11 v1 v3 h.down k0_h1 _).trans ?_
    refine congrArg (fun K => wRun K arg6 arg8 arg10 harg10 v1 _ wAll) ?_
    unfold bodyRest
    refine bind_congr fun v8 => bind_congr fun v10 => ?_
    by_cases k0_h2 : k0_cond2 v8 v10 = 1#1
    · simp only [dif_pos k0_h2]
      exact q_eq i arg1 harg1 arg2 harg2 arg3 harg3 arg4 harg4 arg5 harg5 arg6 harg6 arg7 harg7 arg8 harg8 arg9 harg9 arg10 harg10 arg11 harg11 _
    · simp only [dif_neg k0_h2]
  · simp only [dif_neg k0_h1]
    unfold bodyRest
    refine bind_congr fun v8 => bind_congr fun v10 => ?_
    by_cases k0_h2 : k0_cond2 v8 v10 = 1#1
    · simp only [dif_pos k0_h2]
      exact q_eq i arg1 harg1 arg2 harg2 arg3 harg3 arg4 harg4 arg5 harg5 arg6 harg6 arg7 harg7 arg8 harg8 arg9 harg9 arg10 harg10 arg11 harg11 _
    · simp only [dif_neg k0_h2]

end Cert.KernelIdeal.Hand
-- ==== Proof.Body.lean ====
/-
  What the kernel body does to the buffers it is handed: the first scratch buffer is overwritten by the dequantised
  weights where the expert is new, and the output tile takes the masked product where the item has rows.
-/
module

public import proofs.«01_k».proof.Proof.Loop
public import proofs.«01_k».proof.Proof.Owned
public import proofs.«01_k».proof.Proof.Gen.KernelIdeal.Launch
public import Idealize.ShloMosaic.Lib.Pipeline.Frame

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra that the proof runs in. -/
abbrev KM (F : FTy → Type) : Type := MT nD τ sig Unit (Elt F) ℕ (UR sig nD τ) ℕ

/-! ### The two scratch buffers as functions -/

abbrev wbRect (b : Fin 176) : Rect S1408x2048 := Rect.unit (s := S1408x2048) ![b.val / 16 * 128, b.val % 16 * 128] S128x128.size (wb_inb b)
abbrev wRect (b : Fin 176) : Rect S1x1408x2048 := Rect.unit (s := S1x1408x2048) ![0, b.val / 16 * 128, b.val % 16 * 128] S1x128x128.size (w_inb b)
abbrev scRect {e : Nat} (he : e < 16) (b : Fin 176) : Rect S16x11x16 := Rect.unit (s := S16x11x16) ![e, b.val / 16, b.val % 16] S1x1x1.size (sc_inb he b)
abbrev xRect (b : Fin 16) : Rect S512x2048 := Rect.unit (s := S512x2048) ![0, b.val * 128] S512x128.size (x_inb b)

/-- The scale of block `b` of expert `e`. -/
def scAt (S : Vec F S16x11x16 .f32) {e : Nat} (he : e < 16) (b : Fin 176) : Elt F .f32 := S ((scRect he b).emb (Shape.Idx.first (s := S1x1x1) (numel1_S1x1x1.symm ▸ Nat.one_pos)))

/-- Block `b` of expert `e`'s weights, dequantised. -/
def wBlk (S : Vec F S16x11x16 .f32) {e : Nat} (he : e < 16) (W : Vec F S1x1408x2048 .fp8e4m3) (b : Fin 176) : FVec F S128x128 .bf16 :=
  wPay (scAt S he b) (fun i => W ((wRect b).emb i))

/-- The block an element of the weights lies in, and where in it. -/
def wOf (y : S1408x2048.Idx) : Fin 176 := ⟨(y 0).val / 128 * 16 + (y 1).val / 128, by
  have h0 : (y 0).val < 1408 := (y 0).isLt
  have h1 : (y 1).val < 2048 := (y 1).isLt
  omega⟩
def wIn (y : S1408x2048.Idx) : S128x128.Idx
  | 0 => ⟨(y 0).val % 128, Nat.mod_lt _ (by decide)⟩
  | 1 => ⟨(y 1).val % 128, Nat.mod_lt _ (by decide)⟩

theorem wOf_emb (y : S1408x2048.Idx) : (wbRect (wOf y)).emb (wIn y) = y := by
  have h0 : (y 0).val < 1408 := (y 0).isLt
  have h1 : (y 1).val < 2048 := (y 1).isLt
  funext a; apply Fin.ext; rw [Rect.emb_apply]
  match a with
  | 0 => show ((y 0).val / 128 * 16 + (y 1).val / 128) / 16 * 128 + 1 * ((y 0).val % 128) = (y 0).val; omega
  | 1 => show ((y 0).val / 128 * 16 + (y 1).val / 128) % 16 * 128 + 1 * ((y 1).val % 128) = (y 1).val; omega

theorem wOf_of_mem {b : Fin 176} {y : S1408x2048.Idx} (h : y ∈ (wbRect b).set) : b = wOf y := by
  obtain ⟨x, rfl⟩ := (wbRect b).exists_idx_of_mem h
  have hb := b.isLt
  have h0 : (x 0).val < 128 := (x 0).isLt
  have h1 : (x 1).val < 128 := (x 1).isLt
  apply Fin.ext
  show b.val = (((wbRect b).emb x 0).val) / 128 * 16 + (((wbRect b).emb x 1).val) / 128
  rw [Rect.emb_apply, Rect.emb_apply]
  show b.val = (b.val / 16 * 128 + 1 * (x 0).val) / 128 * 16 + (b.val % 16 * 128 + 1 * (x 1).val) / 128
  omega

/-- Expert `e`'s weights, dequantised. -/
def deq (S : Vec F S16x11x16 .f32) {e : Nat} (he : e < 16) (W : Vec F S1x1408x2048 .fp8e4m3) : Vec F S1408x2048 .bf16 :=
  fun y => wBlk S he W (wOf y) (wIn y)

theorem wFold (S : Vec F S16x11x16 .f32) {e : Nat} (he : e < 16) (W : Vec F S1x1408x2048 .fp8e4m3) (l : List (Fin 176)) (B : Vec F S1408x2048 .bf16)
    (y : S1408x2048.Idx) (h : wOf y ∈ l ∨ B y = deq S he W y) :
    l.foldl (fun B b => (wbRect b).overlay B (wBlk S he W b)) B y = deq S he W y := by
  induction l generalizing B with
  | nil => exact h.resolve_left (List.not_mem_nil)
  | cons b l ih =>
    refine ih _ ?_
    by_cases hb : b = wOf y
    · right
      subst hb
      have := Rect.overlay_emb (wbRect (wOf y)) B (wBlk S he W (wOf y)) (wIn y)
      rw [wOf_emb] at this
      exact this
    · show wOf y ∈ l ∨ (wbRect b).overlay B (wBlk S he W b) y = _
      rw [Rect.overlay_of_not_mem _ _ _ (fun hy => hb (wOf_of_mem hy))]
      rcases h with h | h
      · left
        exact (List.mem_cons.1 h).resolve_left (fun e => hb e.symm)
      · exact .inr h

set_option maxRecDepth 20000 in
theorem wAll_eq : wAll = List.finRange 176 := by decide

theorem wFold_all (S : Vec F S16x11x16 .f32) {e : Nat} (he : e < 16) (W : Vec F S1x1408x2048 .fp8e4m3) (B : Vec F S1408x2048 .bf16) :
    wAll.foldl (fun B b => (wbRect b).overlay B (wBlk S he W b)) B = deq S he W :=
  funext fun y => wFold S he W _ B y (.inl (wAll_eq ▸ List.mem_finRange _))

/-- The column block an element of the row tile lies in, and where in it. -/
def xOf (y : S512x2048.Idx) : Fin 16 := ⟨(y 1).val / 128, by
  have h1 : (y 1).val < 2048 := (y 1).isLt
  omega⟩
def xIn (y : S512x2048.Idx) : S512x128.Idx
  | 0 => ⟨(y 0).val, (y 0).isLt⟩
  | 1 => ⟨(y 1).val % 128, Nat.mod_lt _ (by decide)⟩

theorem xOf_emb (y : S512x2048.Idx) : (xRect (xOf y)).emb (xIn y) = y := by
  have h1 : (y 1).val < 2048 := (y 1).isLt
  funext a; apply Fin.ext; rw [Rect.emb_apply]
  match a with
  | 0 => show 0 + 1 * (y 0).val = (y 0).val; omega
  | 1 => show (y 1).val / 128 * 128 + 1 * ((y 1).val % 128) = (y 1).val; omega

theorem xOf_of_mem {b : Fin 16} {y : S512x2048.Idx} (h : y ∈ (xRect b).set) : b = xOf y := by
  obtain ⟨x, rfl⟩ := (xRect b).exists_idx_of_mem h
  have h1 : (x 1).val < 128 := (x 1).isLt
  apply Fin.ext
  show b.val = (((xRect b).emb x 1).val) / 128
  rw [Rect.emb_apply]
  show b.val = (b.val * 128 + 1 * (x 1).val) / 128
  omega

/-- The row tile, quantised and widened again, column block by column block. -/
def qnt (X : Vec F S512x2048 .bf16) : Vec F S512x2048 .bf16 :=
  fun y => qPay (fun i => X ((xRect (xOf y)).emb i)) (xIn y)

theorem qFold (X : Vec F S512x2048 .bf16) (l : List (Fin 16)) (B : Vec F S512x2048 .bf16)
    (y : S512x2048.Idx) (h : xOf y ∈ l ∨ B y = qnt X y) :
    l.foldl (fun B b => (xRect b).overlay B (qPay (fun i => X ((xRect b).emb i)))) B y = qnt X y := by
  induction l generalizing B with
  | nil => exact h.resolve_left (List.not_mem_nil)
  | cons b l ih =>
    refine ih _ ?_
    by_cases hb : b = xOf y
    · right
      subst hb
      have := Rect.overlay_emb (xRect (xOf y)) B (qPay (fun i => X ((xRect (xOf y)).emb i))) (xIn y)
      rw [xOf_emb] at this
      exact this
    · show xOf y ∈ l ∨ (xRect b).overlay B (qPay (fun i => X ((xRect b).emb i))) y = _
      rw [Rect.overlay_of_not_mem _ _ _ (fun hy => hb (xOf_of_mem hy))]
      rcases h with h | h
      · left
        exact (List.mem_cons.1 h).resolve_left (fun e => hb e.symm)
      · exact .inr h

theorem qFold_all (X B : Vec F S512x2048 .bf16) :
    qAll.foldl (fun B b => (xRect b).overlay B (qPay (fun i => X ((xRect b).emb i)))) B = qnt X :=
  funext fun y => qFold X _ B y (.inl (by have h : qAll = List.finRange 16 := by decide
                                          exact h ▸ List.mem_finRange _))

/-! ### The runs -/

variable (c : Dev nD) (E : Set ℕ) {Q : PUnit → sProp (KM F)}

theorem wp_wRun (K : Prog (TpuEff nD τ sig (Elt F) Λ₀ .tc) PUnit) (arg6 : Memref sig .tc .smem S16x11x16 .f32) (arg8 : Memref sig .tc .vmem S1x1408x2048 .fp8e4m3)
    (arg10 : Memref sig .tc .vmem S1408x2048 .bf16) (harg10 : arg10.IsWhole) (v1 : Elt F .i32) (he : (Scalar.indexCast v1 : BitVec 32).toNat < 16)
    (S : Vec F S16x11x16 .f32) (W : Vec F S1x1408x2048 .fp8e4m3) (l : List (Fin 176)) (B : Vec F S1408x2048 .bf16) :
    iprop(owns (c : Thread nD τ) arg6 fullShare S ∗ owns (c : Thread nD τ) arg8 fullShare W ∗ owns (c : Thread nD τ) arg10 fullShare B)
      ⊢ iprop(((owns (c : Thread nD τ) arg6 fullShare S ∗ owns (c : Thread nD τ) arg8 fullShare W
            ∗ owns (c : Thread nD τ) arg10 fullShare (l.foldl (fun B b => (wbRect b).overlay B (wBlk S he W b)) B))
          -∗ wp frame (wpE (defs₀ (F := F)) Variants.none (c : Thread nD τ) none) E K Q)
        -∗ wp frame (wpE (defs₀ (F := F)) Variants.none (c : Thread nD τ) none) E (wRun K arg6 arg8 arg10 harg10 v1 he l) Q) := by
  induction l generalizing B with
  | nil =>
    iintro H Hk
    iapply Hk
    iexact H
  | cons b l ih =>
    iintro ⟨HS, HW, HB⟩ Hk
    unfold wRun wStep
    simp only [bind_assoc]
    iapply (wp_smem_bind Variants.none (c : Thread nD τ) none E arg6 (scRect he b) _ _ _ _ _) $$ HS
    iintro HS
    iapply (wp_load_bind Variants.none (c : Thread nD τ) none E arg8 (wRect b) _ _ _) $$ HW
    iintro HW
    iapply (wp_load_bind Variants.none (c : Thread nD τ) none E arg10 (wbRect b) _ _ _) $$ HB
    iintro HB
    iapply (wp_store_bind Variants.none (c : Thread nD τ) none E arg10 (wbRect b) _ _ _) $$ HB
    iintro HB
    iapply (ih ((wbRect b).overlay B (wBlk S he W b))) $$ [HS HW HB]
    · isplitl [HS]; · iexact HS
      isplitl [HW]; · iexact HW
      iexact HB
    iexact Hk

theorem wp_qRun (K : Prog (TpuEff nD τ sig (Elt F) Λ₀ .tc) PUnit) (arg7 : Memref sig .tc .vmem S512x2048 .bf16) (arg11 : Memref sig .tc .vmem S512x2048 .bf16) (harg11 : arg11.IsWhole)
    (X : Vec F S512x2048 .bf16) (l : List (Fin 16)) (B : Vec F S512x2048 .bf16) :
    iprop(owns (c : Thread nD τ) arg7 fullShare X ∗ owns (c : Thread nD τ) arg11 fullShare B)
      ⊢ iprop(((owns (c : Thread nD τ) arg7 fullShare X
            ∗ owns (c : Thread nD τ) arg11 fullShare (l.foldl (fun B b => (xRect b).overlay B (qPay (fun i => X ((xRect b).emb i)))) B))
          -∗ wp frame (wpE (defs₀ (F := F)) Variants.none (c : Thread nD τ) none) E K Q)
        -∗ wp frame (wpE (defs₀ (F := F)) Variants.none (c : Thread nD τ) none) E (qRun K arg7 arg11 harg11 l) Q) := by
  induction l generalizing B with
  | nil =>
    iintro H Hk
    iapply Hk
    iexact H
  | cons b l ih =>
    iintro ⟨HX, HB⟩ Hk
    unfold qRun qStep
    simp only [bind_assoc]
    iapply (wp_load_bind Variants.none (c : Thread nD τ) none E arg7 (xRect b) _ _ _) $$ HX
    iintro HX
    iapply (wp_load_bind Variants.none (c : Thread nD τ) none E arg11 (xRect b) _ _ _) $$ HB
    iintro HB
    iapply (wp_store_bind Variants.none (c : Thread nD τ) none E arg11 (xRect b) _ _ _) $$ HB
    iintro HB
    iapply (ih ((xRect b).overlay B (qPay (fun i => X ((xRect b).emb i))))) $$ [HX HB]
    · isplitl [HX]; · iexact HX
      iexact HB
    iexact Hk

/-! ### The body -/

/-- The word of a table at item `i`. -/
def tabAt (i : grid0.Coords) (T : Vec F S111 .i32) : BitVec 32 :=
  T ((Rect.unit (s := S111) (k0_off1 i) S1.size (k0_off1_inb i)).emb (Shape.Idx.first (s := S1) (numel1_S1.symm ▸ Nat.one_pos)))

/-- What the item leaves in the output tile. -/
def outOf (lo hi : BitVec 32) (X : Vec F S512x2048 .bf16) (B : Vec F S1408x2048 .bf16) (Y : Vec F S512x1408 .bf16) : Vec F S512x1408 .bf16 :=
  if k0_cond2 lo hi = 1#1 then k0_pay4 (qnt X) B lo hi Y else Y

/-- What the item leaves in the first scratch buffer. -/
def scrOf (S : Vec F S16x11x16 .f32) (e : BitVec 32) (he : (Scalar.indexCast e : BitVec 32).toNat < 16) (nw : BitVec 32) (W : Vec F S1x1408x2048 .fp8e4m3) (B : Vec F S1408x2048 .bf16) : Vec F S1408x2048 .bf16 :=
  if k0_cond1 nw = 1#1 then deq S he W else B

theorem emb_full {s : Shape} {off : Fin s.rank → Nat} (hoff : off = fun _ => 0) {h : ∀ a, off a + s.size a ≤ s.size a} (y : s.Idx) :
    (Rect.unit (s := s) off s.size h).emb y = y := by
  subst hoff
  funext a; apply Fin.ext; rw [Rect.emb_apply]; show 0 + 1 * (y a).val = (y a).val; omega

theorem overlay_full {s : Shape} {e : EltTy} {off : Fin s.rank → Nat} (hoff : off = fun _ => 0) {h : ∀ a, off a + s.size a ≤ s.size a} (X : s.Idx → Elt F e) (w : s.Idx → Elt F e) :
    (Rect.unit (s := s) off s.size h).overlay X w = w := by
  funext y
  have := Rect.overlay_emb (Rect.unit (s := s) off s.size h) X w y
  rw [emb_full hoff y] at this
  exact this

theorem zeros2 : (![0, 0] : Fin 2 → Nat) = fun _ => 0 := by funext a; fin_cases a <;> rfl

theorem pay4_congr {A A' : Vec F S512x2048 .bf16} {B B' : Vec F S1408x2048 .bf16} {Y Y' : Vec F S512x1408 .bf16} (lo hi : Elt F .i32) (hA : A = A') (hB : B = B') (hY : Y = Y') :
    k0_pay4 A B lo hi Y = k0_pay4 A' B' lo hi Y' := by subst hA hB hY; rfl

theorem pay4_overlay (A : Vec F S512x2048 .bf16) (B : Vec F S1408x2048 .bf16) (lo hi : Elt F .i32) (Y : Vec F S512x1408 .bf16) :
    (Rect.unit (s := S512x1408) ![0, 0] S512x1408.size inb_S512x1408_S512x1408_0_0).overlay Y
      (k0_pay4 (fun i => A ((Rect.unit (s := S512x2048) ![0, 0] S512x2048.size inb_S512x2048_S512x2048_0_0).emb i))
        (fun i => B ((Rect.unit (s := S1408x2048) ![0, 0] S1408x2048.size inb_S1408x2048_S1408x2048_0_0).emb i)) lo hi
        (fun i => Y ((Rect.unit (s := S512x1408) ![0, 0] S512x1408.size inb_S512x1408_S512x1408_0_0).emb i))) = k0_pay4 A B lo hi Y :=
  (overlay_full (F := F) zeros2 Y _).trans
    (pay4_congr lo hi (funext fun j => congrArg A (emb_full zeros2 j)) (funext fun j => congrArg B (emb_full zeros2 j)) (funext fun j => congrArg Y (emb_full zeros2 j)))

theorem wp_bodyRows (i : grid0.Coords) (arg2 arg3 arg4 arg5 : Memref sig .tc .smem S111 .i32) (arg6 : Memref sig .tc .smem S16x11x16 .f32) (arg7 : Memref sig .tc .vmem S512x2048 .bf16) (arg8 : Memref sig .tc .vmem S1x1408x2048 .fp8e4m3)
    (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole)
    (q4 q5 : PosShare TreeShare) (T4 T5 : Vec F S111 .i32) (X : Vec F S512x2048 .bf16) (Y : Vec F S512x1408 .bf16) (B : Vec F S1408x2048 .bf16) (Z : Vec F S512x2048 .bf16) :
    iprop(owns (c : Thread nD τ) arg4 q4 T4 ∗ owns (c : Thread nD τ) arg5 q5 T5 ∗ owns (c : Thread nD τ) arg7 fullShare X
        ∗ owns (c : Thread nD τ) arg9 fullShare Y ∗ owns (c : Thread nD τ) arg10 fullShare B ∗ owns (c : Thread nD τ) arg11 fullShare Z)
      ⊢ iprop(((owns (c : Thread nD τ) arg4 q4 T4 ∗ owns (c : Thread nD τ) arg5 q5 T5 ∗ owns (c : Thread nD τ) arg7 fullShare X
        ∗ owns (c : Thread nD τ) arg9 fullShare (outOf (tabAt i T4) (tabAt i T5) X B Y) ∗ owns (c : Thread nD τ) arg10 fullShare B ∗ (∃ Z, owns (c : Thread nD τ) arg11 fullShare Z)) -∗ Q ⟨⟩)
        -∗ wp frame (wpE (defs₀ (F := F)) Variants.none (c : Thread nD τ) none) E (if k0_h2 : k0_cond2 (tabAt i T4) (tabAt i T5) = 1#1 then
            qRun (bodyDot i arg2 arg3 arg4 arg5 arg6 arg7 arg8 arg9 harg9 arg10 harg10 arg11 harg11) arg7 arg11 harg11 qAll
          else
            pure ⟨⟩) Q) := by
  iintro ⟨H4, H5, H7, H9, H10, H11⟩ Hk
  by_cases h2 : k0_cond2 (tabAt i T4) (tabAt i T5) = 1#1
  · rw [dif_pos (show k0_cond2 _ _ = 1#1 from h2)]
    iapply (wp_qRun c E _ arg7 arg11 harg11 X qAll Z) $$ [H7 H11]
    · isplitl [H7]; · iexact H7
      iexact H11
    iintro ⟨H7, H11⟩
    rw [qFold_all]
    unfold bodyDot
    iapply (wp_load_bind Variants.none (c : Thread nD τ) none E arg11 _ _ _ _) $$ H11
    iintro H11
    iapply (wp_load_bind Variants.none (c : Thread nD τ) none E arg10 _ _ _ _) $$ H10
    iintro H10
    iapply (wp_smem_bind Variants.none (c : Thread nD τ) none E arg4 _ _ _ _ _ _) $$ H4
    iintro H4
    iapply (wp_smem_bind Variants.none (c : Thread nD τ) none E arg5 _ _ _ _ _ _) $$ H5
    iintro H5
    iapply (wp_load_bind Variants.none (c : Thread nD τ) none E arg9 _ _ _ _) $$ H9
    iintro H9
    iapply (wp_load_bind Variants.none (c : Thread nD τ) none E arg9 _ _ _ _) $$ H9
    iintro H9
    iapply (wp_store_bind Variants.none (c : Thread nD τ) none E arg9 _ _ _ _) $$ H9
    iintro H9
    iapply (wp_done Variants.none (c : Thread nD τ) none E _) $$ [-]
    iapply Hk
    isplitl [H4]; · iexact H4
    isplitl [H5]; · iexact H5
    isplitl [H7]; · iexact H7
    isplitl [H9]
    · have e : outOf (tabAt i T4) (tabAt i T5) X B Y = k0_pay4 (qnt X) B (tabAt i T4) (tabAt i T5) Y := if_pos h2
      rw [e, ← pay4_overlay (qnt X) B (tabAt i T4) (tabAt i T5) Y]
      iexact H9
    isplitl [H10]; · iexact H10
    iexists _; iexact H11
  · rw [dif_neg (show ¬ k0_cond2 _ _ = 1#1 from h2)]
    iapply (wp_done Variants.none (c : Thread nD τ) none E _) $$ [-]
    iapply Hk
    have e : outOf (tabAt i T4) (tabAt i T5) X B Y = Y := if_neg h2
    rw [e]
    isplitl [H4]; · iexact H4
    isplitl [H5]; · iexact H5
    isplitl [H7]; · iexact H7
    isplitl [H9]; · iexact H9
    isplitl [H10]; · iexact H10
    iexists _; iexact H11

theorem wp_bodyRest (i : grid0.Coords) (arg2 arg3 arg4 arg5 : Memref sig .tc .smem S111 .i32) (arg6 : Memref sig .tc .smem S16x11x16 .f32) (arg7 : Memref sig .tc .vmem S512x2048 .bf16) (arg8 : Memref sig .tc .vmem S1x1408x2048 .fp8e4m3)
    (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole)
    (q4 q5 : PosShare TreeShare) (T4 T5 : Vec F S111 .i32) (X : Vec F S512x2048 .bf16) (Y : Vec F S512x1408 .bf16) (B : Vec F S1408x2048 .bf16) (Z : Vec F S512x2048 .bf16) :
    iprop(owns (c : Thread nD τ) arg4 q4 T4 ∗ owns (c : Thread nD τ) arg5 q5 T5 ∗ owns (c : Thread nD τ) arg7 fullShare X
        ∗ owns (c : Thread nD τ) arg9 fullShare Y ∗ owns (c : Thread nD τ) arg10 fullShare B ∗ owns (c : Thread nD τ) arg11 fullShare Z)
      ⊢ iprop(((owns (c : Thread nD τ) arg4 q4 T4 ∗ owns (c : Thread nD τ) arg5 q5 T5 ∗ owns (c : Thread nD τ) arg7 fullShare X
        ∗ owns (c : Thread nD τ) arg9 fullShare (outOf (tabAt i T4) (tabAt i T5) X B Y) ∗ owns (c : Thread nD τ) arg10 fullShare B ∗ (∃ Z, owns (c : Thread nD τ) arg11 fullShare Z)) -∗ Q ⟨⟩)
        -∗ wp frame (wpE (defs₀ (F := F)) Variants.none (c : Thread nD τ) none) E (bodyRest i arg2 arg3 arg4 arg5 arg6 arg7 arg8 arg9 harg9 arg10 harg10 arg11 harg11) Q) := by
  iintro ⟨H4, H5, H7, H9, H10, H11⟩ Hk
  unfold bodyRest
  iapply (wp_smem_bind Variants.none (c : Thread nD τ) none E arg4 _ _ _ _ _ _) $$ H4
  iintro H4
  iapply (wp_smem_bind Variants.none (c : Thread nD τ) none E arg5 _ _ _ _ _ _) $$ H5
  iintro H5
  iapply (wp_bodyRows c E i arg2 arg3 arg4 arg5 arg6 arg7 arg8 arg9 harg9 arg10 harg10 arg11 harg11 q4 q5 T4 T5 X Y B Z) $$ [H4 H5 H7 H9 H10 H11]
  · isplitl [H4]; · iexact H4
    isplitl [H5]; · iexact H5
    isplitl [H7]; · iexact H7
    isplitl [H9]; · iexact H9
    isplitl [H10]; · iexact H10
    iexact H11
  iexact Hk

theorem wp_bodyChk (v1 v3 : BitVec 32) (i : grid0.Coords) (arg2 arg3 arg4 arg5 : Memref sig .tc .smem S111 .i32) (arg6 : Memref sig .tc .smem S16x11x16 .f32) (arg7 : Memref sig .tc .vmem S512x2048 .bf16) (arg8 : Memref sig .tc .vmem S1x1408x2048 .fp8e4m3)
    (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole)
    (q2 q3 q4 q5 : PosShare TreeShare) (T2 T3 T4 T5 : Vec F S111 .i32) (S : Vec F S16x11x16 .f32) (X : Vec F S512x2048 .bf16) (W : Vec F S1x1408x2048 .fp8e4m3) (Y : Vec F S512x1408 .bf16) (B : Vec F S1408x2048 .bf16) (Z : Vec F S512x2048 .bf16)
    (hchk : k0_chk1 v1 v3) (he : (Scalar.indexCast v1 : BitVec 32).toNat < 16) :
    iprop(owns (c : Thread nD τ) arg2 q2 T2 ∗ owns (c : Thread nD τ) arg3 q3 T3 ∗ owns (c : Thread nD τ) arg4 q4 T4 ∗ owns (c : Thread nD τ) arg5 q5 T5
        ∗ owns (c : Thread nD τ) arg6 fullShare S ∗ owns (c : Thread nD τ) arg7 fullShare X ∗ owns (c : Thread nD τ) arg8 fullShare W
        ∗ owns (c : Thread nD τ) arg9 fullShare Y ∗ owns (c : Thread nD τ) arg10 fullShare B ∗ owns (c : Thread nD τ) arg11 fullShare Z)
      ⊢ iprop(((owns (c : Thread nD τ) arg2 q2 T2 ∗ owns (c : Thread nD τ) arg3 q3 T3 ∗ owns (c : Thread nD τ) arg4 q4 T4 ∗ owns (c : Thread nD τ) arg5 q5 T5
        ∗ owns (c : Thread nD τ) arg6 fullShare S ∗ owns (c : Thread nD τ) arg7 fullShare X ∗ owns (c : Thread nD τ) arg8 fullShare W
        ∗ owns (c : Thread nD τ) arg9 fullShare (outOf (tabAt i T4) (tabAt i T5) X (scrOf S v1 he v3 W B) Y)
        ∗ owns (c : Thread nD τ) arg10 fullShare (scrOf S v1 he v3 W B) ∗ (∃ Z, owns (c : Thread nD τ) arg11 fullShare Z)) -∗ Q ⟨⟩)
        -∗ wp frame (wpE (defs₀ (F := F)) Variants.none (c : Thread nD τ) none) E (Prog.lift (TpuEff.assume (k0_chk1 v1 v3) (k0_chk1.dec v1 v3)) >>= fun h =>
          if k0_h1 : k0_cond1 v3 = 1#1 then
            wRun (bodyRest i arg2 arg3 arg4 arg5 arg6 arg7 arg8 arg9 harg9 arg10 harg10 arg11 harg11) arg6 arg8 arg10 harg10 v1 (lt_of_chk h.down k0_h1) wAll
          else
            bodyRest i arg2 arg3 arg4 arg5 arg6 arg7 arg8 arg9 harg9 arg10 harg10 arg11 harg11) Q) := by
  iintro ⟨H2, H3, H4, H5, H6, H7, H8, H9, H10, H11⟩ Hk
  iapply (wp_assume_bind Variants.none (c : Thread nD τ) none E _ _ hchk _) $$ [-]
  by_cases h1 : k0_cond1 v3 = 1#1
  · rw [dif_pos (show k0_cond1 _ = 1#1 from h1)]
    iapply (wp_wRun c E _ arg6 arg8 arg10 harg10 v1 he S W wAll B) $$ [H6 H8 H10]
    · isplitl [H6]; · iexact H6
      isplitl [H8]; · iexact H8
      iexact H10
    iintro ⟨H6, H8, H10⟩
    rw [wFold_all]
    have e : scrOf S v1 he v3 W B = deq S he W := if_pos h1
    rw [e]
    iapply (wp_bodyRest c E i arg2 arg3 arg4 arg5 arg6 arg7 arg8 arg9 harg9 arg10 harg10 arg11 harg11 q4 q5 T4 T5 X Y (deq S he W) Z) $$ [H4 H5 H7 H9 H10 H11]
    · isplitl [H4]; · iexact H4
      isplitl [H5]; · iexact H5
      isplitl [H7]; · iexact H7
      isplitl [H9]; · iexact H9
      isplitl [H10]; · iexact H10
      iexact H11
    iintro ⟨H4, H5, H7, H9, H10, H11⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [dif_neg (show ¬ k0_cond1 _ = 1#1 from h1)]
    have e : scrOf S v1 he v3 W B = B := if_neg h1
    rw [e]
    iapply (wp_bodyRest c E i arg2 arg3 arg4 arg5 arg6 arg7 arg8 arg9 harg9 arg10 harg10 arg11 harg11 q4 q5 T4 T5 X Y B Z) $$ [H4 H5 H7 H9 H10 H11]
    · isplitl [H4]; · iexact H4
      isplitl [H5]; · iexact H5
      isplitl [H7]; · iexact H7
      isplitl [H9]; · iexact H9
      isplitl [H10]; · iexact H10
      iexact H11
    iintro ⟨H4, H5, H7, H9, H10, H11⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem wp_body (i : grid0.Coords) (arg2 arg3 arg4 arg5 : Memref sig .tc .smem S111 .i32) (arg6 : Memref sig .tc .smem S16x11x16 .f32) (arg7 : Memref sig .tc .vmem S512x2048 .bf16) (arg8 : Memref sig .tc .vmem S1x1408x2048 .fp8e4m3)
    (arg9 : Memref sig .tc .vmem S512x1408 .bf16) (harg9 : arg9.IsWhole) (arg10 : Memref sig .tc .vmem S1408x2048 .bf16) (harg10 : arg10.IsWhole) (arg11 : Memref sig .tc .vmem S512x2048 .bf16) (harg11 : arg11.IsWhole)
    (q2 q3 q4 q5 : PosShare TreeShare) (T2 T3 T4 T5 : Vec F S111 .i32) (S : Vec F S16x11x16 .f32) (X : Vec F S512x2048 .bf16) (W : Vec F S1x1408x2048 .fp8e4m3) (Y : Vec F S512x1408 .bf16) (B : Vec F S1408x2048 .bf16) (Z : Vec F S512x2048 .bf16)
    (hchk : k0_chk1 (tabAt i T2) (tabAt i T3)) (he : (Scalar.indexCast (tabAt i T2) : BitVec 32).toNat < 16) :
    iprop(owns (c : Thread nD τ) arg2 q2 T2 ∗ owns (c : Thread nD τ) arg3 q3 T3 ∗ owns (c : Thread nD τ) arg4 q4 T4 ∗ owns (c : Thread nD τ) arg5 q5 T5
        ∗ owns (c : Thread nD τ) arg6 fullShare S ∗ owns (c : Thread nD τ) arg7 fullShare X ∗ owns (c : Thread nD τ) arg8 fullShare W
        ∗ owns (c : Thread nD τ) arg9 fullShare Y ∗ owns (c : Thread nD τ) arg10 fullShare B ∗ owns (c : Thread nD τ) arg11 fullShare Z)
      ⊢ iprop(((owns (c : Thread nD τ) arg2 q2 T2 ∗ owns (c : Thread nD τ) arg3 q3 T3 ∗ owns (c : Thread nD τ) arg4 q4 T4 ∗ owns (c : Thread nD τ) arg5 q5 T5
        ∗ owns (c : Thread nD τ) arg6 fullShare S ∗ owns (c : Thread nD τ) arg7 fullShare X ∗ owns (c : Thread nD τ) arg8 fullShare W
        ∗ owns (c : Thread nD τ) arg9 fullShare (outOf (tabAt i T4) (tabAt i T5) X (scrOf S (tabAt i T2) he (tabAt i T3) W B) Y)
        ∗ owns (c : Thread nD τ) arg10 fullShare (scrOf S (tabAt i T2) he (tabAt i T3) W B) ∗ (∃ Z, owns (c : Thread nD τ) arg11 fullShare Z)) -∗ Q ⟨⟩)
        -∗ wp frame (wpE (defs₀ (F := F)) Variants.none (c : Thread nD τ) none) E (body i arg2 arg3 arg4 arg5 arg6 arg7 arg8 arg9 harg9 arg10 harg10 arg11 harg11) Q) := by
  iintro ⟨H2, H3, H4, H5, H6, H7, H8, H9, H10, H11⟩ Hk
  unfold body
  iapply (wp_smem_bind Variants.none (c : Thread nD τ) none E arg2 _ _ _ _ _ _) $$ H2
  iintro H2
  iapply (wp_smem_bind Variants.none (c : Thread nD τ) none E arg3 _ _ _ _ _ _) $$ H3
  iintro H3
  iapply (wp_bodyChk c E (tabAt i T2) (tabAt i T3) i arg2 arg3 arg4 arg5 arg6 arg7 arg8 arg9 harg9 arg10 harg10 arg11 harg11 q2 q3 q4 q5 T2 T3 T4 T5 S X W Y B Z hchk he) $$ [H2 H3 H4 H5 H6 H7 H8 H9 H10 H11]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hk

end Cert.KernelIdeal.Hand
-- ==== Proof.Run.lean ====
/-
  The kernel's run at any admissible tables whose experts are real ones and whose flags mark the changes of expert:
  every tile is written back as the items of the tile leave it.
-/
module

public import proofs.«01_k».proof.Proof.Body
public import Idealize.ShloMosaic.Lib.Pipeline.Frame

@[expose] public section

noncomputable section

namespace Cert.KernelIdeal.Hand

open Cert.KernelIdeal Cert.KernelIdeal.Gen Cert.Hand
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

section Data

variable (a : (p : Fin 1) → (pcfgs (F := F) p).Adm)
variable (V : (c : Dev nD) → (b : Ref sig .tc) → Buf (Elt F) ((c.tc : Thread nD τ).loc b))

/-- The pipeline at the tables. -/
abbrev kcfg : Pipeline.Cfg sig Λ₀ := Pipeline.pin (pcfgs (F := F)) a 0

/-- The word of table `k` at item `t`. -/
def word (k : Fin 5) (t : Fin 111) : BitVec 32 :=
  match k with
  | 0 => tabAt (F := F) (grid0.coords t) ((a 0).1 0)
  | 1 => tabAt (F := F) (grid0.coords t) ((a 0).1 1)
  | 2 => tabAt (F := F) (grid0.coords t) ((a 0).1 2)
  | 3 => tabAt (F := F) (grid0.coords t) ((a 0).1 3)
  | 4 => tabAt (F := F) (grid0.coords t) ((a 0).1 4)

/-- The row tile, the expert's weights and the scales as the windows stage them at item `t`. -/
def xAt (c : Dev nD) (t : Fin 111) : Vec F S512x2048 .bf16 := ((kcfg a).win 1 |>.blk t).view.read (Elt F) (V c main_arg0)
def wAt (c : Dev nD) (t : Fin 111) : Vec F S1x1408x2048 .fp8e4m3 := ((kcfg a).win 2 |>.blk t).view.read (Elt F) (V c main_arg2)
def sAt (c : Dev nD) : Vec F S16x11x16 .f32 := V c main_arg3

/-- What the tables must satisfy for the body to run and for its scratch to hold the current expert's weights. -/
structure Sched : Prop where
  expert : ∀ t : Fin 111, (Scalar.indexCast (word a 1 t) : BitVec 32).toNat < 16
  first : k0_cond1 (word a 2 0) = 1#1
  same : ∀ (t : Nat) (h : t + 1 < 111), k0_cond1 (word a 2 ⟨t + 1, h⟩) ≠ 1#1 → word a 1 ⟨t + 1, h⟩ = word a 1 ⟨t, by omega⟩

variable {a}

/-- The dequantised weights of item `t`'s expert. -/
def wbAt (hs : Sched a) (c : Dev nD) (t : Fin 111) : Vec F S1408x2048 .bf16 := deq (sAt V c) (hs.expert t) (wAt a V c t)

/-- The body's invariant: the first scratch buffer holds the dequantised weights of the last item's expert. -/
def ΦK (hs : Sched a) (c : Dev nD) (t : Nat) : sProp (KM F) :=
  iprop((∃ B : Vec F S1408x2048 .bf16, ⌜∀ h : 0 < t ∧ t - 1 < 111, B = wbAt V hs c ⟨t - 1, h.2⟩⌝ ∗ owns (c : Thread nD τ) (Memref.whole cc0_scratch0) fullShare B)
    ∗ (∃ Z : Vec F S512x2048 .bf16, owns (c : Thread nD τ) (Memref.whole cc0_scratch1) fullShare Z) ∗ (∃ r, prngReg c r) ∗ Pipeline.ΦT pre0 (a 0).1 c)

/-- The run's data. -/
def rdat (hs : Sched a) (c : Dev nD) : RDat τ (Elt F) Unit ℕ (UR sig nD τ) ℕ (kcfg a) c where
  A w := V c (Pipeline.arrRef spec0 w)
  after := fun
    | 0 => fun _ Y X => X = Y
    | 1 => fun _ Y X => X = Y
    | 2 => fun _ Y X => X = Y
    | 3 => fun t Y X => X = outOf (word a 3 t) (word a 4 t) (xAt a V c t) (wbAt V hs c t) Y
    | ⟨_ + 4, h⟩ => absurd h (Nat.not_lt.2 (Nat.le_add_left _ _))
  Φ t := ΦK V hs c t.val
  q _ := fullShare
  owed _ := 0

/-- A window left as found holds its block at every item. -/
theorem finds_in (hs : Sched a) (c : Dev nD) (w : Fin 4) (hin : ((kcfg a).win w).isOut = false)
    (hafter : ∀ t Y X, (rdat V hs c).after w t Y X → X = Y)
    (hfull : ∀ t d, (rdat V hs c).fetched w t d = (rdat V hs c).fetched w t (fun _ => Classical.arbitrary _)) :
    ∀ (n : Nat) (t : Fin (kcfg a).N), t.val = n → ∀ Y, (rdat V hs c).Finds w t Y → Y = (rdat V hs c).fetched w t (fun _ => Classical.arbitrary _) := by
  intro n
  induction n with
  | zero =>
    intro t ht Y hY
    have hf : ((kcfg a).win w).fetch t = true := by
      unfold Pipeline.Window.fetch; rw [hin]; simp [ht]
    rw [(rdat V hs c).finds_of_fetch hf] at hY
    obtain ⟨d, rfl⟩ := hY
    exact hfull t d
  | succ n ih =>
    intro t ht Y hY
    cases hf : ((kcfg a).win w).fetch t with
    | true =>
      rw [(rdat V hs c).finds_of_fetch hf] at hY
      obtain ⟨d, rfl⟩ := hY
      exact hfull t d
    | false =>
      rw [(rdat V hs c).finds_of_pos hf (by omega)] at hY
      have hnf : ∀ u, ((kcfg a).win w).flush u = false := fun u => by unfold Pipeline.Window.flush; rw [hin]; rfl
      rcases hY with hY | ⟨Y', hY', hYX⟩
      · rw [hnf] at hY; exact absurd hY Bool.false_ne_true
      · rw [hafter _ _ _ hYX, ih ⟨t.val - 1, _⟩ (by show t.val - 1 = n; omega) Y' hY']
        refine ((rdat V hs c).fetched_congr w ?_ ?_ _)
        · have := hf
          unfold Pipeline.Window.fetch at this
          rw [hin] at this
          simp only [Bool.not_false, Bool.true_and, Bool.or_eq_false_iff, decide_eq_false_iff_not] at this
          by_contra hne
          exact this.2 ⟨by omega, fun h => hne h.symm⟩
        · match w with
          | 0 => rfl
          | 1 => rfl
          | 2 => rfl
          | 3 => rfl

/-- An element that the fetch at `t` moves is the block's. -/
theorem fetched_moved (hs : Sched a) (c : Dev nD) (w : Fin 4) (t : Fin (kcfg a).N) (d) (j : ((kcfg a).win w).block.Idx)
    (hm : ((kcfg a).win w).moved ((kcfg a).grid.coords t) j = true) :
    (rdat V hs c).fetched w t d j = (rdat V hs c).blockOf w t fun b => ⟨(j b).val, (((kcfg a).win w).moved_iff _ j).mp hm b⟩ := by
  unfold RDat.fetched Pipeline.Window.fill
  rw [dif_pos hm]

theorem finds0 (hs : Sched a) (c : Dev nD) (t : Fin 111) (Y) (hY : (rdat V hs c).Finds 0 t Y) : Y = sAt V c := by
  have := finds_in V hs c 0 rfl (fun _ _ _ h => h) (fun _ _ => rfl) _ t rfl Y hY
  refine this.trans (funext fun j => ?_)
  refine (fetched_moved V hs c 0 t _ j ((((kcfg a).win 0).moved_iff _ j).mpr fun b => (j b).isLt)).trans ?_
  refine congrArg (V c main_arg3) (funext fun b => Fin.ext ?_)
  match b with
  | 0 => show 0 * 16 + 1 * (j 0).val = (j 0).val; omega
  | 1 => show 0 * 11 + 1 * (j 1).val = (j 1).val; omega
  | 2 => show 0 * 16 + 1 * (j 2).val = (j 2).val; omega
theorem finds1 (hs : Sched a) (c : Dev nD) (t : Fin 111) (Y) (hY : (rdat V hs c).Finds 1 t Y) : Y = xAt a V c t := by
  have := finds_in V hs c 1 rfl (fun _ _ _ h => h) (fun _ _ => rfl) _ t rfl Y hY
  refine this.trans (funext fun j => ?_)
  exact (fetched_moved V hs c 1 t _ j ((((kcfg a).win 1).moved_iff _ j).mpr fun b => (j b).isLt)).trans rfl
theorem finds2 (hs : Sched a) (c : Dev nD) (t : Fin 111) (Y) (hY : (rdat V hs c).Finds 2 t Y) : Y = wAt a V c t := by
  have := finds_in V hs c 2 rfl (fun _ _ _ h => h) (fun _ _ => rfl) _ t rfl Y hY
  refine this.trans (funext fun j => ?_)
  exact (fetched_moved V hs c 2 t _ j ((((kcfg a).win 2).moved_iff _ j).mpr fun b => (j b).isLt)).trans rfl

/-- An entry of the scales within the array. -/
theorem off_ok {e j k : Nat} (he : e < 16) (hj : j < 11) (hk : k < 16) : ∀ b, (![e, j, k] : Fin 3 → Nat) b + S1x1x1.size b ≤ S16x11x16.size b := fun b => by
  match b with
  | 0 => exact he
  | 1 => exact hj
  | 2 => exact hk

/-- Every scale that the body reads lies in the array when the expert is a real one. -/
theorem chk_of_lt {v1 : BitVec 32} (v3 : BitVec 32) (h : (Scalar.indexCast v1 : BitVec 32).toNat < 16) : k0_chk1 v1 v3 := by
  refine ⟨?_, ?_, ?_, ?_, ?_, ?_⟩ <;>
    (first | unfold k0_chk1_0 | unfold k0_chk1_1 | unfold k0_chk1_2 | unfold k0_chk1_3 | unfold k0_chk1_4 | unfold k0_chk1_5) <;>
    (repeat' refine And.intro ?_ ?_) <;> exact fun _ => off_ok h (by decide) (by decide)

/-- The tables, each as a table held whole. -/
theorem ΦT_eq (v : pre0.Contents (Elt F)) (c : Dev nD) :
    (Pipeline.ΦT pre0 v c : sProp (KM F)) = iprop(owns (c : Thread nD τ) (Memref.whole main_v36) fullShare.right (v 0) ∗ owns (c : Thread nD τ) (Memref.whole main_v19) fullShare.right (v 1)
      ∗ owns (c : Thread nD τ) (Memref.whole main_v41) fullShare.right (v 2) ∗ owns (c : Thread nD τ) (Memref.whole main_v52) fullShare.right (v 3)
      ∗ owns (c : Thread nD τ) (Memref.whole main_v66) fullShare.right (v 4)) := by
  refine (bigSep_univ_eq_bigSepL [(0 : Fin 5), (1 : Fin 5), (2 : Fin 5), (3 : Fin 5), (4 : Fin 5)] (by decide) (by decide) _).trans ?_
  exact congrArg₂ _ (owns_whole (c : Thread nD τ) main_v36 fullShare.right (v 0)).symm (congrArg₂ _ (owns_whole (c : Thread nD τ) main_v19 fullShare.right (v 1)).symm
    (congrArg₂ _ (owns_whole (c : Thread nD τ) main_v41 fullShare.right (v 2)).symm (congrArg₂ _ (owns_whole (c : Thread nD τ) main_v52 fullShare.right (v 3)).symm
      (owns_whole (c : Thread nD τ) main_v66 fullShare.right (v 4)).symm)))

/-- The body at item `t`, spelled out. -/
theorem defs₀_row (t : Fin 111) (s : (w : Fin 4) → Fin (spec0 w).nbuf) :
    defs₀ (F := F) .tc ((kcfg a).body) ((kcfg a).bodyArgs t s) = body (grid0.coords t) (Memref.whole main_v19) (Memref.whole main_v41) (Memref.whole main_v52) (Memref.whole main_v66)
      (spec0_0.stage (s 0)) (spec0_1.stage (s 1)) (spec0_2.stage (s 2)) (spec0_3.stage (s 3)) (hstage0_3 ((s 3).cast nbuf0_3))
      (Memref.whole cc0_scratch0) (Memref.isWhole_whole _) (Memref.whole cc0_scratch1) (Memref.isWhole_whole _) := by
  refine Eq.trans (b := cc0_grouped_fp8_matmul (grid0.coords t) (Memref.whole main_v36) (Memref.isWhole_whole _) (Memref.whole main_v19) (Memref.isWhole_whole _) (Memref.whole main_v41) (Memref.isWhole_whole _) (Memref.whole main_v52) (Memref.isWhole_whole _) (Memref.whole main_v66) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (Memref.whole cc0_scratch0) (Memref.isWhole_whole _) (Memref.whole cc0_scratch1) (Memref.isWhole_whole _)) ?_ (body_eq ..)
  unfold defs₀; rw [Defs.onTc_tc]

theorem deq_congr (S : Vec F S16x11x16 .f32) {e e' : Nat} (h : e = e') (he : e < 16) (he' : e' < 16) (W : Vec F S1x1408x2048 .fp8e4m3) :
    deq S he W = deq S he' W := by
  subst h; rfl

/-- Two items of one expert have the same weights. -/
theorem wAt_congr (hs : Sched a) (c : Dev nD) (t u : Fin 111) (h : word a 1 t = word a 1 u) : wAt a V c t = wAt a V c u := by
  have hi : ((kcfg a).win 2).index t = ((kcfg a).win 2).index u := by
    show (![(word a 1 t).toNat, 0, 0] : Fin 3 → Nat) = ![(word a 1 u).toNat, 0, 0]
    rw [h]
  have hf : ∀ t : Fin 111, (rdat V hs c).fetched 2 t (fun _ => Classical.arbitrary _) = wAt a V c t := fun t => funext fun j =>
    (fetched_moved V hs c 2 t _ j ((((kcfg a).win 2).moved_iff _ j).mpr fun b => (j b).isLt)).trans rfl
  rw [← hf t, ← hf u]
  exact (rdat V hs c).fetched_congr 2 hi rfl _

theorem wbAt_same (hs : Sched a) (c : Dev nD) (t : Nat) (ht : t + 1 < 111) (h : k0_cond1 (word a 2 ⟨t + 1, ht⟩) ≠ 1#1) :
    wbAt V hs c ⟨t + 1, ht⟩ = wbAt V hs c ⟨t, by omega⟩ := by
  have e := hs.same t ht h
  unfold wbAt
  rw [wAt_congr V hs c _ _ e]
  exact deq_congr _ (by rw [e]) _ _ _

/-- The scratch after item `t`. -/
theorem scr_eq (hs : Sched a) (c : Dev nD) (t : Fin 111) (B : Vec F S1408x2048 .bf16)
    (hB : ∀ h : 0 < t.val ∧ t.val - 1 < 111, B = wbAt V hs c ⟨t.val - 1, h.2⟩) :
    scrOf (sAt V c) (word a 1 t) (hs.expert t) (word a 2 t) (wAt a V c t) B = wbAt V hs c t := by
  by_cases h1 : k0_cond1 (word a 2 t) = 1#1
  · exact if_pos h1
  · refine (if_neg h1).trans ?_
    obtain ⟨t, ht⟩ := t
    cases t with
    | zero => exact absurd hs.first h1
    | succ t => exact (hB ⟨Nat.succ_pos _, by show t < 111; omega⟩).trans (wbAt_same V hs c t ht h1).symm

/-- The body obligation: from any contents the windows may be found with, the body leaves what the relation says. -/
theorem body_obligation (hs : Sched a) (c : Dev nD) :
    (rdat V hs c).BodyObligation (defs₀ (F := F)) Variants.none () Set.univ := by
  intro t Y hY
  have h0 := finds0 V hs c t _ (hY 0)
  have h1 := finds1 V hs c t _ (hY 1)
  have h2 := finds2 V hs c t _ (hY 2)
  rw [bigSep_W0, bigSep_W0, h0, h1, h2]
  refine Idealize.SL.BI.Entails.trans ?_ (Entails.of_eq (congrArg (fun p => wp frame (wpE (defs₀ (F := F)) Variants.none (c : Thread nD τ) none) Set.univ p _) (defs₀_row (a := a) t ((kcfg a).slots t)).symm))
  show iprop(ΦK V hs c t.val ∗ _ ∗ _) ⊢ wp _ _ _ _ fun _ => iprop(ΦK V hs c (t.val + 1) ∗ _ ∗ _)
  unfold Pipeline.RDat.owesAt Pipeline.owesWithin
  unfold ΦK
  rw [ΦT_eq]
  iintro ⟨⟨⟨%B, %hB, HB⟩, ⟨%Z, HZ⟩, Hp, HT0, HT1, HT2, HT3, HT4⟩, HO, H0, H1, H2, H3⟩
  iapply (wp_body (F := F) c Set.univ (grid0.coords t) (Memref.whole main_v19) (Memref.whole main_v41) (Memref.whole main_v52) (Memref.whole main_v66) _ _ _ _ _ _ _ _ _
    fullShare.right fullShare.right fullShare.right fullShare.right ((a 0).1 1) ((a 0).1 2) ((a 0).1 3) ((a 0).1 4) (sAt V c) (xAt a V c t) (wAt a V c t) (Y 3) B Z (chk_of_lt _ (hs.expert t)) (hs.expert t)) $$ [HT1 HT2 HT3 HT4 H0 H1 H2 H3 HB HZ]
  · isplitl [HT1]; · iexact HT1
    isplitl [HT2]; · iexact HT2
    isplitl [HT3]; · iexact HT3
    isplitl [HT4]; · iexact HT4
    isplitl [H0]; · iexact H0
    isplitl [H1]; · iexact H1
    isplitl [H2]; · iexact H2
    isplitl [H3]; · iexact H3
    isplitl [HB]; · iexact HB
    iexact HZ
  rw [show scrOf (sAt V c) (tabAt (grid0.coords t) ((a 0).1 1)) (hs.expert t) (tabAt (grid0.coords t) ((a 0).1 2)) (wAt a V c t) B = wbAt V hs c t from scr_eq V hs c t B hB]
  iintro ⟨HT1, HT2, HT3, HT4, H0, H1, H2, H3, HB, HZ⟩
  isplitl [HB HZ Hp HT0 HT1 HT2 HT3 HT4]
  · isplitl [HB]
    · iexists (wbAt V hs c t)
      isplitr [HB]
      · ipureintro; intro h; rfl
      · iexact HB
    iframe
  isplitl [HO]
  · iexact HO
  isplitl [H0]
  · iexists (sAt V c); isplitr [H0]; · ipureintro; rfl
    iexact H0
  isplitl [H1]
  · iexists (xAt a V c t); isplitr [H1]; · ipureintro; rfl
    iexact H1
  isplitl [H2]
  · iexists (wAt a V c t); isplitr [H2]; · ipureintro; rfl
    iexact H2
  iexists (outOf (word a 3 t) (word a 4 t) (xAt a V c t) (wbAt V hs c t) (Y 3)); isplitr [H3]; · ipureintro; rfl
  iexact H3

end Data

/-! ### The launch -/

/-- The host operations before the kernel, in order. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- What the buffers hold when the kernel is launched. -/
def Vof (m : (ℓ : Loc nD τ sig) → Buf (Elt F) ℓ) (c : Dev nD) (b : Ref sig .tc) : Buf (Elt F) ((c.tc : Thread nD τ).loc b) :=
  StableHlo.after opss.flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩

theorem opss_fresh : (opss (F := F)).Forall fun ops => ops.Forall fun op => op.fresh = ∅ := by
  simp only [List.Forall]
  repeat' refine And.intro ?_ ?_
  all_goals rfl

theorem hmain (m : (ℓ : Loc nD τ sig) → Buf (Elt F) ℓ) :
    Pipeline.HMainP (Ix := Unit) (Name := ℕ) (U := UR sig nD τ) (Lvl := ℕ) (pcfgs (F := F)) 0 defs₀ Variants.none m main (Vof m) :=
  Pipeline.hmainP_prefixes pcfgs 0 defs₀ Variants.none m main opss opss_sub opss_fresh fun c => (main_chain c).trans rfl

set_option backward.isDefEq.respectTransparency.types false in
/-- The kernel's run: it ends, its semaphores at rest, with the arrays at what the write-backs leave. -/
theorem run (m : (ℓ : Loc nD τ sig) → Buf (Elt F) ℓ) (ρ : Dev nD → PrngReg) (a : (p : Fin 1) → (pcfgs (F := F) p).Adm) (hs : Sched a)
    (hpf : ∀ c k, Vof m c (pre0.ref k) = (a 0).1 k) :
    θ_run defs (onTc main) ⟨m, fun _ => 0, ρ⟩ fun r => RDat.FramePost (kcfg a) (rdat (Vof m) hs) (Vof m) r ∧ r.2.sem = fun _ => 0 := by
  refine Pipeline.RDat.θ_run_frameP_track (pcfgs (F := F)) a 0 launch0 defs₀ Variants.none (rdat (Vof m) hs) m ρ main
    (fun c => body_obligation (Vof m) hs c) (fun c w => ?_) (fun _ _ => rfl) (Vof m) (hmain m) (fun _ _ => rfl) hpf (fun c => ?_) (fun c => ?_) _ (fun r h => h)
  · unfold RDat.share; split <;> rfl
  · show _ ⊢ ΦK (Vof m) hs c 0
    unfold ΦK Pipeline.ΦA
    rw [scopedRest0_eq]
    iintro ⟨⟨⟨⟨%f, Hf⟩, ⟨%g, Hg⟩⟩, Hp⟩, HT⟩
    isplitl [Hf]
    · iexists f
      isplitr [Hf]
      · ipureintro; intro h; exact absurd h.1 (by decide)
      · rw [owns_whole]; iexact Hf
    isplitl [Hg]
    · iexists g
      rw [owns_whole]; iexact Hg
    isplitl [Hp]; · iexact Hp
    iexact HT
  · show ΦK (Vof m) hs c 111 ⊢ _
    unfold ΦK Pipeline.ΦA
    rw [scopedRest0_eq]
    iintro ⟨⟨%B, %hB, HB⟩, ⟨%Z, HZ⟩, Hp, HT⟩
    ihave HB := (Entails.of_eq (owns_whole (c : Thread nD τ) cc0_scratch0 fullShare B)) $$ HB
    ihave HZ := (Entails.of_eq (owns_whole (c : Thread nD τ) cc0_scratch1 fullShare Z)) $$ HZ
    isplitl [HB HZ]
    · isplitl [HB]
      · iexists B; iexact HB
      · iexists Z; iexact HZ
    iexact Hp

end Cert.KernelIdeal.Hand
-- ==== Proof.Tables.lean ====
/-
  The five tables that the kernel prefetches, as functions of the group sizes: what the host operations before the
  kernel leave in their buffers.
-/
module

public import proofs.«01_k».proof.Proof.Run
public import Idealize.ShloMosaic.Lib.StableHlo.RunRead

@[expose] public section

noncomputable section

namespace Cert.KernelIdeal.Hand

open Cert.KernelIdeal Cert.KernelIdeal.Gen Cert.Hand
open Idealize.ShloMosaic Idealize.ShloMosaic.TcCoe
open Idealize.ShloMosaic.StableHlo

variable {F : FTy → Type} [FloatOps F]

/-- A number in every entry. -/
abbrev all16 (x : BitVec 32) : Vec F S16 .i32 := broadcastInDim S16 ![] bcast_S_S16 (constantI S_ 32 x : Vec F S_ .i32)
abbrev all111 (x : BitVec 32) : Vec F S111 .i32 := broadcastInDim S111 ![] bcast_S_S111 (constantI S_ 32 x : Vec F S_ .i32)

/-- The running sums. -/
def runSum (g : Vec F S16 .i32) : Vec F S16 .i32 :=
  Host.reduceWindow IntOp.addi ![16] ![1] ![15] ![0] g (broadcastInDim S_ ![] bcast_S_S_ (constantI S_ 32 0#32 : Vec F S_ .i32)) reduceWindows_S16_S16_w16s1p15_0 h_S_

/-- The quotient by a constant, rounded down. -/
def floorDiv (x : Vec F S16 .i32) : Vec F S16 .i32 :=
  select (andi (cmpi .ne (signi x) (broadcastInDim S16 ![] bcast_S_S16 (signi (constantI S_ 32 512#32 : Vec F S_ .i32))))
      (cmpi .ne (Host.remsi x (all16 (F := F) 512#32)) (all16 (F := F) 0#32)))
    (subi (Host.divsi x (all16 (F := F) 512#32)) (all16 (F := F) 1#32)) (Host.divsi x (all16 (F := F) 512#32))

/-- First row, first tile, number of tiles, and where the items of each expert end. -/
def startsT (g : Vec F S16 .i32) : Vec F S16 .i32 := subi (runSum (F := F) g) g
def firstT (g : Vec F S16 .i32) : Vec F S16 .i32 := floorDiv (F := F) (startsT (F := F) g)
def countT (g : Vec F S16 .i32) : Vec F S16 .i32 :=
  select (cmpi .sgt g (all16 (F := F) 0#32)) (addi (subi (floorDiv (F := F) (subi (runSum (F := F) g) (all16 (F := F) 1#32))) (firstT (F := F) g)) (all16 (F := F) 1#32)) (all16 (F := F) 0#32)
def endT (g : Vec F S16 .i32) : Vec F S16 .i32 := runSum (F := F) (countT (F := F) g)
/-- The number of items, from where they end; and each grid step's item, the last one standing for the steps left over. -/
def totOf (e : Vec F S16 .i32) : Vec F S_ .i32 := shapeCast S_ (extractStridedSlice S1 ![15] e slices_S16_S1_15) shapeCasts_S1_S_
def clampOf (e : Vec F S16 .i32) : Vec F S111 .i32 :=
  minsi (iotaInDim S111 32 0) (broadcastInDim S111 ![] bcast_S_S111 (subi (totOf (F := F) e) (constantI S_ 32 1#32 : Vec F S_ .i32)))
def clampT (g : Vec F S16 .i32) : Vec F S111 .i32 := clampOf (F := F) (endT (F := F) g)

/-- The expert of each item: how many experts' items have ended. -/
def expertOf (e : Vec F S16 .i32) (j : Vec F S111 .i32) : Vec F S111 .i32 :=
  Host.reduce IntOp.addi (extui 32 (cmpi .sle (broadcastInDim S16x111 ![0, 1] bcast_S16x1_S16x111_0_1 (broadcastInDim S16x1 ![0] bcast_S16_S16x1_0 e))
    (broadcastInDim S16x111 ![0, 1] bcast_S1x111_S16x111_0_1 (broadcastInDim S1x111 ![1] bcast_S111_S1x111_1 j))) natLt_1_32)
    (constantI S_ 32 0#32 : Vec F S_ .i32) reducesTo_S16x111_S111_d0 h_S_
def expertT (g : Vec F S16 .i32) : Vec F S111 .i32 := expertOf (F := F) (endT (F := F) g) (clampT (F := F) g)

/-- The entry of `x` at each item's expert. -/
def pick (x : Vec F S16 .i32) (e : Vec F S111 .i32) : Vec F S111 .i32 :=
  Host.gather gather_S16_S111x1_S111_n_0_n_n_0_1_1 x (broadcastInDim S111x1 ![0] bcast_S111_S111x1_0 (select (cmpi .slt e (all111 (F := F) 0#32)) (addi e (all111 (F := F) 16#32)) e))

def tileT (g : Vec F S16 .i32) : Vec F S111 .i32 :=
  subi (addi (pick (F := F) (firstT (F := F) g) (expertT (F := F) g)) (clampT (F := F) g)) (pick (F := F) (subi (endT (F := F) g) (countT (F := F) g)) (expertT (F := F) g))
def newOf (e : Vec F S111 .i32) : Vec F S111 .i32 :=
  extui 32 (cmpi .ne (concatenate S111 0 [⟨S1, (broadcastInDim S1 ![] bcast_S_S1 (constantI S_ 32 4294967295#32 : Vec F S_ .i32))⟩, ⟨S110, extractStridedSlice S110 ![0] e slices_S111_S110_0⟩] concatenates_S1_S110_S111_d0) e) natLt_1_32
def newT (g : Vec F S16 .i32) : Vec F S111 .i32 := newOf (F := F) (expertT (F := F) g)
/-- A row number within the tile. -/
def clipT (x : Vec F S111 .i32) : Vec F S111 .i32 := minsi (all111 (F := F) 512#32) (maxsi (all111 (F := F) 0#32) x)
def loT (g : Vec F S16 .i32) : Vec F S111 .i32 := clipT (F := F) (subi (pick (F := F) (startsT (F := F) g) (expertT (F := F) g)) (muli (tileT (F := F) g) (all111 (F := F) 512#32)))
def hiT (g : Vec F S16 .i32) : Vec F S111 .i32 :=
  select (cmpi .slt (iotaInDim S111 32 0) (broadcastInDim S111 ![] bcast_S_S111 (totOf (F := F) (endT (F := F) g)))) (clipT (F := F) (subi (pick (F := F) (runSum (F := F) g) (expertT (F := F) g)) (muli (tileT (F := F) g) (all111 (F := F) 512#32)))) (all111 (F := F) 0#32)

/-! ### What each stretch of host operations leaves -/

variable (V : Valuation τ sig (Elt F))

theorem pass0 (V : Valuation τ sig (Elt F)) (r : Ref sig .tc) (h : r ∉ ([main_call0_call0_c, main_call0_call0_v0, main_v0] : List (Ref sig .tc))) :
    after hostOps0 V (Proc.devRef .tc r) = V (Proc.devRef .tc r) := after_unwritten _ rfl h V

theorem pass1 (V : Valuation τ sig (Elt F)) (r : Ref sig .tc) (h : r ∉ ([main_v1, main_c] : List (Ref sig .tc))) :
    after hostOps0_1 V (Proc.devRef .tc r) = V (Proc.devRef .tc r) := after_unwritten _ rfl h V

theorem pass2 (V : Valuation τ sig (Elt F)) (r : Ref sig .tc) (h : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2] : List (Ref sig .tc))) :
    after hostOps0_2 V (Proc.devRef .tc r) = V (Proc.devRef .tc r) := after_unwritten _ rfl h V

theorem pass3 (V : Valuation τ sig (Elt F)) (r : Ref sig .tc) (h : r ∉ ([main_c_0, main_v3, main_v4, main_c_1, main_v5, main_v6, main_c_2] : List (Ref sig .tc))) :
    after hostOps0_3 V (Proc.devRef .tc r) = V (Proc.devRef .tc r) := after_unwritten _ rfl h V

theorem pass4 (V : Valuation τ sig (Elt F)) (r : Ref sig .tc) (h : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7] : List (Ref sig .tc))) :
    after hostOps0_4 V (Proc.devRef .tc r) = V (Proc.devRef .tc r) := after_unwritten _ rfl h V

theorem pass5 (V : Valuation τ sig (Elt F)) (r : Ref sig .tc) (h : r ∉ ([main_v8, main_c_3, main_v9, main_v10, main_c_4] : List (Ref sig .tc))) :
    after hostOps0_5 V (Proc.devRef .tc r) = V (Proc.devRef .tc r) := after_unwritten _ rfl h V

theorem pass6 (V : Valuation τ sig (Elt F)) (r : Ref sig .tc) (h : r ∉ ([main_call3_v0, main_call3_v1, main_v11] : List (Ref sig .tc))) :
    after hostOps0_6 V (Proc.devRef .tc r) = V (Proc.devRef .tc r) := after_unwritten _ rfl h V

theorem pass7 (V : Valuation τ sig (Elt F)) (r : Ref sig .tc) (h : r ∉ ([main_call4_call0_c, main_call4_call0_v0, main_v12] : List (Ref sig .tc))) :
    after hostOps0_7 V (Proc.devRef .tc r) = V (Proc.devRef .tc r) := after_unwritten _ rfl h V

theorem pass8 (V : Valuation τ sig (Elt F)) (r : Ref sig .tc) (h : r ∉ ([main_v13, main_v14, main_v15, main_c_5, main_v16, main_v17, main_v18] : List (Ref sig .tc))) :
    after hostOps0_8 V (Proc.devRef .tc r) = V (Proc.devRef .tc r) := after_unwritten _ rfl h V

theorem pass9 (V : Valuation τ sig (Elt F)) (r : Ref sig .tc) (h : r ∉ ([main_call5_call0_v0, main_call5_call0_v1, main_call5_call0_v2, main_call5_call0_v3, main_call5_call0_v4, main_call5_call0_v5, main_call5_call0_c, main_v19] : List (Ref sig .tc))) :
    after hostOps0_9 V (Proc.devRef .tc r) = V (Proc.devRef .tc r) := after_unwritten _ rfl h V

theorem pass10 (V : Valuation τ sig (Elt F)) (r : Ref sig .tc) (h : r ∉ ([main_c_6, main_v20, main_v21, main_c_7, main_v22, main_v23, main_v24, main_v25, main_v26, main_v27, main_v28, main_c_8, main_v29, main_v30, main_c_9, main_v31, main_v32, main_v33, main_v34, main_v35, main_v36, main_c_10, main_v37, main_v38, main_v39, main_v40, main_v41, main_c_11, main_v42, main_v43, main_c_12, main_v44, main_v45, main_v46, main_v47, main_v48, main_c_13, main_v49, main_v50, main_v51, main_c_14, main_c_15] : List (Ref sig .tc))) :
    after hostOps0_10 V (Proc.devRef .tc r) = V (Proc.devRef .tc r) := after_unwritten _ rfl h V

theorem pass11 (V : Valuation τ sig (Elt F)) (r : Ref sig .tc) (h : r ∉ ([main_call6_v0, main_call6_v1, main_call6_v2, main_call6_v3, main_call6_v4, main_v52] : List (Ref sig .tc))) :
    after hostOps0_11 V (Proc.devRef .tc r) = V (Proc.devRef .tc r) := after_unwritten _ rfl h V

theorem pass12 (V : Valuation τ sig (Elt F)) (r : Ref sig .tc) (h : r ∉ ([main_v53, main_v54, main_c_16, main_v55, main_v56, main_c_17, main_v57, main_v58, main_v59, main_v60, main_v61, main_c_18, main_v62, main_v63, main_v64, main_c_19, main_c_20] : List (Ref sig .tc))) :
    after hostOps0_12 V (Proc.devRef .tc r) = V (Proc.devRef .tc r) := after_unwritten _ rfl h V

theorem pass13 (V : Valuation τ sig (Elt F)) (r : Ref sig .tc) (h : r ∉ ([main_call7_v0, main_call7_v1, main_call7_v2, main_call7_v3, main_call7_v4, main_v65] : List (Ref sig .tc))) :
    after hostOps0_13 V (Proc.devRef .tc r) = V (Proc.devRef .tc r) := after_unwritten _ rfl h V

theorem pass14 (V : Valuation τ sig (Elt F)) (r : Ref sig .tc) (h : r ∉ ([main_c_21] : List (Ref sig .tc))) :
    after hostOps0_14 V (Proc.devRef .tc r) = V (Proc.devRef .tc r) := after_unwritten _ rfl h V

theorem pass15 (V : Valuation τ sig (Elt F)) (r : Ref sig .tc) (h : r ∉ ([main_call8_v0, main_call8_v1, main_v66] : List (Ref sig .tc))) :
    after hostOps0_15 V (Proc.devRef .tc r) = V (Proc.devRef .tc r) := after_unwritten _ rfl h V

theorem c0 : after hostOps0 V (Proc.devRef .tc main_v0) = runSum (F := F) (V (Proc.devRef .tc main_arg1)) := by
  after_reads_simp; simp only [TRef.ofBuf, TRef.toBuf, cast_cast, cast_eq]; unfold runSum; with_reducible rfl
theorem c1 : after hostOps0_1 V (Proc.devRef .tc main_v1) = subi (V (Proc.devRef .tc main_v0) : Vec F S16 .i32) (V (Proc.devRef .tc main_arg1)) := by after_reads_simp
theorem c1c : after hostOps0_1 V (Proc.devRef .tc main_c) = (constantI S_ 32 512#32 : Vec F S_ .i32) := by after_reads_simp
theorem c2 (h : V (Proc.devRef .tc main_c) = (constantI S_ 32 512#32 : Vec F S_ .i32)) : after hostOps0_2 V (Proc.devRef .tc main_v2) = floorDiv (F := F) (V (Proc.devRef .tc main_v1)) := by after_reads_simp; rw [h]; rfl
theorem c3a : after hostOps0_3 V (Proc.devRef .tc main_v4) = cmpi .sgt (V (Proc.devRef .tc main_arg1) : Vec F S16 .i32) (all16 (F := F) 0#32) := by after_reads_simp
theorem c3b : after hostOps0_3 V (Proc.devRef .tc main_v6) = subi (V (Proc.devRef .tc main_v0) : Vec F S16 .i32) (all16 (F := F) 1#32) := by after_reads_simp
theorem c3c : after hostOps0_3 V (Proc.devRef .tc main_c_2) = (constantI S_ 32 512#32 : Vec F S_ .i32) := by after_reads_simp
theorem c4 (h : V (Proc.devRef .tc main_c_2) = (constantI S_ 32 512#32 : Vec F S_ .i32)) : after hostOps0_4 V (Proc.devRef .tc main_v7) = floorDiv (F := F) (V (Proc.devRef .tc main_v6)) := by after_reads_simp; rw [h]; rfl
theorem c5 : after hostOps0_5 V (Proc.devRef .tc main_v10) = addi (subi (V (Proc.devRef .tc main_v7) : Vec F S16 .i32) (V (Proc.devRef .tc main_v2))) (all16 (F := F) 1#32) := by after_reads_simp
theorem c5c : after hostOps0_5 V (Proc.devRef .tc main_c_4) = (constantI S_ 32 0#32 : Vec F S_ .i32) := by after_reads_simp
theorem c6 (h : V (Proc.devRef .tc main_c_4) = (constantI S_ 32 0#32 : Vec F S_ .i32)) : after hostOps0_6 V (Proc.devRef .tc main_v11) = select (V (Proc.devRef .tc main_v4)) (V (Proc.devRef .tc main_v10) : Vec F S16 .i32) (all16 (F := F) 0#32) := by after_reads_simp; rw [h]; rfl
theorem c7 : after hostOps0_7 V (Proc.devRef .tc main_v12) = runSum (F := F) (V (Proc.devRef .tc main_v11)) := by
  after_reads_simp; simp only [TRef.ofBuf, TRef.toBuf, cast_cast, cast_eq]; unfold runSum; with_reducible rfl
theorem c8a : after hostOps0_8 V (Proc.devRef .tc main_v13) = (iotaInDim S111 32 0 : Vec F S111 .i32) := by after_reads_simp
theorem c8b : after hostOps0_8 V (Proc.devRef .tc main_v15) = totOf (F := F) (V (Proc.devRef .tc main_v12)) := by after_reads_simp; rfl
theorem c8c : after hostOps0_8 V (Proc.devRef .tc main_v18) = clampOf (F := F) (V (Proc.devRef .tc main_v12)) := by after_reads_simp; rfl
theorem c9 : after hostOps0_9 V (Proc.devRef .tc main_v19) = expertOf (F := F) (V (Proc.devRef .tc main_v12)) (V (Proc.devRef .tc main_v18)) := by after_reads_simp; rfl
theorem c10a : after hostOps0_10 V (Proc.devRef .tc main_v36) =
    subi (addi (pick (F := F) (V (Proc.devRef .tc main_v2)) (V (Proc.devRef .tc main_v19))) (V (Proc.devRef .tc main_v18)))
      (pick (F := F) (subi (V (Proc.devRef .tc main_v12)) (V (Proc.devRef .tc main_v11))) (V (Proc.devRef .tc main_v19))) := by after_reads_simp; rfl
theorem c10b : after hostOps0_10 V (Proc.devRef .tc main_v41) = newOf (F := F) (V (Proc.devRef .tc main_v19)) := by after_reads_simp; rfl
theorem c10c : after hostOps0_10 V (Proc.devRef .tc main_v51) = subi (pick (F := F) (V (Proc.devRef .tc main_v1)) (V (Proc.devRef .tc main_v19)))
    (muli (after hostOps0_10 V (Proc.devRef .tc main_v36)) (all111 (F := F) 512#32)) := by after_reads_simp; rfl
theorem c10d : after hostOps0_10 V (Proc.devRef .tc main_c_14) = (constantI S_ 32 0#32 : Vec F S_ .i32) := by after_reads_simp
theorem c10e : after hostOps0_10 V (Proc.devRef .tc main_c_15) = (constantI S_ 32 512#32 : Vec F S_ .i32) := by after_reads_simp
theorem c11 (h : V (Proc.devRef .tc main_c_14) = (constantI S_ 32 0#32 : Vec F S_ .i32)) (h' : V (Proc.devRef .tc main_c_15) = (constantI S_ 32 512#32 : Vec F S_ .i32)) :
    after hostOps0_11 V (Proc.devRef .tc main_v52) = clipT (F := F) (V (Proc.devRef .tc main_v51)) := by after_reads_simp; rw [h, h']; rfl
theorem c12a : after hostOps0_12 V (Proc.devRef .tc main_v54) = cmpi .slt (V (Proc.devRef .tc main_v13)) (broadcastInDim S111 ![] bcast_S_S111 (V (Proc.devRef .tc main_v15) : Vec F S_ .i32)) := by after_reads_simp
theorem c12b : after hostOps0_12 V (Proc.devRef .tc main_v64) = subi (pick (F := F) (V (Proc.devRef .tc main_v0)) (V (Proc.devRef .tc main_v19)))
    (muli (V (Proc.devRef .tc main_v36)) (all111 (F := F) 512#32)) := by after_reads_simp; rfl
theorem c12d : after hostOps0_12 V (Proc.devRef .tc main_c_19) = (constantI S_ 32 0#32 : Vec F S_ .i32) := by after_reads_simp
theorem c12e : after hostOps0_12 V (Proc.devRef .tc main_c_20) = (constantI S_ 32 512#32 : Vec F S_ .i32) := by after_reads_simp
theorem c13 (h : V (Proc.devRef .tc main_c_19) = (constantI S_ 32 0#32 : Vec F S_ .i32)) (h' : V (Proc.devRef .tc main_c_20) = (constantI S_ 32 512#32 : Vec F S_ .i32)) :
    after hostOps0_13 V (Proc.devRef .tc main_v65) = clipT (F := F) (V (Proc.devRef .tc main_v64)) := by after_reads_simp; rw [h, h']; rfl
theorem c14 : after hostOps0_14 V (Proc.devRef .tc main_c_21) = (constantI S_ 32 0#32 : Vec F S_ .i32) := by after_reads_simp
theorem c15 (h : V (Proc.devRef .tc main_c_21) = (constantI S_ 32 0#32 : Vec F S_ .i32)) :
    after hostOps0_15 V (Proc.devRef .tc main_v66) = select (V (Proc.devRef .tc main_v54)) (V (Proc.devRef .tc main_v65)) (all111 (F := F) 0#32 : Vec F S111 .i32) := by after_reads_simp; rw [h]; rfl

/-! ### The tables -/

variable (m : (ℓ : Loc nD τ sig) → Buf (Elt F) ℓ) (c : Dev nD)

/-- The contents after each stretch. -/
def st0 : Valuation τ sig (Elt F) := after hostOps0 (fun b => m (c, b))
def st1 : Valuation τ sig (Elt F) := after hostOps0_1 (st0 m c)
def st2 : Valuation τ sig (Elt F) := after hostOps0_2 (st1 m c)
def st3 : Valuation τ sig (Elt F) := after hostOps0_3 (st2 m c)
def st4 : Valuation τ sig (Elt F) := after hostOps0_4 (st3 m c)
def st5 : Valuation τ sig (Elt F) := after hostOps0_5 (st4 m c)
def st6 : Valuation τ sig (Elt F) := after hostOps0_6 (st5 m c)
def st7 : Valuation τ sig (Elt F) := after hostOps0_7 (st6 m c)
def st8 : Valuation τ sig (Elt F) := after hostOps0_8 (st7 m c)
def st9 : Valuation τ sig (Elt F) := after hostOps0_9 (st8 m c)
def st10 : Valuation τ sig (Elt F) := after hostOps0_10 (st9 m c)
def st11 : Valuation τ sig (Elt F) := after hostOps0_11 (st10 m c)
def st12 : Valuation τ sig (Elt F) := after hostOps0_12 (st11 m c)
def st13 : Valuation τ sig (Elt F) := after hostOps0_13 (st12 m c)
def st14 : Valuation τ sig (Elt F) := after hostOps0_14 (st13 m c)
def st15 : Valuation τ sig (Elt F) := after hostOps0_15 (st14 m c)

theorem Vof_eq (r : Ref sig .tc) : Vof m c r = st15 m c (Proc.devRef .tc r) := by
  unfold Vof st15 st14 st13 st12 st11 st10 st9 st8 st7 st6 st5 st4 st3 st2 st1 st0
  simp only [opss, List.flatten_cons, List.flatten_nil, List.append_nil, StableHlo.after_append]

theorem keep0 (r : Ref sig .tc) (h : r ∉ ([main_call0_call0_c, main_call0_call0_v0, main_v0] : List (Ref sig .tc))) : st0 m c (Proc.devRef .tc r) = m (c, Proc.devRef .tc r) := pass0 _ r h
theorem keep1 (r : Ref sig .tc) (h : r ∉ ([main_v1, main_c] : List (Ref sig .tc))) : st1 m c (Proc.devRef .tc r) = st0 m c (Proc.devRef .tc r) := pass1 _ r h
theorem keep2 (r : Ref sig .tc) (h : r ∉ ([main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v2] : List (Ref sig .tc))) : st2 m c (Proc.devRef .tc r) = st1 m c (Proc.devRef .tc r) := pass2 _ r h
theorem keep3 (r : Ref sig .tc) (h : r ∉ ([main_c_0, main_v3, main_v4, main_c_1, main_v5, main_v6, main_c_2] : List (Ref sig .tc))) : st3 m c (Proc.devRef .tc r) = st2 m c (Proc.devRef .tc r) := pass3 _ r h
theorem keep4 (r : Ref sig .tc) (h : r ∉ ([main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v7] : List (Ref sig .tc))) : st4 m c (Proc.devRef .tc r) = st3 m c (Proc.devRef .tc r) := pass4 _ r h
theorem keep5 (r : Ref sig .tc) (h : r ∉ ([main_v8, main_c_3, main_v9, main_v10, main_c_4] : List (Ref sig .tc))) : st5 m c (Proc.devRef .tc r) = st4 m c (Proc.devRef .tc r) := pass5 _ r h
theorem keep6 (r : Ref sig .tc) (h : r ∉ ([main_call3_v0, main_call3_v1, main_v11] : List (Ref sig .tc))) : st6 m c (Proc.devRef .tc r) = st5 m c (Proc.devRef .tc r) := pass6 _ r h
theorem keep7 (r : Ref sig .tc) (h : r ∉ ([main_call4_call0_c, main_call4_call0_v0, main_v12] : List (Ref sig .tc))) : st7 m c (Proc.devRef .tc r) = st6 m c (Proc.devRef .tc r) := pass7 _ r h
theorem keep8 (r : Ref sig .tc) (h : r ∉ ([main_v13, main_v14, main_v15, main_c_5, main_v16, main_v17, main_v18] : List (Ref sig .tc))) : st8 m c (Proc.devRef .tc r) = st7 m c (Proc.devRef .tc r) := pass8 _ r h
theorem keep9 (r : Ref sig .tc) (h : r ∉ ([main_call5_call0_v0, main_call5_call0_v1, main_call5_call0_v2, main_call5_call0_v3, main_call5_call0_v4, main_call5_call0_v5, main_call5_call0_c, main_v19] : List (Ref sig .tc))) : st9 m c (Proc.devRef .tc r) = st8 m c (Proc.devRef .tc r) := pass9 _ r h
theorem keep10 (r : Ref sig .tc) (h : r ∉ ([main_c_6, main_v20, main_v21, main_c_7, main_v22, main_v23, main_v24, main_v25, main_v26, main_v27, main_v28, main_c_8, main_v29, main_v30, main_c_9, main_v31, main_v32, main_v33, main_v34, main_v35, main_v36, main_c_10, main_v37, main_v38, main_v39, main_v40, main_v41, main_c_11, main_v42, main_v43, main_c_12, main_v44, main_v45, main_v46, main_v47, main_v48, main_c_13, main_v49, main_v50, main_v51, main_c_14, main_c_15] : List (Ref sig .tc))) : st10 m c (Proc.devRef .tc r) = st9 m c (Proc.devRef .tc r) := pass10 _ r h
theorem keep11 (r : Ref sig .tc) (h : r ∉ ([main_call6_v0, main_call6_v1, main_call6_v2, main_call6_v3, main_call6_v4, main_v52] : List (Ref sig .tc))) : st11 m c (Proc.devRef .tc r) = st10 m c (Proc.devRef .tc r) := pass11 _ r h
theorem keep12 (r : Ref sig .tc) (h : r ∉ ([main_v53, main_v54, main_c_16, main_v55, main_v56, main_c_17, main_v57, main_v58, main_v59, main_v60, main_v61, main_c_18, main_v62, main_v63, main_v64, main_c_19, main_c_20] : List (Ref sig .tc))) : st12 m c (Proc.devRef .tc r) = st11 m c (Proc.devRef .tc r) := pass12 _ r h
theorem keep13 (r : Ref sig .tc) (h : r ∉ ([main_call7_v0, main_call7_v1, main_call7_v2, main_call7_v3, main_call7_v4, main_v65] : List (Ref sig .tc))) : st13 m c (Proc.devRef .tc r) = st12 m c (Proc.devRef .tc r) := pass13 _ r h
theorem keep14 (r : Ref sig .tc) (h : r ∉ ([main_c_21] : List (Ref sig .tc))) : st14 m c (Proc.devRef .tc r) = st13 m c (Proc.devRef .tc r) := pass14 _ r h
theorem keep15 (r : Ref sig .tc) (h : r ∉ ([main_call8_v0, main_call8_v1, main_v66] : List (Ref sig .tc))) : st15 m c (Proc.devRef .tc r) = st14 m c (Proc.devRef .tc r) := pass15 _ r h
theorem s0 : st0 m c (Proc.devRef .tc main_v0) = runSum (F := F) (m (c, Proc.devRef .tc main_arg1)) := c0 _
theorem s1 : st1 m c (Proc.devRef .tc main_v1) = subi (st0 m c (Proc.devRef .tc main_v0) : Vec F S16 .i32) (st0 m c (Proc.devRef .tc main_arg1)) := c1 _
theorem s2 : st2 m c (Proc.devRef .tc main_v2) = floorDiv (F := F) (st1 m c (Proc.devRef .tc main_v1)) := c2 _ (c1c _)
theorem s3a : st3 m c (Proc.devRef .tc main_v4) = cmpi .sgt (st2 m c (Proc.devRef .tc main_arg1) : Vec F S16 .i32) (all16 (F := F) 0#32) := c3a _
theorem s3b : st3 m c (Proc.devRef .tc main_v6) = subi (st2 m c (Proc.devRef .tc main_v0) : Vec F S16 .i32) (all16 (F := F) 1#32) := c3b _
theorem s4 : st4 m c (Proc.devRef .tc main_v7) = floorDiv (F := F) (st3 m c (Proc.devRef .tc main_v6)) := c4 _ (c3c _)
theorem s5 : st5 m c (Proc.devRef .tc main_v10) = addi (subi (st4 m c (Proc.devRef .tc main_v7) : Vec F S16 .i32) (st4 m c (Proc.devRef .tc main_v2))) (all16 (F := F) 1#32) := c5 _
theorem s6 : st6 m c (Proc.devRef .tc main_v11) = select (st5 m c (Proc.devRef .tc main_v4)) (st5 m c (Proc.devRef .tc main_v10) : Vec F S16 .i32) (all16 (F := F) 0#32) := c6 _ (c5c _)
theorem s7 : st7 m c (Proc.devRef .tc main_v12) = runSum (F := F) (st6 m c (Proc.devRef .tc main_v11)) := c7 _
theorem s8a : st8 m c (Proc.devRef .tc main_v13) = (iotaInDim S111 32 0 : Vec F S111 .i32) := c8a _
theorem s8b : st8 m c (Proc.devRef .tc main_v15) = totOf (F := F) (st7 m c (Proc.devRef .tc main_v12)) := c8b _
theorem s8c : st8 m c (Proc.devRef .tc main_v18) = clampOf (F := F) (st7 m c (Proc.devRef .tc main_v12)) := c8c _
theorem s9 : st9 m c (Proc.devRef .tc main_v19) = expertOf (F := F) (st8 m c (Proc.devRef .tc main_v12)) (st8 m c (Proc.devRef .tc main_v18)) := c9 _
theorem s10a : st10 m c (Proc.devRef .tc main_v36) =
    subi (addi (pick (F := F) (st9 m c (Proc.devRef .tc main_v2)) (st9 m c (Proc.devRef .tc main_v19))) (st9 m c (Proc.devRef .tc main_v18)))
      (pick (F := F) (subi (st9 m c (Proc.devRef .tc main_v12)) (st9 m c (Proc.devRef .tc main_v11))) (st9 m c (Proc.devRef .tc main_v19))) := c10a _
theorem s10b : st10 m c (Proc.devRef .tc main_v41) = newOf (F := F) (st9 m c (Proc.devRef .tc main_v19)) := c10b _
theorem s10c : st10 m c (Proc.devRef .tc main_v51) = subi (pick (F := F) (st9 m c (Proc.devRef .tc main_v1)) (st9 m c (Proc.devRef .tc main_v19)))
    (muli (st10 m c (Proc.devRef .tc main_v36)) (all111 (F := F) 512#32)) := c10c _
theorem s11 : st11 m c (Proc.devRef .tc main_v52) = clipT (F := F) (st10 m c (Proc.devRef .tc main_v51)) := c11 _ (c10d _) (c10e _)
theorem s12a : st12 m c (Proc.devRef .tc main_v54) = cmpi .slt (st11 m c (Proc.devRef .tc main_v13)) (broadcastInDim S111 ![] bcast_S_S111 (st11 m c (Proc.devRef .tc main_v15) : Vec F S_ .i32)) := c12a _
theorem s12b : st12 m c (Proc.devRef .tc main_v64) = subi (pick (F := F) (st11 m c (Proc.devRef .tc main_v0)) (st11 m c (Proc.devRef .tc main_v19)))
    (muli (st11 m c (Proc.devRef .tc main_v36)) (all111 (F := F) 512#32)) := c12b _
theorem s13 : st13 m c (Proc.devRef .tc main_v65) = clipT (F := F) (st12 m c (Proc.devRef .tc main_v64)) := c13 _ (c12d _) (c12e _)
theorem s15 : st15 m c (Proc.devRef .tc main_v66) = select (st14 m c (Proc.devRef .tc main_v54)) (st14 m c (Proc.devRef .tc main_v65)) (all111 (F := F) 0#32) := c15 _ (c14 _)

/-- The group sizes. -/
abbrev gOf : Vec F S16 .i32 := m (c, Proc.devRef .tc main_arg1)

theorem T_v0 : st0 m c (Proc.devRef .tc main_v0) = runSum (F := F) (gOf m c) := by
  rw [s0]
  try rfl
theorem T_v1 : st1 m c (Proc.devRef .tc main_v1) = startsT (F := F) (gOf m c) := by
  have h_v0 : st0 m c (Proc.devRef .tc main_v0) = runSum (F := F) (gOf m c) := T_v0 m c
  have h_arg1 : st0 m c (Proc.devRef .tc main_arg1) = m (c, Proc.devRef .tc main_arg1) := (keep0 m c main_arg1 (by decide))
  rw [s1, h_v0, h_arg1]
  try rfl
theorem T_v2 : st2 m c (Proc.devRef .tc main_v2) = firstT (F := F) (gOf m c) := by
  have h_v1 : st1 m c (Proc.devRef .tc main_v1) = startsT (F := F) (gOf m c) := T_v1 m c
  rw [s2, h_v1]
  try rfl
theorem T_v4 : st3 m c (Proc.devRef .tc main_v4) = cmpi .sgt (gOf m c) (all16 (F := F) 0#32) := by
  have h_arg1 : st2 m c (Proc.devRef .tc main_arg1) = m (c, Proc.devRef .tc main_arg1) := (keep2 m c main_arg1 (by decide)).trans ((keep1 m c main_arg1 (by decide)).trans ((keep0 m c main_arg1 (by decide))))
  rw [s3a, h_arg1]
  try rfl
theorem T_v6 : st3 m c (Proc.devRef .tc main_v6) = subi (runSum (F := F) (gOf m c)) (all16 (F := F) 1#32) := by
  have h_v0 : st2 m c (Proc.devRef .tc main_v0) = runSum (F := F) (gOf m c) := (keep2 m c main_v0 (by decide)).trans ((keep1 m c main_v0 (by decide)).trans (T_v0 m c))
  rw [s3b, h_v0]
  try rfl
theorem T_v7 : st4 m c (Proc.devRef .tc main_v7) = floorDiv (F := F) (subi (runSum (F := F) (gOf m c)) (all16 (F := F) 1#32)) := by
  have h_v6 : st3 m c (Proc.devRef .tc main_v6) = subi (runSum (F := F) (gOf m c)) (all16 (F := F) 1#32) := T_v6 m c
  rw [s4, h_v6]
  try rfl
theorem T_v10 : st5 m c (Proc.devRef .tc main_v10) = addi (subi (floorDiv (F := F) (subi (runSum (F := F) (gOf m c)) (all16 (F := F) 1#32))) (firstT (F := F) (gOf m c))) (all16 (F := F) 1#32) := by
  have h_v7 : st4 m c (Proc.devRef .tc main_v7) = floorDiv (F := F) (subi (runSum (F := F) (gOf m c)) (all16 (F := F) 1#32)) := T_v7 m c
  have h_v2 : st4 m c (Proc.devRef .tc main_v2) = firstT (F := F) (gOf m c) := (keep4 m c main_v2 (by decide)).trans ((keep3 m c main_v2 (by decide)).trans (T_v2 m c))
  rw [s5, h_v7, h_v2]
  try rfl
theorem T_v11 : st6 m c (Proc.devRef .tc main_v11) = countT (F := F) (gOf m c) := by
  have h_v4 : st5 m c (Proc.devRef .tc main_v4) = cmpi .sgt (gOf m c) (all16 (F := F) 0#32) := (keep5 m c main_v4 (by decide)).trans ((keep4 m c main_v4 (by decide)).trans (T_v4 m c))
  have h_v10 : st5 m c (Proc.devRef .tc main_v10) = addi (subi (floorDiv (F := F) (subi (runSum (F := F) (gOf m c)) (all16 (F := F) 1#32))) (firstT (F := F) (gOf m c))) (all16 (F := F) 1#32) := T_v10 m c
  rw [s6, h_v4, h_v10]
  try rfl
theorem T_v12 : st7 m c (Proc.devRef .tc main_v12) = endT (F := F) (gOf m c) := by
  have h_v11 : st6 m c (Proc.devRef .tc main_v11) = countT (F := F) (gOf m c) := T_v11 m c
  rw [s7, h_v11]
  try rfl
theorem T_v13 : st8 m c (Proc.devRef .tc main_v13) = (iotaInDim S111 32 0 : Vec F S111 .i32) := by
  rw [s8a]
  try rfl
theorem T_v15 : st8 m c (Proc.devRef .tc main_v15) = totOf (F := F) (endT (F := F) (gOf m c)) := by
  have h_v12 : st7 m c (Proc.devRef .tc main_v12) = endT (F := F) (gOf m c) := T_v12 m c
  rw [s8b, h_v12]
  try rfl
theorem T_v18 : st8 m c (Proc.devRef .tc main_v18) = clampT (F := F) (gOf m c) := by
  have h_v12 : st7 m c (Proc.devRef .tc main_v12) = endT (F := F) (gOf m c) := T_v12 m c
  rw [s8c, h_v12]
  try rfl
theorem T_v19 : st9 m c (Proc.devRef .tc main_v19) = expertT (F := F) (gOf m c) := by
  have h_v12 : st8 m c (Proc.devRef .tc main_v12) = endT (F := F) (gOf m c) := (keep8 m c main_v12 (by decide)).trans (T_v12 m c)
  have h_v18 : st8 m c (Proc.devRef .tc main_v18) = clampT (F := F) (gOf m c) := T_v18 m c
  rw [s9, h_v12, h_v18]
  try rfl
theorem T_v36 : st10 m c (Proc.devRef .tc main_v36) = tileT (F := F) (gOf m c) := by
  have h_v2 : st9 m c (Proc.devRef .tc main_v2) = firstT (F := F) (gOf m c) := (keep9 m c main_v2 (by decide)).trans ((keep8 m c main_v2 (by decide)).trans ((keep7 m c main_v2 (by decide)).trans ((keep6 m c main_v2 (by decide)).trans ((keep5 m c main_v2 (by decide)).trans ((keep4 m c main_v2 (by decide)).trans ((keep3 m c main_v2 (by decide)).trans (T_v2 m c)))))))
  have h_v19 : st9 m c (Proc.devRef .tc main_v19) = expertT (F := F) (gOf m c) := T_v19 m c
  have h_v18 : st9 m c (Proc.devRef .tc main_v18) = clampT (F := F) (gOf m c) := (keep9 m c main_v18 (by decide)).trans (T_v18 m c)
  have h_v12 : st9 m c (Proc.devRef .tc main_v12) = endT (F := F) (gOf m c) := (keep9 m c main_v12 (by decide)).trans ((keep8 m c main_v12 (by decide)).trans (T_v12 m c))
  have h_v11 : st9 m c (Proc.devRef .tc main_v11) = countT (F := F) (gOf m c) := (keep9 m c main_v11 (by decide)).trans ((keep8 m c main_v11 (by decide)).trans ((keep7 m c main_v11 (by decide)).trans (T_v11 m c)))
  rw [s10a, h_v2, h_v19, h_v18, h_v12, h_v11]
  try rfl
theorem T_v41 : st10 m c (Proc.devRef .tc main_v41) = newT (F := F) (gOf m c) := by
  have h_v19 : st9 m c (Proc.devRef .tc main_v19) = expertT (F := F) (gOf m c) := T_v19 m c
  rw [s10b, h_v19]
  try rfl
theorem T_v51 : st10 m c (Proc.devRef .tc main_v51) = subi (pick (F := F) (startsT (F := F) (gOf m c)) (expertT (F := F) (gOf m c))) (muli (tileT (F := F) (gOf m c)) (all111 (F := F) 512#32)) := by
  have h_v1 : st9 m c (Proc.devRef .tc main_v1) = startsT (F := F) (gOf m c) := (keep9 m c main_v1 (by decide)).trans ((keep8 m c main_v1 (by decide)).trans ((keep7 m c main_v1 (by decide)).trans ((keep6 m c main_v1 (by decide)).trans ((keep5 m c main_v1 (by decide)).trans ((keep4 m c main_v1 (by decide)).trans ((keep3 m c main_v1 (by decide)).trans ((keep2 m c main_v1 (by decide)).trans (T_v1 m c))))))))
  have h_v19 : st9 m c (Proc.devRef .tc main_v19) = expertT (F := F) (gOf m c) := T_v19 m c
  have h_v36 : st10 m c (Proc.devRef .tc main_v36) = tileT (F := F) (gOf m c) := T_v36 m c
  rw [s10c, h_v1, h_v19, h_v36]
  try rfl
theorem T_v52 : st11 m c (Proc.devRef .tc main_v52) = loT (F := F) (gOf m c) := by
  have h_v51 : st10 m c (Proc.devRef .tc main_v51) = subi (pick (F := F) (startsT (F := F) (gOf m c)) (expertT (F := F) (gOf m c))) (muli (tileT (F := F) (gOf m c)) (all111 (F := F) 512#32)) := T_v51 m c
  rw [s11, h_v51]
  try rfl
theorem T_v54 : st12 m c (Proc.devRef .tc main_v54) = cmpi .slt (iotaInDim S111 32 0 : Vec F S111 .i32) (broadcastInDim S111 ![] bcast_S_S111 (totOf (F := F) (endT (F := F) (gOf m c)))) := by
  have h_v13 : st11 m c (Proc.devRef .tc main_v13) = (iotaInDim S111 32 0 : Vec F S111 .i32) := (keep11 m c main_v13 (by decide)).trans ((keep10 m c main_v13 (by decide)).trans ((keep9 m c main_v13 (by decide)).trans (T_v13 m c)))
  have h_v15 : st11 m c (Proc.devRef .tc main_v15) = totOf (F := F) (endT (F := F) (gOf m c)) := (keep11 m c main_v15 (by decide)).trans ((keep10 m c main_v15 (by decide)).trans ((keep9 m c main_v15 (by decide)).trans (T_v15 m c)))
  rw [s12a, h_v13, h_v15]
  try rfl
theorem T_v64 : st12 m c (Proc.devRef .tc main_v64) = subi (pick (F := F) (runSum (F := F) (gOf m c)) (expertT (F := F) (gOf m c))) (muli (tileT (F := F) (gOf m c)) (all111 (F := F) 512#32)) := by
  have h_v0 : st11 m c (Proc.devRef .tc main_v0) = runSum (F := F) (gOf m c) := (keep11 m c main_v0 (by decide)).trans ((keep10 m c main_v0 (by decide)).trans ((keep9 m c main_v0 (by decide)).trans ((keep8 m c main_v0 (by decide)).trans ((keep7 m c main_v0 (by decide)).trans ((keep6 m c main_v0 (by decide)).trans ((keep5 m c main_v0 (by decide)).trans ((keep4 m c main_v0 (by decide)).trans ((keep3 m c main_v0 (by decide)).trans ((keep2 m c main_v0 (by decide)).trans ((keep1 m c main_v0 (by decide)).trans (T_v0 m c)))))))))))
  have h_v19 : st11 m c (Proc.devRef .tc main_v19) = expertT (F := F) (gOf m c) := (keep11 m c main_v19 (by decide)).trans ((keep10 m c main_v19 (by decide)).trans (T_v19 m c))
  have h_v36 : st11 m c (Proc.devRef .tc main_v36) = tileT (F := F) (gOf m c) := (keep11 m c main_v36 (by decide)).trans (T_v36 m c)
  rw [s12b, h_v0, h_v19, h_v36]
  try rfl
theorem T_v65 : st13 m c (Proc.devRef .tc main_v65) = clipT (F := F) (subi (pick (F := F) (runSum (F := F) (gOf m c)) (expertT (F := F) (gOf m c))) (muli (tileT (F := F) (gOf m c)) (all111 (F := F) 512#32))) := by
  have h_v64 : st12 m c (Proc.devRef .tc main_v64) = subi (pick (F := F) (runSum (F := F) (gOf m c)) (expertT (F := F) (gOf m c))) (muli (tileT (F := F) (gOf m c)) (all111 (F := F) 512#32)) := T_v64 m c
  rw [s13, h_v64]
  try rfl
theorem T_v66 : st15 m c (Proc.devRef .tc main_v66) = hiT (F := F) (gOf m c) := by
  have h_v54 : st14 m c (Proc.devRef .tc main_v54) = cmpi .slt (iotaInDim S111 32 0 : Vec F S111 .i32) (broadcastInDim S111 ![] bcast_S_S111 (totOf (F := F) (endT (F := F) (gOf m c)))) := (keep14 m c main_v54 (by decide)).trans ((keep13 m c main_v54 (by decide)).trans (T_v54 m c))
  have h_v65 : st14 m c (Proc.devRef .tc main_v65) = clipT (F := F) (subi (pick (F := F) (runSum (F := F) (gOf m c)) (expertT (F := F) (gOf m c))) (muli (tileT (F := F) (gOf m c)) (all111 (F := F) 512#32))) := (keep14 m c main_v65 (by decide)).trans (T_v65 m c)
  rw [s15, h_v54, h_v65]
  try rfl

theorem V_expert : Vof m c main_v19 = expertT (F := F) (gOf m c) :=
  (Vof_eq m c _).trans ((keep15 m c main_v19 (by decide)).trans ((keep14 m c main_v19 (by decide)).trans ((keep13 m c main_v19 (by decide)).trans ((keep12 m c main_v19 (by decide)).trans ((keep11 m c main_v19 (by decide)).trans ((keep10 m c main_v19 (by decide)).trans (T_v19 m c)))))))
theorem V_tile : Vof m c main_v36 = tileT (F := F) (gOf m c) :=
  (Vof_eq m c _).trans ((keep15 m c main_v36 (by decide)).trans ((keep14 m c main_v36 (by decide)).trans ((keep13 m c main_v36 (by decide)).trans ((keep12 m c main_v36 (by decide)).trans ((keep11 m c main_v36 (by decide)).trans (T_v36 m c))))))
theorem V_new : Vof m c main_v41 = newT (F := F) (gOf m c) :=
  (Vof_eq m c _).trans ((keep15 m c main_v41 (by decide)).trans ((keep14 m c main_v41 (by decide)).trans ((keep13 m c main_v41 (by decide)).trans ((keep12 m c main_v41 (by decide)).trans ((keep11 m c main_v41 (by decide)).trans (T_v41 m c))))))
theorem V_lo : Vof m c main_v52 = loT (F := F) (gOf m c) :=
  (Vof_eq m c _).trans ((keep15 m c main_v52 (by decide)).trans ((keep14 m c main_v52 (by decide)).trans ((keep13 m c main_v52 (by decide)).trans ((keep12 m c main_v52 (by decide)).trans (T_v52 m c)))))
theorem V_hi : Vof m c main_v66 = hiT (F := F) (gOf m c) :=
  (Vof_eq m c _).trans (T_v66 m c)
theorem V_arg0 : Vof m c main_arg0 = m (c, Proc.devRef .tc main_arg0) :=
  (Vof_eq m c _).trans ((keep15 m c main_arg0 (by decide)).trans ((keep14 m c main_arg0 (by decide)).trans ((keep13 m c main_arg0 (by decide)).trans ((keep12 m c main_arg0 (by decide)).trans ((keep11 m c main_arg0 (by decide)).trans ((keep10 m c main_arg0 (by decide)).trans ((keep9 m c main_arg0 (by decide)).trans ((keep8 m c main_arg0 (by decide)).trans ((keep7 m c main_arg0 (by decide)).trans ((keep6 m c main_arg0 (by decide)).trans ((keep5 m c main_arg0 (by decide)).trans ((keep4 m c main_arg0 (by decide)).trans ((keep3 m c main_arg0 (by decide)).trans ((keep2 m c main_arg0 (by decide)).trans ((keep1 m c main_arg0 (by decide)).trans ((keep0 m c main_arg0 (by decide))))))))))))))))))
theorem V_arg1 : Vof m c main_arg1 = m (c, Proc.devRef .tc main_arg1) :=
  (Vof_eq m c _).trans ((keep15 m c main_arg1 (by decide)).trans ((keep14 m c main_arg1 (by decide)).trans ((keep13 m c main_arg1 (by decide)).trans ((keep12 m c main_arg1 (by decide)).trans ((keep11 m c main_arg1 (by decide)).trans ((keep10 m c main_arg1 (by decide)).trans ((keep9 m c main_arg1 (by decide)).trans ((keep8 m c main_arg1 (by decide)).trans ((keep7 m c main_arg1 (by decide)).trans ((keep6 m c main_arg1 (by decide)).trans ((keep5 m c main_arg1 (by decide)).trans ((keep4 m c main_arg1 (by decide)).trans ((keep3 m c main_arg1 (by decide)).trans ((keep2 m c main_arg1 (by decide)).trans ((keep1 m c main_arg1 (by decide)).trans ((keep0 m c main_arg1 (by decide))))))))))))))))))
theorem V_arg2 : Vof m c main_arg2 = m (c, Proc.devRef .tc main_arg2) :=
  (Vof_eq m c _).trans ((keep15 m c main_arg2 (by decide)).trans ((keep14 m c main_arg2 (by decide)).trans ((keep13 m c main_arg2 (by decide)).trans ((keep12 m c main_arg2 (by decide)).trans ((keep11 m c main_arg2 (by decide)).trans ((keep10 m c main_arg2 (by decide)).trans ((keep9 m c main_arg2 (by decide)).trans ((keep8 m c main_arg2 (by decide)).trans ((keep7 m c main_arg2 (by decide)).trans ((keep6 m c main_arg2 (by decide)).trans ((keep5 m c main_arg2 (by decide)).trans ((keep4 m c main_arg2 (by decide)).trans ((keep3 m c main_arg2 (by decide)).trans ((keep2 m c main_arg2 (by decide)).trans ((keep1 m c main_arg2 (by decide)).trans ((keep0 m c main_arg2 (by decide))))))))))))))))))
theorem V_arg3 : Vof m c main_arg3 = m (c, Proc.devRef .tc main_arg3) :=
  (Vof_eq m c _).trans ((keep15 m c main_arg3 (by decide)).trans ((keep14 m c main_arg3 (by decide)).trans ((keep13 m c main_arg3 (by decide)).trans ((keep12 m c main_arg3 (by decide)).trans ((keep11 m c main_arg3 (by decide)).trans ((keep10 m c main_arg3 (by decide)).trans ((keep9 m c main_arg3 (by decide)).trans ((keep8 m c main_arg3 (by decide)).trans ((keep7 m c main_arg3 (by decide)).trans ((keep6 m c main_arg3 (by decide)).trans ((keep5 m c main_arg3 (by decide)).trans ((keep4 m c main_arg3 (by decide)).trans ((keep3 m c main_arg3 (by decide)).trans ((keep2 m c main_arg3 (by decide)).trans ((keep1 m c main_arg3 (by decide)).trans ((keep0 m c main_arg3 (by decide))))))))))))))))))

end Cert.KernelIdeal.Hand
-- ==== Proof.Words.lean ====
/-
  The entries of the five prefetched tables, as the numbers of the schedule in Plan.lean.
-/
module

public import proofs.«01_k».proof.Proof.Tables
public import proofs.«01_k».proof.Proof.Plan
public import Idealize.ShloMosaic.Lib.Routing.Words
public import Idealize.ShloMosaic.Lib.Pipeline.Value
public import Idealize.ShloMosaic.Lib.Routing.OpsSearch
public import Idealize.ShloMosaic.Lib.Routing.OpsSet
public import Idealize.ShloMosaic.Lib.Routing.OpsPair

@[expose] public section

noncomputable section

namespace Cert.KernelIdeal.Hand

open Cert.KernelIdeal Cert.KernelIdeal.Gen Cert.Hand Cert.Plan
open Idealize.ShloMosaic Idealize.ShloMosaic.TcCoe
open Idealize.ShloMosaic.Routing Idealize.ShloMosaic.ValueIdx Idealize.ShloMosaic.WordCmp

variable {F : FTy → Type} [FloatOps F]

abbrev nat32 (n : ℕ) : BitVec 32 := BitVec.ofNat 32 n

theorem minsi_nat {a b : ℕ} (ha : a < 2 ^ 31) (hb : b < 2 ^ 31) : IntOp.minsi (nat32 a) (nat32 b) = nat32 (min a b) := by
  unfold IntOp.minsi
  rw [slt_ofNat32 ha hb]
  by_cases h : a < b
  · rw [if_pos (decide_eq_true h), Nat.min_eq_left (Nat.le_of_lt h)]
  · rw [if_neg (fun e => h (of_decide_eq_true e)), Nat.min_eq_right (by omega)]

/-- Clipping a difference to a row number of a tile. -/
theorem clip_sub {a b : ℕ} (ha : a < 2 ^ 30) (hb : b < 2 ^ 30) :
    IntOp.minsi (512#32) (IntOp.maxsi (0#32) (nat32 a - nat32 b)) = nat32 (min 512 (a - b)) := by
  have hm : IntOp.maxsi (0#32) (nat32 a - nat32 b) = nat32 (a - b) := by
    rcases Nat.le_total b a with h | h
    · rw [ofNat32_sub h]
      exact maxsi_zero_left (by omega)
    · rw [show a - b = 0 by omega]
      unfold IntOp.maxsi
      split
      · rfl
      · next hn =>
        rcases Nat.lt_or_ge a b with h' | h'
        · refine absurd ?_ hn
          have ea : (nat32 a).toInt = (a : ℤ) := toInt_ofNat_of_lt (w := 32) (by omega)
          have eb : (nat32 b).toInt = (b : ℤ) := toInt_ofNat_of_lt (w := 32) (by omega)
          rw [BitVec.slt, decide_eq_true_iff, BitVec.toInt_sub, ea, eb, Int.bmod_eq_of_le (by omega) (by omega)]
          show _ < (0 : ℤ)
          omega
        · rw [show a = b by omega, BitVec.sub_self]
  rw [hm]
  exact minsi_nat (a := 512) (by decide) (by omega)

theorem all16_at (x : BitVec 32) (i : S16.Idx) : all16 (F := F) x i = x := bc0 _ _ _
theorem all111_at (x : BitVec 32) (i : S111.Idx) : all111 (F := F) x i = x := bc0 _ _ _

theorem runSum_at (x : Vec F S16 .i32) (f : ℕ → ℕ) (hx : ∀ i : Fin 16, x (ix1 i) = nat32 (f i)) (j : Fin 16) :
    runSum (F := F) x (ix1 j) = nat32 (pre f (j + 1)) :=
  cumsum1 (N := 16) (Nm1 := 15) rfl x f hx _ (bc0 _ _ _) _ _ j

theorem floorDiv_at (x : Vec F S16 .i32) (i : S16.Idx) {a : ℕ} (hx : x i = nat32 a) (ha : a < 2 ^ 31) : floorDiv (F := F) x i = nat32 (a / 512) :=
  pyDiv_ap bcast_S_S16 x (constantI S_ 32 512#32) i hx rfl ha (by decide) (by decide)

theorem pick_at (x : Vec F S16 .i32) (e : Vec F S111 .i32) (p : Fin 111) (k : Fin 16) (he : e (ix1 p) = nat32 k) :
    pick (F := F) x e (ix1 p) = x (ix1 k) := by
  have hk := k.isLt
  unfold pick
  refine gather_take1 (N := 16) (n := 111) _ rfl rfl rfl rfl x _ p k ?_ (by decide)
  refine (bcCol (n := 111) _ _ p).trans ?_
  show Scalar.select (IntOp.cmpi .slt (e (ix1 p)) (all111 (F := F) 0#32 (ix1 p))) _ (e (ix1 p)) = _
  rw [all111_at, wrap_of_lt _ _ (by rw [he, toNat_ofNat_of_lt (w := 32) (by omega)]; show (k : ℕ) < 2 ^ 31; omega), he]

theorem totOf_at (e : Vec F S16 .i32) : totOf (F := F) e ValueIdx.ix0 = e (ix1 (15 : Fin 16)) := by
  unfold totOf
  refine (shapeCast_apply _ _ ValueIdx.ix0 (ix1 (0 : Fin 1)) (by decide)).trans ?_
  exact slice1 15 e _ (0 : Fin 1) (by decide)

theorem expertOf_at (e : Vec F S16 .i32) (u : Vec F S111 .i32) (f : ℕ → ℕ) (n : ℕ) (j : Fin 111) (he : ∀ i : Fin 16, e (ix1 i) = nat32 (f i))
    (hf : ∀ i, i < 16 → f i < 2 ^ 31) (hu : u (ix1 j) = nat32 n) (hn : n < 2 ^ 31) :
    expertOf (F := F) e u (ix1 j) = nat32 (Nat.count (fun i => f i ≤ n) 16) := by
  apply BitVec.eq_of_toNat_eq
  unfold expertOf
  rw [StableHlo.Predicate.toNat_reduce_count_rows (n := 16) (m := 111) (by decide), BitVec.toNat_ofNat,
    Nat.mod_eq_of_lt (Nat.lt_of_le_of_lt (Nat.count_le _) (by decide)), ← card_filter_fin 16]
  refine congrArg Finset.card (Finset.filter_congr fun q _ => ?_)
  show cmpi .sle _ _ (StableHlo.Predicate.ij q j) = 1#1 ↔ _
  rw [ij_eq_ix2]
  show IntOp.cmpi .sle _ _ = 1#1 ↔ _
  rw [bcRows (n := 16) (m := 111), bcCols (n := 16) (m := 111), he, hu]
  exact StableHlo.Predicate.sle_ofNat_iff _ _ (hf _ q.isLt) hn

section Sizes

variable (g : Vec F S16 .i32) (G : ℕ → ℕ) (hg : ∀ i : Fin 16, g (ix1 i) = nat32 (G i)) (hS : S G 16 = 49152)
include hg hS

theorem runSum_g (j : Fin 16) : runSum (F := F) g (ix1 j) = nat32 (S G (j + 1)) := runSum_at g G hg j

theorem startsT_g (j : Fin 16) : startsT (F := F) g (ix1 j) = nat32 (S G j) := by
  show runSum (F := F) g (ix1 j) - g (ix1 j) = _
  rw [runSum_g g G hg hS, hg, S, pre_succ, ofNat32_sub (by omega), Nat.add_sub_cancel]

theorem firstT_g (j : Fin 16) : firstT (F := F) g (ix1 j) = nat32 (S G j / 512) :=
  floorDiv_at _ _ (startsT_g g G hg hS j) (by have := S_le hS j (by omega); omega)

theorem countT_g (j : Fin 16) : countT (F := F) g (ix1 j) = nat32 (cnt G j) := by
  have h1 := S_le hS j (by omega)
  have h2 := S_le hS (j + 1) (by omega)
  have h6 : S G (j + 1) = S G j + G j := pre_succ _ _
  show Scalar.select (BitVec.ofBool ((all16 (F := F) 0#32 (ix1 j)).slt (g (ix1 j))))
    (floorDiv (F := F) (subi (runSum (F := F) g) (all16 (F := F) 1#32)) (ix1 j) - firstT (F := F) g (ix1 j) + all16 (F := F) 1#32 (ix1 j)) (all16 (F := F) 0#32 (ix1 j)) = _
  rw [all16_at, all16_at, hg, show (0#32 : BitVec 32) = nat32 0 from rfl, slt_ofNat32 (by decide) (by omega), select_decide, firstT_g g G hg hS]
  unfold cnt
  by_cases h : 0 < G j
  · rw [if_pos h, if_pos h, floorDiv_at (F := F) _ _ (a := S G (j + 1) - 1) ?_ (by omega), ofNat32_sub (Nat.div_le_div_right (by omega))]
    · exact BitVec.ofNat_add_ofNat ..
    · show runSum (F := F) g (ix1 j) - all16 (F := F) 1#32 (ix1 j) = _
      rw [all16_at, runSum_g g G hg hS]
      exact ofNat32_sub (by omega)
  · rw [if_neg h, if_neg h]

theorem endT_g (j : Fin 16) : endT (F := F) g (ix1 j) = nat32 (E G (j + 1)) := runSum_at _ (cnt G) (countT_g g G hg hS) j

theorem total_g : totOf (F := F) (endT (F := F) g) ValueIdx.ix0 = nat32 (E G 16) := (totOf_at _).trans (endT_g g G hg hS 15)

theorem clampT_g (j : Fin 111) : clampT (F := F) g (ix1 j) = nat32 (item G j) := by
  have h1 := total_le hS
  have h2 := total_pos hS
  show IntOp.minsi (nat32 j) (broadcastInDim S111 ![] bcast_S_S111 (subi (totOf (F := F) (endT (F := F) g)) (constantI S_ 32 1#32 : Vec F S_ .i32)) (ix1 j)) = _
  rw [bc0]
  show IntOp.minsi (nat32 j) (totOf (F := F) (endT (F := F) g) ValueIdx.ix0 - nat32 1) = _
  rw [total_g g G hg hS, ofNat32_sub (by omega), minsi_nat (by omega) (by omega)]
  rfl

theorem expertT_g (j : Fin 111) : expertT (F := F) g (ix1 j) = nat32 (ex G j) := by
  have h1 := total_le hS
  refine expertOf_at _ _ (fun i => E G (i + 1)) _ j (endT_g g G hg hS) (fun i hi => ?_) (clampT_g g G hg hS j) ?_
  · have := pre_mono (cnt G) (show i + 1 ≤ 16 by omega)
    show pre _ _ < _; change pre (cnt G) 16 ≤ _ at h1; omega
  · have := item_lt hS j; omega

abbrev exF (j : Fin 111) : Fin 16 := ⟨ex G j, (ex_spec hS j).1⟩

theorem pick_g (x : Vec F S16 .i32) (j : Fin 111) : pick (F := F) x (expertT (F := F) g) (ix1 j) = x (ix1 (exF G hS j)) :=
  pick_at _ _ _ _ (expertT_g g G hg hS j)

theorem tileT_g (j : Fin 111) : tileT (F := F) g (ix1 j) = nat32 (tile G j) := by
  obtain ⟨h3, h4, h5⟩ := ex_spec hS j
  have h7 : E G (ex G j + 1) = E G (ex G j) + cnt G (ex G j) := pre_succ _ _
  show pick (F := F) (firstT (F := F) g) (expertT (F := F) g) (ix1 j) + clampT (F := F) g (ix1 j)
    - pick (F := F) (subi (endT (F := F) g) (countT (F := F) g)) (expertT (F := F) g) (ix1 j) = _
  rw [pick_g g G hg hS, pick_g g G hg hS, clampT_g g G hg hS, firstT_g g G hg hS]
  show _ - (endT (F := F) g (ix1 (exF G hS j)) - countT (F := F) g (ix1 (exF G hS j))) = _
  rw [endT_g g G hg hS, countT_g g G hg hS]
  show nat32 (S G (ex G j) / 512) + nat32 (item G j) - (nat32 (E G (ex G j + 1)) - nat32 (cnt G (ex G j))) = _
  rw [h7, ofNat32_sub (by omega), Nat.add_sub_cancel, BitVec.ofNat_add_ofNat, ofNat32_sub (by omega), tile, Nat.add_sub_assoc h4]

theorem off_g (x : Vec F S16 .i32) (n : ℕ) (j : Fin 111) (hx : x (ix1 (exF G hS j)) = nat32 n) (hn : n ≤ 49152) :
    clipT (F := F) (subi (pick (F := F) x (expertT (F := F) g)) (muli (tileT (F := F) g) (all111 (F := F) 512#32))) (ix1 j) = nat32 (min 512 (n - 512 * tile G j)) := by
  have ht := tile_lt hS j
  show IntOp.minsi (all111 (F := F) 512#32 (ix1 j)) (IntOp.maxsi (all111 (F := F) 0#32 (ix1 j))
    (pick (F := F) x (expertT (F := F) g) (ix1 j) - tileT (F := F) g (ix1 j) * all111 (F := F) 512#32 (ix1 j))) = _
  rw [all111_at, all111_at, pick_g g G hg hS, hx, tileT_g g G hg hS, show (512#32 : BitVec 32) = nat32 512 from rfl, ← BitVec.ofNat_mul, Nat.mul_comm]
  exact clip_sub (by omega) (by omega)

theorem loT_g (j : Fin 111) : loT (F := F) g (ix1 j) = nat32 (lo G j) := by
  have h := item_off hS j
  refine (off_g g G hg hS _ _ j (startsT_g g G hg hS _) (S_le hS _ (by have := (ex_spec hS j).1; show ex G j ≤ 16; omega))).trans ?_
  unfold lo
  refine congrArg nat32 (Nat.min_eq_right ?_)
  show S G (ex G j) - 512 * tile G j ≤ 512
  omega

theorem hiT_g (j : Fin 111) : hiT (F := F) g (ix1 j) = nat32 (hi G j) := by
  have ht := total_le hS
  show Scalar.select (BitVec.ofBool ((nat32 j).slt (broadcastInDim S111 ![] bcast_S_S111 (totOf (F := F) (endT (F := F) g)) (ix1 j))))
    (clipT (F := F) (subi (pick (F := F) (runSum (F := F) g) (expertT (F := F) g)) (muli (tileT (F := F) g) (all111 (F := F) 512#32))) (ix1 j)) (all111 (F := F) 0#32 (ix1 j)) = _
  rw [bc0, all111_at, off_g g G hg hS _ _ j (runSum_g g G hg hS _) (S_le hS _ (by have := (ex_spec hS j).1; show ex G j + 1 ≤ 16; omega)),
    total_g g G hg hS, slt_ofNat32 (by omega) (by omega), select_decide]
  unfold hi
  split <;> rfl

theorem newT_zero : newT (F := F) g (ix1 (0 : Fin 111)) = 1#32 := by
  have h := (ex_spec hS 0).1
  show (BitVec.ofBool (_ != expertT (F := F) g (ix1 (0 : Fin 111)))).setWidth 32 = _
  rw [expertT_g g G hg hS, concatenate_pair_apply_left (s₁ := S1) (s₂ := S110) (t := S111) 0 _ _ _ (ix1 (0 : Fin 111)) rfl (ix1 (0 : Fin 1)) (by intro b; fin_cases b; rfl)]
  rw [bc0]
  show (BitVec.ofBool ((4294967295#32 : BitVec 32) != nat32 (ex G 0))).setWidth 32 = _
  rw [show ((4294967295#32 : BitVec 32) != nat32 (ex G 0)) = true from bne_iff_ne.2 fun e => by
    have := congrArg BitVec.toNat e; rw [toNat_ofNat_of_lt (w := 32) (by omega)] at this; simp at this; omega]
  rfl

theorem newT_succ (j : ℕ) (hj : j + 1 < 111) : newT (F := F) g (ix1 (⟨j + 1, hj⟩ : Fin 111)) = if ex G j = ex G (j + 1) then 0#32 else 1#32 := by
  have h := (ex_spec hS j).1
  have h' := (ex_spec hS (j + 1)).1
  show (BitVec.ofBool (_ != expertT (F := F) g (ix1 (⟨j + 1, hj⟩ : Fin 111)))).setWidth 32 = _
  rw [expertT_g g G hg hS, concatenate_pair_apply_right (s₁ := S1) (s₂ := S110) (t := S111) 0 _ _ _ (ix1 (⟨j + 1, hj⟩ : Fin 111)) rfl rfl (ix1 (⟨j, by omega⟩ : Fin 110)) (by intro b hb; exact absurd (Subsingleton.elim _ _) hb) rfl]
  rw [slice1 (m := 111) (n := 110) 0 (expertT (F := F) g) _ (⟨j, by omega⟩ : Fin 110) (by show 0 + j < 111; omega)]
  rw [show (⟨0 + (⟨j, by omega⟩ : Fin 110).val, by show 0 + j < 111; omega⟩ : Fin 111) = ⟨j, by omega⟩ from Fin.ext (Nat.zero_add j), expertT_g g G hg hS]
  show (BitVec.ofBool (nat32 (ex G j) != nat32 (ex G (j + 1)))).setWidth 32 = _
  by_cases e : ex G j = ex G (j + 1)
  · rw [if_pos e, e, bne_self_eq_false]; rfl
  · rw [if_neg e, show (nat32 (ex G j) != nat32 (ex G (j + 1))) = true from bne_iff_ne.2 fun e' => e (by
      have := congrArg BitVec.toNat e'; rwa [toNat_ofNat_of_lt (w := 32) (by omega), toNat_ofNat_of_lt (w := 32) (by omega)] at this)]
    rfl

end Sizes

end Cert.KernelIdeal.Hand
-- ==== Proof.Frame.lean ====
/-
  The tables the host line computes meet what the launch needs, so the program runs to its end and leaves its
  arguments as they were.
-/
module

public import proofs.«01_k».proof.Proof.Run
public import proofs.«01_k».proof.Proof.Words
public import proofs.«01_k».proof.Proof.Sizes
public import Idealize.ShloMosaic.Lib.PairWhole

@[expose] public section

noncomputable section

namespace Cert.KernelIdeal.Hand

open Cert.KernelIdeal Cert.KernelIdeal.Gen Cert.Hand Cert.Plan
open Idealize.ShloMosaic Idealize.ShloMosaic.TcCoe Idealize.SL.Sem
open Idealize.ShloMosaic.Routing Idealize.ShloMosaic.ValueIdx Idealize.ShloMosaic.WordCmp

variable {F : FTy → Type} [FloatOps F]

theorem coord_val (t : Fin 111) : (grid0.coords t 0).val = t.val := by
  revert t; decide

theorem tabAt_row (i : grid0.Coords) (T : Vec F S111 .i32) : tabAt i T = T (ix1 (⟨(i 0).val, (i 0).isLt⟩ : Fin 111)) := by
  unfold tabAt
  refine congrArg T (funext fun b => ?_)
  fin_cases b
  refine Fin.ext ?_
  show (BitVec.ofNat 32 (i 0).val).toNat + 1 * 0 = (i 0).val
  have h : (i 0).val < 111 := (i 0).isLt
  rw [BitVec.toNat_ofNat, Nat.mod_eq_of_lt (by omega)]; omega

theorem tabAt_coords (t : Fin 111) (T : Vec F S111 .i32) : tabAt (grid0.coords t) T = T (ix1 t) := by
  rw [tabAt_row]
  exact congrArg T (congrArg ix1 (Fin.ext (coord_val t)))

variable (m : (ℓ : Loc nD τ sig) → Buf (Elt F) ℓ)

/-- The five tables as the host line leaves them. -/
def tabs : pre0.Contents (Elt F) := fun k => Vof m 0 (pre0.ref k)

variable (hS : S (sizes (gOf m 0)) 16 = 49152)

/-- The sizes of the groups. -/
abbrev szs : ℕ → ℕ := sizes (gOf m 0)

include hS in
theorem tab_tile (i : Fin 111) : (tabs m 0 : Vec F S111 .i32) (ix1 i) = nat32 (tile (szs m) i) := by
  have h : (tabs m 0 : Vec F S111 .i32) = tileT (F := F) (gOf m 0) := V_tile m 0
  rw [h]; exact tileT_g _ _ (sizes_at _) hS i
include hS in
theorem tab_expert (i : Fin 111) : (tabs m 1 : Vec F S111 .i32) (ix1 i) = nat32 (ex (szs m) i) := by
  have h : (tabs m 1 : Vec F S111 .i32) = expertT (F := F) (gOf m 0) := V_expert m 0
  rw [h]; exact expertT_g _ _ (sizes_at _) hS i
include hS in
theorem tab_new0 : (tabs m 2 : Vec F S111 .i32) (ix1 (0 : Fin 111)) = 1#32 := by
  have h : (tabs m 2 : Vec F S111 .i32) = newT (F := F) (gOf m 0) := V_new m 0
  rw [h]; exact newT_zero _ _ (sizes_at _) hS
include hS in
theorem tab_new (j : ℕ) (hj : j + 1 < 111) : (tabs m 2 : Vec F S111 .i32) (ix1 (⟨j + 1, hj⟩ : Fin 111)) = if ex (szs m) j = ex (szs m) (j + 1) then 0#32 else 1#32 := by
  have h : (tabs m 2 : Vec F S111 .i32) = newT (F := F) (gOf m 0) := V_new m 0
  rw [h]; exact newT_succ _ _ (sizes_at _) hS j hj
include hS in
theorem tab_lo (i : Fin 111) : (tabs m 3 : Vec F S111 .i32) (ix1 i) = nat32 (lo (szs m) i) := by
  have h : (tabs m 3 : Vec F S111 .i32) = loT (F := F) (gOf m 0) := V_lo m 0
  rw [h]; exact loT_g _ _ (sizes_at _) hS i
include hS in
theorem tab_hi (i : Fin 111) : (tabs m 4 : Vec F S111 .i32) (ix1 i) = nat32 (hi (szs m) i) := by
  have h : (tabs m 4 : Vec F S111 .i32) = hiT (F := F) (gOf m 0) := V_hi m 0
  rw [h]; exact hiT_g _ _ (sizes_at _) hS i

theorem nat32_toNat {n : ℕ} (h : n < 2 ^ 32) : (nat32 n).toNat = n := by
  rw [BitVec.toNat_ofNat, Nat.mod_eq_of_lt h]

include hS in
/-- The block numbers of the three windows that read a table. -/
theorem block1 (i : grid0.Coords) : cc0_transform_1 (F := F) k0_off1_inb numel1_S1 (tabs m) i = ![tile (szs m) (i 0).val, 0] := by
  have h : (tabAt i (tabs m 0) : BitVec 32).toNat = tile (szs m) (i 0).val := by
    refine (congrArg BitVec.toNat ((tabAt_row i _).trans (tab_tile m hS _))).trans ?_
    exact nat32_toNat (Nat.lt_trans (tile_lt hS (i 0).val) (by decide))
  exact congrArg (fun n : ℕ => (![n, 0] : Fin 2 → ℕ)) h

include hS in
theorem block2 (i : grid0.Coords) : cc0_transform_2 (F := F) k0_off1_inb numel1_S1 (tabs m) i = ![ex (szs m) (i 0).val, 0, 0] := by
  have h : (tabAt i (tabs m 1) : BitVec 32).toNat = ex (szs m) (i 0).val := by
    refine (congrArg BitVec.toNat ((tabAt_row i _).trans (tab_expert m hS _))).trans ?_
    exact nat32_toNat (Nat.lt_trans (ex_spec hS (i 0).val).1 (by decide))
  exact congrArg (fun n : ℕ => (![n, 0, 0] : Fin 3 → ℕ)) h

include hS in
theorem block3 (i : grid0.Coords) : cc0_transform_3 (F := F) k0_off1_inb numel1_S1 (tabs m) i = ![tile (szs m) (i 0).val, 0] := by
  have h : (tabAt i (tabs m 0) : BitVec 32).toNat = tile (szs m) (i 0).val := by
    refine (congrArg BitVec.toNat ((tabAt_row i _).trans (tab_tile m hS _))).trans ?_
    exact nat32_toNat (Nat.lt_trans (tile_lt hS (i 0).val) (by decide))
  exact congrArg (fun n : ℕ => (![n, 0] : Fin 2 → ℕ)) h

include hS in
theorem tabs_ok : ok0 (tabs m) := by
  refine ⟨fun i => ?_, fun i => ?_, fun i => ?_⟩
  · have e := block1 m hS i
    have ht : tile (szs m) (i 0).val < 96 := tile_lt hS (i 0).val
    refine ⟨fun a => ?_, .inr ?_⟩
    · rw [e]; fin_cases a
      · show (tile (szs m) (i 0).val + 1) * 512 ≤ 49152; omega
      · show (0 + 1) * 2048 ≤ 2048; omega
    · refine .inl (Rect.packedRows_of_rowAxis _ _ (by decide) ?_ ?_ rfl)
      · show 2 ∣ cc0_transform_1 (F := F) k0_off1_inb numel1_S1 (tabs m) i 0 * 512
        exact Dvd.dvd.mul_left (by decide) _
      · show 2 ∣ 512
        decide
  · have e := block2 m hS i
    have ht : ex (szs m) (i 0).val < 16 := (ex_spec hS (i 0).val).1
    refine ⟨fun a => ?_, .inr ?_⟩
    · rw [e]; fin_cases a
      · show (ex (szs m) (i 0).val + 1) * 1 ≤ 16; omega
      · show (0 + 1) * 1408 ≤ 1408; omega
      · show (0 + 1) * 2048 ≤ 2048; omega
    · refine .inr ⟨by decide, rfl, ?_, rfl⟩
      show cc0_transform_2 (F := F) k0_off1_inb numel1_S1 (tabs m) i 1 * 1408 = 0
      rw [e]; rfl
  · have e := block3 m hS i
    have ht : tile (szs m) (i 0).val < 96 := tile_lt hS (i 0).val
    refine ⟨fun a => ?_, .inr ?_⟩
    · rw [e]; fin_cases a
      · show (tile (szs m) (i 0).val + 1) * 512 ≤ 49152; omega
      · show (0 + 1) * 1408 ≤ 1408; omega
    · refine .inl (Rect.packedRows_of_rowAxis _ _ (by decide) ?_ ?_ rfl)
      · show 2 ∣ cc0_transform_3 (F := F) k0_off1_inb numel1_S1 (tabs m) i 0 * 512
        exact Dvd.dvd.mul_left (by decide) _
      · show 2 ∣ 512
        decide

/-- The tables as contents the launch admits. -/
def adm : (p : Fin 1) → (pcfgs (F := F) p).Adm := fun | 0 => ⟨tabs m, tabs_ok m hS⟩

theorem word_at0 (a : (p : Fin 1) → (pcfgs (F := F) p).Adm) (t : Fin 111) : word a 0 t = ((a 0).1 0 : Vec F S111 .i32) (ix1 t) := tabAt_coords t _
theorem word_at1 (a : (p : Fin 1) → (pcfgs (F := F) p).Adm) (t : Fin 111) : word a 1 t = ((a 0).1 1 : Vec F S111 .i32) (ix1 t) := tabAt_coords t _
theorem word_at2 (a : (p : Fin 1) → (pcfgs (F := F) p).Adm) (t : Fin 111) : word a 2 t = ((a 0).1 2 : Vec F S111 .i32) (ix1 t) := tabAt_coords t _
theorem word_at3 (a : (p : Fin 1) → (pcfgs (F := F) p).Adm) (t : Fin 111) : word a 3 t = ((a 0).1 3 : Vec F S111 .i32) (ix1 t) := tabAt_coords t _
theorem word_at4 (a : (p : Fin 1) → (pcfgs (F := F) p).Adm) (t : Fin 111) : word a 4 t = ((a 0).1 4 : Vec F S111 .i32) (ix1 t) := tabAt_coords t _

theorem adm_val : (adm m hS 0).1 = tabs m := rfl

theorem word_tile (t : Fin 111) : word (adm m hS) 0 t = nat32 (tile (szs m) t) :=
  (word_at0 (adm m hS) t).trans ((congrFun (congrFun (adm_val m hS) 0) (ix1 t)).trans (tab_tile m hS t))
theorem word_expert (t : Fin 111) : word (adm m hS) 1 t = nat32 (ex (szs m) t) :=
  (word_at1 (adm m hS) t).trans ((congrFun (congrFun (adm_val m hS) 1) (ix1 t)).trans (tab_expert m hS t))
theorem word_new0 : word (adm m hS) 2 0 = 1#32 :=
  (word_at2 (adm m hS) 0).trans ((congrFun (congrFun (adm_val m hS) 2) (ix1 0)).trans (tab_new0 m hS))
theorem word_new (j : ℕ) (hj : j + 1 < 111) : word (adm m hS) 2 ⟨j + 1, hj⟩ = if ex (szs m) j = ex (szs m) (j + 1) then 0#32 else 1#32 :=
  (word_at2 (adm m hS) ⟨j + 1, hj⟩).trans ((congrFun (congrFun (adm_val m hS) 2) (ix1 ⟨j + 1, hj⟩)).trans (tab_new m hS j hj))
theorem word_lo (t : Fin 111) : word (adm m hS) 3 t = nat32 (lo (szs m) t) :=
  (word_at3 (adm m hS) t).trans ((congrFun (congrFun (adm_val m hS) 3) (ix1 t)).trans (tab_lo m hS t))
theorem word_hi (t : Fin 111) : word (adm m hS) 4 t = nat32 (hi (szs m) t) :=
  (word_at4 (adm m hS) t).trans ((congrFun (congrFun (adm_val m hS) 4) (ix1 t)).trans (tab_hi m hS t))

theorem sched : Sched (adm m hS) where
  expert t := by
    rw [word_expert]
    have : ex (szs m) t < 16 := (ex_spec hS t).1
    show (nat32 (ex (szs m) t)).toNat < 16
    rw [nat32_toNat (by omega)]; exact this
  first := by rw [word_new0]; decide
  same j hj h := by
    rw [word_new] at h
    rw [word_expert, word_expert]
    by_cases e : ex (szs m) j = ex (szs m) (j + 1)
    · exact congrArg nat32 e.symm
    · rw [if_neg e] at h
      exact absurd (by decide) h

theorem tabs_at (c : Dev nD) (k : Fin 5) : Vof m c (pre0.ref k) = (adm m hS 0).1 k := by
  have hc : c = 0 := Subsingleton.elim _ _
  subst hc; rfl

/-- The program's run: what every array holds at the end. -/
theorem run_sizes (ρ : Dev nD → PrngReg) :
    θ_run defs (onTc main) ⟨m, fun _ => 0, ρ⟩ fun r => Pipeline.RDat.FramePost (kcfg (adm m hS)) (rdat (Vof m) (sched m hS)) (Vof m) r ∧ r.2.sem = fun _ => 0 :=
  run m ρ (adm m hS) (sched m hS) fun c k => tabs_at m hS c k

theorem mem_rest : main_arg1 ∈ Pipeline.restRefs sig spec0 := Pipeline.mem_restRefs_of main_arg1 (by decide) (by decide)

/-- The arguments end as they were. -/
theorem args_of_post (r : PUnit × MemSt nD τ sig (Elt F)) (h : Pipeline.RDat.FramePost (kcfg (adm m hS)) (rdat (Vof m) (sched m hS)) (Vof m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  obtain ⟨ha, hr⟩ := h c
  refine ⟨?_, ?_, ?_, ?_⟩
  · have e := ha 1
    rw [Pipeline.RDat.ArrAt_in _ 1 rfl] at e
    exact (show _ = Vof m c main_arg0 from e).trans (V_arg0 m c)
  · exact (hr main_arg1 mem_rest).trans (V_arg1 m c)
  · have e := ha 2
    rw [Pipeline.RDat.ArrAt_in _ 2 rfl] at e
    exact (show _ = Vof m c main_arg2 from e).trans (V_arg2 m c)
  · have e := ha 0
    rw [Pipeline.RDat.ArrAt_in _ 0 rfl] at e
    exact (show _ = Vof m c main_arg3 from e).trans (V_arg3 m c)

include hS in
/-- The program runs to its end, leaves its arguments as they were and every counter at zero. -/
theorem frame (ρ : Dev nD → PrngReg) :
    θ_run defs (onTc main) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => args_of_post m hS r h.1 c, h.2⟩) (run_sizes m hS ρ)

end Cert.KernelIdeal.Hand
-- ==== Proof.Quant.lean ====
/-
  The fp8 quantiser over the extended reals: scaling by a power of two above the block's largest magnitude over 448,
  clipping at 448 and scaling back is the identity.
-/
module

public import proofs.«01_k».proof.Proof.Words
public import proofs.«01_k».proof.Proof.Body
public import Idealize.ShloMosaic.PureOps.Ideal.Laws

@[expose] public section

noncomputable section

namespace Cert.Hand

open Idealize.ShloMosaic

/-- The factor one over 448 as the kernel rounds it. -/
abbrev c448 : ℝ := 9586981 / 4294967296

theorem c448_val : Ideal.ofBits .f32 0x3B124925#32 = ((c448 : ℝ) : EReal) := by
  simp [Ideal.ofBits, Ideal.ieee, -EReal.coe_mul, c448]; norm_num
theorem b448_val : Ideal.ofBits .f32 0x43E00000#32 = ((448 : ℝ) : EReal) := by
  simp [Ideal.ofBits, Ideal.ieee, -EReal.coe_mul]; norm_num
theorem n448_val : Ideal.ofBits .f32 0xC3E00000#32 = ((-448 : ℝ) : EReal) := by
  simp [Ideal.ofBits, Ideal.ieee, -EReal.coe_mul]; norm_num
theorem ninf_val : Ideal.ofBits .f32 0xFF800000#32 = ⊥ := by simp [Ideal.ofBits, Ideal.ieee]
theorem big_val : Ideal.ofBits .f32 0x7F7F0000#32 = (((255 * 2 ^ 120 : ℕ) : ℝ) : EReal) := by
  simp [Ideal.ofBits, Ideal.ieee, -EReal.coe_mul]; norm_num

/-- Scaling down, clipping and scaling up by a power of two above the magnitude over 448. -/
theorem clip_id (r a : ℝ) (k : ℤ) (h : |r| * c448 ≤ a) (hk : a < (2 : ℝ) ^ k) :
    min ((448 : ℝ) : EReal) (max ((-448 : ℝ) : EReal) ((r : EReal) * (((2 : ℝ) ^ (-k) : ℝ) : EReal))) * (((2 : ℝ) ^ k : ℝ) : EReal) = (r : EReal) := by
  have hp : (0 : ℝ) < (2 : ℝ) ^ k := zpow_pos (by norm_num) k
  have hr : |r| < 448 * (2 : ℝ) ^ k := by
    have h0 := abs_nonneg r
    have h1 : |r| * c448 < (2 : ℝ) ^ k := lt_of_le_of_lt h hk
    have h2 : |r| ≤ 448 * (|r| * c448) := by unfold c448; nlinarith
    linarith
  have hs : |r * (2 : ℝ) ^ (-k)| < 448 := by
    rw [abs_mul, zpow_neg, abs_of_pos (inv_pos.2 hp), ← div_eq_mul_inv, div_lt_iff₀ hp]
    exact hr
  obtain ⟨h1, h2⟩ := abs_lt.1 hs
  rw [← EReal.coe_mul, max_eq_right (EReal.coe_le_coe_iff.2 h1.le), min_eq_right (EReal.coe_le_coe_iff.2 h2.le), ← EReal.coe_mul, mul_assoc, ← zpow_add₀ (by norm_num)]
  simp

/-! ### Powers of two as words -/

theorem field_word (n : ℕ) (h : n < 256) : (BitVec.ofNat 32 n <<< 23).toNat = n * 8388608 := by
  rw [BitVec.toNat_shiftLeft, BitVec.toNat_ofNat, Nat.shiftLeft_eq, Nat.mod_eq_of_lt (by omega : n < 2 ^ 32), Nat.mod_eq_of_lt (by norm_num; omega)]

theorem pow2_val (n : ℕ) (h1 : 1 ≤ n) (h : n ≤ 254) : Ideal.ofBits .f32 (BitVec.ofNat 32 n <<< 23) = (((2 : ℝ) ^ ((n : ℤ) - 127) : ℝ) : EReal) := by
  have e := field_word n (by omega)
  have en : ((BitVec.ofNat 32 n <<< 23).extractLsb' 31 1 == 1#1) = false := by
    rw [beq_eq_false_iff_ne]
    intro h
    have := congrArg BitVec.toNat h
    rw [BitVec.extractLsb'_toNat, e, Nat.shiftRight_eq_div_pow] at this
    norm_num at this
    omega
  have ee : ((BitVec.ofNat 32 n <<< 23).extractLsb' 23 8).toNat = n := by
    rw [BitVec.extractLsb'_toNat, e, Nat.shiftRight_eq_div_pow]
    norm_num
    omega
  have ef : ((BitVec.ofNat 32 n <<< 23).extractLsb' 0 23).toNat = 0 := by
    rw [BitVec.extractLsb'_toNat, e, Nat.shiftRight_eq_div_pow]
    norm_num
  show Ideal.ieee 8 23 _ = _
  unfold Ideal.ieee
  simp only [Nat.reduceAdd, en, ee, ef]
  rw [if_neg (by norm_num; omega), if_neg (by omega)]
  refine congrArg _ ?_
  have : ((n : ℤ) - (2 ^ (8 - 1) - 1) - (23 : ℕ)) = ((n : ℤ) - 127) + (-23) := by norm_num; ring
  rw [this, zpow_add₀ (by norm_num : (2 : ℝ) ≠ 0)]
  norm_num
  ring

theorem pow2_top : Ideal.ofBits .f32 (BitVec.ofNat 32 255 <<< 23) = ⊤ := by simp [Ideal.ofBits, Ideal.ieee]

/-- The power of two a field stands for. -/
abbrev P2 (n : ℕ) : EReal := Ideal.ofBits .f32 (BitVec.ofNat 32 n <<< 23)

/-! ### The search for the exponent field -/

/-- One step of the search. -/
def wstp (A : Ideal .f32) (f K b : BitVec 32) : BitVec 32 :=
  Scalar.select (FloatOps.cmpf (F := Ideal) (φ := .f32) .oge A (Ideal.ofBits .f32 (IntOp.shli .vector (f + K + 127#32) 23#32))) (f + b) f

/-- The field found. -/
def wfield (A : Ideal .f32) : BitVec 32 :=
  wstp A (wstp A (wstp A (wstp A (wstp A (wstp A (wstp A (wstp A 0#32 1#32 128#32) 4294967233#32 64#32) 4294967201#32 32#32) 4294967185#32 16#32)
    4294967177#32 8#32) 4294967173#32 4#32) 4294967171#32 2#32) 4294967170#32 1#32

def wexp (f : BitVec 32) : BitVec 32 := Scalar.select (IntOp.cmpi .eq f 0#32) 0#32 (f - 126#32)

/-- One element scaled down, clipped and scaled up. -/
def quant (v A : EReal) : EReal :=
  min (Ideal.ofBits .f32 0x43E00000#32) (max (Ideal.ofBits .f32 0xC3E00000#32) (v * Ideal.ofBits .f32 (IntOp.shli .vector (0#32 - wexp (wfield A) + 127#32) 23#32)))
    * Ideal.ofBits .f32 (IntOp.shli .vector (wexp (wfield A) + 127#32) 23#32)

theorem shl23 (x : BitVec 32) : IntOp.shli .vector x 23#32 = x <<< 23 := by
  unfold IntOp.shli
  rw [if_pos (by decide)]
  rfl

/-- What the search keeps: the field is `n` up to a width `w`. -/
structure Inv (a : ℝ) (n w : ℕ) : Prop where
  le : n + w ≤ 256
  lower : n = 0 ∨ P2 n ≤ (a : EReal)
  upper : n + w = 256 ∨ (a : EReal) < P2 (n + w)

theorem wstp_inv (a : ℝ) (n b w : ℕ) (K : BitVec 32) (hw : w = 2 * b) (hK : K + 127#32 = BitVec.ofNat 32 b) (h : Inv a n w) :
    ∃ n', wstp (a : EReal) (BitVec.ofNat 32 n) K (BitVec.ofNat 32 b) = BitVec.ofNat 32 n' ∧ Inv a n' b := by
  subst hw
  have e : BitVec.ofNat 32 n + K + 127#32 = BitVec.ofNat 32 (n + b) := by
    rw [BitVec.add_assoc, hK, ← BitVec.ofNat_add]
  have el := h.le
  unfold wstp
  rw [shl23, e]
  by_cases hc : P2 (n + b) ≤ (a : EReal)
  · refine ⟨n + b, ?_, ⟨by omega, .inr hc, ?_⟩⟩
    · rw [show FloatOps.cmpf (F := Ideal) (φ := .f32) .oge (a : EReal) (P2 (n + b)) = 1#1 from congrArg BitVec.ofBool (decide_eq_true hc)]
      exact (BitVec.ofNat_add ..).symm
    · rcases h.upper with hu | hu
      · exact .inl (by omega)
      · exact .inr (by rw [show n + b + b = n + 2 * b by ring]; exact hu)
  · refine ⟨n, ?_, ⟨by omega, h.lower, .inr (not_le.1 hc)⟩⟩
    rw [show FloatOps.cmpf (F := Ideal) (φ := .f32) .oge (a : EReal) (P2 (n + b)) = 0#1 from congrArg BitVec.ofBool (decide_eq_false hc)]
    rfl

theorem wfield_inv (a : ℝ) : ∃ n, wfield (a : EReal) = BitVec.ofNat 32 n ∧ Inv a n 1 := by
  have h0 : Inv a 0 256 := ⟨by omega, .inl rfl, .inl (by omega)⟩
  obtain ⟨n1, e1, h1⟩ := wstp_inv a 0 128 256 1#32 (by rfl) (by decide) h0
  obtain ⟨n2, e2, h2⟩ := wstp_inv a n1 64 128 4294967233#32 (by rfl) (by decide) h1
  obtain ⟨n3, e3, h3⟩ := wstp_inv a n2 32 64 4294967201#32 (by rfl) (by decide) h2
  obtain ⟨n4, e4, h4⟩ := wstp_inv a n3 16 32 4294967185#32 (by rfl) (by decide) h3
  obtain ⟨n5, e5, h5⟩ := wstp_inv a n4 8 16 4294967177#32 (by rfl) (by decide) h4
  obtain ⟨n6, e6, h6⟩ := wstp_inv a n5 4 8 4294967173#32 (by rfl) (by decide) h5
  obtain ⟨n7, e7, h7⟩ := wstp_inv a n6 2 4 4294967171#32 (by rfl) (by decide) h6
  obtain ⟨n8, e8, h8⟩ := wstp_inv a n7 1 2 4294967170#32 (by rfl) (by decide) h7
  refine ⟨n8, ?_, h8⟩
  unfold wfield
  have e1' : wstp (a : EReal) 0#32 1#32 128#32 = BitVec.ofNat 32 n1 := e1
  rw [e1', show 64#32 = BitVec.ofNat 32 64 from rfl, e2, e3, e4, e5, e6, e7, e8]

/-- The kernel's quantiser leaves a real as it is. -/
theorem quant_id (r a : ℝ) (h : |r| * c448 ≤ a) (ha : a < (2 : ℝ) ^ (125 : ℤ)) : quant (r : EReal) (a : EReal) = (r : EReal) := by
  obtain ⟨n, en, hn⟩ := wfield_inv a
  have h255 : n ≠ 255 := by
    intro e
    subst e
    rcases hn.lower with h' | h'
    · omega
    · rw [P2, pow2_top] at h'
      exact absurd h' (not_le.2 (EReal.coe_lt_top a))
  have h251 : n ≤ 251 := by
    by_contra hc
    have hle := hn.le
    rcases hn.lower with h' | h'
    · omega
    · rw [P2, pow2_val n (by omega) (by omega), EReal.coe_le_coe_iff] at h'
      have := lt_of_le_of_lt h' ha
      rw [zpow_lt_zpow_iff_right₀ (by norm_num)] at this
      omega
  have hup : a < (2 : ℝ) ^ ((n : ℤ) - 126) := by
    rcases hn.upper with h' | h'
    · omega
    · rw [P2, pow2_val (n + 1) (by omega) (by omega), EReal.coe_lt_coe_iff] at h'
      rw [show (n : ℤ) - 126 = ((n + 1 : ℕ) : ℤ) - 127 by push_cast; ring]
      exact h'
  unfold quant
  rw [en, shl23, shl23, b448_val, n448_val]
  by_cases h0 : n = 0
  · subst h0
    have ew : wexp (BitVec.ofNat 32 0) = 0#32 := by decide
    rw [ew, show (0#32 - 0#32 + 127#32 : BitVec 32) = BitVec.ofNat 32 127 from by decide, show (0#32 + 127#32 : BitVec 32) = BitVec.ofNat 32 127 from by decide,
      pow2_val 127 (by omega) (by omega)]
    have := clip_id r a 0 h (lt_of_lt_of_le hup (zpow_le_zpow_right₀ (by norm_num) (by norm_num)))
    simpa using this
  · have ew : wexp (BitVec.ofNat 32 n) = BitVec.ofNat 32 n - 126#32 := by
      unfold wexp
      have hne : BitVec.ofNat 32 n ≠ 0#32 := fun e => by
        have := congrArg BitVec.toNat e
        rw [BitVec.toNat_ofNat, Nat.mod_eq_of_lt (by omega)] at this
        exact h0 this
      rw [show IntOp.cmpi .eq (BitVec.ofNat 32 n) 0#32 = 0#1 by
        show BitVec.ofBool (BitVec.ofNat 32 n == 0#32) = 0#1
        rw [beq_eq_false_iff_ne.2 hne]; rfl]
      rfl
    have e1 : 0#32 - (BitVec.ofNat 32 n - 126#32) + 127#32 = BitVec.ofNat 32 (253 - n) := by
      apply BitVec.eq_of_toNat_eq
      simp only [BitVec.toNat_add, BitVec.toNat_sub, BitVec.toNat_ofNat]
      omega
    have e2 : BitVec.ofNat 32 n - 126#32 + 127#32 = BitVec.ofNat 32 (n + 1) := by
      apply BitVec.eq_of_toNat_eq
      simp only [BitVec.toNat_add, BitVec.toNat_sub, BitVec.toNat_ofNat]
      omega
    rw [ew, e1, e2, pow2_val (253 - n) (by omega) (by omega), pow2_val (n + 1) (by omega) (by omega)]
    have := clip_id r a ((n : ℤ) - 126) h hup
    rw [show ((253 - n : ℕ) : ℤ) - 127 = -((n : ℤ) - 126) by omega, show ((n + 1 : ℕ) : ℤ) - 127 = (n : ℤ) - 126 by push_cast; ring]
    exact this

/-! ### The reference's exponent -/

/-- One element scaled down, clipped and scaled up by the power of two the logarithm gives. -/
def quantL (v M : EReal) : EReal :=
  let e : EReal := Scalar.select (FloatOps.cmpf (F := Ideal) (φ := .f32) .oeq M (Ideal.ofBits .f32 0x00000000#32)) (Ideal.ofBits .f32 0x00000000#32)
    (Ideal.liftRound Int.floor (Ideal.div (Ideal.log (M * Ideal.ofBits .f32 0x3B124925#32)) (Ideal.log (Ideal.ofBits .f32 0x40000000#32))) + Ideal.ofBits .f32 0x3F800000#32)
  min (Ideal.ofBits .f32 0x43E00000#32) (max (Ideal.ofBits .f32 0xC3E00000#32) (v * Ideal.exp2 (Ideal.ofBits .f32 0x00000000#32 - e))) * Ideal.exp2 e

theorem one_val : Ideal.ofBits .f32 0x3F800000#32 = ((1 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num
theorem zero_val : Ideal.ofBits .f32 0x00000000#32 = ((0 : ℝ) : EReal) := by
  simp [Ideal.ofBits, Ideal.ieee]

theorem exp2_int (k : ℤ) : Ideal.exp2 ((k : ℝ) : EReal) = (((2 : ℝ) ^ k : ℝ) : EReal) := by
  show ((Real.rpow 2 (k : ℝ) : ℝ) : EReal) = _
  exact congrArg _ (Real.rpow_intCast 2 k)

theorem quantL_id (r M : ℝ) (h : |r| ≤ M) : quantL (r : EReal) (M : EReal) = (r : EReal) := by
  have hM : 0 ≤ M := le_trans (abs_nonneg r) h
  have hc : (0 : ℝ) < c448 := by unfold c448; norm_num
  have key : ∀ k : ℤ, M * c448 < (2 : ℝ) ^ k →
      min ((448 : ℝ) : EReal) (max ((-448 : ℝ) : EReal) ((r : EReal) * Ideal.exp2 (((0 : ℝ) : EReal) - ((k : ℝ) : EReal)))) * Ideal.exp2 ((k : ℝ) : EReal) = (r : EReal) := by
    intro k hk
    rw [← EReal.coe_sub, show (0 : ℝ) - (k : ℝ) = ((-k : ℤ) : ℝ) by push_cast; ring, exp2_int, exp2_int]
    exact clip_id r (M * c448) k (mul_le_mul_of_nonneg_right h hc.le) hk
  unfold quantL
  simp only [b448_val, n448_val, c448_val, zero_val, one_val, two_val]
  by_cases h0 : M = 0
  · subst h0
    rw [show FloatOps.cmpf (F := Ideal) (φ := .f32) .oeq ((0 : ℝ) : EReal) ((0 : ℝ) : EReal) = 1#1 from congrArg BitVec.ofBool (decide_eq_true rfl)]
    have := key 0 (by norm_num)
    rw [show (((0 : ℤ) : ℝ) : EReal) = ((0 : ℝ) : EReal) by norm_num] at this
    exact this
  · have hpos : 0 < M := lt_of_le_of_ne hM (Ne.symm h0)
    have hA : 0 < M * c448 := mul_pos hpos hc
    rw [show FloatOps.cmpf (F := Ideal) (φ := .f32) .oeq (M : EReal) ((0 : ℝ) : EReal) = 0#1 from
      congrArg BitVec.ofBool (decide_eq_false (fun e => h0 (EReal.coe_eq_coe_iff.1 e)))]
    have hl : Ideal.log ((M : EReal) * ((c448 : ℝ) : EReal)) = ((Real.log (M * c448) : ℝ) : EReal) := by
      rw [← EReal.coe_mul]
      show (if M * c448 ≤ 0 then (⊥ : EReal) else _) = _
      rw [if_neg (not_le.2 hA)]
    have hl2 : Ideal.log ((2 : ℝ) : EReal) = ((Real.log 2 : ℝ) : EReal) := by
      show (if (2 : ℝ) ≤ 0 then (⊥ : EReal) else _) = _
      rw [if_neg (by norm_num)]
    have hlog2 : 0 < Real.log 2 := Real.log_pos (by norm_num)
    have hd : Ideal.div ((Real.log (M * c448) : ℝ) : EReal) ((Real.log 2 : ℝ) : EReal) = ((Real.log (M * c448) / Real.log 2 : ℝ) : EReal) := by
      unfold Ideal.div
      rw [if_neg (fun e => hlog2.ne' (EReal.coe_eq_zero.1 e)), ← EReal.coe_inv, ← EReal.coe_mul, div_eq_mul_inv]
    rw [hl, hl2, hd]
    show min _ (max _ ((r : EReal) * Ideal.exp2 (_ - (((⌊Real.log (M * c448) / Real.log 2⌋ : ℝ) : EReal) + ((1 : ℝ) : EReal))))) * Ideal.exp2 (((⌊Real.log (M * c448) / Real.log 2⌋ : ℝ) : EReal) + ((1 : ℝ) : EReal)) = _
    rw [← EReal.coe_add, show ((⌊Real.log (M * c448) / Real.log 2⌋ : ℝ) + (1 : ℝ)) = ((⌊Real.log (M * c448) / Real.log 2⌋ + 1 : ℤ) : ℝ) by push_cast; ring]
    refine key _ ?_
    have hf := Int.lt_floor_add_one (Real.log (M * c448) / Real.log 2)
    rw [div_lt_iff₀ hlog2] at hf
    rw [← Real.rpow_intCast, ← Real.log_lt_log_iff hA (Real.rpow_pos_of_pos (by norm_num) _), Real.log_rpow (by norm_num)]
    push_cast
    exact hf

/-! ### The largest magnitude of a block -/

/-- The largest of finitely many magnitudes of reals is a real above each of them and below any bound on them. -/
theorem fold_max_real {ι : Type} (S : Finset ι) (g : ι → EReal) (B : ℝ) (i0 : ι) (hi0 : i0 ∈ S) (hg : ∀ i ∈ S, g i ≤ (B : EReal)) (h0 : 0 ≤ g i0) :
    ∃ M : ℝ, S.fold max ⊥ g = (M : EReal) ∧ M ≤ B ∧ ∀ i ∈ S, g i ≤ (M : EReal) := by
  have hle : S.fold max ⊥ g ≤ (B : EReal) := (Finset.fold_max_le _).2 ⟨bot_le, hg⟩
  have hge : ∀ i ∈ S, g i ≤ S.fold max ⊥ g := fun i hi => (Finset.le_fold_max _).2 (.inr ⟨i, hi, le_rfl⟩)
  have hb : S.fold max ⊥ g ≠ ⊥ := fun e => by
    have := le_trans h0 (hge i0 hi0)
    rw [e] at this
    exact absurd this (by simp)
  have ht : S.fold max ⊥ g ≠ ⊤ := fun e => by
    rw [e] at hle
    exact absurd hle (not_le.2 (EReal.coe_lt_top B))
  refine ⟨(S.fold max ⊥ g).toReal, (EReal.coe_toReal ht hb).symm, ?_, fun i hi => ?_⟩
  · rw [← EReal.coe_le_coe_iff, EReal.coe_toReal ht hb]; exact hle
  · rw [EReal.coe_toReal ht hb]; exact hge i hi

/-- The largest bfloat16. -/
def bmax : ℝ := ((255 * 2 ^ 120 : ℕ) : ℝ)

/-- A value that is a real of at most the largest bfloat16's magnitude. -/
def Tame (x : EReal) : Prop := ∃ r : ℝ, x = (r : EReal) ∧ |r| ≤ bmax

theorem abs_coe (r : ℝ) : max (r : EReal) (-(r : EReal)) = ((|r| : ℝ) : EReal) := by
  rw [← EReal.coe_neg, abs_eq_max_neg]
  exact (EReal.coe_strictMono.monotone.map_max).symm

/-- A block's largest magnitude is a real, at most the largest bfloat16 and at least each element's. -/
theorem redMax_real {s t : Shape} {axes : List (Fin s.rank)} (v src : FVec Ideal s .f32) (hs : ∀ i, src i = max (v i) (-v i)) (h : s.Reduces axes t)
    (hφ : FKind.Formats .f32) (hacc : (0xFF800000#32 : BitVec FTy.f32.bits) = FKind.maximumf.neutral .f32 hφ) (hv : ∀ i, Tame (v i)) (j : t.Idx) (i : s.Idx) (hi : h.drop i = j) :
    ∃ M r : ℝ, multiReduction .maximumf axes t src 0xFF800000#32 h hφ hacc j = (M : EReal) ∧ v i = (r : EReal) ∧ |r| ≤ M ∧ M ≤ bmax := by
  have hr : ∀ i, ∃ r : ℝ, v i = (r : EReal) ∧ src i = ((|r| : ℝ) : EReal) ∧ |r| ≤ bmax := fun i => by
    obtain ⟨r, e, hb⟩ := hv i
    exact ⟨r, e, by rw [hs i, e, abs_coe], hb⟩
  rw [multiReduction_maximumf_eq_fold]
  have hmem : i ∈ Finset.univ.filter (fun i => h.drop i = j) := Finset.mem_filter.2 ⟨Finset.mem_univ _, hi⟩
  obtain ⟨r, e, es, hb⟩ := hr i
  obtain ⟨M, eM, hM, hall⟩ := fold_max_real (Finset.univ.filter (fun i => h.drop i = j)) src bmax i hmem
    (fun i' _ => by obtain ⟨r', _, e', hb'⟩ := hr i'; rw [e']; exact EReal.coe_le_coe_iff.2 hb')
    (by rw [es]; exact EReal.coe_nonneg.2 (abs_nonneg r))
  refine ⟨M, r, ?_, e, ?_, hM⟩
  · rw [← eM, ← ninf_val]
    rfl
  · have := hall i hmem
    rw [es] at this
    exact EReal.coe_le_coe_iff.1 this

theorem bmax_c448 : bmax * c448 < (2 : ℝ) ^ (125 : ℤ) := by
  unfold bmax c448
  push_cast
  norm_num

/-- A row between two bounds, as the words compare it. -/
theorem mask_select {α : Type} (r a b : ℕ) (hr : r < 2 ^ 31) (ha : a < 2 ^ 31) (hb : b < 2 ^ 31) (x y : α) :
    Scalar.select (IntOp.andi (IntOp.cmpi .sge (BitVec.ofNat 32 r) (BitVec.ofNat 32 a)) (IntOp.cmpi .slt (BitVec.ofNat 32 r) (BitVec.ofNat 32 b))) x y
      = if a ≤ r ∧ r < b then x else y := by
  rw [WordCmp.cmpi_sge_eq, WordCmp.cmpi_slt_eq, WordCmp.toInt_ofNat_of_lt (w := 32) (by omega), WordCmp.toInt_ofNat_of_lt (w := 32) (by omega),
    WordCmp.toInt_ofNat_of_lt (w := 32) (by omega), WordCmp.andi_ofBool]
  by_cases h1 : a ≤ r <;> by_cases h2 : r < b <;> simp [h1, h2, Scalar.select]

end Cert.Hand
-- ==== Proof.QuantK.lean ====
/-
  The kernel's payloads read at an index: the quantiser leaves a block of reals as it is, the weights are scaled, and the
  product is stored on the rows asked for.
-/
module

public import proofs.«01_k».proof.Proof.Quant
public import Idealize.ShloMosaic.Lib.Pointwise

@[expose] public section

set_option maxRecDepth 16384

noncomputable section

namespace Cert.KernelIdeal.Hand

open Idealize.ShloMosaic Cert.KernelIdeal Cert.KernelIdeal.Facts Cert.KernelIdeal.Gen Cert.Hand

abbrev sp (c : BitVec 32) : IVec S512x128 32 := broadcast S512x128 c

/-- One step of the search on a whole block. -/
def stepV (A : FVec Ideal S512x128 .f32) (f : IVec S512x128 32) (K b : BitVec 32) : IVec S512x128 32 :=
  select (cmpf .oge A (bitcastToFloat .f32 (shli (addi (addi f (sp K)) (sp 127#32)) (sp 23#32)))) (addi f (sp b)) f

theorem stepV_apply (A : FVec Ideal S512x128 .f32) (f : IVec S512x128 32) (K b : BitVec 32) (y : S512x128.Idx) :
    stepV A f K b y = wstp (A y) (f y) K b := rfl

/-- The exponent from the field. -/
def expV (f : IVec S512x128 32) : IVec S512x128 32 := select (cmpi .eq f (sp 0#32)) (sp 0#32) (subi f (sp 126#32))

theorem expV_apply (f : IVec S512x128 32) (y : S512x128.Idx) : expV f y = wexp (f y) := rfl

/-- The block scaled down, clipped and scaled up. -/
def clipV (v : FVec Ideal S512x128 .f32) (e : IVec S512x128 32) : FVec Ideal S512x128 .bf16 :=
  mulf (extf .bf16 (truncf .fp8e4m3 (minimumf (broadcast S512x128 (Scalar.ofBits .f32 0x43E00000#32)) (maximumf (broadcast S512x128 (Scalar.ofBits .f32 0xC3E00000#32))
      (mulf v (bitcastToFloat .f32 (shli (addi (subi (sp 0#32) e) (sp 127#32)) (sp 23#32)))))) bitsLt_fp8e4m3_f32) bitsLt_fp8e4m3_bf16)
    (truncf .bf16 (bitcastToFloat .f32 (shli (addi e (sp 127#32)) (sp 23#32))) bitsLt_bf16_f32)

theorem clipV_apply (v : FVec Ideal S512x128 .f32) (e : IVec S512x128 32) (y : S512x128.Idx) :
    clipV v e y = (min (Ideal.ofBits .f32 0x43E00000#32) (max (Ideal.ofBits .f32 0xC3E00000#32)
          (v y * Ideal.ofBits .f32 (IntOp.shli .vector (0#32 - e y + 127#32) 23#32)))
        * Ideal.ofBits .f32 (IntOp.shli .vector (e y + 127#32) 23#32) : EReal) := rfl

theorem pay225_eq (v : Vec Ideal S512x128 .bf16) :
    k0_pay225 v = stepV (k0_pay224 v) (stepV (k0_pay224 v) (stepV (k0_pay224 v) (sp 0#32) 1#32 128#32) 4294967233#32 64#32) 4294967201#32 32#32 := rfl

theorem pay226_eq (A : FVec Ideal S512x128 .f32) (f : IVec S512x128 32) :
    k0_pay226 A f = stepV A (stepV A (stepV A (stepV A f 4294967185#32 16#32) 4294967177#32 8#32) 4294967173#32 4#32) 4294967171#32 2#32 := rfl

theorem pay227_eq (v A : FVec Ideal S512x128 .f32) (f : IVec S512x128 32) :
    k0_pay227 v A f = shapeCast S512x128 (clipV v (expV (stepV A f 4294967170#32 1#32))) shapeCasts_S512x128_S512x128 := rfl

theorem qPay_apply (v : Vec Ideal S512x128 .bf16) (y : S512x128.Idx) :
    k0_pay227 (k0_pay223 v) (k0_pay224 v) (k0_pay226 (k0_pay224 v) (k0_pay225 v)) y = quant (v y) (k0_pay224 v y) := by
  have h : ∀ x : FVec Ideal S512x128 .bf16, shapeCast S512x128 x shapeCasts_S512x128_S512x128 y = x y := fun x => shapeCast_apply x _ y y rfl
  rw [pay227_eq, h, clipV_apply, expV_apply, stepV_apply, pay226_eq, pay225_eq]
  rw [stepV_apply, stepV_apply, stepV_apply, stepV_apply, stepV_apply, stepV_apply, stepV_apply]
  unfold quant wfield
  rfl

/-- A block of reals is quantised to itself. -/
theorem qPay_id (v : Vec Ideal S512x128 .bf16) (hv : ∀ i, Tame (v i)) (y : S512x128.Idx) :
    k0_pay227 (k0_pay223 v) (k0_pay224 v) (k0_pay226 (k0_pay224 v) (k0_pay225 v)) y = v y := by
  rw [qPay_apply]
  obtain ⟨M, r, eM, er, hr, hM⟩ := redMax_real (s := S512x128) (t := S512) (axes := [1]) v (absf (k0_pay223 v)) (fun _ => rfl) reduces_S512x128_S512 (.inl rfl) rfl hv
    (ix1 (y 0)) y (by funext b; fin_cases b; rfl)
  have hA : k0_pay224 v y = ((M * c448 : ℝ) : EReal) := by
    have h1 : ∀ x : FVec Ideal S512x1 .f32, broadcastTo S512x128 x broadcasts_S512x1_S512x128 y = x (ix2 (y 0) 0 : S512x1.Idx) := fun x =>
      broadcastTo_apply x broadcasts_S512x1_S512x128 y (ix2 (y 0) 0 : S512x1.Idx) (fun a => by fin_cases a <;> rfl)
    have h2 : ∀ x : FVec Ideal S512x1 .f32, shapeCast S512x1 x shapeCasts_S512x1_S512x1 (ix2 (y 0) 0 : S512x1.Idx) = x (ix2 (y 0) 0 : S512x1.Idx) := fun x =>
      shapeCast_apply x shapeCasts_S512x1_S512x1 _ _ rfl
    have h3 : ∀ x : FVec Ideal S512 .f32, shapeCast S512x1 x shapeCasts_S512_S512x1 (ix2 (y 0) 0 : S512x1.Idx) = x (ix1 (y 0) : S512.Idx) := fun x =>
      shapeCast_apply x shapeCasts_S512_S512x1 _ _ (by rw [rowMajor_val1, rowMajor_val2 _ 1 rfl]; simp)
    refine (congrArg (fun z : EReal => z * Ideal.ofBits .f32 0x3B124925#32) ((h1 _).trans ((h2 _).trans ((h3 _).trans eM)))).trans ?_
    show (M : EReal) * Ideal.ofBits .f32 0x3B124925#32 = _
    rw [c448_val, EReal.coe_mul]
  have hc : (0 : ℝ) < c448 := by unfold c448; norm_num
  have er' : v y = (r : EReal) := er
  rw [hA, er']
  exact quant_id r (M * c448) (mul_le_mul_of_nonneg_right hr hc.le) (lt_of_le_of_lt (mul_le_mul_of_nonneg_right hM hc.le) bmax_c448)

theorem pay4_apply (A : Vec Ideal S512x2048 .bf16) (B : Vec Ideal S1408x2048 .bf16) (lo hi : BitVec 32) (Y : Vec Ideal S512x1408 .bf16) (y : S512x1408.Idx) :
    k0_pay4 A B lo hi Y y = Scalar.select (IntOp.andi (IntOp.cmpi .sge (BitVec.ofNat 32 (y 0).val) lo) (IntOp.cmpi .slt (BitVec.ofNat 32 (y 0).val) hi))
      (∑ k : Fin 2048, A (ix2 (y 0) k) * B (ix2 (y 1) k) : EReal) (Y y) := by
  pointwise [k0_pay4]

theorem scale_apply (s : Ideal .f32) (w : Vec Ideal S1x128x128 .fp8e4m3) (y : S128x128.Idx) :
    k0_pay1 s w y = (w (ix3 0 (y 0) (y 1)) * s : EReal) := by
  pointwise [k0_pay1]

end Cert.KernelIdeal.Hand

end
-- ==== Proof.Finite.lean ====
/-
  What the precondition of the value claim says: the sizes sum to the number of rows, and the activations are finite.
-/
module

public import proofs.«01_k».proof.Proof.Sizes
public import proofs.«01_k».proof.Proof.Gen.Pre_finite_and_sizes

@[expose] public section

noncomputable section

namespace Cert.Hand

open Idealize.ShloMosaic Cert.Plan
open Idealize.ShloMosaic.Routing Idealize.ShloMosaic.ValueIdx Idealize.ShloMosaic.WordCmp

/-- From the precondition of the value claim. -/
theorem sizes_of_pre' {F : FTy → Type} [FloatOps F] (x g w s)
    (h : @Cert.Pre_finite_and_sizes.fn Cert.Pre_finite_and_sizes.Gen.facts F _ x g w s = fun _ => 1#1) : S (sizes g) 16 = 49152 := by
  obtain ⟨h1, h2⟩ := andi_one (congrFun h ix0)
  exact sizes_sum g (Host.reduce_andi_all _ _ _ _ ix0 (andi_one h1).2) _ _ h2

/-- The activations are at most the largest bfloat16 in magnitude. -/
theorem finite_of_pre' {F : FTy → Type} [FloatOps F] (x g w s)
    (h : @Cert.Pre_finite_and_sizes.fn Cert.Pre_finite_and_sizes.Gen.facts F _ x g w s = fun _ => 1#1) (i) :
    FloatOps.cmpf .ole (FloatOps.hostAbsf (FloatOps.extf .f32 Cert.Pre_finite_and_sizes.Facts.bitsLt_bf16_f32 (x i))) (FloatOps.ofBits .f32 0x7F7F0000#32) = 1#1 := by
  obtain ⟨h1, h2⟩ := andi_one (congrFun h ix0)
  exact Host.reduce_andi_all _ _ _ _ ix0 (andi_one h1).1 i

end Cert.Hand
-- ==== Proof.Target.lean ====
/-
  What one entry of the result is: a row of the activations times a row of an expert's weights, each weight times the
  scale of its block.
-/
module

public import proofs.«01_k».proof.Proof.Quant
public import proofs.«01_k».proof.Proof.Plan
public import proofs.«01_k».proof.Proof.Finite
public import Idealize.ShloMosaic.Lib.Pointwise

@[expose] public section

set_option maxRecDepth 16384

noncomputable section

namespace Cert.Hand

open Idealize.ShloMosaic

/-- The block of 128 that a column lies in. -/
def blk128 {n m : ℕ} (h : n = m * 128) (k : Fin n) : Fin m := ⟨k.val / 128, by have := k.isLt; omega⟩

/-- The entry at row `r` and column `n` when expert `e` owns the row. -/
def rowVal (x : Vec Ideal ⟨2, ![49152, 2048]⟩ .bf16) (w : Vec Ideal ⟨3, ![16, 1408, 2048]⟩ .fp8e4m3) (s : Vec Ideal ⟨3, ![16, 11, 16]⟩ .f32)
    (e : Fin 16) (r : Fin 49152) (n : Fin 1408) : EReal :=
  ∑ k : Fin 2048, x (ix2 r k) * (w (ix3 e n k) * s (ix3 e (blk128 (m := 11) rfl n) (blk128 (m := 16) rfl k)))

theorem tame_of_le (z : EReal) (h : max z (-z) ≤ ((bmax : ℝ) : EReal)) : Tame z := by
  induction z with
  | bot => exact absurd ((le_max_right _ _).trans h) (by simp)
  | top => exact absurd ((le_max_left _ _).trans h) (by simp)
  | coe r => rw [abs_coe] at h; exact ⟨r, rfl, EReal.coe_le_coe_iff.1 h⟩

/-- The precondition makes every activation a real of at most the largest bfloat16's magnitude. -/
theorem tame_of_pre (x g w s)
    (h : @Cert.Pre_finite_and_sizes.fn Cert.Pre_finite_and_sizes.Gen.facts Ideal _ x g w s = fun _ => 1#1) (i) : Tame (x i) := by
  have h1 := finite_of_pre' (F := Ideal) x g w s h i
  have h2 : Ideal.cmp .ole (max (x i : EReal) (-(x i : EReal)) : EReal) (Ideal.ofBits .f32 0x7F7F0000#32) = 1#1 := h1
  rw [big_val] at h2
  have h3 : BitVec.ofBool (decide (max (x i : EReal) (-(x i : EReal)) ≤ ((bmax : ℝ) : EReal))) = 1#1 := h2
  refine tame_of_le _ ?_
  by_contra hn
  rw [decide_eq_false hn] at h3
  exact absurd h3 (by decide)

end Cert.Hand
-- ==== Proof.Value.lean ====
/-
  What the kernel leaves in its result: every row holds its expert's product.
-/
module

public import proofs.«01_k».proof.Proof.Frame
public import proofs.«01_k».proof.Proof.QuantK
public import proofs.«01_k».proof.Proof.Target

@[expose] public section

set_option maxRecDepth 16384

noncomputable section

namespace Cert.KernelIdeal.Hand

open Cert.KernelIdeal Cert.KernelIdeal.Gen Cert.Hand Cert.Plan
open Idealize.ShloMosaic Idealize.ShloMosaic.TcCoe Idealize.SL.Sem
open Idealize.ShloMosaic.WordCmp
open Idealize.ShloMosaic.Pipeline (RDat)

/-! ### One item -/

theorem cond2_iff {a b : ℕ} (ha : a < 2 ^ 31) (hb : b < 2 ^ 31) : k0_cond2 (nat32 a) (nat32 b) = 1#1 ↔ a < b := by
  have h : k0_cond2 (nat32 a) (nat32 b) = Scalar.cmpi .ne (Scalar.extui (IntOp.cmpi .slt (nat32 a) (nat32 b)) : BitVec 32) 0#32 := rfl
  rw [h, cmpi_slt_eq, toInt_ofNat_of_lt (w := 32) (by omega), toInt_ofNat_of_lt (w := 32) (by omega)]
  by_cases hab : a < b
  · rw [decide_eq_true (by omega)]; exact ⟨fun _ => hab, fun _ => by decide⟩
  · rw [decide_eq_false (by omega)]; exact ⟨fun h => absurd h (by decide), fun h => absurd h hab⟩

/-- The quantiser leaves a tile of reals as it is. -/
theorem qnt_id (X : Vec Ideal S512x2048 .bf16) (hX : ∀ i, Tame (X i)) (y : S512x2048.Idx) : qnt X y = X y := by
  refine (qPay_id (fun i => X ((xRect (xOf y)).emb i)) (fun i => hX _) (xIn y)).trans ?_
  exact congrArg X (xOf_emb y)

/-- The dequantised weights, entry by entry. -/
theorem deq_apply (Sc : Vec Ideal S16x11x16 .f32) {e : ℕ} (he : e < 16) (W : Vec Ideal S1x1408x2048 .fp8e4m3) (n : Fin 1408) (k : Fin 2048) :
    deq Sc he W (ix2 n k) = (W (ix3 0 n k) * Sc (ix3 (⟨e, he⟩ : Fin 16) (blk128 (m := 11) rfl n) (blk128 (m := 16) rfl k)) : EReal) := by
  have hn := n.isLt
  have hk := k.isLt
  refine (scale_apply (scAt Sc he (wOf (ix2 n k))) (fun i => W ((wRect (wOf (ix2 n k))).emb i)) (wIn (ix2 n k))).trans ?_
  refine congrArg₂ (fun p q : EReal => p * q) (congrArg W (funext fun a => Fin.ext ?_)) (congrArg Sc (funext fun a => Fin.ext ?_))
  · fin_cases a
    · show 0 + 1 * 0 = 0; rfl
    · show (n.val / 128 * 16 + k.val / 128) / 16 * 128 + 1 * (n.val % 128) = n.val; omega
    · show (n.val / 128 * 16 + k.val / 128) % 16 * 128 + 1 * (k.val % 128) = k.val; omega
  · fin_cases a
    · show e + 1 * 0 = e; omega
    · show (n.val / 128 * 16 + k.val / 128) / 16 + 1 * 0 = n.val / 128; omega
    · show (n.val / 128 * 16 + k.val / 128) % 16 + 1 * 0 = k.val / 128; omega

/-- An item writes its product on its rows and leaves the others. -/
theorem outOf_apply {a b : ℕ} (ha : a < 2 ^ 31) (hb : b < 2 ^ 31) (X : Vec Ideal S512x2048 .bf16) (hX : ∀ i, Tame (X i)) (B : Vec Ideal S1408x2048 .bf16)
    (Y : Vec Ideal S512x1408 .bf16) (i : Fin 512) (n : Fin 1408) :
    outOf (nat32 a) (nat32 b) X B Y (ix2 i n) = if a ≤ i.val ∧ i.val < b then (∑ k : Fin 2048, X (ix2 i k) * B (ix2 n k) : EReal) else Y (ix2 i n) := by
  unfold outOf
  by_cases hc : k0_cond2 (nat32 a) (nat32 b) = 1#1
  · rw [if_pos hc]
    refine (pay4_apply (qnt X) B (nat32 a) (nat32 b) Y (ix2 i n)).trans ?_
    have h := i.isLt
    refine (mask_select i.val a b (by omega) ha hb _ _).trans ?_
    refine if_congr Iff.rfl (Finset.sum_congr rfl fun k _ => ?_) rfl
    exact congrArg (fun p : EReal => p * _) (qnt_id X hX _)
  · rw [if_neg hc, if_neg]
    rintro ⟨h1, h2⟩
    exact hc ((cond2_iff ha hb).2 (by omega))

/-! ### The items in order -/

section Rows

variable (m : (ℓ : Loc nD τ sig) → Buf (Elt Ideal) ℓ) (hS : S (sizes (gOf m 0)) 16 = 49152) (c : Dev nD)

abbrev xOfK : Vec Ideal S49152x2048 .bf16 := m ((c.tc : Thread nD τ).loc main_arg0)
abbrev wOfK : Vec Ideal S16x1408x2048 .fp8e4m3 := m ((c.tc : Thread nD τ).loc main_arg2)
abbrev sOfK : Vec Ideal S16x11x16 .f32 := m ((c.tc : Thread nD τ).loc main_arg3)

theorem row_lt (t : ℕ) (i : Fin 512) (hS : S (sizes (gOf m 0)) 16 = 49152) : 512 * tile (szs m) t + i.val < 49152 := by
  have h1 : tile (szs m) t < 96 := tile_lt hS t
  have h2 := i.isLt
  omega

theorem xAt_row (t : Fin 111) (i : Fin 512) (k : Fin 2048) :
    xAt (adm m hS) (Vof m) c t (ix2 i k) = xOfK m c (ix2 (⟨512 * tile (szs m) t + i.val, row_lt m t i hS⟩ : Fin 49152) k) := by
  refine Eq.trans ?_ (congrFun (V_arg0 m c) _)
  refine congrArg (Vof m c main_arg0) (funext fun b => Fin.ext ?_)
  have hb := block1 m hS (grid0.coords t)
  rw [coord_val] at hb
  fin_cases b
  · show cc0_transform_1 (F := Ideal) k0_off1_inb numel1_S1 (tabs m) (grid0.coords t) 0 * 512 + 1 * i.val = 512 * tile (szs m) t + i.val
    rw [hb]
    show tile (szs m) t * 512 + 1 * i.val = _
    omega
  · show cc0_transform_1 (F := Ideal) k0_off1_inb numel1_S1 (tabs m) (grid0.coords t) 1 * 2048 + 1 * k.val = k.val
    rw [hb]
    show 0 * 2048 + 1 * k.val = _
    omega

theorem ex_lt (t : ℕ) (hS : S (sizes (gOf m 0)) 16 = 49152) : ex (szs m) t < 16 := (ex_spec hS t).1

theorem wAt_of (a : (p : Fin 1) → (pcfgs (F := Ideal) p).Adm) (V : (c : Dev nD) → (b : Ref sig .tc) → Buf (Elt Ideal) ((c.tc : Thread nD τ).loc b)) (t : Fin 111)
    (e : ℕ) (he : e < 16) (hb : cc0_transform_2 (F := Ideal) k0_off1_inb numel1_S1 (a 0).1 (grid0.coords t) = ![e, 0, 0]) (n : Fin 1408) (k : Fin 2048) :
    wAt a V c t (ix3 0 n k) = V c main_arg2 (ix3 (⟨e, he⟩ : Fin 16) n k) := by
  refine congrArg (V c main_arg2) (funext fun b => Fin.ext ?_)
  fin_cases b
  · show cc0_transform_2 (F := Ideal) k0_off1_inb numel1_S1 (a 0).1 (grid0.coords t) 0 * 1 + 1 * 0 = e
    rw [hb]
    show e * 1 + 1 * 0 = _
    omega
  · show cc0_transform_2 (F := Ideal) k0_off1_inb numel1_S1 (a 0).1 (grid0.coords t) 1 * 1408 + 1 * n.val = n.val
    rw [hb]
    show 0 * 1408 + 1 * n.val = _
    omega
  · show cc0_transform_2 (F := Ideal) k0_off1_inb numel1_S1 (a 0).1 (grid0.coords t) 2 * 2048 + 1 * k.val = k.val
    rw [hb]
    show 0 * 2048 + 1 * k.val = _
    omega

theorem wAt_row (t : Fin 111) (n : Fin 1408) (k : Fin 2048) :
    wAt (adm m hS) (Vof m) c t (ix3 0 n k) = wOfK m c (ix3 (⟨ex (szs m) t, ex_lt m t hS⟩ : Fin 16) n k) := by
  have hb := block2 m hS (grid0.coords t)
  rw [coord_val] at hb
  exact (wAt_of c (adm m hS) (Vof m) t _ (ex_lt m t hS) hb n k).trans (congrFun (V_arg2 m c) _)

theorem wbAt_row (t : Fin 111) (n : Fin 1408) (k : Fin 2048) :
    wbAt (Vof m) (sched m hS) c t (ix2 n k) = (wOfK m c (ix3 (⟨ex (szs m) t, ex_lt m t hS⟩ : Fin 16) n k)
      * sOfK m c (ix3 (⟨ex (szs m) t, ex_lt m t hS⟩ : Fin 16) (blk128 (m := 11) rfl n) (blk128 (m := 16) rfl k)) : EReal) := by
  have hl := ex_lt m t hS
  have he : (Scalar.indexCast (word (adm m hS) 1 t) : BitVec 32).toNat = ex (szs m) t := by
    rw [word_expert]
    exact nat32_toNat (by omega)
  refine (congrFun (deq_congr _ he ((sched m hS).expert t) hl _) _).trans ?_
  refine (deq_apply _ hl _ n k).trans ?_
  refine congrArg₂ (fun p q : EReal => p * q) (wAt_row m hS c t n k) ?_
  exact congrFun (V_arg3 m c) _

/-- The value of an entry of the result: its row's expert's product. -/
def Good (R : ℕ) (n : Fin 1408) (z : EReal) : Prop :=
  ∀ (hR : R < 49152) (e : Fin 16), S (sizes (gOf m 0)) e ≤ R → R < S (sizes (gOf m 0)) (e + 1) → z = rowVal (xOfK m c) (wOfK m c) (sOfK m c) e ⟨R, hR⟩ n

theorem good_of_eq {R : ℕ} {n : Fin 1408} {z z' : EReal} (h : z = z') (g : Good m c R n z') : Good m c R n z := fun hR e h1 h2 => h.trans (g hR e h1 h2)

theorem lo_lt (t : ℕ) (hS : S (sizes (gOf m 0)) 16 = 49152) : lo (szs m) t < 2 ^ 31 := by
  have h : S (szs m) (ex (szs m) t) ≤ 49152 := S_le hS _ (ex_lt m t hS).le
  unfold lo
  omega
theorem hi_lt (t : ℕ) : hi (szs m) t < 2 ^ 31 := by
  unfold hi
  split <;> omega

theorem out_eq (hx : ∀ i, Tame (xOfK m c i)) (t : Fin 111) (Y : Vec Ideal S512x1408 .bf16) (i : Fin 512) (n : Fin 1408) :
    outOf (word (adm m hS) 3 t) (word (adm m hS) 4 t) (xAt (adm m hS) (Vof m) c t) (wbAt (Vof m) (sched m hS) c t) Y (ix2 i n)
      = if lo (szs m) t ≤ i.val ∧ i.val < hi (szs m) t then
          rowVal (xOfK m c) (wOfK m c) (sOfK m c) ⟨ex (szs m) t, ex_lt m t hS⟩ ⟨512 * tile (szs m) t + i.val, row_lt m t i hS⟩ n
        else Y (ix2 i n) := by
  have hX : ∀ y : S512x2048.Idx, Tame (xAt (adm m hS) (Vof m) c t y) := fun y => by
    have hy : y = ix2 (y 0) (y 1) := by funext b; fin_cases b <;> rfl
    have e := (congrArg (xAt (adm m hS) (Vof m) c t) hy).trans (xAt_row m hS c t (y 0) (y 1))
    exact Eq.mpr (congrArg Tame e) (hx _)
  refine (congrArg₂ (fun p q : BitVec 32 => outOf p q (xAt (adm m hS) (Vof m) c t) (wbAt (Vof m) (sched m hS) c t) Y (ix2 i n)) (word_lo m hS t) (word_hi m hS t)).trans ?_
  refine (outOf_apply (lo_lt m t hS) (hi_lt m t) _ hX _ Y i n).trans ?_
  refine if_congr Iff.rfl (Finset.sum_congr rfl fun k _ => ?_) rfl
  exact congrArg₂ (fun p q : EReal => p * q) (xAt_row m hS c t i k) (wbAt_row m hS c t n k)

/-- An item's rows hold the right values after it. -/
theorem out_good (hx : ∀ i, Tame (xOfK m c i)) (t : Fin 111) (Y : Vec Ideal S512x1408 .bf16) (i : Fin 512) (n : Fin 1408)
    (h1 : lo (szs m) t ≤ i.val) (h2 : i.val < hi (szs m) t) :
    Good m c (512 * tile (szs m) t + i.val) n
      (outOf (word (adm m hS) 3 t) (word (adm m hS) 4 t) (xAt (adm m hS) (Vof m) c t) (wbAt (Vof m) (sched m hS) c t) Y (ix2 i n)) := by
  intro hR e h3 h4
  have h3' : S (szs m) e.val ≤ 512 * tile (szs m) t + i.val := h3
  have h4' : 512 * tile (szs m) t + i.val < S (szs m) (e.val + 1) := h4
  have h5 : S (szs m) (ex (szs m) t) ≤ 512 * tile (szs m) t + i.val := (row_owner hS t.val i.val h1 h2).1
  have h6 : 512 * tile (szs m) t + i.val < S (szs m) (ex (szs m) t + 1) := (row_owner hS t.val i.val h1 h2).2
  refine ((out_eq m hS c hx t Y i n).trans (if_pos ⟨h1, h2⟩)).trans ?_
  have he : (⟨ex (szs m) t, ex_lt m t hS⟩ : Fin 16) = e := by
    refine Fin.ext ?_
    show ex (szs m) t = e.val
    rcases lt_trichotomy (ex (szs m) t) e.val with h | h | h
    · have h7 : S (szs m) (ex (szs m) t + 1) ≤ S (szs m) e.val := pre_mono _ h
      omega
    · exact h
    · have h7 : S (szs m) (e.val + 1) ≤ S (szs m) (ex (szs m) t) := pre_mono _ h
      omega
  rw [he]

/-! ### The write-backs -/

theorem index3 (t : Fin 111) : ((kcfg (adm m hS)).win 3).index t = ![tile (szs m) t, 0] := by
  have hb := block3 m hS (grid0.coords t)
  rw [coord_val] at hb
  exact hb

theorem index3_ne {t u : Fin 111} (h : tile (szs m) t ≠ tile (szs m) u) : ((kcfg (adm m hS)).win 3).index t ≠ ((kcfg (adm m hS)).win 3).index u := fun e => by
  rw [index3 m hS t, index3 m hS u] at e
  exact h (congrFun e 0)

theorem flush_iff (t : Fin 111) : ((kcfg (adm m hS)).win 3).flush t = true ↔ (t.val + 1 = 111 ∨ tile (szs m) (t + 1) ≠ tile (szs m) t) := by
  have e : ((kcfg (adm m hS)).win 3).flush t = (true && (decide (t.val + 1 = 111) || decide (∃ h : t.val + 1 < 111,
      ((kcfg (adm m hS)).win 3).index ⟨t.val + 1, h⟩ ≠ ((kcfg (adm m hS)).win 3).index t))) := rfl
  rw [e, Bool.true_and, Bool.or_eq_true, decide_eq_true_iff, decide_eq_true_iff]
  have ht := t.isLt
  constructor
  · rintro (h | ⟨h, hne⟩)
    · exact .inl h
    · refine .inr fun he => hne ?_
      exact (index3 m hS (⟨t.val + 1, h⟩ : Fin 111)).trans ((congrArg (fun n : ℕ => (![n, 0] : Fin 2 → ℕ)) he).trans (index3 m hS t).symm)
  · rintro (h | h)
    · exact .inl h
    · by_cases hl : t.val + 1 = 111
      · exact .inl hl
      · exact .inr ⟨by omega, index3_ne m hS (t := ⟨t.val + 1, by omega⟩) h⟩

abbrev rd : RDat τ (Elt Ideal) Unit ℕ (UR sig nD τ) ℕ (kcfg (adm m hS)) c := rdat (Vof m) (sched m hS) c

/-- What the output window holds after an item: every row that an item of the tile so far computed. -/
theorem leaves_good (hx : ∀ i, Tame (xOfK m c i)) : ∀ (k : ℕ) (t : Fin 111), t.val = k → ∀ X : Vec Ideal S512x1408 .bf16, (rd m hS c).Leaves 3 t X →
    ∀ v : ℕ, v ≤ t.val → tile (szs m) v = tile (szs m) t → ∀ i : Fin 512, lo (szs m) v ≤ i.val → i.val < hi (szs m) v → ∀ n : Fin 1408,
      Good m c (512 * tile (szs m) t + i.val) n (X (ix2 i n)) := by
  intro k
  induction k with
  | zero =>
    rintro t ht X ⟨Y, hF, hA⟩ v hv htv i h1 h2 n
    have hA' : X = outOf (word (adm m hS) 3 t) (word (adm m hS) 4 t) (xAt (adm m hS) (Vof m) c t) (wbAt (Vof m) (sched m hS) c t) Y := hA
    obtain rfl : v = t.val := by omega
    rw [hA']
    exact out_good m hS c hx t Y i n h1 h2
  | succ k ih =>
    rintro t ht X ⟨Y, hF, hA⟩ v hv htv i h1 h2 n
    have hA' : X = outOf (word (adm m hS) 3 t) (word (adm m hS) 4 t) (xAt (adm m hS) (Vof m) c t) (wbAt (Vof m) (sched m hS) c t) Y := hA
    rw [hA']
    by_cases h : lo (szs m) t ≤ i.val ∧ i.val < hi (szs m) t
    · exact out_good m hS c hx t Y i n h.1 h.2
    · refine good_of_eq m c ((out_eq m hS c hx t Y i n).trans (if_neg h)) ?_
      have hvt : v ≠ t.val := fun e => h (e ▸ ⟨h1, h2⟩)
      have htl := t.isLt
      let u : Fin 111 := ⟨t.val - 1, by omega⟩
      have hu1 : u.val + 1 = t.val := by show t.val - 1 + 1 = t.val; omega
      have m1 : tile (szs m) v ≤ tile (szs m) u := tile_mono hS (by show v ≤ t.val - 1; omega)
      have m2 : tile (szs m) u ≤ tile (szs m) t := tile_mono hS (by omega)
      have hut : tile (szs m) u = tile (szs m) t := by omega
      rcases (RDat.finds_of_pos (rd m hS c) (w := 3) (t := t) rfl (show t.val ≠ 0 by omega) Y).1 hF with hf | hl
      · have h3 := (flush_iff m hS u).1 hf
        rw [hu1] at h3
        rcases h3 with h3 | h3
        · omega
        · exact absurd hut.symm h3
      · have := ih u (by omega) Y hl v (by omega) (by omega) i h1 h2 n
        rwa [hut] at this

/-- What the result holds after the write-backs of the first items. -/
theorem arr_good (hx : ∀ i, Tame (xOfK m c i)) : ∀ (k : ℕ) (hk : k ≤ 111) (A : Vec Ideal S49152x1408 .bf16), (rd m hS c).ArrAt 3 k A →
    ∀ u : Fin 111, u.val < k → ((kcfg (adm m hS)).win 3).flush u = true →
    ∀ v : ℕ, v ≤ u.val → tile (szs m) v = tile (szs m) u → ∀ i : Fin 512, lo (szs m) v ≤ i.val → i.val < hi (szs m) v → ∀ n : Fin 1408,
      Good m c (512 * tile (szs m) u + i.val) n ((((kcfg (adm m hS)).win 3).blk u).view.read (Elt Ideal) A (ix2 i n)) := by
  intro k
  induction k with
  | zero => intro _ _ _ u hu; exact absurd hu (Nat.not_lt_zero _)
  | succ k ih =>
    intro hk A hA u hu hf v hv htv i h1 h2 n
    let t : Fin 111 := ⟨k, hk⟩
    rw [show (rd m hS c).ArrAt 3 (k + 1) = _ from (rd m hS c).ArrAt_succ 3 t] at hA
    by_cases hft : ((kcfg (adm m hS)).win 3).flush t = true
    · rw [if_pos hft] at hA
      obtain ⟨A0, X, hA0, hX, rfl⟩ := hA
      by_cases hut : u = t
      · subst hut
        rw [View.read_write_univ]
        exact leaves_good m hS c hx _ _ rfl X hX v hv htv i h1 h2 n
      · have hlt : u.val < k := by
          have : u.val ≠ k := fun e => hut (Fin.ext e)
          omega
        have hne : tile (szs m) u ≠ tile (szs m) t := by
          have m1 : tile (szs m) u ≤ tile (szs m) (u + 1) := tile_mono hS (by omega)
          have m2 : tile (szs m) (u + 1) ≤ tile (szs m) t := tile_mono hS (by show u.val + 1 ≤ k; omega)
          rcases (flush_iff m hS u).1 hf with h3 | h3
          · omega
          · omega
        have hd := ((kcfg (adm m hS)).win 3).disjoint_blk (index3_ne m hS hne)
        have hr : (((kcfg (adm m hS)).win 3).blk u).view.read (Elt Ideal) ((((kcfg (adm m hS)).win 3).blk t).view.write (Elt Ideal) A0 (((kcfg (adm m hS)).win 3).cut ((kcfg (adm m hS)).grid.coords t) X) Finset.univ)
            = (((kcfg (adm m hS)).win 3).blk u).view.read (Elt Ideal) A0 := by
          funext j
          rw [View.read_apply, View.read_apply, View.write_of_not_mem]
          rw [View.setOn_univ]
          exact Finset.disjoint_left.1 hd (Finset.mem_map.2 ⟨j, Finset.mem_univ _, rfl⟩)
        rw [hr]
        exact ih (by omega) A0 hA0 u hlt hf v hv htv i h1 h2 n
    · rw [if_neg hft] at hA
      have hlt : u.val < k := by
        have : u.val ≠ k := fun e => hft ((Fin.ext e : u = t) ▸ hf)
        omega
      exact ih (by omega) A hA u hlt hf v hv htv i h1 h2 n

/-- The last item of a tile. -/
theorem last_item (j : ℕ) (hj : j < 111) : ∃ u : Fin 111, j ≤ u.val ∧ tile (szs m) j = tile (szs m) u ∧ (u.val + 1 = 111 ∨ tile (szs m) (u + 1) ≠ tile (szs m) u) := by
  have : ∀ d j : ℕ, j + d = 110 → ∃ u : Fin 111, j ≤ u.val ∧ tile (szs m) j = tile (szs m) u ∧ (u.val + 1 = 111 ∨ tile (szs m) (u + 1) ≠ tile (szs m) u) := by
    intro d
    induction d with
    | zero => intro j h; exact ⟨⟨j, by omega⟩, le_rfl, rfl, .inl (by show j + 1 = 111; omega)⟩
    | succ d ih =>
      intro j h
      by_cases ht : tile (szs m) (j + 1) = tile (szs m) j
      · obtain ⟨u, h1, h2, h3⟩ := ih (j + 1) (by omega)
        exact ⟨u, by omega, ht.symm.trans h2, h3⟩
      · exact ⟨⟨j, by omega⟩, le_rfl, rfl, .inr ht⟩
  exact this (110 - j) j (by omega)

/-- Every row of the result holds its expert's product. -/
theorem final_good (hx : ∀ i, Tame (xOfK m c i)) (A : Vec Ideal S49152x1408 .bf16) (hA : (rd m hS c).ArrAt 3 111 A) (R : Fin 49152) (n : Fin 1408) :
    Good m c R.val n (A (ix2 R n)) := by
  obtain ⟨j, hj, h1, h2, h3⟩ := cover hS R.val R.isLt
  obtain ⟨u, h4, h5, h6⟩ := last_item m j hj
  have hm : R.val % 512 < 512 := Nat.mod_lt _ (by decide)
  have g := arr_good m hS c hx 111 le_rfl A hA u u.isLt ((flush_iff m hS u).2 h6) j h4 h5 ⟨R.val % 512, hm⟩ h2 h3 n
  have h1' : tile (szs m) j = R.val / 512 := h1
  have hR : 512 * tile (szs m) u + R.val % 512 = R.val := by
    rw [← h5, h1']; omega
  change Good m c (512 * tile (szs m) u + R.val % 512) n _ at g
  rw [hR] at g
  refine good_of_eq m c (Eq.symm ?_) g
  refine congrArg A (funext fun b => Fin.ext ?_)
  have hb := block3 m hS (grid0.coords u)
  rw [coord_val] at hb
  fin_cases b
  · show cc0_transform_3 (F := Ideal) k0_off1_inb numel1_S1 (tabs m) (grid0.coords u) 0 * 512 + 1 * (R.val % 512) = R.val
    rw [hb]
    show tile (szs m) u * 512 + 1 * (R.val % 512) = R.val
    omega
  · show cc0_transform_3 (F := Ideal) k0_off1_inb numel1_S1 (tabs m) (grid0.coords u) 1 * 1408 + 1 * n.val = n.val
    rw [hb]
    show 0 * 1408 + 1 * n.val = n.val
    omega

end Rows

end Cert.KernelIdeal.Hand

end
-- ==== Proof.RefPure.lean ====
/-
  The reference's quantiser leaves an array of reals as it is.
-/
module

public import proofs.«01_k».proof.Proof.Quant
public import proofs.«01_k».proof.Proof.Gen.ReferenceIdeal.Skeleton
public import Idealize.ShloMosaic.Lib.Pointwise

@[expose] public section

set_option maxRecDepth 16384

noncomputable section

namespace Cert.ReferenceIdeal.Hand

open Idealize.ShloMosaic Cert.ReferenceIdeal Cert.ReferenceIdeal.Facts Cert.ReferenceIdeal.Gen Cert.Hand

/-- The exponents of the blocks from their largest magnitudes. -/
def expR (m : FVec Ideal S49152x16x1 .f32) : FVec Ideal S49152x16x1 .f32 :=
  select (cmpf .oeq m (broadcast S49152x16x1 (Scalar.ofBits .f32 0x00000000#32))) (broadcast S49152x16x1 (Scalar.ofBits .f32 0x00000000#32))
    (addf (floor (divf (log (mulf m (broadcast S49152x16x1 (Scalar.ofBits .f32 0x3B124925#32)))) (log (broadcast S49152x16x1 (Scalar.ofBits .f32 0x40000000#32)))))
      (broadcast S49152x16x1 (Scalar.ofBits .f32 0x3F800000#32)))

/-- The blocks scaled down, clipped and scaled up. -/
def clipR (x : FVec Ideal S49152x16x128 .f32) (e : FVec Ideal S49152x16x1 .f32) : FVec Ideal S49152x16x128 .bf16 :=
  mulf (extf .bf16 (truncf .fp8e4m3 (minimumf (broadcast S49152x16x128 (Scalar.ofBits .f32 0x43E00000#32)) (maximumf (broadcast S49152x16x128 (Scalar.ofBits .f32 0xC3E00000#32))
      (mulf x (broadcastTo S49152x16x128 (exp2 (subf (broadcast S49152x16x1 (Scalar.ofBits .f32 0x00000000#32)) e)) broadcasts_S49152x16x1_S49152x16x128)))) bitsLt_fp8e4m3_f32) bitsLt_fp8e4m3_bf16)
    (broadcastTo S49152x16x128 (truncf .bf16 (exp2 e) bitsLt_bf16_f32) broadcasts_S49152x16x1_S49152x16x128)

abbrev blkR (v : Vec Ideal S49152x2048 .bf16) : FVec Ideal S49152x16x128 .f32 := shapeCast S49152x16x128 (extf (F := Ideal) .f32 v bitsLt_bf16_f32) shapeCasts_S49152x2048_S49152x16x128
abbrev maxR (v : Vec Ideal S49152x2048 .bf16) : FVec Ideal S49152x16 .f32 := multiReduction .maximumf [2] S49152x16 (absf (blkR v)) 0xFF800000#32 reduces_S49152x16x128_S49152x16 (.inl rfl) rfl

theorem pay2_eq (v : Vec Ideal S49152x2048 .bf16) :
    k0_pay2 v = shapeCast S49152x2048 (clipR (blkR v) (expR (shapeCast S49152x16x1 (maxR v) shapeCasts_S49152x16_S49152x16x1))) shapeCasts_S49152x16x128_S49152x2048 := rfl

theorem clipR_apply (x : FVec Ideal S49152x16x128 .f32) (m : FVec Ideal S49152x16x1 .f32) (b : S49152x16x128.Idx) (d : S49152x16x1.Idx)
    (h3 : ∀ x : FVec Ideal S49152x16x1 .f32, broadcastTo S49152x16x128 x broadcasts_S49152x16x1_S49152x16x128 b = x d) :
    clipR x (expR m) b = quantL (x b) (m d) := by
  have e1 := h3 (exp2 (subf (broadcast S49152x16x1 (Scalar.ofBits .f32 0x00000000#32)) (expR m)))
  have e2 := h3 (exp2 (expR m))
  refine (congrArg₂ (fun p q : EReal => min (Ideal.ofBits .f32 0x43E00000#32) (max (Ideal.ofBits .f32 0xC3E00000#32) (x b * p)) * q) e1 e2).trans ?_
  rfl

/-- An array of reals is quantised to itself. -/
theorem pay2_id (v : Vec Ideal S49152x2048 .bf16) (hv : ∀ i, Tame (v i)) (y : S49152x2048.Idx) : k0_pay2 v y = v y := by
  have y0 : (y 0).val < 49152 := (y 0).isLt
  have y1 : (y 1).val < 2048 := (y 1).isLt
  let b : S49152x16x128.Idx := ix3 (⟨(y 0).val, y0⟩ : Fin 49152) (⟨(y 1).val / 128, by omega⟩ : Fin 16) (⟨(y 1).val % 128, by omega⟩ : Fin 128)
  let d : S49152x16x1.Idx := ix3 (⟨(y 0).val, y0⟩ : Fin 49152) (⟨(y 1).val / 128, by omega⟩ : Fin 16) (0 : Fin 1)
  let r2 : S49152x16.Idx := ix2 (⟨(y 0).val, y0⟩ : Fin 49152) (⟨(y 1).val / 128, by omega⟩ : Fin 16)
  have hyb : (S49152x2048.rowMajor y).val = (S49152x16x128.rowMajor b).val := by
    rw [rowMajor_val2 _ 2048 rfl, rowMajor_val3 _ 2048 128 rfl rfl]
    show (y 0).val * 2048 + (y 1).val = (y 0).val * 2048 + (y 1).val / 128 * 128 + (y 1).val % 128
    omega
  have h2 : shapeCast S49152x16x128 (extf (F := Ideal) .f32 v bitsLt_bf16_f32) shapeCasts_S49152x2048_S49152x16x128 b = v y :=
    shapeCast_apply (s := S49152x2048) (t := S49152x16x128) (extf (F := Ideal) .f32 v bitsLt_bf16_f32) shapeCasts_S49152x2048_S49152x16x128 b y hyb
  have h1 : ∀ x : FVec Ideal S49152x16x128 .bf16, shapeCast S49152x2048 x shapeCasts_S49152x16x128_S49152x2048 y = x b := fun x =>
    shapeCast_apply x _ y b hyb.symm
  have h3 : ∀ x : FVec Ideal S49152x16x1 .f32, broadcastTo S49152x16x128 x broadcasts_S49152x16x1_S49152x16x128 b = x d := fun x =>
    broadcastTo_apply x _ b d (fun a => by fin_cases a <;> rfl)
  have h4 : ∀ x : FVec Ideal S49152x16 .f32, shapeCast S49152x16x1 x shapeCasts_S49152x16_S49152x16x1 d = x r2 := fun x =>
    shapeCast_apply x _ d r2 (by
      rw [rowMajor_val2 _ 16 rfl, rowMajor_val3 _ 16 1 rfl rfl]
      show (y 0).val * 16 + (y 1).val / 128 = (y 0).val * 16 + (y 1).val / 128 * 1 + 0
      omega)
  obtain ⟨M, r, eM, er, hr, hM⟩ := redMax_real (s := S49152x16x128) (t := S49152x16) (axes := [2]) (shapeCast S49152x16x128 (extf .f32 v bitsLt_bf16_f32) shapeCasts_S49152x2048_S49152x16x128)
    (absf (shapeCast S49152x16x128 (extf .f32 v bitsLt_bf16_f32) shapeCasts_S49152x2048_S49152x16x128)) (fun _ => rfl) reduces_S49152x16x128_S49152x16 (.inl rfl) rfl (fun i => hv _)
    r2 b (by funext b; fin_cases b <;> rfl)
  have er' : v y = (r : EReal) := h2.symm.trans er
  rw [er', ← quantL_id r M hr]
  rw [pay2_eq, h1, clipR_apply _ _ b d h3]
  exact congrArg₂ quantL er ((h4 _).trans eM)

end Cert.ReferenceIdeal.Hand

end
-- ==== Proof.RefChain.lean ====
/-
  What the reference computes: sixteen masked products, one per expert, each added by a select over the rows its expert owns.
-/
module

public import proofs.«01_k».proof.Proof.RefPure
public import proofs.«01_k».proof.Proof.Gen.ReferenceIdeal.Frame.RunA
public import Idealize.ShloMosaic.Lib.WholeRead

@[expose] public section

set_option maxRecDepth 16384

noncomputable section

namespace Cert.ReferenceIdeal.Hand

open Idealize.ShloMosaic Idealize.ShloMosaic.TcCoe Cert.ReferenceIdeal Cert.ReferenceIdeal.Facts Cert.ReferenceIdeal.Gen Cert.Hand

variable {F : FTy → Type} [FloatOps F]

/-- An expert's weights times their scales. -/
def rhsR (W : Vec F S1x1408x2048 .fp8e4m3) (Sc : Vec F S1x11x16 .f32) : FVec F S1408x2048 .bf16 :=
  shapeCast S1408x2048 (mulf (shapeCast S11x128x16x128 (extf .bf16 (shapeCast S1408x2048 W shapeCasts_S1x1408x2048_S1408x2048) bitsLt_fp8e4m3_bf16) shapeCasts_S1408x2048_S11x128x16x128)
    (broadcastTo S11x128x16x128 (shapeCast S11x1x16x1 (truncf .bf16 (shapeCast S11x16 Sc shapeCasts_S1x11x16_S11x16) bitsLt_bf16_f32) shapeCasts_S11x16_S11x1x16x1)
      broadcasts_S11x1x16x1_S11x128x16x128)) shapeCasts_S11x128x16x128_S1408x2048

/-- One expert: its product on the rows from `a` to `b`, what was there before on the others. -/
def stepR (lhs : FVec F S49152x2048 .bf16) (io : IVec S49152x1408 32) (a b : BitVec 32) (r : FVec F S1408x2048 .bf16) (acc : FVec F S49152x1408 .f32) : FVec F S49152x1408 .f32 :=
  select (andi (cmpi .sge io (broadcast S49152x1408 a)) (cmpi .slt io (broadcast S49152x1408 b)))
    (matmul dot_S49152x2048_S1408x2048_S49152x1408_1_1_0_0_n_n none lhs r (constant S49152x1408 .f32 0x00000000#32)) acc

theorem pay5_eq (lhs : FVec F S49152x2048 .bf16) (io : IVec S49152x1408 32) (acc : FVec F S49152x1408 .f32) (b sz : BitVec 32)
    (W W' : Vec F S1x1408x2048 .fp8e4m3) (Sc Sc' : Vec F S1x11x16 .f32) :
    k0_pay5 lhs io acc b (k0_pay4 W) Sc sz W' Sc' = stepR lhs io b (Scalar.addi b sz) (rhsR W' Sc') (stepR lhs io 0#32 b (rhsR W Sc) acc) := rfl

theorem pay7_eq (lhs : FVec F S49152x2048 .bf16) (io : IVec S49152x1408 32) (acc : FVec F S49152x1408 .f32) (a b sz : BitVec 32)
    (W W' : Vec F S1x1408x2048 .fp8e4m3) (Sc Sc' : Vec F S1x11x16 .f32) :
    k0_pay7 lhs io a acc b (k0_pay6 W) Sc sz W' Sc' = stepR lhs io b (Scalar.addi b sz) (rhsR W' Sc') (stepR lhs io a b (rhsR W Sc) acc) := rfl

theorem pay10_eq (lhs : FVec F S49152x2048 .bf16) (io : IVec S49152x1408 32) (acc : FVec F S49152x1408 .f32) (a b sz : BitVec 32)
    (W W' : Vec F S1x1408x2048 .fp8e4m3) (Sc Sc' : Vec F S1x11x16 .f32) :
    k0_pay10 lhs io a acc b (k0_pay8 W) (k0_pay9 Sc) sz W' Sc' = stepR lhs io b (Scalar.addi b sz) (rhsR W' Sc') (stepR lhs io a b (rhsR W Sc) acc) := rfl

theorem pay12_eq (lhs : FVec F S49152x2048 .bf16) (io : IVec S49152x1408 32) (acc : FVec F S49152x1408 .f32) (a b sz : BitVec 32)
    (W W' : Vec F S1x1408x2048 .fp8e4m3) (Sc Sc' : Vec F S1x11x16 .f32) :
    k0_pay12 lhs io a acc b (k0_pay11 W Sc) (constant S49152x1408 .f32 0x00000000#32) sz W' Sc'
      = stepR lhs io b (Scalar.addi b sz) (rhsR W' Sc') (stepR lhs io a b (rhsR W Sc) acc) := rfl

theorem pay16_eq (lhs : FVec F S49152x2048 .bf16) (io : IVec S49152x1408 32) (acc : FVec F S49152x1408 .f32) (b' s0 s1 sz sz' : BitVec 32)
    (W W' W'' : Vec F S1x1408x2048 .fp8e4m3) (Sc Sc' Sc'' : Vec F S1x11x16 .f32) :
    k0_pay16 lhs io acc (Scalar.addi (Scalar.addi b' s0) s1) (k0_pay13 lhs W Sc) (k0_pay14 (F := F) io b' s0) (k0_pay15 (F := F) b' s0 s1) sz W' Sc' sz' W'' Sc''
      = stepR lhs io (Scalar.addi (Scalar.addi (Scalar.addi b' s0) s1) sz) (Scalar.addi (Scalar.addi (Scalar.addi (Scalar.addi b' s0) s1) sz) sz') (rhsR W'' Sc'')
        (stepR lhs io (Scalar.addi (Scalar.addi b' s0) s1) (Scalar.addi (Scalar.addi (Scalar.addi b' s0) s1) sz) (rhsR W' Sc')
          (stepR lhs io (Scalar.addi b' s0) (Scalar.addi (Scalar.addi b' s0) s1) (rhsR W Sc) acc)) := rfl

theorem pay17_eq (lhs : FVec F S49152x2048 .bf16) (io : IVec S49152x1408 32) (acc : FVec F S49152x1408 .f32) (a sz sz' : BitVec 32)
    (W W' : Vec F S1x1408x2048 .fp8e4m3) (Sc Sc' : Vec F S1x11x16 .f32) :
    k0_pay17 lhs io a acc sz W Sc sz' W' Sc'
      = stepR lhs io (Scalar.addi a sz) (Scalar.addi (Scalar.addi a sz) sz') (rhsR W' Sc') (stepR lhs io a (Scalar.addi a sz) (rhsR W Sc) acc) := rfl

theorem pay18_eq (lhs : FVec F S49152x2048 .bf16) (io : IVec S49152x1408 32) (acc : FVec F S49152x1408 .f32) (a b sz : BitVec 32)
    (W W' : Vec F S1x1408x2048 .fp8e4m3) (Sc Sc' : Vec F S1x11x16 .f32) :
    k0_pay18 lhs io a acc b W Sc sz W' Sc' = stepR lhs io b (Scalar.addi b sz) (rhsR W' Sc') (stepR lhs io a b (rhsR W Sc) acc) := rfl

theorem pay1_eq (lhs : FVec F S49152x2048 .bf16) (io : IVec S49152x1408 32) (acc : FVec F S49152x1408 .f32) (a b : BitVec 32)
    (W : Vec F S1x1408x2048 .fp8e4m3) (Sc : Vec F S1x11x16 .f32) :
    k0_pay1 lhs io a acc b (k0_pay19 W) Sc = truncf .bf16 (stepR lhs io a b (rhsR W Sc) acc) bitsLt_bf16_f32 := rfl

/-- Where each expert's rows begin, as the running sum of the sizes. -/
def startR (sz : Fin 16 → BitVec 32) : (n : ℕ) → n ≤ 16 → BitVec 32
  | 0, _ => 0#32
  | n + 1, h => Scalar.addi (startR sz n (Nat.le_of_succ_le h)) (sz ⟨n, h⟩)

/-- The accumulator after the first `n` experts. -/
def chainR (lhs : FVec F S49152x2048 .bf16) (sz : Fin 16 → BitVec 32) (W : Fin 16 → Vec F S1x1408x2048 .fp8e4m3) (Sc : Fin 16 → Vec F S1x11x16 .f32) :
    (n : ℕ) → n ≤ 16 → FVec F S49152x1408 .f32
  | 0, _ => k0_pay3
  | n + 1, h => stepR lhs (iota .tc S49152x1408 32 [0] iota_S49152x1408_d0_w32) (startR sz n (Nat.le_of_succ_le h)) (startR sz (n + 1) h) (rhsR (W ⟨n, h⟩) (Sc ⟨n, h⟩))
      (chainR lhs sz W Sc n (Nat.le_of_succ_le h))

variable (c : Dev nD) (arg0 : Memref sig .tc .vmem S49152x2048 .bf16) (harg0 : arg0.IsWhole) (arg1 : Memref sig .tc .smem S16 .i32) (harg1 : arg1.IsWhole)
  (arg2 : Memref sig .tc .vmem S16x1408x2048 .fp8e4m3) (harg2 : arg2.IsWhole) (arg3 : Memref sig .tc .vmem S16x11x16 .f32) (harg3 : arg3.IsWhole)
  (arg4 : Memref sig .tc .vmem S49152x1408 .bf16) (harg4 : arg4.IsWhole)
  (x0 : Vec F S49152x2048 .bf16) (x1 : Vec F S16 .i32) (x2 : Vec F S16x1408x2048 .fp8e4m3) (x3 : Vec F S16x11x16 .f32)

theorem inb1 (n : Fin 16) : ∀ a, (![n.val] : Fin 1 → ℕ) a + S1.size a ≤ S16.size a := fun a => by
  fin_cases a; show n.val + 1 ≤ 16; omega
theorem inb2 (n : Fin 16) : ∀ a, (![n.val, 0, 0] : Fin 3 → ℕ) a + S1x1408x2048.size a ≤ S16x1408x2048.size a := fun a => by
  fin_cases a
  · show n.val + 1 ≤ 16; omega
  · show 0 + 1408 ≤ 1408; omega
  · show 0 + 2048 ≤ 2048; omega
theorem inb3 (n : Fin 16) : ∀ a, (![n.val, 0, 0] : Fin 3 → ℕ) a + S1x11x16.size a ≤ S16x11x16.size a := fun a => by
  fin_cases a
  · show n.val + 1 ≤ 16; omega
  · show 0 + 11 ≤ 11; omega
  · show 0 + 16 ≤ 16; omega

def szL (n : Fin 16) : BitVec 32 :=
  View.readAt (Elt F) arg1.view (Rect.unit (s := S16) ![n.val] S1.size (inb1 n)).toLoadRect (harg1.unread x1) (Shape.Idx.first (s := S1) (numel1_S1.symm ▸ Nat.one_pos))
def wL (n : Fin 16) : Vec F S1x1408x2048 .fp8e4m3 :=
  View.readAt (Elt F) arg2.view (Rect.unit (s := S16x1408x2048) ![n.val, 0, 0] S1x1408x2048.size (inb2 n)).toLoadRect (harg2.unread x2)
def scL (n : Fin 16) : Vec F S1x11x16 .f32 :=
  View.readAt (Elt F) arg3.view (Rect.unit (s := S16x11x16) ![n.val, 0, 0] S1x11x16.size (inb3 n)).toLoadRect (harg3.unread x3)
def xL : Vec F S49152x2048 .bf16 :=
  View.readAt (Elt F) arg0.view (Rect.unit (s := S49152x2048) ![0, 0] S49152x2048.size inb_S49152x2048_S49152x2048_0_0).toLoadRect (harg0.unread x0)

theorem run_eq : (kernelRun0_A c arg0 harg0 arg1 harg1 arg2 harg2 arg3 harg3 arg4 harg4 x0 x1 x2 x3).1
    = [⟨Rect.unit (s := S49152x1408) ![0, 0] ![49152, 1408] inb_S49152x1408_S49152x1408_0_0,
        truncf .bf16 (chainR (k0_pay2 (xL arg0 harg0 x0)) (szL arg1 harg1 x1) (wL arg2 harg2 x2) (scL arg3 harg3 x3) 16 le_rfl) bitsLt_bf16_f32⟩] := by
  unfold kernelRun0_A
  dsimp only
  simp only [kernelRun0_A.sl.r_32, kernelRun0_A.sl.r_31, kernelRun0_A.sl.r_30, kernelRun0_A.sl.r_29, kernelRun0_A.sl.r_28, kernelRun0_A.sl.r_27, kernelRun0_A.sl.r_26, kernelRun0_A.sl.r_25, kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.v338, kernelRun0_A.sl.v318, kernelRun0_A.sl.v298, kernelRun0_A.sl.v278, kernelRun0_A.sl.v258, kernelRun0_A.sl.v238, kernelRun0_A.sl.v218, kernelRun0_A.sl.v198, kernelRun0_A.sl.v178, kernelRun0_A.sl.v158, kernelRun0_A.sl.v138, kernelRun0_A.sl.v118, kernelRun0_A.sl.v98, kernelRun0_A.sl.v78, kernelRun0_A.sl.v58, kernelRun0_A.sl.v38]
  refine congrArg (fun z => [(⟨Rect.unit (s := S49152x1408) ![0, 0] ![49152, 1408] inb_S49152x1408_S49152x1408_0_0, z⟩ : View.Piece (Elt F) S49152x1408 .bf16)]) ?_
  refine (pay1_eq ..).trans (congrArg (fun z => truncf .bf16 z bitsLt_bf16_f32) ?_)
  refine congrArg (stepR _ _ _ _ _) ?_
  refine (pay18_eq ..).trans (congrArg (fun z => stepR _ _ _ _ _ (stepR _ _ _ _ _ z)) ?_)
  refine (pay17_eq ..).trans (congrArg (fun z => stepR _ _ _ _ _ (stepR _ _ _ _ _ z)) ?_)
  refine (pay16_eq ..).trans (congrArg (fun z => stepR _ _ _ _ _ (stepR _ _ _ _ _ (stepR _ _ _ _ _ z))) ?_)
  refine (pay12_eq ..).trans (congrArg (fun z => stepR _ _ _ _ _ (stepR _ _ _ _ _ z)) ?_)
  refine (pay10_eq ..).trans (congrArg (fun z => stepR _ _ _ _ _ (stepR _ _ _ _ _ z)) ?_)
  refine (pay7_eq ..).trans (congrArg (fun z => stepR _ _ _ _ _ (stepR _ _ _ _ _ z)) ?_)
  refine (pay5_eq ..).trans (congrArg (fun z => stepR _ _ _ _ _ (stepR _ _ _ _ _ z)) ?_)
  rfl

end Cert.ReferenceIdeal.Hand

end
-- ==== Proof.RefVal.lean ====
/-
  The reference's result, row by row: the row's expert's product.
-/
module

public import proofs.«01_k».proof.Proof.RefChain
public import proofs.«01_k».proof.Proof.Target
public import proofs.«01_k».proof.Proof.Gen.ReferenceIdeal.Value
public import Idealize.ShloMosaic.Lib.WritesUnit
public import Idealize.ShloMosaic.Lib.MatmulPlain

@[expose] public section

set_option maxRecDepth 16384

noncomputable section

namespace Cert.ReferenceIdeal.Hand

open Idealize.ShloMosaic Idealize.ShloMosaic.TcCoe Cert.ReferenceIdeal Cert.ReferenceIdeal.Facts Cert.ReferenceIdeal.Gen Cert.Hand Idealize.SL.Sem
open Cert.Plan (S pre_succ pre_mono)

section Loads

variable {F : FTy → Type} [FloatOps F]
variable (arg0 : Memref sig .tc .vmem S49152x2048 .bf16) (harg0 : arg0.IsWhole) (arg1 : Memref sig .tc .smem S16 .i32) (harg1 : arg1.IsWhole)
  (arg2 : Memref sig .tc .vmem S16x1408x2048 .fp8e4m3) (harg2 : arg2.IsWhole) (arg3 : Memref sig .tc .vmem S16x11x16 .f32) (harg3 : arg3.IsWhole)
  (x0 : Vec F S49152x2048 .bf16) (x1 : Vec F S16 .i32) (x2 : Vec F S16x1408x2048 .fp8e4m3) (x3 : Vec F S16x11x16 .f32)

theorem xL_apply (y : S49152x2048.Idx) : xL arg0 harg0 x0 y = x0 y := by
  refine (Memref.IsWhole.readAt_unread harg0 x0 (Rect.unit (s := S49152x2048) ![0, 0] S49152x2048.size inb_S49152x2048_S49152x2048_0_0).toLoadRect y).trans (congrArg x0 (funext fun a => Fin.ext ?_))
  fin_cases a
  · show 0 + 1 * (y 0).val = (y 0).val; omega
  · show 0 + 1 * (y 1).val = (y 1).val; omega

theorem szL_apply (n : Fin 16) : szL arg1 harg1 x1 n = x1 (ix1 n) := by
  refine (Memref.IsWhole.readAt_unread harg1 x1 (Rect.unit (s := S16) ![n.val] S1.size (inb1 n)).toLoadRect _).trans (congrArg x1 (funext fun a => Fin.ext ?_))
  fin_cases a
  show n.val + 1 * 0 = n.val; omega

theorem wL_apply (n : Fin 16) (i : Fin 1408) (k : Fin 2048) : wL arg2 harg2 x2 n (ix3 0 i k) = x2 (ix3 n i k) := by
  refine (Memref.IsWhole.readAt_unread harg2 x2 (Rect.unit (s := S16x1408x2048) ![n.val, 0, 0] S1x1408x2048.size (inb2 n)).toLoadRect _).trans (congrArg x2 (funext fun a => Fin.ext ?_))
  fin_cases a
  · show n.val + 1 * 0 = n.val; omega
  · show 0 + 1 * i.val = i.val; omega
  · show 0 + 1 * k.val = k.val; omega

theorem scL_apply (n : Fin 16) (i : Fin 11) (k : Fin 16) : scL arg3 harg3 x3 n (ix3 0 i k) = x3 (ix3 n i k) := by
  refine (Memref.IsWhole.readAt_unread harg3 x3 (Rect.unit (s := S16x11x16) ![n.val, 0, 0] S1x11x16.size (inb3 n)).toLoadRect _).trans (congrArg x3 (funext fun a => Fin.ext ?_))
  fin_cases a
  · show n.val + 1 * 0 = n.val; omega
  · show 0 + 1 * i.val = i.val; omega
  · show 0 + 1 * k.val = k.val; omega

end Loads

theorem rhsR_apply (W : Vec Ideal S1x1408x2048 .fp8e4m3) (Sc : Vec Ideal S1x11x16 .f32) (n : Fin 1408) (k : Fin 2048) :
    rhsR W Sc (ix2 n k) = (W (ix3 0 n k) * Sc (ix3 0 (blk128 (m := 11) rfl n) (blk128 (m := 16) rfl k)) : EReal) := by
  have hn := n.isLt
  have hk := k.isLt
  let b : S11x128x16x128.Idx := ix4 (blk128 (m := 11) rfl n) (⟨n.val % 128, by omega⟩ : Fin 128) (blk128 (m := 16) rfl k) (⟨k.val % 128, by omega⟩ : Fin 128)
  let d : S11x1x16x1.Idx := ix4 (blk128 (m := 11) rfl n) (0 : Fin 1) (blk128 (m := 16) rfl k) (0 : Fin 1)
  have hb : (S1408x2048.rowMajor (ix2 n k)).val = (S11x128x16x128.rowMajor b).val := by
    rw [rowMajor_val2 _ 2048 rfl, rowMajor_val4 _ 262144 2048 128 rfl rfl rfl]
    show n.val * 2048 + k.val = n.val / 128 * 262144 + n.val % 128 * 2048 + k.val / 128 * 128 + k.val % 128
    omega
  have h1 : ∀ x : FVec Ideal S11x128x16x128 .bf16, shapeCast S1408x2048 x shapeCasts_S11x128x16x128_S1408x2048 (ix2 n k) = x b := fun x =>
    shapeCast_apply x _ _ _ hb.symm
  have h2 : ∀ x : FVec Ideal S1408x2048 .bf16, shapeCast S11x128x16x128 x shapeCasts_S1408x2048_S11x128x16x128 b = x (ix2 n k) := fun x =>
    shapeCast_apply x _ _ _ hb
  have h3 : shapeCast S1408x2048 W shapeCasts_S1x1408x2048_S1408x2048 (ix2 n k) = W (ix3 0 n k) :=
    shapeCast_apply W _ _ _ (by
      rw [rowMajor_val2 _ 2048 rfl, rowMajor_val3 _ 2883584 2048 rfl rfl]
      show 0 * 2883584 + n.val * 2048 + k.val = n.val * 2048 + k.val
      omega)
  have h4 : ∀ x : FVec Ideal S11x1x16x1 .bf16, broadcastTo S11x128x16x128 x broadcasts_S11x1x16x1_S11x128x16x128 b = x d := fun x =>
    broadcastTo_apply x _ b d (fun a => by fin_cases a <;> rfl)
  have h5 : ∀ x : FVec Ideal S11x16 .bf16, shapeCast S11x1x16x1 x shapeCasts_S11x16_S11x1x16x1 d = x (ix2 (blk128 (m := 11) rfl n) (blk128 (m := 16) rfl k)) := fun x =>
    shapeCast_apply x _ _ _ (by
      rw [rowMajor_val2 _ 16 rfl, rowMajor_val4 _ 16 16 1 rfl rfl rfl]
      show n.val / 128 * 16 + k.val / 128 = n.val / 128 * 16 + 0 * 16 + k.val / 128 * 1 + 0
      omega)
  have h6 : shapeCast S11x16 Sc shapeCasts_S1x11x16_S11x16 (ix2 (blk128 (m := 11) rfl n) (blk128 (m := 16) rfl k)) = Sc (ix3 0 (blk128 (m := 11) rfl n) (blk128 (m := 16) rfl k)) :=
    shapeCast_apply Sc _ _ _ (by
      rw [rowMajor_val2 _ 16 rfl, rowMajor_val3 _ 176 16 rfl rfl]
      show 0 * 176 + n.val / 128 * 16 + k.val / 128 = n.val / 128 * 16 + k.val / 128
      omega)
  refine (h1 _).trans ?_
  exact congrArg₂ (fun p q : EReal => p * q) ((h2 _).trans h3) ((h4 _).trans ((h5 _).trans h6))

theorem stepR_apply (lhs : FVec Ideal S49152x2048 .bf16) (io : IVec S49152x1408 32) (a b : BitVec 32) (r : FVec Ideal S1408x2048 .bf16) (acc : FVec Ideal S49152x1408 .f32)
    (i : Fin 49152) (n : Fin 1408) :
    stepR lhs io a b r acc (ix2 i n) = Scalar.select (IntOp.andi (IntOp.cmpi .sge (io (ix2 i n)) a) (IntOp.cmpi .slt (io (ix2 i n)) b))
      (∑ k : Fin 2048, lhs (ix2 i k) * r (ix2 n k) : EReal) (acc (ix2 i n)) := by
  have h : matmul dot_S49152x2048_S1408x2048_S49152x1408_1_1_0_0_n_n none lhs r (constant S49152x1408 .f32 0x00000000#32) (ix2 i n)
      = (∑ k : Fin 2048, lhs (ix2 i k) * r (ix2 n k) : EReal) := by
    refine (Ideal.matmul_transposedRhs_apply (M := 49152) (K := 2048) (N := 1408) none lhs r (constant S49152x1408 .f32 0x00000000#32) i n).trans ?_
    have h0 : (constant (F := Ideal) S49152x1408 .f32 0x00000000#32 (ix2 i n) : EReal) = 0 := Ideal.ofBits_zero_f32
    exact (congrArg (fun z : EReal => z + _) h0).trans (zero_add _)
  exact congrArg (fun z : EReal => Scalar.select _ z _) h

/-- The start of an expert's rows as a word. -/
theorem startR_eq (sz : Fin 16 → BitVec 32) (G : ℕ → ℕ) (h : ∀ n : Fin 16, sz n = BitVec.ofNat 32 (G n)) : ∀ (n : ℕ) (hn : n ≤ 16), startR sz n hn = BitVec.ofNat 32 (S G n)
  | 0, _ => rfl
  | n + 1, hn => by
    show startR sz n _ + sz ⟨n, hn⟩ = _
    rw [startR_eq sz G h n, h, show S G (n + 1) = S G n + G n from pre_succ _ _, BitVec.ofNat_add]

theorem iota_row (i : Fin 49152) (n : Fin 1408) : iota .tc S49152x1408 32 [0] iota_S49152x1408_d0_w32 (ix2 i n) = BitVec.ofNat 32 i.val := by
  refine (iota_apply ..).trans (congrArg (BitVec.ofNat 32) ?_)
  show 0 * 49152 + i.val = i.val
  omega

/-- After the first `n` experts a row holds its own expert's product once that expert is among them. -/
theorem chainR_row (lhs : FVec Ideal S49152x2048 .bf16) (sz : Fin 16 → BitVec 32) (W : Fin 16 → Vec Ideal S1x1408x2048 .fp8e4m3) (Sc : Fin 16 → Vec Ideal S1x11x16 .f32)
    (G : ℕ → ℕ) (hG : ∀ n : Fin 16, sz n = BitVec.ofNat 32 (G n)) (hS : S G 16 = 49152) (e : Fin 16) (i : Fin 49152) (n : Fin 1408)
    (h1 : S G e ≤ i) (h2 : i < S G (e + 1)) : ∀ (k : ℕ) (hk : k ≤ 16), e < k → chainR lhs sz W Sc k hk (ix2 i n) = (∑ k : Fin 2048, lhs (ix2 i k) * rhsR (W e) (Sc e) (ix2 n k) : EReal)
  | 0, _, h => absurd h (Nat.not_lt_zero _)
  | k + 1, hk, h => by
    have b1 : S G k ≤ 49152 := Cert.Plan.S_le hS k (by omega)
    have b2 : S G (k + 1) ≤ 49152 := Cert.Plan.S_le hS (k + 1) hk
    have b3 := i.isLt
    refine (stepR_apply lhs _ _ _ _ _ i n).trans ?_
    rw [startR_eq sz G hG, startR_eq sz G hG, iota_row, mask_select _ _ _ (by omega) (by omega) (by omega)]
    by_cases hek : e.val = k
    · have he : e = ⟨k, hk⟩ := Fin.ext hek
      subst he
      exact if_pos ⟨h1, h2⟩
    · refine (if_neg ?_).trans (chainR_row lhs sz W Sc G hG hS e i n h1 h2 k (Nat.le_of_succ_le hk) (by omega))
      have h5 : S G (e.val + 1) ≤ S G k := pre_mono G (show e.val + 1 ≤ k by omega)
      rintro ⟨h3, h4⟩
      omega

section Final

variable (m : (ℓ : Loc nD τ sig) → Buf (Elt Ideal) ℓ) (c : Dev nD)

abbrev xOfR : Vec Ideal S49152x2048 .bf16 := m ((c.tc : Thread nD τ).loc main_arg0)
abbrev gOfR : Vec Ideal S16 .i32 := m ((c.tc : Thread nD τ).loc main_arg1)
abbrev wOfR : Vec Ideal S16x1408x2048 .fp8e4m3 := m ((c.tc : Thread nD τ).loc main_arg2)
abbrev sOfR : Vec Ideal S16x11x16 .f32 := m ((c.tc : Thread nD τ).loc main_arg3)

theorem iblk0 (t : Fin cfg0.N) (y : S49152x2048.Idx) : (iblk m c 0 t : Vec Ideal S49152x2048 .bf16) y = xOfR m c y := by
  refine Eq.trans ?_ (congrFun (V_main_arg0 m c) y)
  refine congrArg (V m c main_arg0) (funext fun b => Fin.ext ?_)
  fin_cases b
  · show 0 * 49152 + 1 * (y 0).val = (y 0).val; omega
  · show 0 * 2048 + 1 * (y 1).val = (y 1).val; omega
theorem iblk1 (t : Fin cfg0.N) (y : S16.Idx) : (iblk m c 1 t : Vec Ideal S16 .i32) y = gOfR m c y := by
  refine Eq.trans ?_ (congrFun (V_main_arg1 m c) y)
  refine congrArg (V m c main_arg1) (funext fun b => Fin.ext ?_)
  fin_cases b
  show 0 * 16 + 1 * (y 0).val = (y 0).val; omega
theorem iblk2 (t : Fin cfg0.N) (y : S16x1408x2048.Idx) : (iblk m c 2 t : Vec Ideal S16x1408x2048 .fp8e4m3) y = wOfR m c y := by
  refine Eq.trans ?_ (congrFun (V_main_arg2 m c) y)
  refine congrArg (V m c main_arg2) (funext fun b => Fin.ext ?_)
  fin_cases b
  · show 0 * 16 + 1 * (y 0).val = (y 0).val; omega
  · show 0 * 1408 + 1 * (y 1).val = (y 1).val; omega
  · show 0 * 2048 + 1 * (y 2).val = (y 2).val; omega
theorem iblk3 (t : Fin cfg0.N) (y : S16x11x16.Idx) : (iblk m c 3 t : Vec Ideal S16x11x16 .f32) y = sOfR m c y := by
  refine Eq.trans ?_ (congrFun (V_main_arg3 m c) y)
  refine congrArg (V m c main_arg3) (funext fun b => Fin.ext ?_)
  fin_cases b
  · show 0 * 16 + 1 * (y 0).val = (y 0).val; omega
  · show 0 * 11 + 1 * (y 1).val = (y 1).val; omega
  · show 0 * 16 + 1 * (y 2).val = (y 2).val; omega

/-- What the body leaves in its result at a row, by the expert that owns the row. -/
theorem out_row (arg0 : Memref sig .tc .vmem S49152x2048 .bf16) (harg0 : arg0.IsWhole) (arg1 : Memref sig .tc .smem S16 .i32) (harg1 : arg1.IsWhole)
    (arg2 : Memref sig .tc .vmem S16x1408x2048 .fp8e4m3) (harg2 : arg2.IsWhole) (arg3 : Memref sig .tc .vmem S16x11x16 .f32) (harg3 : arg3.IsWhole)
    (arg4 : Memref sig .tc .vmem S49152x1408 .bf16) (harg4 : arg4.IsWhole)
    (x0 : Vec Ideal S49152x2048 .bf16) (x1 : Vec Ideal S16 .i32) (x2 : Vec Ideal S16x1408x2048 .fp8e4m3) (x3 : Vec Ideal S16x11x16 .f32)
    (hx : ∀ i, Tame (x0 i)) (hS : S (sizes x1) 16 = 49152) (e : Fin 16) (i : Fin 49152) (n : Fin 1408) (h1 : S (sizes x1) e ≤ i) (h2 : i < S (sizes x1) (e + 1)) :
    out0_A_4 c arg0 harg0 arg1 harg1 arg2 harg2 arg3 harg3 arg4 harg4 x0 x1 x2 x3 (ix2 i n) = rowVal x0 x2 x3 e i n := by
  unfold out0_A_4
  rw [run_eq]
  refine (View.read_writes_cons_unit_of_mem VO0_4 VO0_4.junk _ _ [] (ix2 i n) (ix2 i n) (off' := ![0, 0]) rfl (fun a => ?_)).trans ?_
  · fin_cases a
    · show i.val = 0 + i.val; omega
    · show n.val = 0 + n.val; omega
  have hx' : ∀ y, xL arg0 harg0 x0 y = x0 y := xL_apply arg0 harg0 x0
  refine (chainR_row _ _ _ _ (sizes x1) (fun n => (szL_apply arg1 harg1 x1 n).trans (sizes_at x1 n)) hS e i n h1 h2 16 le_rfl e.isLt).trans ?_
  refine Finset.sum_congr rfl fun k _ => ?_
  rw [rhsR_apply, wL_apply, scL_apply, pay2_id _ (fun y => by rw [hx']; exact hx y), hx']

/-- The reference's result at a row, by the expert that owns the row. -/
theorem ref_row (hx : ∀ i, Tame (xOfR m c i)) (hS : S (sizes (gOfR m c)) 16 = 49152) (e : Fin 16) (i : Fin 49152) (n : Fin 1408)
    (h1 : S (sizes (gOfR m c)) e ≤ i) (h2 : i < S (sizes (gOfR m c)) (e + 1)) :
    ((dats m 0 c).arrAt 4 cfg0.N : Vec Ideal S49152x1408 .bf16) (ix2 i n) = rowVal (xOfR m c) (wOfR m c) (sOfR m c) e i n := by
  let t : Fin cfg0.N := ⟨0, by decide⟩
  have hb := congrFun ((Value.blocks4 m c t (by decide)).trans (Value.flushed4_A m c t)) (ix2 i n)
  generalize (dats m 0 c).arrAt 4 cfg0.N = A at hb ⊢
  refine Eq.trans ?_ (hb.trans ?_)
  · refine congrArg A (funext fun b => Fin.ext ?_)
    fin_cases b
    · show i.val = 0 * 49152 + 1 * i.val; omega
    · show n.val = 0 * 1408 + 1 * n.val; omega
  · have e0 : (iblk m c 0 t : Vec Ideal S49152x2048 .bf16) = xOfR m c := funext (iblk0 m c t)
    have e1 : (iblk m c 1 t : Vec Ideal S16 .i32) = gOfR m c := funext (iblk1 m c t)
    have e2 : (iblk m c 2 t : Vec Ideal S16x1408x2048 .fp8e4m3) = wOfR m c := funext (iblk2 m c t)
    have e3 : (iblk m c 3 t : Vec Ideal S16x11x16 .f32) = sOfR m c := funext (iblk3 m c t)
    rw [e0, e1, e2, e3]
    exact out_row c (ms0_0 t) (hs0_0 t) (ms0_1 t) (hs0_1 t) (ms0_2 t) (hs0_2 t) (ms0_3 t) (hs0_3 t) (ms0_4 t) (hs0_4 t) _ _ _ _ hx hS e i n h1 h2

end Final

end Cert.ReferenceIdeal.Hand

end
-- ==== Proof.Same.lean ====
/-
  The two programs end with the same result: both leave in each row its expert's product.
-/
module

public import proofs.«01_k».proof.Proof.Value
public import proofs.«01_k».proof.Proof.RefVal

@[expose] public section

set_option maxRecDepth 16384

noncomputable section

namespace Cert.Hand

open Idealize.ShloMosaic Idealize.ShloMosaic.TcCoe Idealize.SL.Sem Cert.Plan

/-- Two arrays of which each row holds its expert's product are equal. -/
theorem same_rows (G : ℕ → ℕ) (hS : S G 16 = 49152) (x : Vec Ideal ⟨2, ![49152, 2048]⟩ .bf16) (w : Vec Ideal ⟨3, ![16, 1408, 2048]⟩ .fp8e4m3) (s : Vec Ideal ⟨3, ![16, 11, 16]⟩ .f32)
    (A B : Vec Ideal ⟨2, ![49152, 1408]⟩ .bf16)
    (hA : ∀ (e : Fin 16) (R : Fin 49152) (n : Fin 1408), S G e ≤ R.val → R.val < S G (e + 1) → A (ix2 R n) = rowVal x w s e R n)
    (hB : ∀ (e : Fin 16) (R : Fin 49152) (n : Fin 1408), S G e ≤ R.val → R.val < S G (e + 1) → B (ix2 R n) = rowVal x w s e R n) : A = B := by
  funext y
  have hy : y = ix2 (y 0) (y 1) := by funext b; fin_cases b <;> rfl
  obtain ⟨e, he, h1, h2⟩ := owner hS (y 0).val (y 0).isLt
  have h := (hA ⟨e, he⟩ (y 0) (y 1) h1 h2).trans (hB ⟨e, he⟩ (y 0) (y 1) h1 h2).symm
  exact (congrArg A hy).trans (h.trans (congrArg B hy.symm))

/-- The result of the kernel's run is the reference's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hS : S (sizes (Cert.KernelIdeal.Hand.gOf m 0)) 16 = 49152) (hx : ∀ i, Tame (Cert.KernelIdeal.Hand.xOfK m 0 i))
    (e0 : Cert.ReferenceIdeal.Hand.xOfR m' 0 = Cert.KernelIdeal.Hand.xOfK m 0) (e1 : Cert.ReferenceIdeal.Hand.gOfR m' 0 = Cert.KernelIdeal.Hand.gOf m 0)
    (e2 : Cert.ReferenceIdeal.Hand.wOfR m' 0 = Cert.KernelIdeal.Hand.wOfK m 0) (e3 : Cert.ReferenceIdeal.Hand.sOfR m' 0 = Cert.KernelIdeal.Hand.sOfK m 0)
    (A : Vec Ideal ⟨2, ![49152, 1408]⟩ .bf16) (hA : (Cert.KernelIdeal.Hand.rd m hS 0).ArrAt 3 111 A) :
    A = ((Cert.ReferenceIdeal.Gen.dats m' 0 0).arrAt 4 Cert.ReferenceIdeal.cfg0.N : Vec Ideal ⟨2, ![49152, 1408]⟩ .bf16) := by
  refine same_rows (sizes (Cert.KernelIdeal.Hand.gOf m 0)) hS (Cert.KernelIdeal.Hand.xOfK m 0) (Cert.KernelIdeal.Hand.wOfK m 0) (Cert.KernelIdeal.Hand.sOfK m 0) _ _
    (fun e R n h1 h2 => Cert.KernelIdeal.Hand.final_good m hS 0 hx A hA R n R.isLt e h1 h2) (fun e R n h1 h2 => ?_)
  have h := Cert.ReferenceIdeal.Hand.ref_row m' 0 (by rw [e0]; exact hx) (by rw [e1]; exact hS) e R n (by rw [e1]; exact h1) (by rw [e1]; exact h2)
  rw [e0, e2, e3] at h
  exact h

end Cert.Hand
-- ==== Proof.lean ====
/-
  The kernel and the reference: both run to their end and leave their arguments as they were, and at exact arithmetic
  they end with the same result whenever the activations are finite and the group sizes sum to the number of rows.
-/
module

public import proofs.«01_k».proof.Defs
public import proofs.«01_k».proof.Proof.FrameK
public import proofs.«01_k».proof.Proof.Frame
public import proofs.«01_k».proof.Proof.Same
public import proofs.«01_k».proof.Proof.Gen.ReferenceIdeal.Frame
public import proofs.«01_k».proof.Proof.Gen.ReferenceIdeal.Value
public import proofs.«01_k».proof.Proof.Gen.Pre_finite_and_sizes

@[expose] public section

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_sizes_sum_to_rows.Gen.facts, Cert.Pre_finite_and_sizes.Gen.facts,
  fun m g h => Cert.Kernel.Hand.frame m (Cert.Hand.sizes_of_pre _ _ _ _ (h 0)) g,
  fun m g h => Cert.KernelIdeal.Hand.frame m (Cert.Hand.sizes_of_pre _ _ _ _ (h 0)) g,
  fun m g h => Cert.KernelIdeal.Hand.frame m (Cert.Hand.sizes_of_pre' _ _ _ _ (h 0)) g,
  fun m g _ => Cert.ReferenceIdeal.Gen.frame m g,
  fun m g _ => Cert.ReferenceIdeal.Gen.frame m g,
  trivial,
  fun m g m' g' h hm => by
    have hS := Cert.Hand.sizes_of_pre' _ _ _ _ (h 0)
    have hx := Cert.Hand.tame_of_pre _ _ _ _ (h 0)
    obtain ⟨e0, e1, e2, e3⟩ := hm 0
    refine ⟨fun c => (Cert.ReferenceIdeal.Gen.dats m' 0 c).arrAt 4 Cert.ReferenceIdeal.cfg0.N, ?_, Cert.ReferenceIdeal.Value.run_blocks m' g'⟩
    refine (θ_run Cert.KernelIdeal.defs _ _).mono (fun r hr c => ⟨?_, Cert.KernelIdeal.Hand.args_of_post m hS r hr.1 c⟩) (Cert.KernelIdeal.Hand.run_sizes m hS g)
    obtain rfl : c = 0 := Subsingleton.elim _ _
    exact Cert.Hand.same m m' hS hx e0 e1 e2 e3 _ ((hr.1 0).1 3)⟩

end Cert.Proof

end
